-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_retention_finite [hPre_retention_finite : Cert.Pre_retention_finite.Facts] (m : (ℓ : Loc Cert.MixIdeal.nD Cert.MixIdeal.τ Cert.MixIdeal.sig) → Buf (Elt Ideal) ℓ) : Prop :=
  ∀ c : Dev Cert.MixIdeal.nD,
    (Cert.Pre_retention_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_retention_finite [hPre_retention_finite : Cert.Pre_retention_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_retention_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_scores_finite [hPre_scores_finite : Cert.Pre_scores_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_scores_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixIdeal_pre_retention_finite [hMixIdeal : Cert.MixIdeal.Facts] [hPre_retention_finite : Cert.Pre_retention_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_retention_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def quiescent_MixReferenceIdeal_pre_retention_finite [hMixReferenceIdeal : Cert.MixReferenceIdeal.Facts] [hPre_retention_finite : Cert.Pre_retention_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_retention_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6))
      ∧ r.2.sem = fun _ => 0)

def quiescent_AttnReferenceIdeal_pre_scores_finite [hAttnReferenceIdeal : Cert.AttnReferenceIdeal.Facts] [hPre_scores_finite : Cert.Pre_scores_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_scores_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v33) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v27) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v19_0)) (v1 : (c : Dev Cert.NormIdeal.nD) → Buf (Elt Ideal) ((c.tc : Thread Cert.NormIdeal.nD Cert.NormIdeal.τ).loc Cert.NormIdeal.main_v19_1)) (v2 : (c : Dev Cert.NormIdeal.nD) → Buf (Elt Ideal) ((c.tc : Thread Cert.NormIdeal.nD Cert.NormIdeal.τ).loc Cert.NormIdeal.main_v19_2)) (v3 : (c : Dev Cert.NormIdeal.nD) → Buf (Elt Ideal) ((c.tc : Thread Cert.NormIdeal.nD Cert.NormIdeal.τ).loc Cert.NormIdeal.main_v19_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v19_0) = v0 c
          ∧ r.2.mem ((c.tc : Thread Cert.NormIdeal.nD Cert.NormIdeal.τ).loc Cert.NormIdeal.main_v19_1) = v1 c
          ∧ r.2.mem ((c.tc : Thread Cert.NormIdeal.nD Cert.NormIdeal.τ).loc Cert.NormIdeal.main_v19_2) = v2 c
          ∧ r.2.mem ((c.tc : Thread Cert.NormIdeal.nD Cert.NormIdeal.τ).loc Cert.NormIdeal.main_v19_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v53) = v0 c
          ∧ r.2.mem ((c.tc : Thread Cert.NormReferenceIdeal.nD Cert.NormReferenceIdeal.τ).loc Cert.NormReferenceIdeal.main_v54) = v1 c
          ∧ r.2.mem ((c.tc : Thread Cert.NormReferenceIdeal.nD Cert.NormReferenceIdeal.τ).loc Cert.NormReferenceIdeal.main_v55) = v2 c
          ∧ r.2.mem ((c.tc : Thread Cert.NormReferenceIdeal.nD Cert.NormReferenceIdeal.τ).loc Cert.NormReferenceIdeal.main_v57) = v3 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Mix_MixIdeal : Prop :=
  True

def algebraic_MixIdeal_MixReferenceIdeal_pre_retention_finite [hMixIdeal : Cert.MixIdeal.Facts] [hMixReferenceIdeal : Cert.MixReferenceIdeal.Facts] [hPre_retention_finite : Cert.Pre_retention_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_retention_finite m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v30_0)) (v1 : (c : Dev Cert.MixIdeal.nD) → Buf (Elt Ideal) ((c.tc : Thread Cert.MixIdeal.nD Cert.MixIdeal.τ).loc Cert.MixIdeal.main_v30_1)) (v2 : (c : Dev Cert.MixIdeal.nD) → Buf (Elt Ideal) ((c.tc : Thread Cert.MixIdeal.nD Cert.MixIdeal.τ).loc Cert.MixIdeal.main_v30_2)) (v3 : (c : Dev Cert.MixIdeal.nD) → Buf (Elt Ideal) ((c.tc : Thread Cert.MixIdeal.nD Cert.MixIdeal.τ).loc Cert.MixIdeal.main_v30_3)) (v4 : (c : Dev Cert.MixIdeal.nD) → Buf (Elt Ideal) ((c.tc : Thread Cert.MixIdeal.nD Cert.MixIdeal.τ).loc Cert.MixIdeal.main_v30_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v30_0) = v0 c
          ∧ r.2.mem ((c.tc : Thread Cert.MixIdeal.nD Cert.MixIdeal.τ).loc Cert.MixIdeal.main_v30_1) = v1 c
          ∧ r.2.mem ((c.tc : Thread Cert.MixIdeal.nD Cert.MixIdeal.τ).loc Cert.MixIdeal.main_v30_2) = v2 c
          ∧ r.2.mem ((c.tc : Thread Cert.MixIdeal.nD Cert.MixIdeal.τ).loc Cert.MixIdeal.main_v30_3) = v3 c
          ∧ r.2.mem ((c.tc : Thread Cert.MixIdeal.nD Cert.MixIdeal.τ).loc Cert.MixIdeal.main_v30_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v172) = v0 c
          ∧ r.2.mem ((c.tc : Thread Cert.MixReferenceIdeal.nD Cert.MixReferenceIdeal.τ).loc Cert.MixReferenceIdeal.main_v173) = v1 c
          ∧ r.2.mem ((c.tc : Thread Cert.MixReferenceIdeal.nD Cert.MixReferenceIdeal.τ).loc Cert.MixReferenceIdeal.main_v174) = v2 c
          ∧ r.2.mem ((c.tc : Thread Cert.MixReferenceIdeal.nD Cert.MixReferenceIdeal.τ).loc Cert.MixReferenceIdeal.main_v175) = v3 c
          ∧ r.2.mem ((c.tc : Thread Cert.MixReferenceIdeal.nD Cert.MixReferenceIdeal.τ).loc Cert.MixReferenceIdeal.main_v176) = v4 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10))

def preserves_Attn_AttnIdeal : Prop :=
  True

def algebraic_AttnIdeal_AttnReferenceIdeal_pre_scores_finite [hAttnIdeal : Cert.AttnIdeal.Facts] [hAttnReferenceIdeal : Cert.AttnReferenceIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_scores_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)
      ∧ m' ((c.tc : Thread Cert.AttnReferenceIdeal.nD Cert.AttnReferenceIdeal.τ).loc Cert.AttnReferenceIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v17_0)) (v1 : (c : Dev Cert.AttnIdeal.nD) → Buf (Elt Ideal) ((c.tc : Thread Cert.AttnIdeal.nD Cert.AttnIdeal.τ).loc Cert.AttnIdeal.main_v17_1)) (v2 : (c : Dev Cert.AttnIdeal.nD) → Buf (Elt Ideal) ((c.tc : Thread Cert.AttnIdeal.nD Cert.AttnIdeal.τ).loc Cert.AttnIdeal.main_v17_2)) (v3 : (c : Dev Cert.AttnIdeal.nD) → Buf (Elt Ideal) ((c.tc : Thread Cert.AttnIdeal.nD Cert.AttnIdeal.τ).loc Cert.AttnIdeal.main_v17_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v17_0) = v0 c
          ∧ r.2.mem ((c.tc : Thread Cert.AttnIdeal.nD Cert.AttnIdeal.τ).loc Cert.AttnIdeal.main_v17_1) = v1 c
          ∧ r.2.mem ((c.tc : Thread Cert.AttnIdeal.nD Cert.AttnIdeal.τ).loc Cert.AttnIdeal.main_v17_2) = v2 c
          ∧ r.2.mem ((c.tc : Thread Cert.AttnIdeal.nD Cert.AttnIdeal.τ).loc Cert.AttnIdeal.main_v17_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v28) = v0 c
          ∧ r.2.mem ((c.tc : Thread Cert.AttnReferenceIdeal.nD Cert.AttnReferenceIdeal.τ).loc Cert.AttnReferenceIdeal.main_v30) = v1 c
          ∧ r.2.mem ((c.tc : Thread Cert.AttnReferenceIdeal.nD Cert.AttnReferenceIdeal.τ).loc Cert.AttnReferenceIdeal.main_v32) = v2 c
          ∧ r.2.mem ((c.tc : Thread Cert.AttnReferenceIdeal.nD Cert.AttnReferenceIdeal.τ).loc Cert.AttnReferenceIdeal.main_v34) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMerge : Cert.Merge.Facts) (hMergeIdeal : Cert.MergeIdeal.Facts) (hMergeReferenceIdeal : Cert.MergeReferenceIdeal.Facts) (hNorm : Cert.Norm.Facts) (hNormIdeal : Cert.NormIdeal.Facts) (hNormReferenceIdeal : Cert.NormReferenceIdeal.Facts) (hMix : Cert.Mix.Facts) (hMixIdeal : Cert.MixIdeal.Facts) (hMixReferenceIdeal : Cert.MixReferenceIdeal.Facts) (hAttn : Cert.Attn.Facts) (hAttnIdeal : Cert.AttnIdeal.Facts) (hAttnReferenceIdeal : Cert.AttnReferenceIdeal.Facts) (hPre_retention_finite : Cert.Pre_retention_finite.Facts) (hPre_scores_finite : Cert.Pre_scores_finite.Facts),
    quiescent_Kernel (hKernel := hKernel)
    ∧ quiescent_KernelIdeal (hKernelIdeal := hKernelIdeal)
    ∧ quiescent_ReferenceIdeal (hReferenceIdeal := hReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Mix (hMix := hMix)
    ∧ quiescent_MixIdeal (hMixIdeal := hMixIdeal)
    ∧ quiescent_MixIdeal_pre_retention_finite (hMixIdeal := hMixIdeal) (hPre_retention_finite := hPre_retention_finite)
    ∧ quiescent_MixReferenceIdeal (hMixReferenceIdeal := hMixReferenceIdeal)
    ∧ quiescent_MixReferenceIdeal_pre_retention_finite (hMixReferenceIdeal := hMixReferenceIdeal) (hPre_retention_finite := hPre_retention_finite)
    ∧ quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnReferenceIdeal (hAttnReferenceIdeal := hAttnReferenceIdeal)
    ∧ quiescent_AttnReferenceIdeal_pre_scores_finite (hAttnReferenceIdeal := hAttnReferenceIdeal) (hPre_scores_finite := hPre_scores_finite)
    ∧ preserves_Kernel_KernelIdeal
    ∧ algebraic_KernelIdeal_ReferenceIdeal (hKernelIdeal := hKernelIdeal) (hReferenceIdeal := hReferenceIdeal)
    ∧ preserves_Mlp_MlpIdeal
    ∧ algebraic_MlpIdeal_MlpReferenceIdeal (hMlpIdeal := hMlpIdeal) (hMlpReferenceIdeal := hMlpReferenceIdeal)
    ∧ preserves_Merge_MergeIdeal
    ∧ algebraic_MergeIdeal_MergeReferenceIdeal (hMergeIdeal := hMergeIdeal) (hMergeReferenceIdeal := hMergeReferenceIdeal)
    ∧ preserves_Norm_NormIdeal
    ∧ algebraic_NormIdeal_NormReferenceIdeal (hNormIdeal := hNormIdeal) (hNormReferenceIdeal := hNormReferenceIdeal)
    ∧ preserves_Mix_MixIdeal
    ∧ algebraic_MixIdeal_MixReferenceIdeal_pre_retention_finite (hMixIdeal := hMixIdeal) (hMixReferenceIdeal := hMixReferenceIdeal) (hPre_retention_finite := hPre_retention_finite)
    ∧ preserves_Attn_AttnIdeal
    ∧ algebraic_AttnIdeal_AttnReferenceIdeal_pre_scores_finite (hAttnIdeal := hAttnIdeal) (hAttnReferenceIdeal := hAttnReferenceIdeal) (hPre_scores_finite := hPre_scores_finite)
-- ==== Pre_retention_finite.lean ====
abbrev S8192x10240 : Shape := ⟨2, ![8192, 10240]⟩
abbrev S8192x1024 : Shape := ⟨2, ![8192, 1024]⟩
abbrev S8192x2048 : Shape := ⟨2, ![8192, 2048]⟩
abbrev S8192x128 : Shape := ⟨2, ![8192, 128]⟩
abbrev S1x2048x11328 : Shape := ⟨3, ![1, 2048, 11328]⟩
abbrev S1x512 : Shape := ⟨2, ![1, 512]⟩
abbrev S1x512x3072 : Shape := ⟨3, ![1, 512, 3072]⟩
abbrev S1x512x4096 : Shape := ⟨3, ![1, 512, 4096]⟩
abbrev S1x2048 : Shape := ⟨2, ![1, 2048]⟩
abbrev S8192x4096 : Shape := ⟨2, ![8192, 4096]⟩
abbrev S_ : Shape := ⟨0, ![]⟩
abbrev S8192x64 : Shape := ⟨2, ![8192, 64]⟩

class Facts : Prop where
  slices_S8192x10240_S8192x4096_0_0 : S8192x10240.Slices ![0, 0] S8192x4096
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  slices_S8192x128_S8192x64_0_0 : S8192x128.Slices ![0, 0] S8192x64
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S8192x10240 .bf16) (main_arg1 : FVec F S8192x1024 .bf16) (main_arg2 : FVec F S8192x2048 .bf16) (main_arg3 : FVec F S8192x128 .f32) (main_arg4 : FVec F S8192x128 .f32) (main_arg5 : FVec F S1x2048x11328 .f32) (main_arg6 : FVec F S1x512 .f32) (main_arg7 : FVec F S1x512 .f32) (main_arg8 : FVec F S1x512x3072 .f32) (main_arg9 : FVec F S1x512x4096 .f32) (main_arg10 : FVec F S1x2048 .f32) : IVec S_ 1 :=
  let main_v0 : FVec F S8192x4096 .bf16 := (extractStridedSlice S8192x4096 ![0, 0] · slices_S8192x10240_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_c : IVec S_ 1 := constantI S_ 1 1#1
  let main_v5 : IVec S_ 1 := (fun x v => Host.reduce IntOp.andi x v reducesTo_S8192x4096_S_d0_1 h_S_) main_v4 main_c
  let main_v6 : FVec F S8192x64 .f32 := (extractStridedSlice S8192x64 ![0, 0] · slices_S8192x128_S8192x64_0_0) main_arg3
  let main_v7 : FVec F S8192x64 .f32 := Host.absf main_v6
  let main_cst_0 : FVec F S_ .f32 := constant S_ .f32 0x7F800000#32
  let main_v8 : FVec F S8192x64 .f32 := broadcastInDim S8192x64 ![] bcast_S_S8192x64 main_cst_0
  let main_v9 : IVec S8192x64 1 := cmpf .olt main_v7 main_v8
  let main_c_1 : IVec S_ 1 := constantI S_ 1 1#1
  let main_v10 : IVec S_ 1 := (fun x v => Host.reduce IntOp.andi x v reducesTo_S8192x64_S_d0_1 h_S_) main_v9 main_c_1
  let main_v11 : IVec S_ 1 := andi main_v5 main_v10
  let main_v12 : FVec F S8192x64 .f32 := (extractStridedSlice S8192x64 ![0, 0] · slices_S8192x128_S8192x64_0_0) main_arg4
  let main_v13 : FVec F S8192x64 .f32 := Host.absf main_v12
  let main_cst_2 : FVec F S_ .f32 := constant S_ .f32 0x7F800000#32
  let main_v14 : FVec F S8192x64 .f32 := broadcastInDim S8192x64 ![] bcast_S_S8192x64 main_cst_2
  let main_v15 : IVec S8192x64 1 := cmpf .olt main_v13 main_v14
  let main_c_3 : IVec S_ 1 := constantI S_ 1 1#1
  let main_v16 : IVec S_ 1 := (fun x v => Host.reduce IntOp.andi x v reducesTo_S8192x64_S_d0_1 h_S_) main_v15 main_c_3
  let main_v17 : IVec S_ 1 := andi main_v11 main_v16
  main_v17
-- ==== Pre_scores_finite.lean ====
abbrev S2x4096x16x192 : Shape := ⟨4, ![2, 4096, 16, 192]⟩
abbrev S2x4096x16x128 : Shape := ⟨4, ![2, 4096, 16, 128]⟩
abbrev S2x4096x64 : Shape := ⟨3, ![2, 4096, 64]⟩
abbrev S1x2048x2048 : Shape := ⟨3, ![1, 2048, 2048]⟩
abbrev S_ : Shape := ⟨0, ![]⟩

class Facts : Prop where
  bcast_S_S2x4096x16x192 : S_.BroadcastsInDim S2x4096x16x192 (![] : Fin 0 → Fin S2x4096x16x192.rank)
  reducesTo_S2x4096x16x192_S_d0_1_2_3 : S2x4096x16x192.ReducesTo [0, 1, 2, 3] S_
  h_S_ : 0 < S_.numel
  bcast_S_S2x4096x16x128 : S_.BroadcastsInDim S2x4096x16x128 (![] : Fin 0 → Fin S2x4096x16x128.rank)
  reducesTo_S2x4096x16x128_S_d0_1_2_3 : S2x4096x16x128.ReducesTo [0, 1, 2, 3] S_
  bcast_S_S2x4096x64 : S_.BroadcastsInDim S2x4096x64 (![] : Fin 0 → Fin S2x4096x64.rank)
  reducesTo_S2x4096x64_S_d0_1_2 : S2x4096x64.ReducesTo [0, 1, 2] S_

variable [Facts]

def fn {F : FTy → Type} [FloatOps F] (main_arg0 : FVec F S2x4096x16x192 .f32) (main_arg1 : FVec F S2x4096x16x128 .f32) (main_arg2 : FVec F S2x4096x64 .f32) (main_arg3 : FVec F S2x4096x16x128 .f32) (main_arg4 : FVec F S1x2048x2048 .f32) (main_arg5 : FVec F S1x2048x2048 .f32) (main_arg6 : FVec F S1x2048x2048 .f32) : IVec S_ 1 :=
  let main_v0 : FVec F S2x4096x16x192 .f32 := Host.absf main_arg0
  let main_cst : FVec F S_ .f32 := constant S_ .f32 0x7F800000#32
  let main_v1 : FVec F S2x4096x16x192 .f32 := broadcastInDim S2x4096x16x192 ![] bcast_S_S2x4096x16x192 main_cst
  let main_v2 : IVec S2x4096x16x192 1 := cmpf .olt main_v0 main_v1
  let main_c : IVec S_ 1 := constantI S_ 1 1#1
  let main_v3 : IVec S_ 1 := (fun x v => Host.reduce IntOp.andi x v reducesTo_S2x4096x16x192_S_d0_1_2_3 h_S_) main_v2 main_c
  let main_v4 : FVec F S2x4096x16x128 .f32 := Host.absf main_arg1
  let main_cst_0 : FVec F S_ .f32 := constant S_ .f32 0x7F800000#32
  let main_v5 : FVec F S2x4096x16x128 .f32 := broadcastInDim S2x4096x16x128 ![] bcast_S_S2x4096x16x128 main_cst_0
  let main_v6 : IVec S2x4096x16x128 1 := cmpf .olt main_v4 main_v5
  let main_c_1 : IVec S_ 1 := constantI S_ 1 1#1
  let main_v7 : IVec S_ 1 := (fun x v => Host.reduce IntOp.andi x v reducesTo_S2x4096x16x128_S_d0_1_2_3 h_S_) main_v6 main_c_1
  let main_v8 : IVec S_ 1 := andi main_v3 main_v7
  let main_v9 : FVec F S2x4096x64 .f32 := Host.absf main_arg2
  let main_cst_2 : FVec F S_ .f32 := constant S_ .f32 0x7F800000#32
  let main_v10 : FVec F S2x4096x64 .f32 := broadcastInDim S2x4096x64 ![] bcast_S_S2x4096x64 main_cst_2
  let main_v11 : IVec S2x4096x64 1 := cmpf .olt main_v9 main_v10
  let main_c_3 : IVec S_ 1 := constantI S_ 1 1#1
  let main_v12 : IVec S_ 1 := (fun x v => Host.reduce IntOp.andi x v reducesTo_S2x4096x64_S_d0_1_2 h_S_) main_v11 main_c_3
  let main_v13 : IVec S_ 1 := andi main_v8 main_v12
  main_v13
-- ==== Kernel.lean ====
abbrev S8192x2048 : Shape := ⟨2, ![8192, 2048]⟩
abbrev S1x2048x11328 : Shape := ⟨3, ![1, 2048, 11328]⟩
abbrev S2048x11328 : Shape := ⟨2, ![2048, 11328]⟩
abbrev S11328x2048 : Shape := ⟨2, ![11328, 2048]⟩
abbrev S8192x10240 : Shape := ⟨2, ![8192, 10240]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x11328, .f32⟩
  | .hbm, ⟨2, _⟩ => ⟨S2048x11328, .f32⟩
  | .hbm, ⟨3, _⟩ => ⟨S11328x2048, .f32⟩
  | .hbm, ⟨4, _⟩ => ⟨S8192x10240, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 4], ![false, false]⟩

def k0_mult1 (i : grid0.Coords) : BitVec 32 :=
  let arg0 : BitVec 32 := BitVec.ofNat 32 (i 0).val
  let c6_i32 : BitVec 32 := 6#32
  let v0 : BitVec 1 := Scalar.cmpi .slt arg0 c6_i32
  let c1024_i32 : BitVec 32 := 1024#32
  let v1 : BitVec 32 := Scalar.muli arg0 c1024_i32
  let c7232_i32 : BitVec 32 := 7232#32
  let c6_i32_0 : BitVec 32 := 6#32
  let v2 : BitVec 32 := Scalar.subi arg0 c6_i32_0
  let c1024_i32_1 : BitVec 32 := 1024#32
  let v3 : BitVec 32 := Scalar.muli v2 c1024_i32_1
  let v4 : BitVec 32 := Scalar.addi c7232_i32 v3
  let v5 : BitVec 32 := Scalar.select v0 v1 v4
  v5
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c1024_i32 : BitVec 32 := 1024#32
  let v1 : BitVec 32 := Scalar.muli arg0 c1024_i32
  let c6_i32_0 : BitVec 32 := 6#32
  let v2 : BitVec 32 := Scalar.subi arg0 c6_i32_0
  let c1024_i32_1 : BitVec 32 := 1024#32
  let v3 : BitVec 32 := Scalar.muli v2 c1024_i32_1
  let c7232_i32 : BitVec 32 := 7232#32
  let v4 : BitVec 32 := Scalar.addi c7232_i32 v3
  let v5 : BitVec 32 := Scalar.select v0 v1 v4
  let v6 : BitVec 32 := v5
  let c0_i32 : BitVec 32 := 0#32
  let c0_i32_2 : BitVec 32 := 0#32
  ![v6.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8192x2048 : Shape := ⟨2, ![8192, 2048]⟩
abbrev S1x2048x11328 : Shape := ⟨3, ![1, 2048, 11328]⟩
abbrev S2048x11328 : Shape := ⟨2, ![2048, 11328]⟩
abbrev S8192x11328 : Shape := ⟨2, ![8192, 11328]⟩
abbrev S8192x1024 : Shape := ⟨2, ![8192, 1024]⟩
abbrev S8192x512 : Shape := ⟨2, ![8192, 512]⟩
abbrev S8192x64 : Shape := ⟨2, ![8192, 64]⟩
abbrev S8192x10240 : Shape := ⟨2, ![8192, 10240]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x11328, .f32⟩
  | .hbm, ⟨2, _⟩ => ⟨S8192x2048, .f32⟩
  | .hbm, ⟨3, _⟩ => ⟨S2048x11328, .f32⟩
  | .hbm, ⟨4, _⟩ => ⟨S8192x11328, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S8192x512, .f32⟩
  | .hbm, ⟨10, _⟩ => ⟨S8192x512, .f32⟩
  | .hbm, ⟨11, _⟩ => ⟨S8192x64, .f32⟩
  | .hbm, ⟨12, _⟩ => ⟨S8192x2048, .f32⟩
  | .hbm, ⟨13, _⟩ => ⟨S8192x2048, .f32⟩
  | .hbm, ⟨14, _⟩ => ⟨S8192x10240, .f32⟩
  | .hbm, ⟨15, _⟩ => ⟨S8192x10240, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Mlp.lean ====
abbrev S8192x2048 : Shape := ⟨2, ![8192, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 11
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S2048x8192, .f32⟩
  | .hbm, ⟨8, _⟩ => ⟨S8192x2048, .f32⟩
  | .hbm, ⟨9, _⟩ => ⟨S1x2048, .f32⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpReferenceIdeal.lean ====
abbrev S8192x2048 : Shape := ⟨2, ![8192, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩
abbrev S8192x8192 : Shape := ⟨2, ![8192, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Merge.lean ====
abbrev S8192x2048 : Shape := ⟨2, ![8192, 2048]⟩
abbrev S1x2048x2048 : Shape := ⟨3, ![1, 2048, 2048]⟩
abbrev S8192x10240 : Shape := ⟨2, ![8192, 10240]⟩
abbrev S2048x2048 : Shape := ⟨2, ![2048, 2048]⟩
abbrev S256x2048 : Shape := ⟨2, ![256, 2048]⟩

abbrev nBuf : Space → Nat
  | .hbm => 14
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048x2048, .f32⟩
  | .hbm, ⟨3, _⟩ => ⟨S1x2048x2048, .f32⟩
  | .hbm, ⟨4, _⟩ => ⟨S1x2048x2048, .f32⟩
  | .hbm, ⟨5, _⟩ => ⟨S8192x10240, .bf16⟩
  | .hbm, ⟨6, _⟩ => ⟨S8192x2048, .f32⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S2048x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S8192x2048 : Shape := ⟨2, ![8192, 2048]⟩
abbrev S1x2048x2048 : Shape := ⟨3, ![1, 2048, 2048]⟩
abbrev S8192x10240 : Shape := ⟨2, ![8192, 10240]⟩
abbrev S2048x2048 : Shape := ⟨2, ![2048, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048x2048, .f32⟩
  | .hbm, ⟨3, _⟩ => ⟨S1x2048x2048, .f32⟩
  | .hbm, ⟨4, _⟩ => ⟨S1x2048x2048, .f32⟩
  | .hbm, ⟨5, _⟩ => ⟨S8192x10240, .bf16⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .f32⟩
  | .hbm, ⟨12, _⟩ => ⟨S2048x2048, .f32⟩
  | .hbm, ⟨13, _⟩ => ⟨S8192x2048, .f32⟩
  | .hbm, ⟨14, _⟩ => ⟨S8192x2048, .f32⟩
  | .hbm, ⟨15, _⟩ => ⟨S2048x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S2048x2048, .f32⟩
  | .hbm, ⟨37, _⟩ => ⟨S8192x2048, .f32⟩
  | .hbm, ⟨38, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Norm.lean ====
abbrev S8192x2048 : Shape := ⟨2, ![8192, 2048]⟩
abbrev S8192 : Shape := ⟨1, ![8192]⟩
abbrev S1x2048 : Shape := ⟨2, ![1, 2048]⟩
abbrev S1x2048x11328 : Shape := ⟨3, ![1, 2048, 11328]⟩
abbrev S2048 : Shape := ⟨1, ![2048]⟩
abbrev S8192x1 : Shape := ⟨2, ![8192, 1]⟩
abbrev S2048x11328 : Shape := ⟨2, ![2048, 11328]⟩
abbrev S11328x2048 : Shape := ⟨2, ![11328, 2048]⟩
abbrev S64 : Shape := ⟨1, ![64]⟩
abbrev S_ : Shape := ⟨0, ![]⟩
abbrev S32 : Shape := ⟨1, ![32]⟩
abbrev S128 : Shape := ⟨1, ![128]⟩
abbrev S1x128 : Shape := ⟨2, ![1, 128]⟩
abbrev S8192x128 : Shape := ⟨2, ![8192, 128]⟩
abbrev S8192x1024 : Shape := ⟨2, ![8192, 1024]⟩
abbrev S512x2048 : Shape := ⟨2, ![512, 2048]⟩
abbrev S512x1 : Shape := ⟨2, ![512, 1]⟩
abbrev S1024x2048 : Shape := ⟨2, ![1024, 2048]⟩
abbrev S512x128 : Shape := ⟨2, ![512, 128]⟩
abbrev S512x1024 : Shape := ⟨2, ![512, 1024]⟩
abbrev S512 : Shape := ⟨1, ![512]⟩

abbrev nBuf : Space → Nat
  | .hbm => 31
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S1x2048, .f32⟩
  | .hbm, ⟨3, _⟩ => ⟨S1x2048x11328, .f32⟩
  | .hbm, ⟨4, _⟩ => ⟨S2048, .f32⟩
  | .hbm, ⟨5, _⟩ => ⟨S1x2048, .f32⟩
  | .hbm, ⟨6, _⟩ => ⟨S8192x1, .i32⟩
  | .hbm, ⟨7, _⟩ => ⟨S2048x11328, .f32⟩
  | .hbm, ⟨8, _⟩ => ⟨S11328x2048, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S128, .f32⟩
  | .hbm, ⟨26, _⟩ => ⟨S1x128, .f32⟩
  | .hbm, ⟨27, _⟩ => ⟨S8192x2048, .bf16⟩
  | .hbm, ⟨28, _⟩ => ⟨S8192x128, .f32⟩
  | .hbm, ⟨29, _⟩ => ⟨S8192x128, .f32⟩
  | .hbm, ⟨30, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x1, .i32⟩
  | .local _ .vmem, ⟨4, _⟩ => ⟨S512x1, .i32⟩
  | .local _ .vmem, ⟨5, _⟩ => ⟨S1x128, .f32⟩
  | .local _ .vmem, ⟨6, _⟩ => ⟨S1024x2048, .f32⟩
  | .local _ .vmem, ⟨7, _⟩ => ⟨S512x2048, .bf16⟩
  | .local _ .vmem, ⟨8, _⟩ => ⟨S512x2048, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1024, .bf16⟩
  | .local _ .vmem, ⟨14, _⟩ => ⟨S512x1024, .bf16⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormReferenceIdeal.lean ====
abbrev S8192x2048 : Shape := ⟨2, ![8192, 2048]⟩
abbrev S8192 : Shape := ⟨1, ![8192]⟩
abbrev S1x2048 : Shape := ⟨2, ![1, 2048]⟩
abbrev S1x2048x11328 : Shape := ⟨3, ![1, 2048, 11328]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S32 : Shape := ⟨1, ![32]⟩
abbrev S1x32 : Shape := ⟨2, ![1, 32]⟩
abbrev S8192x32 : Shape := ⟨2, ![8192, 32]⟩
abbrev S8192x128 : Shape := ⟨2, ![8192, 128]⟩
abbrev S2048 : Shape := ⟨1, ![2048]⟩
abbrev S2048x11328 : Shape := ⟨2, ![2048, 11328]⟩
abbrev S8192x11328 : Shape := ⟨2, ![8192, 11328]⟩
abbrev S8192x1024 : Shape := ⟨2, ![8192, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S1x2048, .f32⟩
  | .hbm, ⟨3, _⟩ => ⟨S1x2048x11328, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S8192, .f32⟩
  | .hbm, ⟨13, _⟩ => ⟨S8192x1, .f32⟩
  | .hbm, ⟨14, _⟩ => ⟨S1x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S8192, .f32⟩
  | .hbm, ⟨27, _⟩ => ⟨S8192x1, .f32⟩
  | .hbm, ⟨28, _⟩ => ⟨S1x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S8192, .f32⟩
  | .hbm, ⟨41, _⟩ => ⟨S8192x1, .f32⟩
  | .hbm, ⟨42, _⟩ => ⟨S1x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x128, .f32⟩
  | .hbm, ⟨47, _⟩ => ⟨S2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S1x2048, .f32⟩
  | .hbm, ⟨62, _⟩ => ⟨S8192x2048, .f32⟩
  | .hbm, ⟨63, _⟩ => ⟨S8192x2048, .f32⟩
  | .hbm, ⟨64, _⟩ => ⟨S2048x11328, .f32⟩
  | .hbm, ⟨65, _⟩ => ⟨S8192x11328, .f32⟩
  | .hbm, ⟨66, _⟩ => ⟨S8192x2048, .bf16⟩
  | .hbm, ⟨67, _⟩ => ⟨S8192x128, .f32⟩
  | .hbm, ⟨68, _⟩ => ⟨S8192x128, .f32⟩
  | .hbm, ⟨69, _⟩ => ⟨S8192x1024, .f32⟩
  | .hbm, ⟨70, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Mix.lean ====
abbrev S8192x10240 : Shape := ⟨2, ![8192, 10240]⟩
abbrev S8192x1024 : Shape := ⟨2, ![8192, 1024]⟩
abbrev S8192x2048 : Shape := ⟨2, ![8192, 2048]⟩
abbrev S8192x128 : Shape := ⟨2, ![8192, 128]⟩
abbrev S1x2048x11328 : Shape := ⟨3, ![1, 2048, 11328]⟩
abbrev S1x512 : Shape := ⟨2, ![1, 512]⟩
abbrev S1x512x3072 : Shape := ⟨3, ![1, 512, 3072]⟩
abbrev S1x512x4096 : Shape := ⟨3, ![1, 512, 4096]⟩
abbrev S1x2048 : Shape := ⟨2, ![1, 2048]⟩
abbrev S8 : Shape := ⟨1, ![8]⟩
abbrev S_ : Shape := ⟨0, ![]⟩
abbrev S512x4096 : Shape := ⟨2, ![512, 4096]⟩
abbrev S512x16x256 : Shape := ⟨3, ![512, 16, 256]⟩
abbrev S512x16x128 : Shape := ⟨3, ![512, 16, 128]⟩
abbrev S512x2048 : Shape := ⟨2, ![512, 2048]⟩
abbrev S2048x11328 : Shape := ⟨2, ![2048, 11328]⟩
abbrev S11328x2048 : Shape := ⟨2, ![11328, 2048]⟩
abbrev S512 : Shape := ⟨1, ![512]⟩
abbrev S512x3072 : Shape := ⟨2, ![512, 3072]⟩
abbrev S3072x512 : Shape := ⟨2, ![3072, 512]⟩
abbrev S16x192x512 : Shape := ⟨3, ![16, 192, 512]⟩
abbrev S16x256x512 : Shape := ⟨3, ![16, 256, 512]⟩
abbrev S4096x512 : Shape := ⟨2, ![4096, 512]⟩
abbrev S2048 : Shape := ⟨1, ![2048]⟩
abbrev S8192x4096 : Shape := ⟨2, ![8192, 4096]⟩
abbrev S512x512 : Shape := ⟨2, ![512, 512]⟩
abbrev S128x2048 : Shape := ⟨2, ![128, 2048]⟩
abbrev S512x128 : Shape := ⟨2, ![512, 128]⟩
abbrev S512x1024 : Shape := ⟨2, ![512, 1024]⟩
abbrev S8x128x256 : Shape := ⟨3, ![8, 128, 256]⟩
abbrev S8x256x256 : Shape := ⟨3, ![8, 256, 256]⟩
abbrev S8x256x128 : Shape := ⟨3, ![8, 256, 128]⟩
abbrev S256x256 : Shape := ⟨2, ![256, 256]⟩
abbrev S256x128 : Shape := ⟨2, ![256, 128]⟩
abbrev S1 : Shape := ⟨1, ![1]⟩
abbrev S1x256x256 : Shape := ⟨3, ![1, 256, 256]⟩
abbrev S1x256x128 : Shape := ⟨3, ![1, 256, 128]⟩
abbrev S512x1 : Shape := ⟨2, ![512, 1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S256x1 : Shape := ⟨2, ![256, 1]⟩

abbrev nBuf : Space → Nat
  | .hbm => 51
  | .vmem => 39
  | .smem => 1
  | _ => 0

abbrev bufTy : (tb : Table) → Fin (tcTables nBuf tb) → BufTy
  | .hbm, ⟨0, _⟩ => ⟨S8192x10240, .bf16⟩
  | .hbm, ⟨1, _⟩ => ⟨S8192x1024, .bf16⟩
  | .hbm, ⟨2, _⟩ => ⟨S8192x2048, .bf16⟩
  | .hbm, ⟨3, _⟩ => ⟨S8192x128, .f32⟩
  | .hbm, ⟨4, _⟩ => ⟨S8192x128, .f32⟩
  | .hbm, ⟨5, _⟩ => ⟨S1x2048x11328, .f32⟩
  | .hbm, ⟨6, _⟩ => ⟨S1x512, .f32⟩
  | .hbm, ⟨7, _⟩ => ⟨S1x512, .f32⟩
  | .hbm, ⟨8, _⟩ => ⟨S1x512x3072, .f32⟩
  | .hbm, ⟨9, _⟩ => ⟨S1x512x4096, .f32⟩
  | .hbm, ⟨10, _⟩ => ⟨S1x2048, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S512x4096, .f32⟩
  | .hbm, ⟨23, _⟩ => ⟨S512x16x256, .f32⟩
  | .hbm, ⟨24, _⟩ => ⟨S512x16x128, .f32⟩
  | .hbm, ⟨25, _⟩ => ⟨S512x2048, .f32⟩
  | .hbm, ⟨26, _⟩ => ⟨S512x2048, .bf16⟩
  | .hbm, ⟨27, _⟩ => ⟨S512x16x128, .f32⟩
  | .hbm, ⟨28, _⟩ => ⟨S512x2048, .f32⟩
  | .hbm, ⟨29, _⟩ => ⟨S512x2048, .bf16⟩
  | .hbm, ⟨30, _⟩ => ⟨S2048x11328, .f32⟩
  | .hbm, ⟨31, _⟩ => ⟨S11328x2048, .f32⟩
  | .hbm, ⟨32, _⟩ => ⟨S512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S512x3072, .f32⟩
  | .hbm, ⟨37, _⟩ => ⟨S3072x512, .f32⟩
  | .hbm, ⟨38, _⟩ => ⟨S3072x512, .bf16⟩
  | .hbm, ⟨39, _⟩ => ⟨S16x192x512, .bf16⟩
  | .hbm, ⟨40, _⟩ => ⟨S_, .i32⟩
  | .hbm, ⟨41, _⟩ => ⟨S_, .bf16⟩
  | .hbm, ⟨42, _⟩ => ⟨S16x256x512, .bf16⟩
  | .hbm, ⟨43, _⟩ => ⟨S4096x512, .bf16⟩
  | .hbm, ⟨44, _⟩ => ⟨S2048, .f32⟩
  | .hbm, ⟨45, _⟩ => ⟨S1x2048, .f32⟩
  | .hbm, ⟨46, _⟩ => ⟨S8192x4096, .bf16⟩
  | .hbm, ⟨47, _⟩ => ⟨S8192x2048, .bf16⟩
  | .hbm, ⟨48, _⟩ => ⟨S8192x128, .bf16⟩
  | .hbm, ⟨49, _⟩ => ⟨S8192x2048, .bf16⟩
  | .hbm, ⟨50, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S128x2048, .f32⟩
  | .local _ .vmem, ⟨7, _⟩ => ⟨S1x512, .f32⟩
  | .local _ .vmem, ⟨8, _⟩ => ⟨S1x512, .f32⟩
  | .local _ .vmem, ⟨9, _⟩ => ⟨S4096x512, .bf16⟩
  | .local _ .vmem, ⟨10, _⟩ => ⟨S512x2048, .bf16⟩
  | .local _ .vmem, ⟨11, _⟩ => ⟨S512x2048, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S1x2048, .f32⟩
  | .local _ .vmem, ⟨25, _⟩ => ⟨S512x4096, .bf16⟩
  | .local _ .vmem, ⟨26, _⟩ => ⟨S512x4096, .bf16⟩
  | .local _ .vmem, ⟨27, _⟩ => ⟨S512x2048, .bf16⟩
  | .local _ .vmem, ⟨28, _⟩ => ⟨S512x2048, .bf16⟩
  | .local _ .vmem, ⟨29, _⟩ => ⟨S512x128, .bf16⟩
  | .local _ .vmem, ⟨30, _⟩ => ⟨S512x128, .bf16⟩
  | .local _ .vmem, ⟨31, _⟩ => ⟨S512x2048, .bf16⟩
  | .local _ .vmem, ⟨32, _⟩ => ⟨S512x2048, .bf16⟩
  | .local _ .vmem, ⟨33, _⟩ => ⟨S512x2048, .bf16⟩
  | .local _ .vmem, ⟨34, _⟩ => ⟨S512x2048, .bf16⟩
  | .local _ .vmem, ⟨35, _⟩ => ⟨S8x128x256, .f32⟩
  | .local _ .vmem, ⟨36, _⟩ => ⟨S8x256x256, .f32⟩
  | .local _ .vmem, ⟨37, _⟩ => ⟨S8x256x128, .f32⟩
  | .local _ .vmem, ⟨38, _⟩ => ⟨S8x256x128, .f32⟩
  | .local _ .smem, ⟨0, _⟩ => ⟨S8, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_v30_2 : Ref sig .tc := ⟨.hbm, 48, rfl⟩
abbrev main_v30_3 : Ref sig .tc := ⟨.hbm, 49, rfl⟩
abbrev main_v30_4 : Ref sig .tc := ⟨.hbm, 50, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c56_i32 : BitVec 32 := 56#32
  let c0_i32 : BitVec 32 := 0#32
  let c0_i32_0 : BitVec 32 := 0#32
  ![c56_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_14 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_15 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MixReferenceIdeal.lean ====
abbrev S8192x10240 : Shape := ⟨2, ![8192, 10240]⟩
abbrev S8192x1024 : Shape := ⟨2, ![8192, 1024]⟩
abbrev S8192x2048 : Shape := ⟨2, ![8192, 2048]⟩
abbrev S8192x128 : Shape := ⟨2, ![8192, 128]⟩
abbrev S1x2048x11328 : Shape := ⟨3, ![1, 2048, 11328]⟩
abbrev S1x512 : Shape := ⟨2, ![1, 512]⟩
abbrev S1x512x3072 : Shape := ⟨3, ![1, 512, 3072]⟩
abbrev S1x512x4096 : Shape := ⟨3, ![1, 512, 4096]⟩
abbrev S1x2048 : Shape := ⟨2, ![1, 2048]⟩
abbrev S8192x64 : Shape := ⟨2, ![8192, 64]⟩
abbrev S8192x1x64 : Shape := ⟨3, ![8192, 1, 64]⟩
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S512x3072 : Shape := ⟨2, ![512, 3072]⟩
abbrev S8192x3072 : Shape := ⟨2, ![8192, 3072]⟩
abbrev S8192x16x192 : Shape := ⟨3, ![8192, 16, 192]⟩
abbrev S8192x16x128 : Shape := ⟨3, ![8192, 16, 128]⟩
abbrev S8192x16x64 : Shape := ⟨3, ![8192, 16, 64]⟩
abbrev S8192x16x32 : Shape := ⟨3, ![8192, 16, 32]⟩
abbrev S8192x16x256 : Shape := ⟨3, ![8192, 16, 256]⟩
abbrev S8192x4096 : Shape := ⟨2, ![8192, 4096]⟩
abbrev S512x4096 : Shape := ⟨2, ![512, 4096]⟩
abbrev S2048x11328 : Shape := ⟨2, ![2048, 11328]⟩
abbrev S2048x64 : Shape := ⟨2, ![2048, 64]⟩
abbrev S8192x1x32 : Shape := ⟨3, ![8192, 1, 32]⟩
abbrev S8192x1x128 : Shape := ⟨3, ![8192, 1, 128]⟩
abbrev S8192x6144 : Shape := ⟨2, ![8192, 6144]⟩
abbrev S8192x8x128 : Shape := ⟨3, ![8192, 8, 128]⟩
abbrev S8192x8x64 : Shape := ⟨3, ![8192, 8, 64]⟩
abbrev S2x4096x8x128 : Shape := ⟨4, ![2, 4096, 8, 128]⟩
abbrev S2x4096x8x256 : Shape := ⟨4, ![2, 4096, 8, 256]⟩
abbrev S8 : Shape := ⟨1, ![8]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x1x1 : Shape := ⟨3, ![8, 1, 1]⟩
abbrev S1x4096x4096 : Shape := ⟨3, ![1, 4096, 4096]⟩
abbrev S8x4096x4096 : Shape := ⟨3, ![8, 4096, 4096]⟩
abbrev S2x8x4096x4096 : Shape := ⟨4, ![2, 8, 4096, 4096]⟩
abbrev S1x8x4096x4096 : Shape := ⟨4, ![1, 8, 4096, 4096]⟩
abbrev S2x8x256x4096 : Shape := ⟨4, ![2, 8, 256, 4096]⟩
abbrev S2x4096x8 : Shape := ⟨3, ![2, 4096, 8]⟩
abbrev S2x4096x8x1 : Shape := ⟨4, ![2, 4096, 8, 1]⟩
abbrev S2048 : Shape := ⟨1, ![2048]⟩

abbrev nBuf : Space → Nat
  | .hbm => 237
  | .vmem => 0
  | .smem => 0
  | _ => 0

abbrev hbmTy0_0 (i : Nat) : BufTy := match i % 128 with
  | 0 => ⟨S8192x10240, .bf16⟩
  | 1 => ⟨S8192x1024, .bf16⟩
  | 2 => ⟨S8192x2048, .bf16⟩
  | 3 => ⟨S8192x128, .f32⟩
  | 4 => ⟨S8192x128, .f32⟩
  | 5 => ⟨S1x2048x11328, .f32⟩
  | 6 => ⟨S1x512, .f32⟩
  | 7 => ⟨S1x512, .f32⟩
  | 8 => ⟨S1x512x3072, .f32⟩
  | 9 => ⟨S1x512x4096, .f32⟩
  | 10 => ⟨S1x2048, .f32⟩
  | 11 => ⟨S8192x10240, .f32⟩
  | 12 => ⟨S8192x1024, .f32⟩
  | 13 => ⟨S8192x2048, .f32⟩
  | 14 => ⟨S8192x64, .f32⟩
  | 15 => ⟨S8192x1x64, .f32⟩
  | 16 => ⟨S8192x64, .f32⟩
  | 17 => ⟨S8192x1x64, .f32⟩
  | 18 => ⟨S8192x512, .f32⟩
  | 19 => ⟨S512, .f32⟩
  | 20 => ⟨S8192x512, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1, .f32⟩
  | 31 => ⟨S8192x512, .f32⟩
  | 32 => ⟨S8192x512, .f32⟩
  | 33 => ⟨S1x512, .f32⟩
  | 34 => ⟨S8192x512, .f32⟩
  | 35 => ⟨S8192x512, .f32⟩
  | 36 => ⟨S512x3072, .f32⟩
  | 37 => ⟨S8192x3072, .f32⟩
  | 38 => ⟨S8192x16x192, .f32⟩
  | 39 => ⟨S8192x16x128, .f32⟩
  | 40 => ⟨S8192x16x64, .f32⟩
  | 41 => ⟨S8192x16x64, .f32⟩
  | 42 => ⟨S8192x16x64, .f32⟩
  | 43 => ⟨S8192x16x32, .f32⟩
  | 44 => ⟨S8192x16x32, .f32⟩
  | 45 => ⟨S8192x16x32, .f32⟩
  | 46 => ⟨S8192x16x64, .f32⟩
  | 47 => ⟨S8192x16x64, .f32⟩
  | 48 => ⟨S8192x16x64, .f32⟩
  | 49 => ⟨S8192x16x64, .f32⟩
  | 50 => ⟨S8192x16x192, .f32⟩
  | 51 => ⟨S_, .f32⟩
  | 52 => ⟨S8192x16x192, .f32⟩
  | 53 => ⟨S8192x16x192, .f32⟩
  | 54 => ⟨S_, .i32⟩
  | 55 => ⟨S_, .f32⟩
  | 56 => ⟨S8192x16x256, .f32⟩
  | 57 => ⟨S8192x4096, .f32⟩
  | 58 => ⟨S8192x512, .f32⟩
  | 59 => ⟨S512, .f32⟩
  | 60 => ⟨S8192x512, .f32⟩
  | 61 => ⟨S_, .f32⟩
  | 62 => ⟨S8192, .f32⟩
  | 63 => ⟨S8192x1, .f32⟩
  | 64 => ⟨S_, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1, .f32⟩
  | 71 => ⟨S8192x512, .f32⟩
  | 72 => ⟨S8192x512, .f32⟩
  | 73 => ⟨S1x512, .f32⟩
  | 74 => ⟨S8192x512, .f32⟩
  | 75 => ⟨S8192x512, .f32⟩
  | 76 => ⟨S512x4096, .f32⟩
  | 77 => ⟨S8192x4096, .f32⟩
  | 78 => ⟨S8192x16x256, .f32⟩
  | 79 => ⟨S8192x16x128, .f32⟩
  | 80 => ⟨S8192x2048, .f32⟩
  | 81 => ⟨S8192x16x128, .f32⟩
  | 82 => ⟨S8192x2048, .f32⟩
  | 83 => ⟨S2048x11328, .f32⟩
  | 84 => ⟨S2048x64, .f32⟩
  | 85 => ⟨S8192x64, .f32⟩
  | 86 => ⟨S8192x1x64, .f32⟩
  | 87 => ⟨S8192x1x64, .f32⟩
  | 88 => ⟨S8192x1x32, .f32⟩
  | 89 => ⟨S8192x1x32, .f32⟩
  | 90 => ⟨S8192x1x32, .f32⟩
  | 91 => ⟨S8192x1x64, .f32⟩
  | 92 => ⟨S8192x1x64, .f32⟩
  | 93 => ⟨S8192x1x64, .f32⟩
  | 94 => ⟨S8192x64, .f32⟩
  | 95 => ⟨S_, .i32⟩
  | 96 => ⟨S_, .f32⟩
  | 97 => ⟨S8192x128, .f32⟩
  | 98 => ⟨S8192x64, .f32⟩
  | 99 => ⟨S8192x1x64, .f32⟩
  | 100 => ⟨S8192x1x128, .f32⟩
  | 101 => ⟨S8192x64, .f32⟩
  | 102 => ⟨S8192x1x64, .f32⟩
  | 103 => ⟨S8192x1x128, .f32⟩
  | 104 => ⟨S8192x6144, .f32⟩
  | 105 => ⟨S8192x1024, .f32⟩
  | 106 => ⟨S8192x1024, .f32⟩
  | 107 => ⟨S8192x2048, .f32⟩
  | 108 => ⟨S8192x2048, .f32⟩
  | 109 => ⟨S8192x8x128, .f32⟩
  | 110 => ⟨S8192x8x128, .f32⟩
  | 111 => ⟨S8192x8x128, .f32⟩
  | 112 => ⟨S8192x8x64, .f32⟩
  | 113 => ⟨S8192x8x64, .f32⟩
  | 114 => ⟨S8192x8x64, .f32⟩
  | 115 => ⟨S8192x8x128, .f32⟩
  | 116 => ⟨S8192x8x128, .f32⟩
  | 117 => ⟨S8192x8x128, .f32⟩
  | 118 => ⟨S8192x8x128, .f32⟩
  | 119 => ⟨S2x4096x8x128, .f32⟩
  | 120 => ⟨S8192x8x128, .f32⟩
  | 121 => ⟨S8192x8x128, .f32⟩
  | 122 => ⟨S8192x8x128, .f32⟩
  | 123 => ⟨S8192x8x64, .f32⟩
  | 124 => ⟨S8192x8x64, .f32⟩
  | 125 => ⟨S8192x8x64, .f32⟩
  | 126 => ⟨S8192x8x128, .f32⟩
  | 127 => ⟨S8192x8x128, .f32⟩
  | _ => ⟨S8192x10240, .bf16⟩

abbrev hbmTy0_1 (i : Nat) : BufTy := match i % 128 with
  | 0 => ⟨S8192x8x128, .f32⟩
  | 1 => ⟨S8192x8x128, .f32⟩
  | 2 => ⟨S2x4096x8x128, .f32⟩
  | 3 => ⟨S_, .f32⟩
  | 4 => ⟨S2x4096x8x128, .f32⟩
  | 5 => ⟨S2x4096x8x128, .f32⟩
  | 6 => ⟨S2x4096x8x256, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S4096, .i32⟩
  | 19 => ⟨S4096x1, .i32⟩
  | 20 => ⟨S1x4096, .i32⟩
  | 21 => ⟨S4096x4096, .i32⟩
  | 22 => ⟨S4096x4096, .i32⟩
  | 23 => ⟨S4096x4096, .i32⟩
  | 24 => ⟨S4096x4096, .i32⟩
  | 25 => ⟨S4096x4096, .f32⟩
  | 26 => ⟨S_, .i32⟩
  | 27 => ⟨S_, .i32⟩
  | 28 => ⟨S4096, .i32⟩
  | 29 => ⟨S4096, .i32⟩
  | 30 => ⟨S4096, .i32⟩
  | 31 => ⟨S_, .i32⟩
  | 32 => ⟨S4096, .i32⟩
  | 33 => ⟨S4096, .i1⟩
  | 34 => ⟨S4096, .i32⟩
  | 35 => ⟨S4096, .i32⟩
  | 36 => ⟨S_, .i32⟩
  | 37 => ⟨S4096, .i32⟩
  | 38 => ⟨S4096, .i1⟩
  | 39 => ⟨S4096, .i1⟩
  | 40 => ⟨S_, .i32⟩
  | 41 => ⟨S4096, .i32⟩
  | 42 => ⟨S4096, .i32⟩
  | 43 => ⟨S4096, .i32⟩
  | 44 => ⟨S1x4096, .i32⟩
  | 45 => ⟨S4096x1, .i32⟩
  | 46 => ⟨S4096x4096, .i32⟩
  | 47 => ⟨S4096x4096, .i32⟩
  | 48 => ⟨S4096x4096, .i1⟩
  | 49 => ⟨S8x1x1, .f32⟩
  | 50 => ⟨S1x4096x4096, .f32⟩
  | 51 => ⟨S8x4096x4096, .f32⟩
  | 52 => ⟨S8x4096x4096, .f32⟩
  | 53 => ⟨S8x4096x4096, .f32⟩
  | 54 => ⟨S8x4096x4096, .f32⟩
  | 55 => ⟨S_, .f32⟩
  | 56 => ⟨S_, .f32⟩
  | 57 => ⟨S8x4096x4096, .i1⟩
  | 58 => ⟨S8x4096x4096, .f32⟩
  | 59 => ⟨S8x4096x4096, .f32⟩
  | 60 => ⟨S2x8x4096x4096, .f32⟩
  | 61 => ⟨S1x8x4096x4096, .f32⟩
  | 62 => ⟨S2x8x4096x4096, .f32⟩
  | 63 => ⟨S2x8x4096x4096, .f32⟩
  | 64 => ⟨S2x8x256x4096, .f32⟩
  | 65 => ⟨S2x4096x8x256, .f32⟩
  | 66 => ⟨S_, .f32⟩
  | 67 => ⟨S2x4096x8, .f32⟩
  | 68 => ⟨S2x4096x8x1, .f32⟩
  | 69 => ⟨S_, .f32⟩
  | 70 => ⟨S2x4096x8x1, .f32⟩
  | 71 => ⟨S2x4096x8x1, .f32⟩
  | 72 => ⟨S2x4096x8x256, .f32⟩
  | 73 => ⟨S2x4096x8x256, .f32⟩
  | 74 => ⟨S2x4096x8x256, .f32⟩
  | 75 => ⟨S_, .f32⟩
  | 76 => ⟨S2x4096x8, .f32⟩
  | 77 => ⟨S2x4096x8x1, .f32⟩
  | 78 => ⟨S_, .f32⟩
  | 79 => ⟨S2x4096x8x1, .f32⟩
  | 80 => ⟨S2x4096x8x1, .f32⟩
  | 81 => ⟨S2x4096x8x256, .f32⟩
  | 82 => ⟨S2x4096x8x256, .f32⟩
  | 83 => ⟨S_, .f32⟩
  | 84 => ⟨S2x4096x8x1, .f32⟩
  | 85 => ⟨S2x4096x8x1, .f32⟩
  | 86 => ⟨S2x4096x8x1, .f32⟩
  | 87 => ⟨S2x4096x8x256, .f32⟩
  | 88 => ⟨S2x4096x8x256, .f32⟩
  | 89 => ⟨S8192x2048, .f32⟩
  | 90 => ⟨S2048, .f32⟩
  | 91 => ⟨S1x2048, .f32⟩
  | 92 => ⟨S8192x2048, .f32⟩
  | 93 => ⟨S8192x2048, .f32⟩
  | 94 => ⟨S8192x2048, .f32⟩
  | 95 => ⟨S8192x2048, .f32⟩
  | 96 => ⟨S_, .f32⟩
  | 97 => ⟨S8192x2048, .f32⟩
  | 98 => ⟨S8192x2048, .f32⟩
  | 99 => ⟨S_, .f32⟩
  | 100 => ⟨S8192x2048, .f32⟩
  | 101 => ⟨S8192x2048, .f32⟩
  | 102 => ⟨S8192x2048, .f32⟩
  | 103 => ⟨S8192x2048, .f32⟩
  | 104 => ⟨S8192x4096, .bf16⟩
  | 105 => ⟨S8192x2048, .bf16⟩
  | 106 => ⟨S8192x128, .bf16⟩
  | 107 => ⟨S8192x2048, .bf16⟩
  | 108 => ⟨S8192x2048, .bf16⟩
  | _ => ⟨S8192x10240, .bf16⟩

abbrev hbmTy (i : Nat) : BufTy := match i / 128 with
  | 0 => hbmTy0_0 i
  | 1 => hbmTy0_1 i
  | _ => ⟨S8192x10240, .bf16⟩

abbrev bufTy : (tb : Table) → Fin (tcTables nBuf tb) → BufTy
  | .hbm, ⟨i, _⟩ => hbmTy i
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_c : Ref sig .tc := ⟨.hbm, 54, rfl⟩
abbrev main_call0_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_6 : Ref sig .tc := ⟨.hbm, 95, rfl⟩
abbrev main_call1_v0 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_7 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_8 : Ref sig .tc := ⟨.hbm, 136, rfl⟩
abbrev main_v113 : Ref sig .tc := ⟨.hbm, 137, rfl⟩
abbrev main_v114 : Ref sig .tc := ⟨.hbm, 138, rfl⟩
abbrev main_cst_9 : Ref sig .tc := ⟨.hbm, 139, rfl⟩
abbrev main_v115 : Ref sig .tc := ⟨.hbm, 140, rfl⟩
abbrev main_v116 : Ref sig .tc := ⟨.hbm, 141, rfl⟩
abbrev main_cst_10 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_c_11 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_call2_v3 : Ref sig .tc := ⟨.hbm, 158, rfl⟩
abbrev main_call2_v4 : Ref sig .tc := ⟨.hbm, 159, rfl⟩
abbrev main_call2_v5 : Ref sig .tc := ⟨.hbm, 160, rfl⟩
abbrev main_call2_v6 : Ref sig .tc := ⟨.hbm, 161, rfl⟩
abbrev main_call2_v7 : Ref sig .tc := ⟨.hbm, 162, rfl⟩
abbrev main_call2_v8 : Ref sig .tc := ⟨.hbm, 163, rfl⟩
abbrev main_call2_c : Ref sig .tc := ⟨.hbm, 164, rfl⟩
abbrev main_call2_v9 : Ref sig .tc := ⟨.hbm, 165, rfl⟩
abbrev main_call2_v10 : Ref sig .tc := ⟨.hbm, 166, rfl⟩
abbrev main_call2_v11 : Ref sig .tc := ⟨.hbm, 167, rfl⟩
abbrev main_call2_c_0 : Ref sig .tc := ⟨.hbm, 168, rfl⟩
abbrev main_call2_v12 : Ref sig .tc := ⟨.hbm, 169, rfl⟩
abbrev main_call2_v13 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_12 : Ref sig .tc := ⟨.hbm, 183, rfl⟩
abbrev main_call3_v0 : Ref sig .tc := ⟨.hbm, 184, rfl⟩
abbrev main_call3_v1 : Ref sig .tc := ⟨.hbm, 185, rfl⟩
abbrev main_call3_v2 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_13 : Ref sig .tc := ⟨.hbm, 194, rfl⟩
abbrev main_v147 : Ref sig .tc := ⟨.hbm, 195, rfl⟩
abbrev main_v148 : Ref sig .tc := ⟨.hbm, 196, rfl⟩
abbrev main_cst_14 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_15 : Ref sig .tc := ⟨.hbm, 203, rfl⟩
abbrev main_v154 : Ref sig .tc := ⟨.hbm, 204, rfl⟩
abbrev main_v155 : Ref sig .tc := ⟨.hbm, 205, rfl⟩
abbrev main_cst_16 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_17 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_call4_v0 : Ref sig .tc := ⟨.hbm, 222, rfl⟩
abbrev main_call4_v1 : Ref sig .tc := ⟨.hbm, 223, rfl⟩
abbrev main_call4_cst : Ref sig .tc := ⟨.hbm, 224, rfl⟩
abbrev main_call4_v2 : Ref sig .tc := ⟨.hbm, 225, rfl⟩
abbrev main_call4_v3 : Ref sig .tc := ⟨.hbm, 226, rfl⟩
abbrev main_call4_cst_0 : Ref sig .tc := ⟨.hbm, 227, rfl⟩
abbrev main_call4_v4 : Ref sig .tc := ⟨.hbm, 228, rfl⟩
abbrev main_call4_v5 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩

abbrev nD : Nat := 1
abbrev τ : Topo := Topo.v7x

variable {F : FTy → Type} [FloatOps F]
-- ==== Attn.lean ====
abbrev S2x4096x16x192 : Shape := ⟨4, ![2, 4096, 16, 192]⟩
abbrev S2x4096x16x128 : Shape := ⟨4, ![2, 4096, 16, 128]⟩
abbrev S2x4096x64 : Shape := ⟨3, ![2, 4096, 64]⟩
abbrev S1x2048x2048 : Shape := ⟨3, ![1, 2048, 2048]⟩
abbrev S_ : Shape := ⟨0, ![]⟩
abbrev S2x4096x16x256 : Shape := ⟨4, ![2, 4096, 16, 256]⟩
abbrev S8192x4096 : Shape := ⟨2, ![8192, 4096]⟩
abbrev S8192x2048 : Shape := ⟨2, ![8192, 2048]⟩
abbrev S2x4096x128 : Shape := ⟨3, ![2, 4096, 128]⟩
abbrev S8192x128 : Shape := ⟨2, ![8192, 128]⟩
abbrev S2048x2048 : Shape := ⟨2, ![2048, 2048]⟩
abbrev S2048x512 : Shape := ⟨2, ![2048, 512]⟩
abbrev S4096x256 : Shape := ⟨2, ![4096, 256]⟩
abbrev S4096x128 : Shape := ⟨2, ![4096, 128]⟩
abbrev S64x2048 : Shape := ⟨2, ![64, 2048]⟩
abbrev S2048x256 : Shape := ⟨2, ![2048, 256]⟩
abbrev S2x2048x128 : Shape := ⟨3, ![2, 2048, 128]⟩
abbrev S2x2048x256 : Shape := ⟨3, ![2, 2048, 256]⟩
abbrev S512x128 : Shape := ⟨2, ![512, 128]⟩
abbrev S512x256 : Shape := ⟨2, ![512, 256]⟩
abbrev S512x512 : Shape := ⟨2, ![512, 512]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩
abbrev S1x2048x128 : Shape := ⟨3, ![1, 2048, 128]⟩
abbrev S2048x128 : Shape := ⟨2, ![2048, 128]⟩

abbrev nBuf : Space → Nat
  | .hbm => 34
  | .vmem => 24
  | .smem => 0
  | _ => 0

abbrev bufTy : (tb : Table) → Fin (tcTables nBuf tb) → BufTy
  | .hbm, ⟨0, _⟩ => ⟨S2x4096x16x192, .f32⟩
  | .hbm, ⟨1, _⟩ => ⟨S2x4096x16x128, .f32⟩
  | .hbm, ⟨2, _⟩ => ⟨S2x4096x64, .f32⟩
  | .hbm, ⟨3, _⟩ => ⟨S2x4096x16x128, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x4096x16x192, .f32⟩
  | .hbm, ⟨12, _⟩ => ⟨S2x4096x16x192, .f32⟩
  | .hbm, ⟨13, _⟩ => ⟨S2x4096x16x192, .bf16⟩
  | .hbm, ⟨14, _⟩ => ⟨S_, .i32⟩
  | .hbm, ⟨15, _⟩ => ⟨S_, .bf16⟩
  | .hbm, ⟨16, _⟩ => ⟨S2x4096x16x256, .bf16⟩
  | .hbm, ⟨17, _⟩ => ⟨S8192x4096, .bf16⟩
  | .hbm, ⟨18, _⟩ => ⟨S2x4096x16x128, .bf16⟩
  | .hbm, ⟨19, _⟩ => ⟨S8192x2048, .bf16⟩
  | .hbm, ⟨20, _⟩ => ⟨S2x4096x64, .bf16⟩
  | .hbm, ⟨21, _⟩ => ⟨S_, .i32⟩
  | .hbm, ⟨22, _⟩ => ⟨S_, .bf16⟩
  | .hbm, ⟨23, _⟩ => ⟨S2x4096x128, .bf16⟩
  | .hbm, ⟨24, _⟩ => ⟨S8192x128, .bf16⟩
  | .hbm, ⟨25, _⟩ => ⟨S2x4096x16x128, .bf16⟩
  | .hbm, ⟨26, _⟩ => ⟨S8192x2048, .bf16⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S8192x2048, .bf16⟩
  | .hbm, ⟨31, _⟩ => ⟨S2048x2048, .bf16⟩
  | .hbm, ⟨32, _⟩ => ⟨S2048x2048, .bf16⟩
  | .hbm, ⟨33, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S4096x256, .bf16⟩
  | .local _ .vmem, ⟨7, _⟩ => ⟨S4096x256, .bf16⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S2048x256, .bf16⟩
  | .local _ .vmem, ⟨15, _⟩ => ⟨S2048x256, .bf16⟩
  | .local _ .vmem, ⟨16, _⟩ => ⟨S64x2048, .bf16⟩
  | .local _ .vmem, ⟨17, _⟩ => ⟨S64x2048, .bf16⟩
  | .local _ .vmem, ⟨18, _⟩ => ⟨S64x2048, .bf16⟩
  | .local _ .vmem, ⟨19, _⟩ => ⟨S64x2048, .bf16⟩
  | .local _ .vmem, ⟨20, _⟩ => ⟨S64x2048, .bf16⟩
  | .local _ .vmem, ⟨21, _⟩ => ⟨S64x2048, .bf16⟩
  | .local _ .vmem, ⟨22, _⟩ => ⟨S2x2048x128, .f32⟩
  | .local _ .vmem, ⟨23, _⟩ => ⟨S2x2048x256, .f32⟩
  | _, _ => ⟨S2x4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 8, 2], ![false, false, false]⟩

@[reducible] def k0_t1_loop (i : grid0.Coords) : Scf.Loop 32 :=
  let c0_i32_18 : BitVec 32 := 0#32
  let arg2 : BitVec 32 := BitVec.ofNat 32 (i 2).val
  let v20 : BitVec 32 := Scalar.subi arg2 c0_i32_18
  let c1_i32 : BitVec 32 := 1#32
  let v22 : BitVec 32 := Scalar.divsi v20 c1_i32
  let v23 : BitVec 32 := Scalar.muli v22 c1_i32
  let v24 : BitVec 32 := Scalar.addi c0_i32_18 v23
  let c1_i32_19 : BitVec 32 := 1#32
  ⟨c0_i32_18, v24, c1_i32_19⟩
def k0_mult1 (i : grid0.Coords) (k0_t1 : Fin (k0_t1_loop i).trips) : BitVec 32 :=
  let c0_i32_18 : BitVec 32 := 0#32
  let c1_i32_19 : BitVec 32 := 1#32
  let arg16 : BitVec 32 := Scf.iv c0_i32_18 c1_i32_19 k0_t1
  let c2048_i32_534 : BitVec 32 := 2048#32
  let v1127 : BitVec 32 := Scalar.muli arg16 c2048_i32_534
  let c0_i32_535 : BitVec 32 := 0#32
  let v1128 : BitVec 32 := Scalar.addi v1127 c0_i32_535
  v1128
def k0_off1 (i : grid0.Coords) (k0_t1 : Fin (k0_t1_loop i).trips) (c0_i32_535 : BitVec 32) : Fin 2 → Nat :=
  let c0_i32_18 : BitVec 32 := 0#32
  let c1_i32_19 : BitVec 32 := 1#32
  let arg16 : BitVec 32 := Scf.iv c0_i32_18 c1_i32_19 k0_t1
  let c2048_i32_534 : BitVec 32 := 2048#32
  let v1127 : BitVec 32 := Scalar.muli arg16 c2048_i32_534
  let v1128 : BitVec 32 := Scalar.addi v1127 c0_i32_535
  let v1129 : BitVec 32 := v1128
  let v1130 : Index := Scalar.indexCast v1129
  let c0_536 : Index := 0#32
  ![v1130.toNat, 0]
def k0_off2 (i : grid0.Coords) (k0_t1 : Fin (k0_t1_loop i).trips) (c0_i32_535 : BitVec 32) : Fin 2 → Nat :=
  let c0_i32_18 : BitVec 32 := 0#32
  let c1_i32_19 : BitVec 32 := 1#32
  let arg16 : BitVec 32 := Scf.iv c0_i32_18 c1_i32_19 k0_t1
  let c2048_i32_534 : BitVec 32 := 2048#32
  let v1127 : BitVec 32 := Scalar.muli arg16 c2048_i32_534
  let v1128 : BitVec 32 := Scalar.addi v1127 c0_i32_535
  let v1129 : BitVec 32 := v1128
  let v1133 : Index := Scalar.indexCast v1129
  let c0_537 : Index := 0#32
  ![v1133.toNat, 0]
def k0_off3 (i : grid0.Coords) (k0_t1 : Fin (k0_t1_loop i).trips) (c0_i32_535 : BitVec 32) : Fin 2 → Nat :=
  let c0_i32_18 : BitVec 32 := 0#32
  let c1_i32_19 : BitVec 32 := 1#32
  let arg16 : BitVec 32 := Scf.iv c0_i32_18 c1_i32_19 k0_t1
  let c2048_i32_534 : BitVec 32 := 2048#32
  let v1127 : BitVec 32 := Scalar.muli arg16 c2048_i32_534
  let v1128 : BitVec 32 := Scalar.addi v1127 c0_i32_535
  let v1129 : BitVec 32 := v1128
  let v1250 : Index := Scalar.indexCast v1129
  let c128_608 : Index := 128#32
  ![v1250.toNat, 128]
def k0_mult2 (i : grid0.Coords) (k0_t1 : Fin (k0_t1_loop i).trips) : BitVec 32 :=
  let c0_i32_18 : BitVec 32 := 0#32
  let c1_i32_19 : BitVec 32 := 1#32
  let arg16 : BitVec 32 := Scf.iv c0_i32_18 c1_i32_19 k0_t1
  let c2048_i32_680 : BitVec 32 := 2048#32
  let v1370 : BitVec 32 := Scalar.muli arg16 c2048_i32_680
  let c512_i32_681 : BitVec 32 := 512#32
  let v1371 : BitVec 32 := Scalar.addi v1370 c512_i32_681
  v1371
def k0_mult3 (i : grid0.Coords) (k0_t1 : Fin (k0_t1_loop i).trips) : BitVec 32 :=
  let c0_i32_18 : BitVec 32 := 0#32
  let c1_i32_19 : BitVec 32 := 1#32
  let arg16 : BitVec 32 := Scf.iv c0_i32_18 c1_i32_19 k0_t1
  let c2048_i32_826 : BitVec 32 := 2048#32
  let v1613 : BitVec 32 := Scalar.muli arg16 c2048_i32_826
  let c1024_i32_827 : BitVec 32 := 1024#32
  let v1614 : BitVec 32 := Scalar.addi v1613 c1024_i32_827
  v1614
def k0_mult4 (i : grid0.Coords) (k0_t1 : Fin (k0_t1_loop i).trips) : BitVec 32 :=
  let c0_i32_18 : BitVec 32 := 0#32
  let c1_i32_19 : BitVec 32 := 1#32
  let arg16 : BitVec 32 := Scf.iv c0_i32_18 c1_i32_19 k0_t1
  let c2048_i32_972 : BitVec 32 := 2048#32
  let v1856 : BitVec 32 := Scalar.muli arg16 c2048_i32_972
  let c1536_i32_973 : BitVec 32 := 1536#32
  let v1857 : BitVec 32 := Scalar.addi v1856 c1536_i32_973
  v1857
@[reducible] def k0_t2_loop (i : grid0.Coords) : Scf.Loop 32 :=
  let c0_i32_18 : BitVec 32 := 0#32
  let arg2 : BitVec 32 := BitVec.ofNat 32 (i 2).val
  let v20 : BitVec 32 := Scalar.subi arg2 c0_i32_18
  let c1_i32 : BitVec 32 := 1#32
  let v22 : BitVec 32 := Scalar.divsi v20 c1_i32
  let v23 : BitVec 32 := Scalar.muli v22 c1_i32
  let v24 : BitVec 32 := Scalar.addi c0_i32_18 v23
  let v21 : BitVec 32 := Scalar.addi c0_i32_18 v20
  let c1_i32_20 : BitVec 32 := 1#32
  ⟨v24, v21, c1_i32_20⟩
def k0_mult5 (i : grid0.Coords) (k0_t2 : Fin (k0_t2_loop i).trips) : BitVec 32 :=
  let c0_i32_18 : BitVec 32 := 0#32
  let arg2 : BitVec 32 := BitVec.ofNat 32 (i 2).val
  let v20 : BitVec 32 := Scalar.subi arg2 c0_i32_18
  let c1_i32 : BitVec 32 := 1#32
  let v22 : BitVec 32 := Scalar.divsi v20 c1_i32
  let v23 : BitVec 32 := Scalar.muli v22 c1_i32
  let v24 : BitVec 32 := Scalar.addi c0_i32_18 v23
  let c1_i32_20 : BitVec 32 := 1#32
  let arg16 : BitVec 32 := Scf.iv v24 c1_i32_20 k0_t2
  let c2048_i32_534 : BitVec 32 := 2048#32
  let v1127 : BitVec 32 := Scalar.muli arg16 c2048_i32_534
  let c0_i32_535 : BitVec 32 := 0#32
  let v1128 : BitVec 32 := Scalar.addi v1127 c0_i32_535
  v1128
def k0_off4 (i : grid0.Coords) (k0_t2 : Fin (k0_t2_loop i).trips) (c0_i32_535 : BitVec 32) : Fin 2 → Nat :=
  let c0_i32_18 : BitVec 32 := 0#32
  let arg2 : BitVec 32 := BitVec.ofNat 32 (i 2).val
  let v20 : BitVec 32 := Scalar.subi arg2 c0_i32_18
  let c1_i32 : BitVec 32 := 1#32
  let v22 : BitVec 32 := Scalar.divsi v20 c1_i32
  let v23 : BitVec 32 := Scalar.muli v22 c1_i32
  let v24 : BitVec 32 := Scalar.addi c0_i32_18 v23
  let c1_i32_20 : BitVec 32 := 1#32
  let arg16 : BitVec 32 := Scf.iv v24 c1_i32_20 k0_t2
  let c2048_i32_534 : BitVec 32 := 2048#32
  let v1127 : BitVec 32 := Scalar.muli arg16 c2048_i32_534
  let v1128 : BitVec 32 := Scalar.addi v1127 c0_i32_535
  let v1129 : BitVec 32 := v1128
  let v1130 : Index := Scalar.indexCast v1129
  let c0_536 : Index := 0#32
  ![v1130.toNat, 0]
def k0_off5 (i : grid0.Coords) (k0_t2 : Fin (k0_t2_loop i).trips) (c0_i32_535 : BitVec 32) : Fin 2 → Nat :=
  let c0_i32_18 : BitVec 32 := 0#32
  let arg2 : BitVec 32 := BitVec.ofNat 32 (i 2).val
  let v20 : BitVec 32 := Scalar.subi arg2 c0_i32_18
  let c1_i32 : BitVec 32 := 1#32
  let v22 : BitVec 32 := Scalar.divsi v20 c1_i32
  let v23 : BitVec 32 := Scalar.muli v22 c1_i32
  let v24 : BitVec 32 := Scalar.addi c0_i32_18 v23
  let c1_i32_20 : BitVec 32 := 1#32
  let arg16 : BitVec 32 := Scf.iv v24 c1_i32_20 k0_t2
  let c2048_i32_534 : BitVec 32 := 2048#32
  let v1127 : BitVec 32 := Scalar.muli arg16 c2048_i32_534
  let v1128 : BitVec 32 := Scalar.addi v1127 c0_i32_535
  let v1129 : BitVec 32 := v1128
  let v1133 : Index := Scalar.indexCast v1129
  let c0_537 : Index := 0#32
  ![v1133.toNat, 0]
def k0_off6 (i : grid0.Coords) (k0_t2 : Fin (k0_t2_loop i).trips) (c0_i32_535 : BitVec 32) : Fin 2 → Nat :=
  let c0_i32_18 : BitVec 32 := 0#32
  let arg2 : BitVec 32 := BitVec.ofNat 32 (i 2).val
  let v20 : BitVec 32 := Scalar.subi arg2 c0_i32_18
  let c1_i32 : BitVec 32 := 1#32
  let v22 : BitVec 32 := Scalar.divsi v20 c1_i32
  let v23 : BitVec 32 := Scalar.muli v22 c1_i32
  let v24 : BitVec 32 := Scalar.addi c0_i32_18 v23
  let c1_i32_20 : BitVec 32 := 1#32
  let arg16 : BitVec 32 := Scf.iv v24 c1_i32_20 k0_t2
  let c2048_i32_534 : BitVec 32 := 2048#32
  let v1127 : BitVec 32 := Scalar.muli arg16 c2048_i32_534
  let v1128 : BitVec 32 := Scalar.addi v1127 c0_i32_535
  let v1129 : BitVec 32 := v1128
  let v1250 : Index := Scalar.indexCast v1129
  let c128_608 : Index := 128#32
  ![v1250.toNat, 128]
def k0_mult6 (i : grid0.Coords) (k0_t2 : Fin (k0_t2_loop i).trips) : BitVec 32 :=
  let c0_i32_18 : BitVec 32 := 0#32
  let arg2 : BitVec 32 := BitVec.ofNat 32 (i 2).val
  let v20 : BitVec 32 := Scalar.subi arg2 c0_i32_18
  let c1_i32 : BitVec 32 := 1#32
  let v22 : BitVec 32 := Scalar.divsi v20 c1_i32
  let v23 : BitVec 32 := Scalar.muli v22 c1_i32
  let v24 : BitVec 32 := Scalar.addi c0_i32_18 v23
  let c1_i32_20 : BitVec 32 := 1#32
  let arg16 : BitVec 32 := Scf.iv v24 c1_i32_20 k0_t2
  let c2048_i32_680 : BitVec 32 := 2048#32
  let v1370 : BitVec 32 := Scalar.muli arg16 c2048_i32_680
  let c512_i32_681 : BitVec 32 := 512#32
  let v1371 : BitVec 32 := Scalar.addi v1370 c512_i32_681
  v1371
def k0_mult7 (i : grid0.Coords) (k0_t2 : Fin (k0_t2_loop i).trips) : BitVec 32 :=
  let c0_i32_18 : BitVec 32 := 0#32
  let arg2 : BitVec 32 := BitVec.ofNat 32 (i 2).val
  let v20 : BitVec 32 := Scalar.subi arg2 c0_i32_18
  let c1_i32 : BitVec 32 := 1#32
  let v22 : BitVec 32 := Scalar.divsi v20 c1_i32
  let v23 : BitVec 32 := Scalar.muli v22 c1_i32
  let v24 : BitVec 32 := Scalar.addi c0_i32_18 v23
  let c1_i32_20 : BitVec 32 := 1#32
  let arg16 : BitVec 32 := Scf.iv v24 c1_i32_20 k0_t2
  let c2048_i32_826 : BitVec 32 := 2048#32
  let v1613 : BitVec 32 := Scalar.muli arg16 c2048_i32_826
  let c1024_i32_827 : BitVec 32 := 1024#32
  let v1614 : BitVec 32 := Scalar.addi v1613 c1024_i32_827
  v1614
def k0_mult8 (i : grid0.Coords) (k0_t2 : Fin (k0_t2_loop i).trips) : BitVec 32 :=
  let c0_i32_18 : BitVec 32 := 0#32
  let arg2 : BitVec 32 := BitVec.ofNat 32 (i 2).val
  let v20 : BitVec 32 := Scalar.subi arg2 c0_i32_18
  let c1_i32 : BitVec 32 := 1#32
  let v22 : BitVec 32 := Scalar.divsi v20 c1_i32
  let v23 : BitVec 32 := Scalar.muli v22 c1_i32
  let v24 : BitVec 32 := Scalar.addi c0_i32_18 v23
  let c1_i32_20 : BitVec 32 := 1#32
  let arg16 : BitVec 32 := Scf.iv v24 c1_i32_20 k0_t2
  let c2048_i32_972 : BitVec 32 := 2048#32
  let v1856 : BitVec 32 := Scalar.muli arg16 c2048_i32_972
  let c1536_i32_973 : BitVec 32 := 1536#32
  let v1857 : BitVec 32 := Scalar.addi v1856 c1536_i32_973
  v1857
def k0_mult9 (i : grid0.Coords) : BitVec 32 :=
  let arg2 : BitVec 32 := BitVec.ofNat 32 (i 2).val
  let c2048_i32 : BitVec 32 := 2048#32
  let v25 : BitVec 32 := Scalar.muli arg2 c2048_i32
  let c0_i32_21 : BitVec 32 := 0#32
  let v26 : BitVec 32 := Scalar.addi v25 c0_i32_21
  v26
def k0_off7 (i : grid0.Coords) (c0_i32_21 : BitVec 32) : Fin 2 → Nat :=
  let arg2 : BitVec 32 := BitVec.ofNat 32 (i 2).val
  let c2048_i32 : BitVec 32 := 2048#32
  let v25 : BitVec 32 := Scalar.muli arg2 c2048_i32
  let v26 : BitVec 32 := Scalar.addi v25 c0_i32_21
  let v27 : BitVec 32 := v26
  let v28 : Index := Scalar.indexCast v27
  let c0_22 : Index := 0#32
  ![v28.toNat, 0]
def k0_off8 (i : grid0.Coords) (c0_i32_21 : BitVec 32) : Fin 2 → Nat :=
  let arg2 : BitVec 32 := BitVec.ofNat 32 (i 2).val
  let c2048_i32 : BitVec 32 := 2048#32
  let v25 : BitVec 32 := Scalar.muli arg2 c2048_i32
  let v26 : BitVec 32 := Scalar.addi v25 c0_i32_21
  let v27 : BitVec 32 := v26
  let v31 : Index := Scalar.indexCast v27
  let c0_23 : Index := 0#32
  ![v31.toNat, 0]
def k0_off9 (i : grid0.Coords) (c0_i32_21 : BitVec 32) : Fin 2 → Nat :=
  let arg2 : BitVec 32 := BitVec.ofNat 32 (i 2).val
  let c2048_i32 : BitVec 32 := 2048#32
  let v25 : BitVec 32 := Scalar.muli arg2 c2048_i32
  let v26 : BitVec 32 := Scalar.addi v25 c0_i32_21
  let v27 : BitVec 32 := v26
  let v203 : Index := Scalar.indexCast v27
  let c128 : Index := 128#32
  ![v203.toNat, 128]
def k0_mult10 (i : grid0.Coords) : BitVec 32 :=
  let arg2 : BitVec 32 := BitVec.ofNat 32 (i 2).val
  let c2048_i32_191 : BitVec 32 := 2048#32
  let v378 : BitVec 32 := Scalar.muli arg2 c2048_i32_191
  let c512_i32 : BitVec 32 := 512#32
  let v379 : BitVec 32 := Scalar.addi v378 c512_i32
  v379
def k0_mult11 (i : grid0.Coords) : BitVec 32 :=
  let arg2 : BitVec 32 := BitVec.ofNat 32 (i 2).val
  let c2048_i32_334 : BitVec 32 := 2048#32
  let v677 : BitVec 32 := Scalar.muli arg2 c2048_i32_334
  let c1024_i32 : BitVec 32 := 1024#32
  let v678 : BitVec 32 := Scalar.addi v677 c1024_i32
  v678
def k0_mult12 (i : grid0.Coords) : BitVec 32 :=
  let arg2 : BitVec 32 := BitVec.ofNat 32 (i 2).val
  let c2048_i32_443 : BitVec 32 := 2048#32
  let v922 : BitVec 32 := Scalar.muli arg2 c2048_i32_443
  let c1536_i32 : BitVec 32 := 1536#32
  let v923 : BitVec 32 := Scalar.addi v922 c1536_i32
  v923
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.muli v1 c2_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AttnReferenceIdeal.lean ====
abbrev S2x4096x16x192 : Shape := ⟨4, ![2, 4096, 16, 192]⟩
abbrev S2x4096x16x128 : Shape := ⟨4, ![2, 4096, 16, 128]⟩
abbrev S2x4096x64 : Shape := ⟨3, ![2, 4096, 64]⟩
abbrev S1x2048x2048 : Shape := ⟨3, ![1, 2048, 2048]⟩
abbrev S2x4096x1x64 : Shape := ⟨4, ![2, 4096, 1, 64]⟩
abbrev S2x4096x16x64 : Shape := ⟨4, ![2, 4096, 16, 64]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x16x4096x4096 : Shape := ⟨4, ![2, 16, 4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S8192x2048 : Shape := ⟨2, ![8192, 2048]⟩
abbrev S2048x2048 : Shape := ⟨2, ![2048, 2048]⟩

abbrev nBuf : Space → Nat
  | .hbm => 67
  | .vmem => 0
  | .smem => 0
  | _ => 0

abbrev bufTy : (tb : Table) → Fin (tcTables nBuf tb) → BufTy
  | .hbm, ⟨0, _⟩ => ⟨S2x4096x16x192, .f32⟩
  | .hbm, ⟨1, _⟩ => ⟨S2x4096x16x128, .f32⟩
  | .hbm, ⟨2, _⟩ => ⟨S2x4096x64, .f32⟩
  | .hbm, ⟨3, _⟩ => ⟨S2x4096x16x128, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S2x4096x1x64, .f32⟩
  | .hbm, ⟨8, _⟩ => ⟨S2x4096x16x64, .f32⟩
  | .hbm, ⟨9, _⟩ => ⟨S2x4096x16x192, .f32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S2x16x4096x4096, .f32⟩
  | .hbm, ⟨35, _⟩ => ⟨S_, .f32⟩
  | .hbm, ⟨36, _⟩ => ⟨S2x16x4096x4096, .f32⟩
  | .hbm, ⟨37, _⟩ => ⟨S2x16x4096x4096, .f32⟩
  | .hbm, ⟨38, _⟩ => ⟨S_, .f32⟩
  | .hbm, ⟨39, _⟩ => ⟨S_, .f32⟩
  | .hbm, ⟨40, _⟩ => ⟨S2x16x4096x4096, .i1⟩
  | .hbm, ⟨41, _⟩ => ⟨S2x16x4096x4096, .f32⟩
  | .hbm, ⟨42, _⟩ => ⟨S2x16x4096x4096, .f32⟩
  | .hbm, ⟨43, _⟩ => ⟨S_, .f32⟩
  | .hbm, ⟨44, _⟩ => ⟨S2x16x4096, .f32⟩
  | .hbm, ⟨45, _⟩ => ⟨S_, .f32⟩
  | .hbm, ⟨46, _⟩ => ⟨S2x16x4096, .f32⟩
  | .hbm, ⟨47, _⟩ => ⟨S2x16x4096, .f32⟩
  | .hbm, ⟨48, _⟩ => ⟨S2x16x4096x1, .f32⟩
  | .hbm, ⟨49, _⟩ => ⟨S2x16x4096x4096, .f32⟩
  | .hbm, ⟨50, _⟩ => ⟨S2x16x4096x4096, .f32⟩
  | .hbm, ⟨51, _⟩ => ⟨S2x16x4096x4096, .f32⟩
  | .hbm, ⟨52, _⟩ => ⟨S_, .f32⟩
  | .hbm, ⟨53, _⟩ => ⟨S2x16x4096, .f32⟩
  | .hbm, ⟨54, _⟩ => ⟨S2x16x4096x1, .f32⟩
  | .hbm, ⟨55, _⟩ => ⟨S2x16x4096x4096, .f32⟩
  | .hbm, ⟨56, _⟩ => ⟨S2x16x4096x4096, .f32⟩
  | .hbm, ⟨57, _⟩ => ⟨S2x16x128x4096, .f32⟩
  | .hbm, ⟨58, _⟩ => ⟨S2x4096x16x128, .f32⟩
  | .hbm, ⟨59, _⟩ => ⟨S8192x2048, .f32⟩
  | .hbm, ⟨60, _⟩ => ⟨S8192x2048, .bf16⟩
  | .hbm, ⟨61, _⟩ => ⟨S2048x2048, .f32⟩
  | .hbm, ⟨62, _⟩ => ⟨S2048x2048, .bf16⟩
  | .hbm, ⟨63, _⟩ => ⟨S2048x2048, .f32⟩
  | .hbm, ⟨64, _⟩ => ⟨S2048x2048, .bf16⟩
  | .hbm, ⟨65, _⟩ => ⟨S2048x2048, .f32⟩
  | .hbm, ⟨66, _⟩ => ⟨S2048x2048, .bf16⟩
  | _, _ => ⟨S2x4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩

abbrev nD : Nat := 1
abbrev τ : Topo := Topo.v7x

variable {F : FTy → Type} [FloatOps F]
-- ==== Proof.InprojKernel.lean ====
/-
  The input projection's kernel, read at an index: what one grid point computes, what the carried scratch holds, and what
  the result array ends holding.
-/
module

public import proofs.«01_k».proof.Defs
public import proofs.«01_k».proof.Proof.Gen.KernelIdeal.Value
public import Idealize.ShloMosaic.Lib.Pipeline.Value
public import Idealize.ShloMosaic.Lib.Pointwise
public import Idealize.ShloMosaic.Lib.StableHlo.ReadAt
public import Idealize.ShloMosaic.Lib.Tactic

@[expose] public section

set_option maxRecDepth 16384

noncomputable section

namespace Cert.KernelIdeal.InVal

open Cert.KernelIdeal Cert.KernelIdeal.Gen
open Idealize.ShloMosaic Idealize.ShloMosaic.TcCoe Idealize.SL.Sem

section
variable {F : FTy → Type} [FloatOps F]

theorem hz : (![0, 0] : Fin 2 → Nat) = fun _ => 0 := funext fun a => by fin_cases a <;> rfl

/-- Where the row block begins (`t % 4 = 0`), the scratch is left holding the rounded weight block. -/
theorem scratch_A (c : Dev nD) (i : grid0.Coords) (a2 : Memref sig .tc .vmem S2048x2048 .bf16) (h2 : a2.IsWhole)
    (a3 : Memref sig .tc .vmem S1024x2048 .f32) (h3 : a3.IsWhole) (a4 : Memref sig .tc .vmem S2048x1024 .bf16) (h4 : a4.IsWhole)
    (a5 : Memref sig .tc .vmem S1024x2048 .bf16) (h5 : a5.IsWhole) (hc : cond0_0 i)
    (x0 : Vec F S2048x2048 .bf16) (x1 : Vec F S1024x2048 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h3.read_unread, View.ld_unit_zero (S := S1024x2048) hz]

/-- There the product is taken with the block just rounded. -/
theorem out_A (c : Dev nD) (i : grid0.Coords) (a2 : Memref sig .tc .vmem S2048x2048 .bf16) (h2 : a2.IsWhole)
    (a3 : Memref sig .tc .vmem S1024x2048 .f32) (h3 : a3.IsWhole) (a4 : Memref sig .tc .vmem S2048x1024 .bf16) (h4 : a4.IsWhole)
    (a5 : Memref sig .tc .vmem S1024x2048 .bf16) (h5 : a5.IsWhole) (hc : cond0_0 i)
    (x0 : Vec F S2048x2048 .bf16) (x1 : Vec F S1024x2048 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz, View.readCov_unit_zero (S := S1024x2048) _ hz]
  simp only [View.readAt_eq_ld, h2.read_unread, h3.read_unread, View.ld_unit_zero (S := S1024x2048) hz,
    View.ld_unit_zero (S := S2048x2048) hz]

/-- Elsewhere it is taken with what the scratch holds. -/
theorem out_B (c : Dev nD) (i : grid0.Coords) (a2 : Memref sig .tc .vmem S2048x2048 .bf16) (h2 : a2.IsWhole)
    (a3 : Memref sig .tc .vmem S1024x2048 .f32) (h3 : a3.IsWhole) (a4 : Memref sig .tc .vmem S2048x1024 .bf16) (h4 : a4.IsWhole)
    (a5 : Memref sig .tc .vmem S1024x2048 .bf16) (h5 : a5.IsWhole) (hc : ¬cond0_0 i)
    (x0 : Vec F S2048x2048 .bf16) (x1 : Vec F S1024x2048 .f32) (xs : Vec F S1024x2048 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  rw [View.canon_unit_zero hz]
  simp only [View.readAt_eq_ld, h2.read_unread, h5.read_unread, View.ld_unit_zero (S := S1024x2048) hz,
    View.ld_unit_zero (S := S2048x2048) hz]

/-- The first weight row of column block `j`: the gates' columns lie 1088 past the heads'. -/
def row (j : ℕ) : ℕ := if j < 6 then j * 1024 else 7232 + (j - 6) * 1024

/-- The three index maps in closed form. -/
theorem idx_facts : ∀ t : Fin cfg0.N, win0_0.index t (0 : Fin 2) = t.val % 4 ∧ win0_0.index t (1 : Fin 2) = 0
    ∧ win0_1.index t (0 : Fin 2) = row (t.val / 4) ∧ win0_1.index t (1 : Fin 2) = 0 :=
  (by decide +kernel : ∀ t : Fin grid0.N, _)

variable (m : (ℓ : Loc nD τ sig) → Buf (Elt F) ℓ)

/-- The weights as the kernel finds them: the transposed argument. -/
theorem V_w (c : Dev nD) (r : Fin 11328) (k : Fin 2048) :
    V m c main_v1 (ix2 r k) = m ((c : Thread nD τ).loc main_arg1) (ix3 0 k r) := by
  unfold V
  after_reads_at

theorem row_lt (n : ℕ) (h : n < cfg0.N) (r : Fin 1024) : row (n / 4) + r.val < 11328 := by
  have := lt_of_lt_of_eq h (show cfg0.N = 40 from N_0)
  have := r.isLt
  unfold row; split <;> omega

/-- The weight block of a point. -/
theorem blk1 (c : Dev nD) (t : Fin cfg0.N) (r : Fin 1024) (k : Fin 2048) :
    (iblk m c 1 t : Vec F S1024x2048 .f32) (ix2 r k)
      = m ((c : Thread nD τ).loc main_arg1) (ix3 0 k ⟨row (t.val / 4) + r.val, row_lt t.val t.isLt r⟩) := by
  obtain ⟨-, -, e0, e1⟩ := idx_facts t
  rw [← V_w m c ⟨row (t.val / 4) + r.val, row_lt t.val t.isLt r⟩ k]
  unfold iblk
  rw [View.read_apply]
  show V m c main_v1 _ = V m c main_v1 _
  congr 1
  funext a
  apply Fin.ext
  match a with
  | ⟨0, _⟩ => show win0_1.index t (0 : Fin 2) + 1 * r.val = row (t.val / 4) + r.val; rw [e0]; omega
  | ⟨1, _⟩ => show win0_1.index t (1 : Fin 2) + 1 * k.val = k.val; rw [e1]; omega

/-- The block of activations of a point. -/
theorem blk0 (c : Dev nD) (t : Fin cfg0.N) (r : Fin 2048) (k : Fin 2048) :
    (iblk m c 0 t : Vec F S2048x2048 .bf16) (ix2 r k)
      = m ((c : Thread nD τ).loc main_arg0) (ix2 ⟨t.val % 4 * 2048 + r.val, by omega⟩ k) := by
  obtain ⟨e0, e1, -, -⟩ := idx_facts t
  rw [← V_main_arg0 m c]
  unfold iblk
  rw [View.read_apply]
  show V m c main_arg0 _ = V m c main_arg0 _
  congr 1
  funext a
  apply Fin.ext
  match a with
  | ⟨0, _⟩ => show win0_0.index t (0 : Fin 2) * 2048 + 1 * r.val = t.val % 4 * 2048 + r.val; rw [e0]; omega
  | ⟨1, _⟩ => show win0_0.index t (1 : Fin 2) * 2048 + 1 * k.val = k.val; rw [e1]; omega

/-- Within a column block the weight block stays. -/
theorem blk1_stay (c : Dev nD) (t t' : Fin cfg0.N) (h : t.val / 4 = t'.val / 4) :
    (iblk m c 1 t : Vec F S1024x2048 .f32) = iblk m c 1 t' := by
  funext j
  idx_vars j
  rw [blk1, blk1]
  congr 1
  simp only [h]

/-- What every point leaves: the product with the point's own weight block, which the scratch holds rounded. -/
theorem state (c : Dev nD) : ∀ (n : ℕ) (h : n < cfg0.N), outsAt0 m c n h
    = (k0_pay2 (iblk m c 0 ⟨n, h⟩) (k0_pay1 (iblk m c 1 ⟨n, h⟩)), k0_pay1 (iblk m c 1 ⟨n, h⟩)) := by
  intro n
  induction n with
  | zero =>
    intro h
    rw [outsAt0_A m c ⟨0, h⟩ rfl, out_A, scratch_A]
  | succ n ih =>
    intro h
    by_cases h0 : (n + 1) % 4 = 0
    · rw [outsAt0_A m c ⟨n + 1, h⟩ h0, out_A, scratch_A]
    · rw [outsAt0_B m c ⟨n + 1, h⟩ h0, out_B]
      have e : outsAt0 m c ((⟨n + 1, h⟩ : Fin cfg0.N).val - 1) (Nat.lt_of_le_of_lt (Nat.sub_le _ _) h)
          = outsAt0 m c n (Nat.lt_of_succ_lt h) := rfl
      rw [e, ih (Nat.lt_of_succ_lt h)]
      rw [blk1_stay m c ⟨n, Nat.lt_of_succ_lt h⟩ ⟨n + 1, h⟩ (by show n / 4 = (n + 1) / 4; omega)]
      rfl

end

variable (m : (ℓ : Loc nD τ sig) → Buf (Elt Ideal) ℓ)

/-- The payload at an index: a row of the activations times a row of the transposed weights. -/
theorem pay_apply (x : Vec Ideal S2048x2048 .bf16) (w : Vec Ideal S1024x2048 .f32) (r : Fin 2048) (l : Fin 1024) :
    k0_pay2 x (k0_pay1 w) (ix2 r l) = ∑ k : Fin 2048, x (ix2 r k) * w (ix2 l k) := by
  pointwise [k0_pay2, k0_pay1]

/-- The weight column that result column `q` is of. -/
def col (q : ℕ) : ℕ := if q < 6144 then q else q + 1088

theorem col_lt (q : Fin 10240) : col q.val < 11328 := by
  have := q.isLt
  unfold col; split <;> omega

/-- The product of the two arguments at a row and a result column. -/
def prod (x : Vec Ideal S8192x2048 .bf16) (w : Vec Ideal S1x2048x11328 .f32) (p : Fin 8192) (q : Fin 10240) : EReal :=
  ∑ k : Fin 2048, x (ix2 p k) * w (ix3 0 k ⟨col q.val, col_lt q⟩)

/-- The result array: row `p` of the activations times weight column `col q`. -/
theorem result_apply (c : Dev nD) (p : Fin 8192) (q : Fin 10240) :
    Value.G2 m c (ix2 p q)
      = prod (m ((c : Thread nD τ).loc main_arg0)) (m ((c : Thread nD τ).loc main_arg1)) p q := by
  have hp := p.isLt
  have hq := q.isLt
  have hN : cfg0.N = 40 := N_0
  have hpt : Value.pt2Of (ix2 p q) < cfg0.N := by
    rw [hN]; show 1 * (p.val / 2048 - 0) + 4 * (q.val / 1024 - 0) < 40; omega
  unfold Value.G2
  rw [dif_pos hpt, ← Value.outsAt0_sweep m c _ hpt, state]
  have el : Value.loc2Of (ix2 p q) = (ix2 ⟨p.val % 2048, by omega⟩ ⟨q.val % 1024, by omega⟩ : S2048x1024.Idx) := by
    funext a; match a with
    | ⟨0, _⟩ => rfl
    | ⟨1, _⟩ => rfl
  rw [el]
  show k0_pay2 _ (k0_pay1 _) _ = _
  rw [pay_apply]
  unfold prod
  refine Finset.sum_congr rfl fun k _ => ?_
  have hv : Value.pt2Of (ix2 p q) = p.val / 2048 + 4 * (q.val / 1024) := by
    show 1 * (p.val / 2048 - 0) + 4 * (q.val / 1024 - 0) = _; omega
  rw [blk0, blk1]
  congr 2
  · congr 1
    apply Fin.ext
    show Value.pt2Of (ix2 p q) % 4 * 2048 + p.val % 2048 = p.val
    rw [hv]; omega
  · congr 1
    apply Fin.ext
    show row (Value.pt2Of (ix2 p q) / 4) + q.val % 1024 = col q.val
    rw [hv]
    unfold row col
    split <;> split <;> omega

end Cert.KernelIdeal.InVal

end
-- ==== Proof.Inproj.lean ====
/-
  The input projection's claims: the reference read at an index, and the two results joined.
-/
module

public import proofs.«01_k».proof.Proof.InprojKernel
public import Idealize.ShloMosaic.Adequacy
public import proofs.«01_k».proof.Proof.Gen.Kernel.Frame
public import proofs.«01_k».proof.Proof.Gen.KernelIdeal.Frame
public import proofs.«01_k».proof.Proof.Gen.ReferenceIdeal.Read

@[expose] public section

set_option maxRecDepth 16384

noncomputable section

namespace Cert.Proof.Inproj

open Idealize.ShloMosaic Idealize.ShloMosaic.TcCoe Idealize.SL.Sem
open Cert.KernelIdeal.InVal (prod col col_lt)

/-- The full product of the reference at an index. -/
theorem full_apply (x : Vec Ideal Cert.KernelIdeal.S8192x2048 .bf16) (w : Vec Ideal Cert.KernelIdeal.S1x2048x11328 .f32) (p : Fin 8192) (q : Fin 11328) :
    (Cert.ReferenceIdeal.Read.val_main_v2 (F := Ideal) x w) (ix2 p q) = ∑ k : Fin 2048, x (ix2 p k) * w (ix3 0 k q) := by
  pointwise [Cert.ReferenceIdeal.Read.val_main_v2, Cert.ReferenceIdeal.Read.val_main_v1, Cert.ReferenceIdeal.Read.val_main_v0]

/-- The reference's result: the product at the column each slice and the joining select. -/
theorem reference_apply (x : Vec Ideal Cert.KernelIdeal.S8192x2048 .bf16) (w : Vec Ideal Cert.KernelIdeal.S1x2048x11328 .f32) (p : Fin 8192) (q : Fin 10240) :
    (Cert.ReferenceIdeal.Read.val_main_v13 (F := Ideal) x w) (ix2 p q) = prod x w p q := by
  unfold prod
  rw [← full_apply]
  unfold Cert.ReferenceIdeal.Read.val_main_v13 Cert.ReferenceIdeal.Read.val_main_v12
    Cert.ReferenceIdeal.Read.val_main_v3 Cert.ReferenceIdeal.Read.val_main_v4 Cert.ReferenceIdeal.Read.val_main_v5
    Cert.ReferenceIdeal.Read.val_main_v6 Cert.ReferenceIdeal.Read.val_main_v10 Cert.ReferenceIdeal.Read.val_main_v11
  generalize Cert.ReferenceIdeal.Read.val_main_v2 (F := Ideal) x w = y
  have hq := q.isLt
  pointwise
  have key : ∀ (a : ℕ) (ha : a < 11328), a = col q.val → y (ix2 p ⟨a, ha⟩) = y (ix2 p ⟨col q.val, col_lt q⟩) := by
    rintro _ _ rfl; rfl
  split_ifs <;> (apply key; unfold col; split <;> omega)

/-- The program's frame at the bit-exact instance. -/
theorem frame_p : Cert.quiescent_Kernel := fun m ρ _ => Cert.Kernel.Gen.frame m ρ

/-- The idealized program's frame. -/
theorem frame_pi : Cert.quiescent_KernelIdeal := fun m ρ _ => Cert.KernelIdeal.Gen.frame m ρ

/-- The reference's frame: host operations only, no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result as one function of the arguments. -/
theorem reference_eq (x : Vec Ideal Cert.KernelIdeal.S8192x2048 .bf16) (w : Vec Ideal Cert.KernelIdeal.S1x2048x11328 .f32) :
    (Cert.ReferenceIdeal.Read.val_main_v13 (F := Ideal) x w : Vec Ideal Cert.KernelIdeal.S8192x10240 .bf16)
      = fun i => prod x w (i 0) (i 1) := by
  funext i
  idx_vars i
  exact reference_apply x w _ _

/-- The kernel's result as the same function. -/
theorem result_eq (m : (ℓ : Loc Cert.KernelIdeal.nD Cert.KernelIdeal.τ Cert.KernelIdeal.sig) → Buf (Elt Ideal) ℓ) (c : Dev Cert.KernelIdeal.nD) :
    (Cert.KernelIdeal.Value.G2 m c : Vec Ideal Cert.KernelIdeal.S8192x10240 .bf16)
      = fun i => prod (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (i 0) (i 1) := by
  funext i
  idx_vars i
  exact Cert.KernelIdeal.InVal.result_apply m c _ _

/-- The kernel's result array is the reference's, element by element. -/
theorem algebraic : Cert.algebraic_KernelIdeal_ReferenceIdeal := fun m ρ m' ρ' _ hag =>
  ⟨fun c => Cert.KernelIdeal.Value.G2 m c, Cert.KernelIdeal.Value.run m ρ,
    (θ_run Cert.ReferenceIdeal.defs _ _).mono (fun r h c => ⟨(h c).1.trans
        ((Cert.ReferenceIdeal.Read.val_main_v13_eq (F := Ideal) _ _).trans
          ((reference_eq _ _).trans (by rw [(hag c).1, (hag c).2]; exact (result_eq m c).symm))), (h c).2⟩)
      (Cert.ReferenceIdeal.Value.run (F := Ideal) m' ρ')⟩

end Cert.Proof.Inproj

end
-- ==== Proof.MlpKernel.lean ====
/-
  The squared-ReLU MLP with its two norms, read at an index: what each grid point leaves in the output block and in the
  carried scratch, and what the result array ends holding.
-/
module

public import proofs.«01_k».proof.Defs
public import proofs.«01_k».proof.Proof.Gen.MlpIdeal.Value
public import Idealize.ShloMosaic.Lib.Pipeline.Value
public import Idealize.ShloMosaic.Lib.Pointwise
public import Idealize.ShloMosaic.Lib.StableHlo.ReadAt
public import Idealize.ShloMosaic.Lib.Tactic

@[expose] public section

set_option maxRecDepth 16384

noncomputable section

namespace Cert.MlpIdeal.MlpVal

open Cert.MlpIdeal Cert.MlpIdeal.Gen
open Idealize.ShloMosaic Idealize.ShloMosaic.TcCoe Idealize.SL.Sem

/-! ## The mathematics -/

/-- The mean's divisor, 2048, and the number added under the root, as printed. -/
abbrev width : EReal := Ideal.ofBits FTy.f32 1157627904#32
abbrev eps : EReal := Ideal.ofBits FTy.f32 897988541#32

/-- One over the root mean square of a row. -/
def invRms (x : Fin 2048 → EReal) : EReal := Ideal.rsqrt (Ideal.div (∑ j, x j * x j) width + eps)

/-- The normed residual at an index. -/
def norm (h : Vec Ideal S8192x2048 .f32) (g : Vec Ideal S1x2048 .f32) (p : Fin 8192) (j : Fin 2048) : EReal :=
  h (ix2 p j) * invRms (fun k => h (ix2 p k)) * g (ix2 0 j)

/-- The hidden unit `u` of row `p`: the squared positive part of its projection. -/
def act (h : Vec Ideal S8192x2048 .f32) (g : Vec Ideal S1x2048 .f32) (wu : Vec Ideal S1x2048x8192 .f32) (p u : Fin 8192) : EReal :=
  max (∑ j : Fin 2048, norm h g p j * wu (ix3 0 j u)) 0 * max (∑ j : Fin 2048, norm h g p j * wu (ix3 0 j u)) 0

/-- The MLP's output before the residual. -/
def down (h : Vec Ideal S8192x2048 .f32) (g : Vec Ideal S1x2048 .f32) (wu : Vec Ideal S1x2048x8192 .f32)
    (wd : Vec Ideal S1x8192x2048 .f32) (p : Fin 8192) (l : Fin 2048) : EReal :=
  ∑ u : Fin 8192, act h g wu p u * wd (ix3 0 u l)

/-- The result: the residual plus the MLP, normed. -/
def mlp (h : Vec Ideal S8192x2048 .f32) (g : Vec Ideal S1x2048 .f32) (wu : Vec Ideal S1x2048x8192 .f32)
    (wd : Vec Ideal S1x8192x2048 .f32) (gf : Vec Ideal S2048 .f32) (p : Fin 8192) (l : Fin 2048) : EReal :=
  (h (ix2 p l) + down h g wu wd p l) * invRms (fun j => h (ix2 p j) + down h g wu wd p j) * gf (ix1 l)

/-- Hidden unit `k` of tile `s`, and row `r` of tile `q`. -/
def unitOf (s : ℕ) (k : Fin 512) : Fin 8192 := ⟨(s * 512 + k.val) % 8192, Nat.mod_lt _ (by decide)⟩
def rowOf (q : ℕ) (r : Fin 1024) : Fin 8192 := ⟨(q * 1024 + r.val) % 8192, Nat.mod_lt _ (by decide)⟩

/-- What tile `s` of the hidden units adds. -/
def part (h : Vec Ideal S8192x2048 .f32) (g : Vec Ideal S1x2048 .f32) (wu : Vec Ideal S1x2048x8192 .f32)
    (wd : Vec Ideal S1x8192x2048 .f32) (p : Fin 8192) (l : Fin 2048) (s : ℕ) : EReal :=
  ∑ k : Fin 512, act h g wu p (unitOf s k) * wd (ix3 0 (unitOf s k) l)

/-- A sum over all hidden units, tile by tile. -/
theorem sum_units (f : Fin 8192 → EReal) : ∑ s ∈ Finset.range 16, ∑ k : Fin 512, f (unitOf s k) = ∑ u, f u := by
  rw [Finset.sum_range, ← Fintype.sum_prod_type']
  refine Fintype.sum_equiv (finProdFinEquiv (m := 16) (n := 512)) _ _ fun x => ?_
  congr 1
  apply Fin.ext
  have h0 := x.1.isLt
  have h1 := x.2.isLt
  show (x.1.val * 512 + x.2.val) % 8192 = x.2.val + 512 * x.1.val
  omega

theorem sum_parts (h : Vec Ideal S8192x2048 .f32) (g : Vec Ideal S1x2048 .f32) (wu : Vec Ideal S1x2048x8192 .f32)
    (wd : Vec Ideal S1x8192x2048 .f32) (p : Fin 8192) (l : Fin 2048) :
    ∑ s ∈ Finset.range 16, part h g wu wd p l s = down h g wu wd p l :=
  sum_units fun u => act h g wu p u * wd (ix3 0 u l)

/-! ## The payloads at an index -/

theorem pay1_apply (x : Vec Ideal S1024x2048 .f32) (g : Vec Ideal S1x2048 .f32) (r : Fin 1024) (l : Fin 2048) :
    k0_pay1 x g (ix2 r l) = x (ix2 r l) * invRms (fun k => x (ix2 r k)) * g (ix2 0 l) := by
  unfold invRms
  pointwise [k0_pay1]

theorem pay2_apply (r : Fin 1024) (l : Fin 2048) : (k0_pay2 (F := Ideal)) (ix2 r l) = 0 := by
  pointwise [k0_pay2]

theorem pay3_apply (x : Vec Ideal S1024x2048 .bf16) (w : Vec Ideal S2048x512 .f32) (y : Vec Ideal S1024x2048 .f32)
    (v : Vec Ideal S512x2048 .f32) (r : Fin 1024) (l : Fin 2048) :
    k0_pay3 x w y v (ix2 r l) = y (ix2 r l) + ∑ k : Fin 512, max (∑ j : Fin 2048, x (ix2 r j) * w (ix2 j k)) 0
      * max (∑ j : Fin 2048, x (ix2 r j) * w (ix2 j k)) 0 * v (ix2 k l) := by
  pointwise [k0_pay3]

theorem pay4_apply (x y : Vec Ideal S1024x2048 .f32) (g : Vec Ideal S1x2048 .f32) (r : Fin 1024) (l : Fin 2048) :
    k0_pay4 x y g (ix2 r l)
      = (x (ix2 r l) + y (ix2 r l)) * invRms (fun j => x (ix2 r j) + y (ix2 r j)) * g (ix2 0 l) := by
  unfold invRms
  pointwise [k0_pay4]

/-! ## The blocks at an index -/

theorem hz : (![0, 0] : Fin 2 → Nat) = fun _ => 0 := funext fun a => by fin_cases a <;> rfl

/-- The block indices: row tiles by `t / 16`, hidden tiles by `t % 16`. -/
theorem idx_facts : ∀ t : Fin cfg0.N,
    (win0_0.index t (0 : Fin 2) = t.val / 16 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 16)
    ∧ (win0_3.index t (0 : Fin 2) = t.val % 16 ∧ win0_3.index t (1 : Fin 2) = 0)
    ∧ (win0_4.index t (0 : Fin 2) = 0 ∧ win0_4.index t (1 : Fin 2) = 0) :=
  (by decide +kernel : ∀ t : Fin grid0.N, _)

section
variable (m : (ℓ : Loc nD τ sig) → Buf (Elt Ideal) ℓ)

theorem V_v1 (c : Dev nD) (k : Fin 2048) : V m c main_v1 (ix2 0 k) = m ((c : Thread nD τ).loc main_arg1) (ix2 0 k) := by
  unfold V
  after_reads_at

theorem V_v2 (c : Dev nD) (r : Fin 2048) (k : Fin 8192) :
    V m c main_v2 (ix2 r k) = m ((c : Thread nD τ).loc main_arg2) (ix3 0 r k) := by
  unfold V
  after_reads_at

theorem V_v3 (c : Dev nD) (r : Fin 8192) (k : Fin 2048) :
    V m c main_v3 (ix2 r k) = m ((c : Thread nD τ).loc main_arg3) (ix3 0 r k) := by
  unfold V
  after_reads_at

theorem V_v4 (c : Dev nD) (k : Fin 2048) : V m c main_v4 (ix2 0 k) = m ((c : Thread nD τ).loc main_arg4) (ix1 k) := by
  unfold V
  after_reads_at

/-- A row tile of the residual. -/
theorem blk0 (c : Dev nD) (t : Fin cfg0.N) (r : Fin 1024) (k : Fin 2048) :
    (iblk m c 0 t : Vec Ideal S1024x2048 .f32) (ix2 r k) = m ((c : Thread nD τ).loc main_arg0) (ix2 (rowOf (t.val / 16) r) k) := by
  obtain ⟨⟨e0, e1⟩, -, -, -, -⟩ := idx_facts t
  have ht := lt_of_lt_of_eq t.isLt (show cfg0.N = 128 from N_0)
  rw [← V_main_arg0 m c]
  unfold iblk
  rw [View.read_apply]
  show V m c main_arg0 _ = V m c main_arg0 _
  congr 1
  funext a
  apply Fin.ext
  match a with
  | ⟨0, _⟩ => show win0_0.index t (0 : Fin 2) * 1024 + 1 * r.val = (t.val / 16 * 1024 + r.val) % 8192; rw [e0]; omega
  | ⟨1, _⟩ => show win0_0.index t (1 : Fin 2) * 2048 + 1 * k.val = k.val; rw [e1]; omega

/-- The first norm's gain. -/
theorem blk1 (c : Dev nD) (t : Fin cfg0.N) (k : Fin 2048) :
    (iblk m c 1 t : Vec Ideal S1x2048 .f32) (ix2 0 k) = m ((c : Thread nD τ).loc main_arg1) (ix2 0 k) := by
  obtain ⟨-, ⟨e0, e1⟩, -, -, -⟩ := idx_facts t
  have ht := lt_of_lt_of_eq t.isLt (show cfg0.N = 128 from N_0)
  rw [← V_v1 m c k]
  unfold iblk
  rw [View.read_apply]
  show V m c main_v1 _ = V m c main_v1 _
  congr 1
  funext a
  apply Fin.ext
  match a with
  | ⟨0, _⟩ => show win0_1.index t (0 : Fin 2) * 1 + 1 * 0 = 0; rw [e0]
  | ⟨1, _⟩ => show win0_1.index t (1 : Fin 2) * 2048 + 1 * k.val = k.val; rw [e1]; omega

/-- A column tile of the up-projection. -/
theorem blk2 (c : Dev nD) (t : Fin cfg0.N) (r : Fin 2048) (k : Fin 512) :
    (iblk m c 2 t : Vec Ideal S2048x512 .f32) (ix2 r k) = m ((c : Thread nD τ).loc main_arg2) (ix3 0 r (unitOf (t.val % 16) k)) := by
  obtain ⟨-, -, ⟨e0, e1⟩, -, -⟩ := idx_facts t
  have ht := lt_of_lt_of_eq t.isLt (show cfg0.N = 128 from N_0)
  rw [← V_v2 m c r (unitOf (t.val % 16) k)]
  unfold iblk
  rw [View.read_apply]
  show V m c main_v2 _ = V m c main_v2 _
  congr 1
  funext a
  apply Fin.ext
  match a with
  | ⟨0, _⟩ => show win0_2.index t (0 : Fin 2) * 2048 + 1 * r.val = r.val; rw [e0]; omega
  | ⟨1, _⟩ => show win0_2.index t (1 : Fin 2) * 512 + 1 * k.val = (t.val % 16 * 512 + k.val) % 8192; rw [e1]; omega

/-- A row tile of the down-projection. -/
theorem blk3 (c : Dev nD) (t : Fin cfg0.N) (r : Fin 512) (k : Fin 2048) :
    (iblk m c 3 t : Vec Ideal S512x2048 .f32) (ix2 r k) = m ((c : Thread nD τ).loc main_arg3) (ix3 0 (unitOf (t.val % 16) r) k) := by
  obtain ⟨-, -, -, ⟨e0, e1⟩, -⟩ := idx_facts t
  have ht := lt_of_lt_of_eq t.isLt (show cfg0.N = 128 from N_0)
  rw [← V_v3 m c (unitOf (t.val % 16) r) k]
  unfold iblk
  rw [View.read_apply]
  show V m c main_v3 _ = V m c main_v3 _
  congr 1
  funext a
  apply Fin.ext
  match a with
  | ⟨0, _⟩ => show win0_3.index t (0 : Fin 2) * 512 + 1 * r.val = (t.val % 16 * 512 + r.val) % 8192; rw [e0]; omega
  | ⟨1, _⟩ => show win0_3.index t (1 : Fin 2) * 2048 + 1 * k.val = k.val; rw [e1]; omega

/-- The last norm's gain. -/
theorem blk4 (c : Dev nD) (t : Fin cfg0.N) (k : Fin 2048) :
    (iblk m c 4 t : Vec Ideal S1x2048 .f32) (ix2 0 k) = m ((c : Thread nD τ).loc main_arg4) (ix1 k) := by
  obtain ⟨-, -, -, -, ⟨e0, e1⟩⟩ := idx_facts t
  have ht := lt_of_lt_of_eq t.isLt (show cfg0.N = 128 from N_0)
  rw [← V_v4 m c k]
  unfold iblk
  rw [View.read_apply]
  show V m c main_v4 _ = V m c main_v4 _
  congr 1
  funext a
  apply Fin.ext
  match a with
  | ⟨0, _⟩ => show win0_4.index t (0 : Fin 2) * 1 + 1 * 0 = 0; rw [e0]
  | ⟨1, _⟩ => show win0_4.index t (1 : Fin 2) * 2048 + 1 * k.val = k.val; rw [e1]; omega

end

/-! ## The three cases of the body -/

section
variable {F : FTy → Type} [FloatOps F]

/-- The first hidden tile leaves the scratch at the normed row tile. -/
theorem scratch_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .f32) (h4 : a4.IsWhole)
    (a5 : Memref sig .tc .vmem S512x2048 .f32) (h5 : a5.IsWhole) (a6 : Memref sig .tc .vmem S1x2048 .f32) (h6 : a6.IsWhole)
    (a7 : Memref sig .tc .vmem S1024x2048 .f32) (h7 : a7.IsWhole) (a8 : Memref sig .tc .vmem S1024x2048 .bf16) (h8 : a8.IsWhole)
    (hc0 : cond0_0 i) (hc1 : ¬cond0_1 i)
    (x0 : Vec F S1024x2048 .f32) (x1 : Vec F S1x2048 .f32) (x2 : Vec F S2048x512 .f32) (x3 : Vec F S512x2048 .f32) (x4 : Vec F S1x2048 .f32) :
    sout0_A_0 c i a2 h2 a3 h3 a4 h4 a5 h5 a6 h6 a7 h7 a8 h8 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_unit_zero hz]
  simp only [View.readAt_eq_ld, h2.read_unread, h3.read_unread, h4.read_unread, h5.read_unread, h6.read_unread, h7.read_unread,
    h8.read_unread, View.ld_unit_zero (S := S1024x2048) hz, View.ld_unit_zero (S := S1x2048) hz,
    View.ld_unit_zero (S := S2048x512) hz, View.ld_unit_zero (S := S512x2048) hz]

/-- The first hidden tile starts the output block from zero. -/
theorem out_A (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .f32) (h4 : a4.IsWhole)
    (a5 : Memref sig .tc .vmem S512x2048 .f32) (h5 : a5.IsWhole) (a6 : Memref sig .tc .vmem S1x2048 .f32) (h6 : a6.IsWhole)
    (a7 : Memref sig .tc .vmem S1024x2048 .f32) (h7 : a7.IsWhole) (a8 : Memref sig .tc .vmem S1024x2048 .bf16) (h8 : a8.IsWhole)
    (hc0 : cond0_0 i) (hc1 : ¬cond0_1 i)
    (x0 : Vec F S1024x2048 .f32) (x1 : Vec F S1x2048 .f32) (x2 : Vec F S2048x512 .f32) (x3 : Vec F S512x2048 .f32) (x4 : Vec F S1x2048 .f32) :
    out0_A_5 c i a2 h2 a3 h3 a4 h4 a5 h5 a6 h6 a7 h7 a8 h8 hc0 hc1 x0 x1 x2 x3 x4 = k0_pay3 (k0_pay1 x0 x1) x2 k0_pay2 x3 := by
  unfold out0_A_5
  rw [View.read_writes_eq_canon _ _ _ (cover0_A_5 c i a2 h2 a3 h3 a4 h4 a5 h5 a6 h6 a7 h7 a8 h8 hc0 hc1 x0 x1 x2 x3 x4)]
  unfold kernelRun0_A
  dsimp only
  sl_unfold_words
  rw [View.canon_cons_unit_zero (S := S1024x2048) hz, View.readCov_unit_zero (S := S1024x2048) _ hz, View.readCov_unit_zero (S := S1024x2048) _ hz]
  simp only [View.readAt_eq_ld, h2.read_unread, h3.read_unread, h4.read_unread, h5.read_unread, h6.read_unread, h7.read_unread,
    h8.read_unread, View.ld_unit_zero (S := S1024x2048) hz, View.ld_unit_zero (S := S1x2048) hz,
    View.ld_unit_zero (S := S2048x512) hz, View.ld_unit_zero (S := S512x2048) hz]

/-- A hidden tile in between adds to it. -/
theorem out_B (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .f32) (h4 : a4.IsWhole)
    (a5 : Memref sig .tc .vmem S512x2048 .f32) (h5 : a5.IsWhole) (a6 : Memref sig .tc .vmem S1x2048 .f32) (h6 : a6.IsWhole)
    (a7 : Memref sig .tc .vmem S1024x2048 .f32) (h7 : a7.IsWhole) (a8 : Memref sig .tc .vmem S1024x2048 .bf16) (h8 : a8.IsWhole)
    (hc0 : ¬cond0_0 i) (hc1 : ¬cond0_1 i)
    (x0 : Vec F S1024x2048 .f32) (x1 : Vec F S1x2048 .f32) (x2 : Vec F S2048x512 .f32) (x3 : Vec F S512x2048 .f32) (x4 : Vec F S1x2048 .f32) (xo : Vec F S1024x2048 .f32) (xs : Vec F S1024x2048 .bf16) :
    out0_B_5 c i a2 h2 a3 h3 a4 h4 a5 h5 a6 h6 a7 h7 a8 h8 hc0 hc1 x0 x1 x2 x3 x4 xo xs = k0_pay3 xs x2 xo x3 := by
  unfold out0_B_5
  rw [View.read_writes_eq_canon _ _ _ (cover0_B_5 c i a2 h2 a3 h3 a4 h4 a5 h5 a6 h6 a7 h7 a8 h8 hc0 hc1 x0 x1 x2 x3 x4 xo xs)]
  unfold kernelRun0_B
  dsimp only
  sl_unfold_words
  rw [View.canon_unit_zero hz]
  simp only [View.readAt_eq_ld, h2.read_unread, h3.read_unread, h4.read_unread, h5.read_unread, h6.read_unread, h7.read_unread,
    h8.read_unread, View.ld_unit_zero (S := S1024x2048) hz, View.ld_unit_zero (S := S1x2048) hz,
    View.ld_unit_zero (S := S2048x512) hz, View.ld_unit_zero (S := S512x2048) hz]

/-- The last hidden tile adds, then norms the residual plus the sum. -/
theorem out_C (c : Dev nD) (i : grid0.Coords) (a2 : Memref sig .tc .vmem S1024x2048 .f32) (h2 : a2.IsWhole)
    (a3 : Memref sig .tc .vmem S1x2048 .f32) (h3 : a3.IsWhole) (a4 : Memref sig .tc .vmem S2048x512 .f32) (h4 : a4.IsWhole)
    (a5 : Memref sig .tc .vmem S512x2048 .f32) (h5 : a5.IsWhole) (a6 : Memref sig .tc .vmem S1x2048 .f32) (h6 : a6.IsWhole)
    (a7 : Memref sig .tc .vmem S1024x2048 .f32) (h7 : a7.IsWhole) (a8 : Memref sig .tc .vmem S1024x2048 .bf16) (h8 : a8.IsWhole)
    (hc0 : ¬cond0_0 i) (hc1 : cond0_1 i)
    (x0 : Vec F S1024x2048 .f32) (x1 : Vec F S1x2048 .f32) (x2 : Vec F S2048x512 .f32) (x3 : Vec F S512x2048 .f32) (x4 : Vec F S1x2048 .f32) (xo : Vec F S1024x2048 .f32) (xs : Vec F S1024x2048 .bf16) :
    out0_C_5 c i a2 h2 a3 h3 a4 h4 a5 h5 a6 h6 a7 h7 a8 h8 hc0 hc1 x0 x1 x2 x3 x4 xo xs = k0_pay4 x0 (k0_pay3 xs x2 xo x3) x4 := by
  unfold out0_C_5
  rw [View.read_writes_eq_canon _ _ _ (cover0_C_5 c i a2 h2 a3 h3 a4 h4 a5 h5 a6 h6 a7 h7 a8 h8 hc0 hc1 x0 x1 x2 x3 x4 xo xs)]
  unfold kernelRun0_C
  dsimp only
  sl_unfold_words
  rw [View.canon_cons_unit_zero (S := S1024x2048) hz, View.readCov_unit_zero (S := S1024x2048) _ hz]
  simp only [View.readAt_eq_ld, h2.read_unread, h3.read_unread, h4.read_unread, h5.read_unread, h6.read_unread, h7.read_unread,
    h8.read_unread, View.ld_unit_zero (S := S1024x2048) hz, View.ld_unit_zero (S := S1x2048) hz,
    View.ld_unit_zero (S := S2048x512) hz, View.ld_unit_zero (S := S512x2048) hz]

end

/-! ## What every point leaves -/

section
variable (m : (ℓ : Loc nD τ sig) → Buf (Elt Ideal) ℓ) (c : Dev nD)

/-- The five arguments. -/
abbrev aH : Vec Ideal S8192x2048 .f32 := m ((c : Thread nD τ).loc main_arg0)
abbrev aG : Vec Ideal S1x2048 .f32 := m ((c : Thread nD τ).loc main_arg1)
abbrev aU : Vec Ideal S1x2048x8192 .f32 := m ((c : Thread nD τ).loc main_arg2)
abbrev aD : Vec Ideal S1x8192x2048 .f32 := m ((c : Thread nD τ).loc main_arg3)
abbrev aF : Vec Ideal S2048 .f32 := m ((c : Thread nD τ).loc main_arg4)

/-- The normed row tile of a point. -/
theorem normed (t : Fin cfg0.N) (r : Fin 1024) (j : Fin 2048) :
    k0_pay1 (iblk m c 0 t) (iblk m c 1 t) (ix2 r j) = norm (aH m c) (aG m c) (rowOf (t.val / 16) r) j := by
  rw [pay1_apply]
  unfold norm
  simp only [blk0, blk1]

/-- One hidden tile's addition, over a scratch holding the normed row tile. -/
theorem step (t : Fin cfg0.N) (xs : Vec Ideal S1024x2048 .bf16) (y : Vec Ideal S1024x2048 .f32)
    (hx : ∀ r j, xs (ix2 r j) = norm (aH m c) (aG m c) (rowOf (t.val / 16) r) j) (r : Fin 1024) (l : Fin 2048) :
    k0_pay3 xs (iblk m c 2 t) y (iblk m c 3 t) (ix2 r l)
      = y (ix2 r l) + part (aH m c) (aG m c) (aU m c) (aD m c) (rowOf (t.val / 16) r) l (t.val % 16) := by
  rw [pay3_apply]
  unfold part act
  simp only [blk2, blk3, hx]

/-- The last norm, over the residual tile and the summed block. -/
theorem finish (t : Fin cfg0.N) (y : Vec Ideal S1024x2048 .f32)
    (hy : ∀ r l, y (ix2 r l) = down (aH m c) (aG m c) (aU m c) (aD m c) (rowOf (t.val / 16) r) l) (r : Fin 1024) (l : Fin 2048) :
    k0_pay4 (iblk m c 0 t) y (iblk m c 4 t) (ix2 r l)
      = mlp (aH m c) (aG m c) (aU m c) (aD m c) (aF m c) (rowOf (t.val / 16) r) l := by
  rw [pay4_apply]
  unfold mlp
  simp only [blk0, blk4, hy]

/-- After point `n`: the scratch holds the normed row tile; the output block holds the hidden tiles added so far, and
    after the last the result. -/
theorem state : ∀ (n : ℕ) (h : n < cfg0.N),
    (∀ r j, (outsAt0 m c n h).2 (ix2 r j) = norm (aH m c) (aG m c) (rowOf (n / 16) r) j)
    ∧ (¬n % 16 = 15 → ∀ r l, (outsAt0 m c n h).1 (ix2 r l)
        = ∑ s ∈ Finset.range (n % 16 + 1), part (aH m c) (aG m c) (aU m c) (aD m c) (rowOf (n / 16) r) l s)
    ∧ (n % 16 = 15 → ∀ r l, (outsAt0 m c n h).1 (ix2 r l)
        = mlp (aH m c) (aG m c) (aU m c) (aD m c) (aF m c) (rowOf (n / 16) r) l) := by
  have first : ∀ (t : Fin cfg0.N), t.val % 16 = 0 →
      (∀ r j, (outsAt0 m c t.val t.isLt).2 (ix2 r j) = norm (aH m c) (aG m c) (rowOf (t.val / 16) r) j)
      ∧ ∀ r l, (outsAt0 m c t.val t.isLt).1 (ix2 r l)
        = ∑ s ∈ Finset.range (t.val % 16 + 1), part (aH m c) (aG m c) (aU m c) (aD m c) (rowOf (t.val / 16) r) l s := by
    intro t h0
    rw [outsAt0_A m c t h0 (by omega), out_A, scratch_A]
    refine ⟨fun r j => normed m c t r j, fun r l => ?_⟩
    show k0_pay3 _ _ _ _ (ix2 r l) = _
    rw [step m c t _ _ (normed m c t), pay2_apply, zero_add, h0]
    simp only [zero_add, Finset.sum_range_one]
  intro n
  induction n with
  | zero => exact fun h => ⟨(first ⟨0, h⟩ rfl).1, fun _ => (first ⟨0, h⟩ rfl).2, fun h' => absurd h' (by decide)⟩
  | succ n ih =>
    intro h
    by_cases h0 : (n + 1) % 16 = 0
    · exact ⟨(first ⟨n + 1, h⟩ h0).1, fun _ => (first ⟨n + 1, h⟩ h0).2, fun h' => absurd h' (by omega)⟩
    · obtain ⟨i2, i1, -⟩ := ih (Nat.lt_of_succ_lt h)
      have hq : (n + 1) / 16 = n / 16 := by omega
      have hr : (n + 1) % 16 = n % 16 + 1 := by omega
      have hn : ¬n % 16 = 15 := by omega
      have hs : ∀ r j, (outsAt0 m c n (Nat.lt_of_succ_lt h)).2 (ix2 r j) = norm (aH m c) (aG m c) (rowOf ((n + 1) / 16) r) j := by
        rw [hq]; exact i2
      have hadd : ∀ r l, k0_pay3 (outsAt0 m c n (Nat.lt_of_succ_lt h)).2 (iblk m c 2 ⟨n + 1, h⟩)
          (outsAt0 m c n (Nat.lt_of_succ_lt h)).1 (iblk m c 3 ⟨n + 1, h⟩) (ix2 r l)
          = ∑ s ∈ Finset.range ((n + 1) % 16 + 1), part (aH m c) (aG m c) (aU m c) (aD m c) (rowOf ((n + 1) / 16) r) l s := by
        intro r l
        rw [step m c ⟨n + 1, h⟩ _ _ hs, i1 hn]
        show _ + part _ _ _ _ (rowOf ((n + 1) / 16) r) l ((n + 1) % 16) = _
        rw [hq, hr, Finset.sum_range_succ _ (n % 16 + 1)]
      by_cases h1 : (n + 1) % 16 = 15
      · have e := outsAt0_C m c ⟨n + 1, h⟩ h0 h1
        rw [out_C] at e
        have e' : outsAt0 m c (n + 1) h = (k0_pay4 (iblk m c 0 ⟨n + 1, h⟩) (k0_pay3 (outsAt0 m c n (Nat.lt_of_succ_lt h)).2
            (iblk m c 2 ⟨n + 1, h⟩) (outsAt0 m c n (Nat.lt_of_succ_lt h)).1 (iblk m c 3 ⟨n + 1, h⟩)) (iblk m c 4 ⟨n + 1, h⟩),
            (outsAt0 m c n (Nat.lt_of_succ_lt h)).2) := e
        rw [e']
        refine ⟨hs, fun h' => absurd h1 h', fun _ r l => ?_⟩
        refine finish m c ⟨n + 1, h⟩ _ (fun r l => ?_) r l
        rw [hadd, h1]
        exact sum_parts ..
      · have e := outsAt0_B m c ⟨n + 1, h⟩ h0 h1
        rw [out_B] at e
        have e' : outsAt0 m c (n + 1) h = (k0_pay3 (outsAt0 m c n (Nat.lt_of_succ_lt h)).2
            (iblk m c 2 ⟨n + 1, h⟩) (outsAt0 m c n (Nat.lt_of_succ_lt h)).1 (iblk m c 3 ⟨n + 1, h⟩),
            (outsAt0 m c n (Nat.lt_of_succ_lt h)).2) := e
        rw [e']
        exact ⟨hs, fun _ => hadd, fun h' => absurd h' h1⟩

/-- The result array at an index. -/
theorem result_apply (p : Fin 8192) (l : Fin 2048) :
    Value.G5 m c (ix2 p l) = mlp (aH m c) (aG m c) (aU m c) (aD m c) (aF m c) p l := by
  have hp := p.isLt
  have hl := l.isLt
  have hN : cfg0.N = 128 := N_0
  have hv : Value.pt5Of (ix2 p l) = 16 * (p.val / 1024) + 15 := by
    show 16 * (1 * (p.val / 1024 - 0) + 1 * (l.val / 2048 - 0)) + 15 = _; omega
  have hpt : Value.pt5Of (ix2 p l) < cfg0.N := by rw [hN, hv]; omega
  unfold Value.G5
  rw [dif_pos hpt, ← Value.outsAt0_sweep m c _ hpt]
  have el : Value.loc5Of (ix2 p l) = (ix2 ⟨p.val % 1024, by omega⟩ l : S1024x2048.Idx) := by
    funext a; match a with
    | ⟨0, _⟩ => rfl
    | ⟨1, _⟩ => apply Fin.ext; show l.val % 2048 = l.val; omega
  rw [el, (state m c _ hpt).2.2 (by rw [hv]; omega)]
  congr 1
  apply Fin.ext
  show (Value.pt5Of (ix2 p l) / 16 * 1024 + p.val % 1024) % 8192 = p.val
  rw [hv]; omega

end

end Cert.MlpIdeal.MlpVal

end
-- ==== Proof.Mlp.lean ====
/-
  The MLP's claims: the reference read at an index, and the two results joined.
-/
module

public import proofs.«01_k».proof.Proof.MlpKernel
public import proofs.«01_k».proof.Proof.Gen.Mlp.Frame
public import proofs.«01_k».proof.Proof.Gen.MlpReferenceIdeal.Read
public import Idealize.ShloMosaic.Adequacy

@[expose] public section

set_option maxRecDepth 16384

noncomputable section

namespace Cert.Proof.Mlp

open Idealize.ShloMosaic Idealize.ShloMosaic.TcCoe Idealize.SL.Sem
open Cert.MlpIdeal (S8192x2048 S1x2048 S1x2048x8192 S1x8192x2048 S2048)
open Cert.MlpIdeal.MlpVal (norm act down mlp invRms)
open Cert.MlpReferenceIdeal.Read

section
variable (h : Vec Ideal S8192x2048 .f32) (g : Vec Ideal S1x2048 .f32) (wu : Vec Ideal S1x2048x8192 .f32)
  (wd : Vec Ideal S1x8192x2048 .f32) (gf : Vec Ideal S2048 .f32)

/-- The first norm at an index. -/
theorem norm_apply (p : Fin 8192) (j : Fin 2048) : val_main_v13 (F := Ideal) h g (ix2 p j) = norm h g p j := by
  unfold MlpIdeal.MlpVal.norm invRms
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- A hidden unit's projection at an index. -/
theorem up_apply (p u : Fin 8192) : val_main_v15 (F := Ideal) h g wu (ix2 p u) = ∑ j : Fin 2048, norm h g p j * wu (ix3 0 j u) := by
  have hn := norm_apply h g
  unfold val_main_v15 val_main_v14
  generalize val_main_v13 (F := Ideal) h g = y at hn ⊢
  pointwise
  simp only [hn]

/-- A hidden unit at an index. -/
theorem act_apply (p u : Fin 8192) : val_main_v17 (F := Ideal) h g wu (ix2 p u) = act h g wu p u := by
  have hn := up_apply h g wu
  unfold val_main_v17 val_main_v16 val_main_call0_v0 val_main_call0_cst act
  generalize val_main_v15 (F := Ideal) h g wu = y at hn ⊢
  pointwise
  simp only [hn]

/-- The MLP's output at an index. -/
theorem down_apply (p : Fin 8192) (l : Fin 2048) : val_main_v19 (F := Ideal) h g wu wd (ix2 p l) = down h g wu wd p l := by
  have hn := act_apply h g wu
  unfold val_main_v19 val_main_v18 down
  generalize val_main_v17 (F := Ideal) h g wu = y at hn ⊢
  pointwise
  simp only [hn]

/-- The residual sum at an index. -/
theorem sum_apply (p : Fin 8192) (l : Fin 2048) :
    val_main_v20 (F := Ideal) h g wu wd (ix2 p l) = h (ix2 p l) + down h g wu wd p l := by
  have hn := down_apply h g wu wd
  unfold val_main_v20
  generalize val_main_v19 (F := Ideal) h g wu wd = y at hn ⊢
  pointwise
  simp only [hn]

/-- The reference's result as one function of the arguments. -/
theorem reference_eq : (val_main_v33 (F := Ideal) h g wu wd gf : Vec Ideal S8192x2048 .f32)
      = fun i => mlp h g wu wd gf (i 0) (i 1) := by
  funext i
  idx_vars i
  show _ = mlp h g wu wd gf i0 i1
  have hn := sum_apply h g wu wd
  unfold mlp invRms
  simp only [← hn]
  unfold val_main_v33 val_main_v32 val_main_v31 val_main_v30 val_main_v29 val_main_v28 val_main_v27 val_main_v26 val_main_v25
    val_main_v24 val_main_v23 val_main_v22 val_main_v21 val_main_cst_2 val_main_cst_3 val_main_cst_4
  generalize val_main_v20 (F := Ideal) h g wu wd = y at hn ⊢
  pointwise

end

/-- The program's frame at the bit-exact instance. -/
theorem frame_p : Cert.quiescent_Mlp := fun m ρ _ => Cert.Mlp.Gen.frame m ρ

/-- The idealized program's frame. -/
theorem frame_pi : Cert.quiescent_MlpIdeal := fun m ρ _ => Cert.MlpIdeal.Gen.frame m ρ

/-- The reference's frame: host operations only, no semaphore. -/
theorem frame_ri : Cert.quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

/-- The kernel's result as the same function. -/
theorem result_eq (m : (ℓ : Loc Cert.MlpIdeal.nD Cert.MlpIdeal.τ Cert.MlpIdeal.sig) → Buf (Elt Ideal) ℓ) (c : Dev Cert.MlpIdeal.nD) :
    (Cert.MlpIdeal.Value.G5 m c : Vec Ideal S8192x2048 .f32)
      = fun i => mlp (Cert.MlpIdeal.MlpVal.aH m c) (Cert.MlpIdeal.MlpVal.aG m c) (Cert.MlpIdeal.MlpVal.aU m c)
          (Cert.MlpIdeal.MlpVal.aD m c) (Cert.MlpIdeal.MlpVal.aF m c) (i 0) (i 1) := by
  funext i
  idx_vars i
  exact Cert.MlpIdeal.MlpVal.result_apply m c _ _

/-- The kernel's result array is the reference's, element by element. -/
theorem algebraic : Cert.algebraic_MlpIdeal_MlpReferenceIdeal := fun m ρ m' ρ' _ hag =>
  ⟨fun c => Cert.MlpIdeal.Value.G5 m c, Cert.MlpIdeal.Value.run m ρ,
    (θ_run Cert.MlpReferenceIdeal.defs _ _).mono (fun r h c => ⟨(h c).1.trans
        ((val_main_v33_eq (F := Ideal) _ _).trans
          ((reference_eq _ _ _ _ _).trans (by
            obtain ⟨h0, h1, h2, h3, h4⟩ := hag c
            rw [h0, h1, h2, h3, h4]; exact (result_eq m c).symm))), (h c).2⟩)
      (Cert.MlpReferenceIdeal.Value.run (F := Ideal) m' ρ')⟩

end Cert.Proof.Mlp

end
-- ==== Proof.MergeKernel.lean ====
/-
  The merge of the two branches, read at an index: what one grid point writes back, and what the result array ends holding.
-/
module

public import proofs.«01_k».proof.Defs
public import proofs.«01_k».proof.Proof.Gen.MergeIdeal.Value
public import Idealize.ShloMosaic.Lib.Pipeline.Value
public import Idealize.ShloMosaic.Lib.Pointwise
public import Idealize.ShloMosaic.Lib.StableHlo.ReadAt
public import Idealize.ShloMosaic.Lib.Tactic

@[expose] public section

set_option maxRecDepth 16384

noncomputable section

namespace Cert.MergeIdeal.MgVal

open Cert.MergeIdeal Cert.MergeIdeal.Gen
open Idealize.ShloMosaic Idealize.ShloMosaic.TcCoe Idealize.SL.Sem

theorem hz : (![0, 0] : Fin 2 → Nat) = fun _ => 0 := funext fun a => by fin_cases a <;> rfl

variable (m : (ℓ : Loc nD τ sig) → Buf (Elt Ideal) ℓ)

/-- The block index of every window: the row tiles go with the point, the two gates lie in the fourth and fifth column
    block of the projection, and the weights are whole. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 3)
    ∧ (win0_5.index t (0 : Fin 2) = t.val ∧ win0_5.index t (1 : Fin 2) = 4)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The array row of row `r` of point `t`'s tile. -/
def rowOf (t : Fin cfg0.N) (r : Fin 256) : Fin 8192 :=
  ⟨t.val * 256 + r.val, by have := lt_of_lt_of_eq t.isLt (show cfg0.N = 32 from N_0); omega⟩

/-- Argument 2 as the region finds it, its unit axis dropped. -/
theorem V_v1 (c : Dev nD) (r : Fin 2048) (k : Fin 2048) :
    V m c main_v1 (ix2 r k) = m ((c : Thread nD τ).loc main_arg2) (ix3 0 r k) := by
  unfold V
  after_reads_at

/-- Argument 3 as the region finds it, its unit axis dropped. -/
theorem V_v3 (c : Dev nD) (r : Fin 2048) (k : Fin 2048) :
    V m c main_v3 (ix2 r k) = m ((c : Thread nD τ).loc main_arg3) (ix3 0 r k) := by
  unfold V
  after_reads_at

/-- Argument 4 as the region finds it, its unit axis dropped. -/
theorem V_v5 (c : Dev nD) (r : Fin 2048) (k : Fin 2048) :
    V m c main_v5 (ix2 r k) = m ((c : Thread nD τ).loc main_arg4) (ix3 0 r k) := by
  unfold V
  after_reads_at

/-- Window 0's block of a point. -/
theorem blk0 (c : Dev nD) (t : Fin cfg0.N) (r : Fin 256) (k : Fin 2048) :
    (iblk m c 0 t : Vec Ideal S256x2048 .bf16) (ix2 r k)
      = m ((c : Thread nD τ).loc main_arg0) (ix2 (rowOf t r) k) := by
  obtain ⟨⟨e0, e1⟩, -, -, -, -, -, -, -, -⟩ := idx_facts t
  rw [← V_main_arg0 m c]
  unfold iblk rowOf
  rw [View.read_apply]
  show V m c main_arg0 _ = V m c main_arg0 _
  congr 1
  funext a
  apply Fin.ext
  match a with
  | ⟨0, _⟩ => show win0_0.index t (0 : Fin 2) * 256 + 1 * r.val = t.val * 256 + r.val; rw [e0]; omega
  | ⟨1, _⟩ => show win0_0.index t (1 : Fin 2) * 2048 + 1 * k.val = k.val; rw [e1]; omega

/-- Window 1's block of a point. -/
theorem blk1 (c : Dev nD) (t : Fin cfg0.N) (r : Fin 256) (k : Fin 2048) :
    (iblk m c 1 t : Vec Ideal S256x2048 .bf16) (ix2 r k)
      = m ((c : Thread nD τ).loc main_arg1) (ix2 (rowOf t r) k) := by
  obtain ⟨-, ⟨e0, e1⟩, -, -, -, -, -, -, -⟩ := idx_facts t
  rw [← V_main_arg1 m c]
  unfold iblk rowOf
  rw [View.read_apply]
  show V m c main_arg1 _ = V m c main_arg1 _
  congr 1
  funext a
  apply Fin.ext
  match a with
  | ⟨0, _⟩ => show win0_1.index t (0 : Fin 2) * 256 + 1 * r.val = t.val * 256 + r.val; rw [e0]; omega
  | ⟨1, _⟩ => show win0_1.index t (1 : Fin 2) * 2048 + 1 * k.val = k.val; rw [e1]; omega

/-- Window 4's block of a point. -/
theorem blk4 (c : Dev nD) (t : Fin cfg0.N) (r : Fin 256) (k : Fin 2048) :
    (iblk m c 4 t : Vec Ideal S256x2048 .bf16) (ix2 r k)
      = m ((c : Thread nD τ).loc main_arg5) (ix2 (rowOf t r) ⟨6144 + k.val, by omega⟩) := by
  obtain ⟨-, -, -, -, ⟨e0, e1⟩, -, -, -, -⟩ := idx_facts t
  rw [← V_main_arg5 m c]
  unfold iblk rowOf
  rw [View.read_apply]
  show V m c main_arg5 _ = V m c main_arg5 _
  congr 1
  funext a
  apply Fin.ext
  match a with
  | ⟨0, _⟩ => show win0_4.index t (0 : Fin 2) * 256 + 1 * r.val = t.val * 256 + r.val; rw [e0]; omega
  | ⟨1, _⟩ => show win0_4.index t (1 : Fin 2) * 2048 + 1 * k.val = 6144 + k.val; rw [e1]; omega

/-- Window 5's block of a point. -/
theorem blk5 (c : Dev nD) (t : Fin cfg0.N) (r : Fin 256) (k : Fin 2048) :
    (iblk m c 5 t : Vec Ideal S256x2048 .bf16) (ix2 r k)
      = m ((c : Thread nD τ).loc main_arg5) (ix2 (rowOf t r) ⟨8192 + k.val, by omega⟩) := by
  obtain ⟨-, -, -, -, -, ⟨e0, e1⟩, -, -, -⟩ := idx_facts t
  rw [← V_main_arg5 m c]
  unfold iblk rowOf
  rw [View.read_apply]
  show V m c main_arg5 _ = V m c main_arg5 _
  congr 1
  funext a
  apply Fin.ext
  match a with
  | ⟨0, _⟩ => show win0_5.index t (0 : Fin 2) * 256 + 1 * r.val = t.val * 256 + r.val; rw [e0]; omega
  | ⟨1, _⟩ => show win0_5.index t (1 : Fin 2) * 2048 + 1 * k.val = 8192 + k.val; rw [e1]; omega

/-- Window 7's block of a point. -/
theorem blk7 (c : Dev nD) (t : Fin cfg0.N) (r : Fin 256) (k : Fin 2048) :
    (iblk m c 7 t : Vec Ideal S256x2048 .f32) (ix2 r k)
      = m ((c : Thread nD τ).loc main_arg6) (ix2 (rowOf t r) k) := by
  obtain ⟨-, -, -, -, -, -, -, ⟨e0, e1⟩, -⟩ := idx_facts t
  rw [← V_main_arg6 m c]
  unfold iblk rowOf
  rw [View.read_apply]
  show V m c main_arg6 _ = V m c main_arg6 _
  congr 1
  funext a
  apply Fin.ext
  match a with
  | ⟨0, _⟩ => show win0_7.index t (0 : Fin 2) * 256 + 1 * r.val = t.val * 256 + r.val; rw [e0]; omega
  | ⟨1, _⟩ => show win0_7.index t (1 : Fin 2) * 2048 + 1 * k.val = k.val; rw [e1]; omega

/-- Window 2's block: the whole weight. -/
theorem blk2 (c : Dev nD) (t : Fin cfg0.N) (r : Fin 2048) (k : Fin 2048) :
    (iblk m c 2 t : Vec Ideal S2048x2048 .bf16) (ix2 r k)
      = m ((c : Thread nD τ).loc main_arg2) (ix3 0 r k) := by
  obtain ⟨-, -, ⟨e0, e1⟩, -, -, -, -, -, -⟩ := idx_facts t
  rw [← V_v1 m c]
  unfold iblk
  rw [View.read_apply]
  show V m c main_v1 _ = V m c main_v1 _
  congr 1
  funext a
  apply Fin.ext
  match a with
  | ⟨0, _⟩ => show win0_2.index t (0 : Fin 2) * 2048 + 1 * r.val = r.val; rw [e0]; omega
  | ⟨1, _⟩ => show win0_2.index t (1 : Fin 2) * 2048 + 1 * k.val = k.val; rw [e1]; omega

/-- Window 3's block: the whole weight. -/
theorem blk3 (c : Dev nD) (t : Fin cfg0.N) (r : Fin 2048) (k : Fin 2048) :
    (iblk m c 3 t : Vec Ideal S2048x2048 .bf16) (ix2 r k)
      = m ((c : Thread nD τ).loc main_arg3) (ix3 0 r k) := by
  obtain ⟨-, -, -, ⟨e0, e1⟩, -, -, -, -, -⟩ := idx_facts t
  rw [← V_v3 m c]
  unfold iblk
  rw [View.read_apply]
  show V m c main_v3 _ = V m c main_v3 _
  congr 1
  funext a
  apply Fin.ext
  match a with
  | ⟨0, _⟩ => show win0_3.index t (0 : Fin 2) * 2048 + 1 * r.val = r.val; rw [e0]; omega
  | ⟨1, _⟩ => show win0_3.index t (1 : Fin 2) * 2048 + 1 * k.val = k.val; rw [e1]; omega

/-- Window 6's block: the whole weight. -/
theorem blk6 (c : Dev nD) (t : Fin cfg0.N) (r : Fin 2048) (k : Fin 2048) :
    (iblk m c 6 t : Vec Ideal S2048x2048 .bf16) (ix2 r k)
      = m ((c : Thread nD τ).loc main_arg4) (ix3 0 r k) := by
  obtain ⟨-, -, -, -, -, -, ⟨e0, e1⟩, -, -⟩ := idx_facts t
  rw [← V_v5 m c]
  unfold iblk
  rw [View.read_apply]
  show V m c main_v5 _ = V m c main_v5 _
  congr 1
  funext a
  apply Fin.ext
  match a with
  | ⟨0, _⟩ => show win0_6.index t (0 : Fin 2) * 2048 + 1 * r.val = r.val; rw [e0]; omega
  | ⟨1, _⟩ => show win0_6.index t (1 : Fin 2) * 2048 + 1 * k.val = k.val; rw [e1]; omega

/-- The branch gate: one over one plus the exponential of the negated argument. -/
def gate (z : EReal) : EReal := Ideal.div 1 (1 + Ideal.exp (-z))

/-- The payload at an index. -/
theorem pay_apply (x0 : Vec Ideal S256x2048 .bf16) (x1 : Vec Ideal S256x2048 .bf16) (x2 : Vec Ideal S2048x2048 .bf16)
    (x3 : Vec Ideal S2048x2048 .bf16) (x4 : Vec Ideal S256x2048 .bf16) (x5 : Vec Ideal S256x2048 .bf16)
    (x6 : Vec Ideal S2048x2048 .bf16) (x7 : Vec Ideal S256x2048 .f32) (r : Fin 256) (l : Fin 2048) :
    k0_pay1 x7 (k0_pay2 x0 x2 x1 x3 x4 x5 x6) (ix2 r l)
      = x7 (ix2 r l) + ∑ k : Fin 2048, (gate (x4 (ix2 r k)) * (∑ j : Fin 2048, x0 (ix2 r j) * x2 (ix2 j k))
          + gate (x5 (ix2 r k)) * (∑ j : Fin 2048, x1 (ix2 r j) * x3 (ix2 j k))) * x6 (ix2 k l) := by
  unfold gate
  pointwise [k0_pay2, k0_pay1]
  simp only [zero_sub]

/-- The body's result for the output window: the payload of the blocks. -/
theorem out_eq (x0 : Vec Ideal S256x2048 .bf16) (x1 : Vec Ideal S256x2048 .bf16) (x2 : Vec Ideal S2048x2048 .bf16)
    (x3 : Vec Ideal S2048x2048 .bf16) (x4 : Vec Ideal S256x2048 .bf16) (x5 : Vec Ideal S256x2048 .bf16)
    (x6 : Vec Ideal S2048x2048 .bf16) (x7 : Vec Ideal S256x2048 .f32) :
    out0_8 x0 x1 x2 x3 x4 x5 x6 x7 = k0_pay1 x7 (k0_pay2 x0 x2 x1 x3 x4 x5 x6) := by
  unfold out0_8
  rw [View.canon_unit_zero hz]
  simp only [View.ld_unit_zero (S := S256x2048) hz, View.ld_unit_zero (S := S2048x2048) hz]

/-- The merge as a function of the argument arrays: the residual, plus the gated sum of the two projected branches
    through the output weights. -/
def merged (ry my : Vec Ideal S8192x2048 .bf16) (wr wm wo : Vec Ideal S1x2048x2048 .f32) (proj : Vec Ideal S8192x10240 .bf16)
    (h : Vec Ideal S8192x2048 .f32) (p : Fin 8192) (q : Fin 2048) : EReal :=
  h (ix2 p q) + ∑ k : Fin 2048,
    (gate (proj (ix2 p ⟨6144 + k.val, by omega⟩)) * (∑ j : Fin 2048, ry (ix2 p j) * wr (ix3 0 j k))
      + gate (proj (ix2 p ⟨8192 + k.val, by omega⟩)) * (∑ j : Fin 2048, my (ix2 p j) * wm (ix3 0 j k))) * wo (ix3 0 k q)

/-- What the result array ends holding. -/
def G (c : Dev nD) : Vec Ideal S8192x2048 .f32 := fun i =>
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- What a point writes back, at an index of its block. -/
theorem out_apply (c : Dev nD) (t : Fin cfg0.N) (r : Fin 256) (l : Fin 2048) :
    out0_8 (iblk m c 0 t) (iblk m c 1 t) (iblk m c 2 t) (iblk m c 3 t) (iblk m c 4 t) (iblk m c 5 t) (iblk m c 6 t) (iblk m c 7 t) (ix2 r l)
      = G m c (ix2 (rowOf t r) l) := by
  rw [out_eq, pay_apply]
  unfold G merged
  rw [blk7]
  refine congrArg _ (Finset.sum_congr rfl fun k _ => ?_)
  rw [blk4, blk5, blk6]
  simp only [blk0, blk1, blk2, blk3]
  rfl

/-- A point writes back its block of `G`. -/
theorem flushed_eq (c : Dev nD) (t : Fin cfg0.N) :
    (dats m 0 c).flushed 8 t = ((cfg0.win 8).blk t).view.read (Elt Ideal) (G m c) := by
  rw [Value.flushed8]
  obtain ⟨-, -, -, -, -, -, -, -, e0, e1⟩ := idx_facts t
  funext y
  have hy : (cfg0.win 8).xinj (grid0.coords t) y = (ix2 ⟨(y 0).val, (y 0).isLt⟩ ⟨(y 1).val, (y 1).isLt⟩ : S256x2048.Idx) := by
    funext a; match a with
    | ⟨0, _⟩ => rfl
    | ⟨1, _⟩ => rfl
  show out0_8 _ _ _ _ _ _ _ _ ((cfg0.win 8).xinj (grid0.coords t) y) = _
  rw [hy, out_apply, View.read_apply]
  show G m c _ = G m c _
  congr 1
  funext a
  apply Fin.ext
  match a with
  | ⟨0, _⟩ => show t.val * 256 + (y 0).val = win0_8.index t (0 : Fin 2) * 256 + 1 * (y 0).val; rw [e0]; omega
  | ⟨1, _⟩ => show (y 1).val = win0_8.index t (1 : Fin 2) * 2048 + 1 * (y 1).val; rw [e1]; omega

/-- An index is in a point's block when its row is in the point's tile. -/
theorem mem_blk (t : Fin cfg0.N) (i : S8192x2048.Idx) :
    i ∈ ((cfg0.win 8).blk t).view.set ↔ ∀ a : Fin 2, win0_8.index t a * S256x2048.size a ≤ (i a).val
      ∧ (i a).val < win0_8.index t a * S256x2048.size a + S256x2048.size a := by
  show i ∈ ((View.whole main_v6).slice (win0_8.rect t)).set ↔ _
  rw [View.set_slice_whole, Rect.mem_set_unit]
  exact Iff.rfl

theorem flush_all : ∀ t : Fin cfg0.N, (cfg0.win 8).flush t = true := (by decide +kernel : ∀ t : Fin grid0.N, _)

/-- Every index is in the block of the point its row names. -/
theorem covered (i : S8192x2048.Idx) : ∃ t : Fin cfg0.N, (cfg0.win 8).flush t = true ∧ i ∈ ((cfg0.win 8).blk t).view.set := by
  have h0 : (i 0).val < 8192 := (i 0).isLt
  have h1 : (i 1).val < 2048 := (i 1).isLt
  have hlt : (i 0).val / 256 < cfg0.N := by rw [show cfg0.N = 32 from N_0]; omega
  refine ⟨⟨(i 0).val / 256, hlt⟩, flush_all _, ?_⟩
  obtain ⟨-, -, -, -, -, -, -, -, e0, e1⟩ := idx_facts ⟨(i 0).val / 256, hlt⟩
  rw [mem_blk]
  intro a
  match a with
  | ⟨0, _⟩ =>
    show win0_8.index _ (0 : Fin 2) * 256 ≤ (i 0).val ∧ (i 0).val < win0_8.index _ (0 : Fin 2) * 256 + 256
    rw [e0]
    show (i 0).val / 256 * 256 ≤ (i 0).val ∧ (i 0).val < (i 0).val / 256 * 256 + 256
    omega
  | ⟨1, _⟩ =>
    show win0_8.index _ (1 : Fin 2) * 2048 ≤ (i 1).val ∧ (i 1).val < win0_8.index _ (1 : Fin 2) * 2048 + 2048
    rw [e1]; omega

/-- The result array after the run. -/
theorem final (c : Dev nD) : (dats m 0 c).arrAt 8 cfg0.N = G m c :=
  (dats m 0 c).arrAt_eq_of_cover 8 _ (fun t _ => flushed_eq m c t) covered

end Cert.MergeIdeal.MgVal

end
-- ==== Proof.Merge.lean ====
/-
  The merge's claims: the reference read at an index, and the two results joined.
-/
module

public import proofs.«01_k».proof.Proof.MergeKernel
public import proofs.«01_k».proof.Proof.Gen.Merge.Frame
public import proofs.«01_k».proof.Proof.Gen.MergeReferenceIdeal.Read
public import Idealize.ShloMosaic.Adequacy

@[expose] public section

set_option maxRecDepth 16384

noncomputable section

namespace Cert.Proof.Merge

open Idealize.ShloMosaic Idealize.ShloMosaic.TcCoe Idealize.SL.Sem
open Cert.MergeIdeal.MgVal (merged gate)
open Cert.MergeReferenceIdeal.Read

/-- A branch through its own output weights, at an index. -/
theorem branch_apply (x : Vec Ideal Cert.MergeIdeal.S8192x2048 .bf16) (w : Vec Ideal Cert.MergeIdeal.S1x2048x2048 .f32) (p : Fin 8192) (k : Fin 2048) :
    (val_main_v6 (F := Ideal) x w) (ix2 p k) = ∑ j : Fin 2048, x (ix2 p j) * w (ix3 0 j k) := by
  pointwise [val_main_v6, val_main_v5, val_main_v4]

theorem branch'_apply (x : Vec Ideal Cert.MergeIdeal.S8192x2048 .bf16) (w : Vec Ideal Cert.MergeIdeal.S1x2048x2048 .f32) (p : Fin 8192) (k : Fin 2048) :
    (val_main_v9 (F := Ideal) x w) (ix2 p k) = ∑ j : Fin 2048, x (ix2 p j) * w (ix3 0 j k) := by
  pointwise [val_main_v9, val_main_v8, val_main_v7]

/-- The two gates, at an index. -/
theorem gate_apply (x : Vec Ideal Cert.MergeIdeal.S8192x10240 .bf16) (p : Fin 8192) (k : Fin 2048) :
    (val_main_v15 (F := Ideal) x) (ix2 p k) = gate (x (ix2 p ⟨6144 + k.val, by omega⟩)) := by
  unfold gate
  pointwise [val_main_v15, val_main_v14, val_main_v13, val_main_v12, val_main_v11, val_main_v10, val_main_v1, val_main_v0,
    val_main_cst, val_main_cst_0]

theorem gate'_apply (x : Vec Ideal Cert.MergeIdeal.S8192x10240 .bf16) (p : Fin 8192) (k : Fin 2048) :
    (val_main_v22 (F := Ideal) x) (ix2 p k) = gate (x (ix2 p ⟨8192 + k.val, by omega⟩)) := by
  unfold gate
  pointwise [val_main_v22, val_main_v21, val_main_v20, val_main_v19, val_main_v18, val_main_v17, val_main_v3, val_main_v2,
    val_main_cst_1, val_main_cst_2]

/-- The reference's result as one function of the arguments. -/
theorem reference_eq (ry my : Vec Ideal Cert.MergeIdeal.S8192x2048 .bf16) (wr wm wo : Vec Ideal Cert.MergeIdeal.S1x2048x2048 .f32)
    (proj : Vec Ideal Cert.MergeIdeal.S8192x10240 .bf16) (h : Vec Ideal Cert.MergeIdeal.S8192x2048 .f32) :
    (val_main_v27 (F := Ideal) ry my wr wm wo proj h : Vec Ideal Cert.MergeIdeal.S8192x2048 .f32)
      = fun i => merged ry my wr wm wo proj h (i 0) (i 1) := by
  funext i
  idx_vars i
  show _ = merged ry my wr wm wo proj h i0 i1
  unfold merged
  have ha := branch_apply ry wr
  have hb := branch'_apply my wm
  have hg := gate_apply proj
  have hg' := gate'_apply proj
  unfold val_main_v27 val_main_v26 val_main_v25 val_main_v24 val_main_v23 val_main_v16
  generalize val_main_v6 (F := Ideal) ry wr = a at ha ⊢
  generalize val_main_v9 (F := Ideal) my wm = b at hb ⊢
  generalize val_main_v15 (F := Ideal) proj = g at hg ⊢
  generalize val_main_v22 (F := Ideal) proj = g' at hg' ⊢
  pointwise
  simp only [ha, hb, hg, hg']

/-- The program's frame at the bit-exact instance. -/
theorem frame_p : Cert.quiescent_Merge := fun m ρ _ => Cert.Merge.Gen.frame m ρ

/-- The idealized program's frame. -/
theorem frame_pi : Cert.quiescent_MergeIdeal := fun m ρ _ => Cert.MergeIdeal.Gen.frame m ρ

/-- The reference's frame: host operations only, no semaphore. -/
theorem frame_ri : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The kernel's result array is the reference's, element by element. -/
theorem algebraic : Cert.algebraic_MergeIdeal_MergeReferenceIdeal := fun m ρ m' ρ' _ hag =>
  ⟨fun c => Cert.MergeIdeal.MgVal.G m c,
    (θ_run Cert.MergeIdeal.defs _ _).mono (fun r h c => ⟨(h c).1.trans (Cert.MergeIdeal.MgVal.final m c), (h c).2⟩)
      (Cert.MergeIdeal.Value.run_blocks m ρ),
    (θ_run Cert.MergeReferenceIdeal.defs _ _).mono (fun r h c => ⟨(h c).1.trans
        ((val_main_v27_eq (F := Ideal) _ _ _ _ _ _ _).trans
          ((reference_eq _ _ _ _ _ _ _).trans (by
            obtain ⟨h0, h1, h2, h3, h4, h5, h6⟩ := hag c
            rw [h0, h1, h2, h3, h4, h5, h6]; rfl))), (h c).2⟩)
      (Cert.MergeReferenceIdeal.Value.run (F := Ideal) m' ρ')⟩

end Cert.Proof.Merge

end
-- ==== Proof.AttnRow.lean ====
/-
  One row of the running softmax: what a block of keys does to the row's maximum, weighted sum and weight.
-/
module

public import Idealize.ShloMosaic.PureOps.Ideal
public import Idealize.ShloMosaic.PureOps.Ideal.Laws

@[expose] public section

noncomputable section

namespace Cert.AttnIdeal.AttnVal

open Idealize.ShloMosaic

/-- The weight `2^(s − μ)`. -/
def wt (s μ : ℝ) : EReal := ((Real.rpow 2 (s - μ) : ℝ) : EReal)

/-- A row after the first `n` keys, of scores `S` and values `V`: the stored maximum is a real `μ`, the weighted sum and the
    total weight are those of the `n` keys relative to `μ`; or no key yet. -/
def RowOK (S : ℕ → ℝ) (V : ℕ → Fin 128 → EReal) (n : ℕ) (m a d : Fin 128 → EReal) : Prop :=
  (n = 0 ∧ ∀ l, m l = ⊥ ∧ a l = 0 ∧ d l = 0) ∨
    ∃ μ : ℝ, ∀ l, m l = (μ : EReal) ∧ a l = ∑ j ∈ Finset.range n, wt (S j) μ * V j l ∧ d l = ∑ j ∈ Finset.range n, wt (S j) μ

theorem wt_rescale (s μ ν : ℝ) : ((Real.rpow 2 (μ - ν) : ℝ) : EReal) * wt s μ = wt s ν := by
  unfold wt
  rw [← EReal.coe_mul]
  congr 1
  show (2 : ℝ) ^ (μ - ν) * (2 : ℝ) ^ (s - μ) = (2 : ℝ) ^ (s - ν)
  rw [← Real.rpow_add (by norm_num)]
  congr 1
  ring

theorem real_mul_sum {ι : Type} (T : Finset ι) (c : ℝ) (hc : 0 ≤ c) (f : ι → EReal) :
    (c : EReal) * ∑ j ∈ T, f j = ∑ j ∈ T, (c : EReal) * f j := by
  classical
  induction T using Finset.induction_on with
  | empty => simp
  | insert i T h ih =>
    rw [Finset.sum_insert h, Finset.sum_insert h, ← ih]
    exact EReal.left_distrib_of_nonneg_of_ne_top (by exact_mod_cast hc) (EReal.coe_ne_top c) _ _

theorem fold_max_real {x : Fin 512 → EReal} (h0 : x 0 ≠ ⊥) (ht : ∀ j, x j ≠ ⊤) :
    ∃ t : ℝ, (Finset.univ : Finset (Fin 512)).fold max ⊥ x = (t : EReal) := by
  have h1 : (Finset.univ : Finset (Fin 512)).fold max ⊥ x ≠ ⊤ := by
    refine ne_of_lt ((Finset.fold_max_lt ⊤).mpr ⟨bot_lt_top, fun j _ => lt_of_le_of_ne le_top (ht j)⟩)
  have h2 : (Finset.univ : Finset (Fin 512)).fold max ⊥ x ≠ ⊥ := by
    have hle : x 0 ≤ (Finset.univ : Finset (Fin 512)).fold max ⊥ x :=
      (Finset.le_fold_max _).mpr (Or.inr ⟨0, Finset.mem_univ _, le_refl _⟩)
    intro h
    rw [h] at hle
    exact h0 (le_bot_iff.mp hle)
  exact ⟨_, (EReal.coe_toReal h1 h2).symm⟩

/-- A sum over a block's 512 keys of which only the first `w` have weight. -/
theorem sum_block {w : ℕ} (hw : w ≤ 512) (f : Fin 512 → EReal) (g : ℕ → EReal)
    (hf : ∀ j : Fin 512, f j = if j.val < w then g j.val else 0) : ∑ j : Fin 512, f j = ∑ j ∈ Finset.range w, g j := by
  rw [Finset.sum_congr rfl fun j _ => hf j, Fin.sum_univ_eq_sum_range (fun j => if j < w then g j else 0) 512]
  rw [← Finset.sum_subset (Finset.range_subset_range.mpr hw) (f := fun j => if j < w then g j else 0)]
  · exact Finset.sum_congr rfl fun j hj => if_pos (Finset.mem_range.mp hj)
  · intro j _ hj
    exact if_neg fun h => hj (Finset.mem_range.mpr h)

/-- A block of 512 keys, of which the first `w` are visible, joined to the row. -/
theorem RowOK.step {S : ℕ → ℝ} {V : ℕ → Fin 128 → EReal} {n w : ℕ} {m a d : Fin 128 → EReal} (hr : RowOK S V n m a d)
    (h0 : 0 < w) (hw : w ≤ 512) (x : Fin 512 → EReal) (hx : ∀ j : Fin 512, x j = if j.val < w then ((S (n + j.val) : ℝ) : EReal) else ⊥)
    (v : Fin 512 → Fin 128 → EReal) (hv : ∀ j l, v j l = V (n + j.val) l) (c : Fin 512 → Fin 128) (m' a' d' : Fin 128 → EReal)
    (hm : ∀ l, m' l = max (m l) ((Finset.univ : Finset (Fin 512)).fold max ⊥ x))
    (ha : ∀ l, a' l = Ideal.exp2 (m l - m' l) * a l + ∑ j : Fin 512, Ideal.exp2 (x j - m' (c j)) * v j l)
    (hd : ∀ l, d' l = Ideal.exp2 (m l - m' l) * d l + ∑ j : Fin 512, Ideal.exp2 (x j - m' (c j)) * 1) :
    RowOK S V (n + w) m' a' d' := by
  obtain ⟨t, ht⟩ := fold_max_real (x := x) (by rw [hx, if_pos (show ((0 : Fin 512) : ℕ) < w from h0)]; exact EReal.coe_ne_bot _) (fun j => by
    rw [hx]; split
    · exact EReal.coe_ne_top _
    · exact bot_ne_top)
  rw [ht] at hm
  have key : ∀ ν : ℝ, (∀ l, m' l = (ν : EReal)) → ∀ g : ℕ → EReal, ∀ y : Fin 512 → EReal, (∀ j, y j = g (n + j.val)) →
      ∑ j : Fin 512, Ideal.exp2 (x j - m' (c j)) * y j = ∑ j ∈ Finset.range w, wt (S (n + j)) ν * g (n + j) := by
    intro ν hν g y hy
    refine sum_block hw _ (fun j => wt (S (n + j)) ν * g (n + j)) fun j => ?_
    rw [hν, hx, hy]
    split
    · rw [← EReal.coe_sub, Ideal.exp2_coe]; rfl
    · rw [EReal.bot_sub, Ideal.exp2_bot, zero_mul]
  rcases hr with ⟨hn, hr⟩ | ⟨μ, hr⟩
  · right
    refine ⟨t, ?_⟩
    have hν : ∀ l, m' l = (t : EReal) := fun l => by rw [hm, (hr l).1]; exact max_eq_right bot_le
    intro l
    refine ⟨hν l, ?_, ?_⟩
    · rw [ha, (hr l).2.1, mul_zero, zero_add, key t hν (fun j => V j l) (fun j => v j l) (fun j => hv j l)]
      subst hn
      simp only [Nat.zero_add]
    · rw [hd, (hr l).2.2, mul_zero, zero_add, key t hν (fun _ => 1) (fun _ => 1) (fun _ => rfl)]
      subst hn
      simp only [Nat.zero_add, mul_one]
  · right
    refine ⟨max μ t, ?_⟩
    have hν : ∀ l, m' l = ((max μ t : ℝ) : EReal) := fun l => by rw [hm, (hr l).1]; exact (EReal.coe_strictMono.monotone.map_max).symm
    have hal : ∀ l, Ideal.exp2 (m l - m' l) = ((Real.rpow 2 (μ - max μ t) : ℝ) : EReal) := fun l => by
      rw [(hr l).1, hν, ← EReal.coe_sub, Ideal.exp2_coe]
    have hpos : 0 ≤ Real.rpow 2 (μ - max μ t) := Real.rpow_nonneg (by norm_num) _
    intro l
    refine ⟨hν l, ?_, ?_⟩
    · rw [ha, hal, (hr l).2.1, real_mul_sum _ _ hpos, key _ hν (fun j => V j l) (fun j => v j l) (fun j => hv j l),
        Finset.sum_range_add]
      refine congrArg (· + _) (Finset.sum_congr rfl fun j _ => ?_)
      rw [← mul_assoc, wt_rescale]
    · rw [hd, hal, (hr l).2.2, real_mul_sum _ _ hpos, key _ hν (fun _ => 1) (fun _ => 1) (fun _ => rfl),
        Finset.sum_range_add]
      simp only [mul_one]
      refine congrArg (· + _) (Finset.sum_congr rfl fun j _ => ?_)
      rw [wt_rescale]

end Cert.AttnIdeal.AttnVal

end
-- ==== Proof.AttnStep.lean ====
/-
  One update of the running softmax on a 512-row slot: the new maximum and the new weighted sums, read at a row.
-/
module

public import proofs.«01_k».proof.Proof.Gen.AttnIdeal.Skeleton
public import proofs.«01_k».proof.Proof.AttnRow
public import Idealize.ShloMosaic.Lib.Pipeline.Value
public import Idealize.ShloMosaic.Lib.Pointwise
public import Idealize.ShloMosaic.Lib.Tactic

@[expose] public section

set_option maxRecDepth 16384

noncomputable section

namespace Cert.AttnIdeal.AttnVal

open Cert.AttnIdeal Cert.AttnIdeal.Gen
open Idealize.ShloMosaic Idealize.SL.Sem

/-- The scores of 512 rows against 512 keys. -/
def scores (kk q : FVec Ideal S512x256 .bf16) : FVec Ideal S512x512 .f32 :=
  matmul dot_S512x256_S512x256_S512x512_1_1_0_0_n_n none (shapeCast S512x256 q shapeCasts_S512x256_S512x256) kk
    (constant S512x512 .f32 0x00000000#32)

/-- The new maximum. -/
def newMax (s : FVec Ideal S512x512 .f32) (M : Vec Ideal S1x512x128 .f32) : FVec Ideal S512x128 .f32 :=
  maximumf (shapeCast S512x128 M shapeCasts_S1x512x128_S512x128)
    (broadcastTo S512x128 (shapeCast S512x1 (multiReduction .maximumf [1] S512 s 0xFF800000#32 reduces_S512x512_S512 (.inl rfl) rfl)
      shapeCasts_S512_S512x1) broadcasts_S512x1_S512x128)

/-- The maximum as stored. -/
def updM (s : FVec Ideal S512x512 .f32) (M : Vec Ideal S1x512x128 .f32) : FVec Ideal S1x512x128 .f32 :=
  shapeCast S1x512x128 (newMax s M) shapeCasts_S512x128_S1x512x128

/-- The weights of the block's keys. -/
def probs (s : FVec Ideal S512x512 .f32) (M : Vec Ideal S1x512x128 .f32) : FVec Ideal S512x512 .bf16 :=
  truncf .bf16 (exp2 (subf s (concatenate S512x512 1 [⟨S512x128, newMax s M⟩, ⟨S512x128, newMax s M⟩, ⟨S512x128, newMax s M⟩,
    ⟨S512x128, newMax s M⟩] concatenates_S512x128_S512x128_S512x128_S512x128_S512x512_d1))) bitsLt_bf16_f32

/-- The factor of the old sums. -/
def alpha (s : FVec Ideal S512x512 .f32) (M : Vec Ideal S1x512x128 .f32) : FVec Ideal S512x128 .f32 :=
  exp2 (subf (shapeCast S512x128 M shapeCasts_S1x512x128_S512x128) (newMax s M))

/-- The sums as stored: the values' in the first 128 lanes, the weights' in the last. -/
def updA (s : FVec Ideal S512x512 .f32) (v1 : FVec Ideal S512x256 .bf16) (M : Vec Ideal S1x512x128 .f32)
    (A : Vec Ideal S1x512x256 .f32) : FVec Ideal S1x512x256 .f32 :=
  shapeCast S1x512x256 (addf (mulf
    (concatenate S512x256 1 [⟨S512x128, alpha s M⟩, ⟨S512x128, alpha s M⟩] concatenates_S512x128_S512x128_S512x256_d1)
    (shapeCast S512x256 A shapeCasts_S1x512x256_S512x256))
    (matmul dot_S512x512_S512x256_S512x256_1_0_0_1_n_n none (probs s M) v1 (constant S512x256 .f32 0x00000000#32)))
    shapeCasts_S512x256_S1x512x256

theorem ninf : Ideal.ofBits FTy.f32 4286578688#32 = ⊥ := by
  simp [Ideal.ofBits, Ideal.ieee]

theorem scores_apply (kk q : FVec Ideal S512x256 .bf16) (r j : Fin 512) :
    scores kk q (ix2 r j) = ∑ l : Fin 256, q (ix2 r l) * kk (ix2 j l) := by
  unfold scores
  pointwise

theorem newMax_apply (s : FVec Ideal S512x512 .f32) (M : Vec Ideal S1x512x128 .f32) (r : Fin 512) (l : Fin 128) :
    newMax s M (ix2 r l) = max (M (ix3 0 r l)) ((Finset.univ : Finset (Fin 512)).fold max ⊥ fun j => s (ix2 r j)) := by
  unfold newMax
  pointwise
  rw [ninf]

theorem alpha_apply (s : FVec Ideal S512x512 .f32) (M : Vec Ideal S1x512x128 .f32) (r : Fin 512) (l : Fin 128) :
    alpha s M (ix2 r l) = Ideal.exp2 (M (ix3 0 r l) - newMax s M (ix2 r l)) := by
  unfold alpha
  generalize newMax s M = y
  pointwise
  rfl

theorem probs_apply (s : FVec Ideal S512x512 .f32) (M : Vec Ideal S1x512x128 .f32) (r j : Fin 512) :
    probs s M (ix2 r j) = Ideal.exp2 (s (ix2 r j) - newMax s M (ix2 r ⟨j.val % 128, Nat.mod_lt _ (by decide)⟩)) := by
  unfold probs
  generalize newMax s M = y
  pointwise
  refine congrArg (fun z => Ideal.exp2 (s (ix2 r j) - z)) ?_
  have hj := j.isLt
  split
  · exact congrArg (fun z => y (ix2 r z)) (Fin.ext (by show j.val = j.val % 128; omega))
  · split
    · exact congrArg (fun z => y (ix2 r z)) (Fin.ext (by show j.val - 128 = j.val % 128; omega))
    · split
      · exact congrArg (fun z => y (ix2 r z)) (Fin.ext (by show j.val - 128 - 128 = j.val % 128; omega))
      · exact congrArg (fun z => y (ix2 r z)) (Fin.ext (by show j.val - 128 - 128 - 128 = j.val % 128; omega))

theorem updM_apply (s : FVec Ideal S512x512 .f32) (M : Vec Ideal S1x512x128 .f32) (r : Fin 512) (l : Fin 128) :
    updM s M (ix3 0 r l) = newMax s M (ix2 r l) := by
  unfold updM
  generalize newMax s M = y
  pointwise

theorem updA_apply (s : FVec Ideal S512x512 .f32) (v1 : FVec Ideal S512x256 .bf16) (M : Vec Ideal S1x512x128 .f32)
    (A : Vec Ideal S1x512x256 .f32) (r : Fin 512) (l : Fin 256) :
    updA s v1 M A (ix3 0 r l) = alpha s M (ix2 r ⟨l.val % 128, Nat.mod_lt _ (by decide)⟩) * A (ix3 0 r l)
      + ∑ j : Fin 512, probs s M (ix2 r j) * v1 (ix2 j l) := by
  unfold updA
  generalize alpha s M = y
  generalize probs s M = z
  pointwise
  refine congrArg (fun w => w * A (ix3 0 r l) + ∑ x, z (ix2 r x) * v1 (ix2 x l)) ?_
  have hl := l.isLt
  split
  · exact congrArg (fun z => y (ix2 r z)) (Fin.ext (by show l.val = l.val % 128; omega))
  · exact congrArg (fun z => y (ix2 r z)) (Fin.ext (by show l.val - 128 = l.val % 128; omega))

/-! ## The mask of a block on the diagonal -/

/-- The scores of a diagonal block: −∞ where the key's chunk of 64 comes after the row's. -/
def masked (s : FVec Ideal S512x512 .f32) : FVec Ideal S512x512 .f32 := k0_pay412 s k0_pay409 k0_pay410 k0_pay411

/-- The floor division by 64 as printed, of a coordinate below 512. -/
theorem chunk : ∀ r : Fin 512,
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 r.val) 64#32) 0#32))
      (IntOp.subi (IntOp.divsi ArithUnit.vector (BitVec.ofNat 32 r.val) 64#32) 1#32)
      (IntOp.divsi ArithUnit.vector (BitVec.ofNat 32 r.val) 64#32) = BitVec.ofNat 32 (r.val / 64) := by
  decide +kernel

theorem addi_zero (x : BitVec 32) : IntOp.addi x 0#32 = x := BitVec.add_zero x

theorem chunk_le : ∀ a b : Fin 8, IntOp.cmpi CmpIPredicate.sle (BitVec.ofNat 32 b.val) (BitVec.ofNat 32 a.val)
    = if b.val ≤ a.val then 1#1 else 0#1 := by decide +kernel

theorem masked_apply (s : FVec Ideal S512x512 .f32) (r j : Fin 512) :
    masked s (ix2 r j) = if j.val < 64 * (r.val / 64 + 1) then s (ix2 r j) else ⊥ := by
  unfold masked k0_pay412
  pointwise [k0_pay409, k0_pay410, k0_pay411, k0_pay408]
  rw [addi_zero, chunk, chunk, ninf]
  have h := chunk_le ⟨r.val / 64, by omega⟩ ⟨j.val / 64, by omega⟩
  simp only at h
  rw [h]
  by_cases hj : j.val / 64 ≤ r.val / 64
  · rw [if_pos hj, if_pos (by omega)]; rfl
  · rw [if_neg hj, if_neg (by omega)]; rfl

/-! ## A slot -/

/-- A slot's rows: row `r` holds its first `n r` keys. -/
def Good (S : Fin 512 → ℕ → ℝ) (V : ℕ → Fin 128 → EReal) (n : Fin 512 → ℕ) (M : Vec Ideal S1x512x128 .f32)
    (A : Vec Ideal S1x512x256 .f32) : Prop :=
  ∀ r, RowOK (S r) V (n r) (fun l => M (ix3 0 r l)) (fun l => A (ix3 0 r ⟨l.val, by omega⟩))
    (fun l => A (ix3 0 r ⟨128 + l.val, by omega⟩))

/-- The values' block, with ones in the last 128 lanes. -/
def ValBlk (V : ℕ → Fin 128 → EReal) (n : ℕ) (v1 : FVec Ideal S512x256 .bf16) : Prop :=
  ∀ (j : Fin 512) (l : Fin 128), v1 (ix2 j ⟨l.val, by omega⟩) = V (n + j.val) l ∧ v1 (ix2 j ⟨128 + l.val, by omega⟩) = 1

theorem Good.upd {S : Fin 512 → ℕ → ℝ} {V : ℕ → Fin 128 → EReal} {n : ℕ} {M : Vec Ideal S1x512x128 .f32}
    {A : Vec Ideal S1x512x256 .f32} (hg : Good S V (fun _ => n) M A) (w : Fin 512 → ℕ) (h0 : ∀ r, 0 < w r) (hw : ∀ r, w r ≤ 512)
    (s : FVec Ideal S512x512 .f32) (hs : ∀ r j : Fin 512, s (ix2 r j) = if j.val < w r then ((S r (n + j.val) : ℝ) : EReal) else ⊥)
    (v1 : FVec Ideal S512x256 .bf16) (hv : ValBlk V n v1) :
    Good S V (fun r => n + w r) (updM s M) (updA s v1 M A) := by
  intro r
  refine (hg r).step (h0 r) (hw r) (fun j => s (ix2 r j)) (hs r) (fun j l => v1 (ix2 j ⟨l.val, by omega⟩)) (fun j l => (hv j l).1)
    (fun j => ⟨j.val % 128, Nat.mod_lt _ (by decide)⟩) _ _ _ (fun l => ?_) (fun l => ?_) (fun l => ?_)
  · rw [updM_apply, newMax_apply]
  · have e : (⟨(⟨l.val, by omega⟩ : Fin 256).val % 128, Nat.mod_lt _ (by decide)⟩ : Fin 128) = l :=
      Fin.ext (by show l.val % 128 = l.val; omega)
    rw [updA_apply, e, alpha_apply, updM_apply]
    simp only [probs_apply, updM_apply]
  · have e : (⟨(⟨128 + l.val, by omega⟩ : Fin 256).val % 128, Nat.mod_lt _ (by decide)⟩ : Fin 128) = l :=
      Fin.ext (by show (128 + l.val) % 128 = l.val; omega)
    rw [updA_apply, e, alpha_apply, updM_apply]
    simp only [probs_apply, updM_apply, (hv _ l).2]

/-- The score block of keys `n…n+511`. -/
def ScoreBlk (S : Fin 512 → ℕ → ℝ) (n : ℕ) (kk q : FVec Ideal S512x256 .bf16) : Prop :=
  ∀ r j : Fin 512, scores kk q (ix2 r j) = ((S r (n + j.val) : ℝ) : EReal)

/-- A full block. -/
theorem Good.full {S : Fin 512 → ℕ → ℝ} {V : ℕ → Fin 128 → EReal} {n : ℕ} {M : Vec Ideal S1x512x128 .f32}
    {A : Vec Ideal S1x512x256 .f32} (hg : Good S V (fun _ => n) M A) {kk q v1 : FVec Ideal S512x256 .bf16}
    (hs : ScoreBlk S n kk q) (hv : ValBlk V n v1) :
    Good S V (fun _ => n + 512) (updM (scores kk q) M) (updA (scores kk q) v1 M A) :=
  hg.upd (fun _ => 512) (fun _ => by decide) (fun _ => le_refl _) _ (fun r j => by rw [hs r j, if_pos j.isLt]) v1 hv

/-- A block on the diagonal. -/
theorem Good.diag {S : Fin 512 → ℕ → ℝ} {V : ℕ → Fin 128 → EReal} {n : ℕ} {M : Vec Ideal S1x512x128 .f32}
    {A : Vec Ideal S1x512x256 .f32} (hg : Good S V (fun _ => n) M A) {kk q v1 : FVec Ideal S512x256 .bf16}
    (hs : ScoreBlk S n kk q) (hv : ValBlk V n v1) :
    Good S V (fun r => n + 64 * (r.val / 64 + 1)) (updM (masked (scores kk q)) M) (updA (masked (scores kk q)) v1 M A) :=
  hg.upd (fun r => 64 * (r.val / 64 + 1)) (fun r => by omega) (fun r => by omega) _
    (fun r j => by rw [masked_apply, hs r j]) v1 hv

end Cert.AttnIdeal.AttnVal

end
-- ==== Proof.AttnInv.lean ====
/-
  The running softmax's state: eight slots of 512 rows (two heads by four row blocks), each slot a pair of
  rectangles of the two scratch buffers.  What a list of writes leaves in the slots, and how one more write changes it.
-/
module

public import proofs.«01_k».proof.Proof.AttnStep

@[expose] public section

set_option maxRecDepth 16384

noncomputable section

namespace Cert.AttnIdeal.AttnVal

open Cert.AttnIdeal Cert.AttnIdeal.Gen
open Idealize.ShloMosaic Idealize.SL.Sem

/-- The rows of the running maximum that belong to head `hh` and row block `R`. -/
abbrev slotM (hh : Fin 2) (R : Fin 4) : Rect S2x2048x128 :=
  Rect.unit ![hh.val, 512 * R.val, 0] S1x512x128.size (by revert hh R; decide)

/-- The rows of the running sums that belong to head `hh` and row block `R`. -/
abbrev slotA (hh : Fin 2) (R : Fin 4) : Rect S2x2048x256 :=
  Rect.unit ![hh.val, 512 * R.val, 0] S1x512x256.size (by revert hh R; decide)

theorem slotM_disj : ∀ hh hh' : Fin 2, ∀ R R' : Fin 4, ¬(hh' = hh ∧ R' = R) →
    LoadRect.disj (slotM hh R) (slotM hh' R').toLoadRect = true := by decide

theorem slotA_disj : ∀ hh hh' : Fin 2, ∀ R R' : Fin 4, ¬(hh' = hh ∧ R' = R) →
    LoadRect.disj (slotA hh R) (slotA hh' R').toLoadRect = true := by decide

section

variable {κ : Kind} {sp : Space} {s : Shape} {e : EltTy} (v : View sig κ sp s e) (f : v.ty.Contents (Elt Ideal))

theorem readAt_cons_self (r : Rect s) (w : r.shape.Idx → Elt Ideal e) (L : List (View.Piece (Elt Ideal) s e)) :
    v.readAt (Elt Ideal) r.toLoadRect (v.writes (Elt Ideal) f (⟨r, w⟩ :: L)) = w := by
  rw [View.readAt_writes_of_cover v f _ _ (fun j => ⟨⟨r, w⟩, List.mem_cons_self, r.idx_mem j⟩), View.readCov_cons_toLoadRect]

theorem readAt_cons_skip (r : Rect s) (w : r.shape.Idx → Elt Ideal e) (L : List (View.Piece (Elt Ideal) s e)) (B : LoadRect s)
    (h : LoadRect.disj r B = true) :
    v.readAt (Elt Ideal) B (v.writes (Elt Ideal) f (⟨r, w⟩ :: L)) = v.readAt (Elt Ideal) B (v.writes (Elt Ideal) f L) := by
  have := View.readAt_writes_of_forall_not_mem (Val := Elt Ideal) v (v.writes (Elt Ideal) f L) [⟨r, w⟩] B
    (fun j p hp => by
      rw [List.mem_singleton] at hp
      subst hp
      exact LoadRect.idx_not_mem_of_disj h j)
  rwa [← View.writes_append] at this

theorem readAt_mem (r : Rect s) (L : List (View.Piece (Elt Ideal) s e)) (h : ∃ w, (⟨r, w⟩ : View.Piece (Elt Ideal) s e) ∈ L) :
    v.readAt (Elt Ideal) r.toLoadRect (v.writes (Elt Ideal) f L) = v.readCov L r.toLoadRect := by
  obtain ⟨w, hw⟩ := h
  exact View.readAt_writes_of_cover v f _ _ (fun j => ⟨_, hw, r.idx_mem j⟩)

end

variable {κ : Kind} {sp sp' : Space}

/-- What the writes `L14`, `L15` over the contents `f14`, `f15` leave in every slot: row `r` of slot `(hh, R)` has
    taken in its first `cnt hh R r` keys. -/
structure Inv (v14 : View sig κ sp S2x2048x128 .f32) (v15 : View sig κ sp' S2x2048x256 .f32)
    (S : Fin 2 → Fin 4 → Fin 512 → ℕ → ℝ) (V : Fin 2 → ℕ → Fin 128 → EReal)
    (f14 : v14.ty.Contents (Elt Ideal)) (f15 : v15.ty.Contents (Elt Ideal))
    (L14 : List (View.Piece (Elt Ideal) S2x2048x128 .f32)) (L15 : List (View.Piece (Elt Ideal) S2x2048x256 .f32))
    (cnt : Fin 2 → Fin 4 → Fin 512 → ℕ) : Prop where
  good : ∀ hh R, Good (S hh R) (V hh) (cnt hh R) (v14.readAt (Elt Ideal) (slotM hh R).toLoadRect (v14.writes (Elt Ideal) f14 L14))
    (v15.readAt (Elt Ideal) (slotA hh R).toLoadRect (v15.writes (Elt Ideal) f15 L15))

variable {v14 : View sig κ sp S2x2048x128 .f32} {v15 : View sig κ sp' S2x2048x256 .f32}
  {S : Fin 2 → Fin 4 → Fin 512 → ℕ → ℝ} {V : Fin 2 → ℕ → Fin 128 → EReal}
  {f14 : v14.ty.Contents (Elt Ideal)} {f15 : v15.ty.Contents (Elt Ideal)}
  {L14 : List (View.Piece (Elt Ideal) S2x2048x128 .f32)} {L15 : List (View.Piece (Elt Ideal) S2x2048x256 .f32)}
  {cnt : Fin 2 → Fin 4 → Fin 512 → ℕ}

/-- One more write, into slot `(hh, R)`. -/
theorem Inv.put (hI : Inv v14 v15 S V f14 f15 L14 L15 cnt) (hh : Fin 2) (R : Fin 4) (cnt' : Fin 2 → Fin 4 → Fin 512 → ℕ)
    (hc : ∀ hh' R', ¬(hh' = hh ∧ R' = R) → cnt' hh' R' = cnt hh' R')
    {pM : Vec Ideal S1x512x128 .f32} {pA : Vec Ideal S1x512x256 .f32} (hg : Good (S hh R) (V hh) (cnt' hh R) pM pA) :
    Inv v14 v15 S V f14 f15 (⟨slotM hh R, pM⟩ :: L14) (⟨slotA hh R, pA⟩ :: L15) cnt' := by
  refine ⟨fun hh' R' => ?_⟩
  by_cases h : hh' = hh ∧ R' = R
  · obtain ⟨rfl, rfl⟩ := h
    rw [readAt_cons_self, readAt_cons_self]
    exact hg
  · rw [readAt_cons_skip _ _ _ _ _ _ (slotM_disj _ _ _ _ h), readAt_cons_skip _ _ _ _ _ _ (slotA_disj _ _ _ _ h), hc _ _ h]
    exact hI.good hh' R'

/-- The counts in the course of the loop's trip: after `u` updates, slot after slot, of 512 keys each. -/
def cntT (n u : ℕ) (hh : Fin 2) (R : Fin 4) (r : Fin 512) : ℕ := n + 512 * ((u + 7 - (4 * hh.val + R.val)) / 8)

theorem cntT_other (n u : ℕ) (hh : Fin 2) (R : Fin 4) (hu : u % 8 = 4 * hh.val + R.val) (hh' : Fin 2) (R' : Fin 4)
    (h : ¬(hh' = hh ∧ R' = R)) : cntT n (u + 1) hh' R' = cntT n u hh' R' := by
  funext r
  unfold cntT
  have := hh.isLt; have := hh'.isLt; have := R.isLt; have := R'.isLt
  have h' : 4 * hh'.val + R'.val ≠ 4 * hh.val + R.val := fun e => h ⟨Fin.ext (by omega), Fin.ext (by omega)⟩
  congr 2
  omega

/-- A trip's update whose slot was last written before the trip: it loads what the trip found. -/
theorem Inv.first {n u : ℕ} (hI : Inv v14 v15 S V f14 f15 L14 L15 (cntT n u)) (hh : Fin 2) (R : Fin 4)
    (hu : u = 4 * hh.val + R.val)
    (h0 : Good (S hh R) (V hh) (fun _ => n) (v14.readAt (Elt Ideal) (slotM hh R).toLoadRect f14)
      (v15.readAt (Elt Ideal) (slotA hh R).toLoadRect f15))
    {kk q v1 : FVec Ideal S512x256 .bf16} (hs : ScoreBlk (S hh R) n kk q) (hv : ValBlk (V hh) n v1)
    {M : Vec Ideal S1x512x128 .f32} {A : Vec Ideal S1x512x256 .f32}
    (hM : M = v14.readAt (Elt Ideal) (slotM hh R).toLoadRect f14) (hA : A = v15.readAt (Elt Ideal) (slotA hh R).toLoadRect f15) :
    Inv v14 v15 S V f14 f15 (⟨slotM hh R, updM (scores kk q) M⟩ :: L14) (⟨slotA hh R, updA (scores kk q) v1 M A⟩ :: L15)
      (cntT n (u + 1)) := by
  refine hI.put hh R _ (cntT_other n u hh R (by have := hh.isLt; have := R.isLt; omega)) ?_
  have e : cntT n (u + 1) hh R = fun _ => n + 512 := by
    funext r
    unfold cntT
    omega
  rw [e, hM, hA]
  exact h0.full hs hv

/-- A trip's update whose slot the trip has written: it loads that write. -/
theorem Inv.again {n u : ℕ} (hI : Inv v14 v15 S V f14 f15 L14 L15 (cntT n u)) (hh : Fin 2) (R : Fin 4) (m : ℕ)
    (hu : u % 8 = 4 * hh.val + R.val) (hm : m = n + 512 * (u / 8))
    {kk q v1 : FVec Ideal S512x256 .bf16} (hs : ScoreBlk (S hh R) m kk q) (hv : ValBlk (V hh) m v1)
    {M : Vec Ideal S1x512x128 .f32} {A : Vec Ideal S1x512x256 .f32}
    (h14 : ∃ w, (⟨slotM hh R, w⟩ : View.Piece (Elt Ideal) S2x2048x128 .f32) ∈ L14)
    (h15 : ∃ w, (⟨slotA hh R, w⟩ : View.Piece (Elt Ideal) S2x2048x256 .f32) ∈ L15)
    (hM : M = v14.readCov L14 (slotM hh R).toLoadRect) (hA : A = v15.readCov L15 (slotA hh R).toLoadRect) :
    Inv v14 v15 S V f14 f15 (⟨slotM hh R, updM (scores kk q) M⟩ :: L14) (⟨slotA hh R, updA (scores kk q) v1 M A⟩ :: L15)
      (cntT n (u + 1)) := by
  refine hI.put hh R _ (cntT_other n u hh R hu) ?_
  have e : cntT n (u + 1) hh R = fun _ => m + 512 := by
    funext r
    unfold cntT
    omega
  have e0 : cntT n u hh R = fun _ => m := by
    funext r
    unfold cntT
    omega
  have hg := hI.good hh R
  rw [e0, readAt_mem _ _ _ _ h14, readAt_mem _ _ _ _ h15, ← hM, ← hA] at hg
  rw [e]
  exact hg.full hs hv

/-- The state once every slot has been written by the trip. -/
structure InvM (v14 : View sig κ sp S2x2048x128 .f32) (v15 : View sig κ sp' S2x2048x256 .f32)
    (S : Fin 2 → Fin 4 → Fin 512 → ℕ → ℝ) (V : Fin 2 → ℕ → Fin 128 → EReal)
    (f14 : v14.ty.Contents (Elt Ideal)) (f15 : v15.ty.Contents (Elt Ideal))
    (L14 : List (View.Piece (Elt Ideal) S2x2048x128 .f32)) (L15 : List (View.Piece (Elt Ideal) S2x2048x256 .f32))
    (cnt : Fin 2 → Fin 4 → Fin 512 → ℕ) : Prop where
  inv : Inv v14 v15 S V f14 f15 L14 L15 cnt
  mem14 : ∀ hh R, ∃ w, (⟨slotM hh R, w⟩ : View.Piece (Elt Ideal) S2x2048x128 .f32) ∈ L14
  mem15 : ∀ hh R, ∃ w, (⟨slotA hh R, w⟩ : View.Piece (Elt Ideal) S2x2048x256 .f32) ∈ L15

theorem InvM.again {n u : ℕ} (hI : InvM v14 v15 S V f14 f15 L14 L15 (cntT n u)) (hh : Fin 2) (R : Fin 4) (m : ℕ)
    (hu : u % 8 = 4 * hh.val + R.val) (hm : m = n + 512 * (u / 8))
    {kk q v1 : FVec Ideal S512x256 .bf16} (hs : ScoreBlk (S hh R) m kk q) (hv : ValBlk (V hh) m v1)
    {M : Vec Ideal S1x512x128 .f32} {A : Vec Ideal S1x512x256 .f32}
    (hM : M = v14.readCov L14 (slotM hh R).toLoadRect) (hA : A = v15.readCov L15 (slotA hh R).toLoadRect) :
    InvM v14 v15 S V f14 f15 (⟨slotM hh R, updM (scores kk q) M⟩ :: L14) (⟨slotA hh R, updA (scores kk q) v1 M A⟩ :: L15)
      (cntT n (u + 1)) :=
  ⟨hI.inv.again hh R m hu hm hs hv (hI.mem14 hh R) (hI.mem15 hh R) hM hA,
    fun a b => (hI.mem14 a b).imp fun _ h => List.mem_cons_of_mem _ h,
    fun a b => (hI.mem15 a b).imp fun _ h => List.mem_cons_of_mem _ h⟩

/-- The counts on the diagonal block: `F` full blocks of 512 keys after the first `n`, then, where `D` is set, the
    keys of the row's own block up to its own chunk of 64. -/
def cntD (n : ℕ) (F D : Fin 2 → Fin 4 → ℕ) (hh : Fin 2) (R : Fin 4) (r : Fin 512) : ℕ :=
  n + 512 * F hh R + D hh R * (64 * (r.val / 64 + 1))

theorem cntD_other (n : ℕ) {F D F' D' : Fin 2 → Fin 4 → ℕ} {hh : Fin 2} {R : Fin 4}
    (h : ∀ hh' R', ¬(hh' = hh ∧ R' = R) → F' hh' R' = F hh' R' ∧ D' hh' R' = D hh' R') (hh' : Fin 2) (R' : Fin 4)
    (h' : ¬(hh' = hh ∧ R' = R)) : cntD n F' D' hh' R' = cntD n F D hh' R' := by
  funext r
  unfold cntD
  rw [(h hh' R' h').1, (h hh' R' h').2]

/-- A full block of the diagonal's row of blocks. -/
theorem Inv.diagFull {n : ℕ} {F D : Fin 2 → Fin 4 → ℕ} (hI : Inv v14 v15 S V v14.junk v15.junk L14 L15 (cntD n F D))
    (hh : Fin 2) (R : Fin 4) (F' : Fin 2 → Fin 4 → ℕ)
    (h : ∀ hh' R', ¬(hh' = hh ∧ R' = R) → F' hh' R' = F hh' R' ∧ D hh' R' = D hh' R') (hF : F' hh R = F hh R + 1) (hD : D hh R = 0)
    {kk q v1 : FVec Ideal S512x256 .bf16} (hs : ScoreBlk (S hh R) (n + 512 * F hh R) kk q) (hv : ValBlk (V hh) (n + 512 * F hh R) v1)
    {M : Vec Ideal S1x512x128 .f32} {A : Vec Ideal S1x512x256 .f32}
    (hM : M = v14.readCov L14 (slotM hh R).toLoadRect) (hA : A = v15.readCov L15 (slotA hh R).toLoadRect) :
    Inv v14 v15 S V v14.junk v15.junk (⟨slotM hh R, updM (scores kk q) M⟩ :: L14)
      (⟨slotA hh R, updA (scores kk q) v1 M A⟩ :: L15) (cntD n F' D) := by
  refine hI.put hh R _ (cntD_other n h) ?_
  have hg := hI.good hh R
  have e : cntD n F' D hh R = fun _ => n + 512 * F hh R + 512 := by
    funext r
    unfold cntD
    rw [hF, hD]; ring
  have e0 : cntD n F D hh R = fun _ => n + 512 * F hh R := by
    funext r
    unfold cntD
    rw [hD]; ring
  rw [e0] at hg
  rw [e, hM, hA]
  exact hg.full hs hv

/-- The block on the diagonal. -/
theorem Inv.diagMask {n : ℕ} {F D : Fin 2 → Fin 4 → ℕ} (hI : Inv v14 v15 S V v14.junk v15.junk L14 L15 (cntD n F D))
    (hh : Fin 2) (R : Fin 4) (D' : Fin 2 → Fin 4 → ℕ)
    (h : ∀ hh' R', ¬(hh' = hh ∧ R' = R) → F hh' R' = F hh' R' ∧ D' hh' R' = D hh' R') (hD' : D' hh R = 1) (hD : D hh R = 0)
    {kk q v1 : FVec Ideal S512x256 .bf16} (hs : ScoreBlk (S hh R) (n + 512 * F hh R) kk q) (hv : ValBlk (V hh) (n + 512 * F hh R) v1)
    {M : Vec Ideal S1x512x128 .f32} {A : Vec Ideal S1x512x256 .f32}
    (hM : M = v14.readCov L14 (slotM hh R).toLoadRect) (hA : A = v15.readCov L15 (slotA hh R).toLoadRect) :
    Inv v14 v15 S V v14.junk v15.junk (⟨slotM hh R, updM (masked (scores kk q)) M⟩ :: L14)
      (⟨slotA hh R, updA (masked (scores kk q)) v1 M A⟩ :: L15) (cntD n F D') := by
  refine hI.put hh R _ (cntD_other n h) ?_
  have hg := hI.good hh R
  have e : cntD n F D' hh R = fun r => n + 512 * F hh R + 64 * (r.val / 64 + 1) := by
    funext r
    unfold cntD
    rw [hD', one_mul]
  have e0 : cntD n F D hh R = fun _ => n + 512 * F hh R := by
    funext r
    unfold cntD
    rw [hD]; ring
  rw [e0] at hg
  rw [e, hM, hA]
  exact hg.diag hs hv

end Cert.AttnIdeal.AttnVal

end
-- ==== Proof.AttnTrip.lean ====
/-
  One trip of the loop over the key blocks before the diagonal: it takes every slot from its first `n` keys to its
  first `n + 2048`.
-/
module

public import proofs.«01_k».proof.Proof.Gen.AttnIdeal.Value
public import proofs.«01_k».proof.Proof.AttnInv

@[expose] public section

set_option maxRecDepth 16384

noncomputable section

namespace Cert.AttnIdeal.AttnVal

open Cert.AttnIdeal Cert.AttnIdeal.Gen
open Idealize.ShloMosaic Idealize.SL.Sem

/-- The rows of the queries' block that slot `(hh, R)` uses. -/
abbrev rectQ (hh : Fin 2) (R : Fin 4) : Rect S2048x512 :=
  Rect.unit ![512 * R.val, 256 * hh.val] S512x256.size (by revert hh R; decide)

/-- The queries of slot `(hh, R)`. -/
def qT (arg3 : Memref sig .tc .vmem S2048x512 .bf16) (X_arg3 : BufTy.Contents (Elt Ideal) arg3.view.ty) (hh : Fin 2) (R : Fin 4) :
    FVec Ideal S512x256 .bf16 := View.readAt (Elt Ideal) arg3.view (rectQ hh R).toLoadRect X_arg3

/-- The rows of head `hh`'s 128 columns that block `j` of trip `k` uses. -/
abbrev rectT (i : grid0.Coords) (k : Fin (k0_t1_loop i).trips) (hh : Fin 2) (j : Fin 4) : Rect S4096x256 :=
  match hh with
  | 0 => Rect.unit (s := S4096x256) (k0_off1 i k (BitVec.ofNat 32 (512 * j.val))) S512x128.size (k0_off1_inb i k j)
  | 1 => Rect.unit (s := S4096x256) (k0_off3 i k (BitVec.ofNat 32 (512 * j.val))) S512x128.size (k0_off3_inb i k j)

/-- A load of head `hh`'s columns. -/
def ldT (i : grid0.Coords) (m : Memref sig .tc .vmem S4096x256 .bf16) (X : BufTy.Contents (Elt Ideal) m.view.ty)
    (k : Fin (k0_t1_loop i).trips) (hh : Fin 2) (j : Fin 4) : Vec Ideal S512x128 .bf16 :=
  match hh with
  | 0 => View.readAt (Elt Ideal) m.view (Rect.unit (s := S4096x256) (k0_off1 i k (BitVec.ofNat 32 (512 * j.val))) S512x128.size (k0_off1_inb i k j)).toLoadRect X
  | 1 => View.readAt (Elt Ideal) m.view (Rect.unit (s := S4096x256) (k0_off3 i k (BitVec.ofNat 32 (512 * j.val))) S512x128.size (k0_off3_inb i k j)).toLoadRect X

/-- The keys of head `hh` in block `j` of trip `k`. -/
def kT (i : grid0.Coords) (arg4 : Memref sig .tc .vmem S4096x256 .bf16) (arg5 : Memref sig .tc .vmem S4096x128 .bf16)
    (X_arg4 : BufTy.Contents (Elt Ideal) arg4.view.ty) (X_arg5 : BufTy.Contents (Elt Ideal) arg5.view.ty)
    (k : Fin (k0_t1_loop i).trips) (hh : Fin 2) (j : Fin 4) : FVec Ideal S512x256 .bf16 :=
  k0_pay2 (ldT i arg4 X_arg4 k hh j)
    (View.readAt (Elt Ideal) arg5.view (Rect.unit (s := S4096x128) (k0_off2 i k (BitVec.ofNat 32 (512 * j.val))) S512x128.size (k0_off2_inb i k j)).toLoadRect X_arg5)

/-- The values of head `hh` in block `j` of trip `k`, with the ones beside them. -/
def vT (i : grid0.Coords) (arg6 : Memref sig .tc .vmem S4096x256 .bf16) (X_arg6 : BufTy.Contents (Elt Ideal) arg6.view.ty)
    (k : Fin (k0_t1_loop i).trips) (hh : Fin 2) (j : Fin 4) : FVec Ideal S512x256 .bf16 :=
  k0_pay3 (ldT i arg6 X_arg6 k hh j)

variable (𝒱 : Variants) (c : Dev nD) (bd : Option 𝒱.V) (i : grid0.Coords)
  (arg3 : Memref sig .tc .vmem S2048x512 .bf16) (harg3 : arg3.IsWhole) (arg4 : Memref sig .tc .vmem S4096x256 .bf16) (harg4 : arg4.IsWhole)
  (arg5 : Memref sig .tc .vmem S4096x128 .bf16) (harg5 : arg5.IsWhole) (arg6 : Memref sig .tc .vmem S4096x256 .bf16) (harg6 : arg6.IsWhole)
  (arg7 : Memref sig .tc .vmem S64x2048 .f32) (harg7 : arg7.IsWhole) (arg8 : Memref sig .tc .vmem S64x2048 .f32) (harg8 : arg8.IsWhole)
  (arg9 : Memref sig .tc .vmem S64x2048 .f32) (harg9 : arg9.IsWhole) (arg10 : Memref sig .tc .vmem S2048x256 .bf16) (harg10 : arg10.IsWhole)
  (arg11 : Memref sig .tc .vmem S64x2048 .bf16) (harg11 : arg11.IsWhole) (arg12 : Memref sig .tc .vmem S64x2048 .bf16) (harg12 : arg12.IsWhole)
  (arg13 : Memref sig .tc .vmem S64x2048 .bf16) (harg13 : arg13.IsWhole) (arg14 : Memref sig .tc .vmem S2x2048x128 .f32) (harg14 : arg14.IsWhole)
  (arg15 : Memref sig .tc .vmem S2x2048x256 .f32) (harg15 : arg15.IsWhole)
  (X_arg3 : BufTy.Contents (Elt Ideal) arg3.view.ty) (X_arg4 : BufTy.Contents (Elt Ideal) arg4.view.ty)
  (X_arg5 : BufTy.Contents (Elt Ideal) arg5.view.ty) (X_arg6 : BufTy.Contents (Elt Ideal) arg6.view.ty)
  (k : Fin (k0_t1_loop i).trips) (f_arg14 : BufTy.Contents (Elt Ideal) arg14.view.ty) (f_arg15 : BufTy.Contents (Elt Ideal) arg15.view.ty)
  (S : Fin 2 → Fin 4 → Fin 512 → ℕ → ℝ) (V : Fin 2 → ℕ → Fin 128 → EReal) (n : ℕ)

theorem trip_first (h0 : ∀ hh R, Good (S hh R) (V hh) (fun _ => n) (arg14.view.readAt (Elt Ideal) (slotM hh R).toLoadRect f_arg14)
      (arg15.view.readAt (Elt Ideal) (slotA hh R).toLoadRect f_arg15))
    (hs : ∀ hh R, ScoreBlk (S hh R) n (kT i arg4 arg5 X_arg4 X_arg5 k hh 0) (qT arg3 X_arg3 hh R))
    (hv : ∀ hh, ValBlk (V hh) n (vT i arg6 X_arg6 k hh 0)) :
    InvM arg14.view arg15.view S V f_arg14 f_arg15 (trip_k0_t1.sl.HW_arg14_8 (F := Ideal) i arg3 arg4 arg5 arg14 X_arg3 X_arg4 X_arg5 k f_arg14) (trip_k0_t1.sl.HW_arg15_8 (F := Ideal) i arg3 arg4 arg5 arg6 arg14 arg15 X_arg3 X_arg4 X_arg5 X_arg6 k f_arg14 f_arg15) (cntT n 8) := by
  have i0 : Inv arg14.view arg15.view S V f_arg14 f_arg15 [] [] (cntT n 0) := ⟨fun hh R => by
    have e : cntT n 0 hh R = fun _ => n := by
      funext r
      unfold cntT
      have := hh.isLt; have := R.isLt
      omega
    rw [e]
    exact h0 hh R⟩
  have i1 := i0.first 0 0 rfl (h0 0 0) (hs 0 0) (hv 0) rfl rfl
  have i2 := i1.first 0 1 rfl (h0 0 1) (hs 0 1) (hv 0) rfl rfl
  have i3 := i2.first 0 2 rfl (h0 0 2) (hs 0 2) (hv 0) rfl rfl
  have i4 := i3.first 0 3 rfl (h0 0 3) (hs 0 3) (hv 0) rfl rfl
  have i5 := i4.first 1 0 rfl (h0 1 0) (hs 1 0) (hv 1) rfl rfl
  have i6 := i5.first 1 1 rfl (h0 1 1) (hs 1 1) (hv 1) rfl rfl
  have i7 := i6.first 1 2 rfl (h0 1 2) (hs 1 2) (hv 1) rfl rfl
  have i8 := i7.first 1 3 rfl (h0 1 3) (hs 1 3) (hv 1) rfl rfl
  refine ⟨i8, fun hh R => ?_, fun hh R => ?_⟩
  · match hh, R with
    | 0, 0 => exact ⟨_, (.tail _ (.tail _ (.tail _ (.tail _ (.tail _ (.tail _ (.tail _ (.head _))))))))⟩
    | 0, 1 => exact ⟨_, (.tail _ (.tail _ (.tail _ (.tail _ (.tail _ (.tail _ (.head _)))))))⟩
    | 0, 2 => exact ⟨_, (.tail _ (.tail _ (.tail _ (.tail _ (.tail _ (.head _))))))⟩
    | 0, 3 => exact ⟨_, (.tail _ (.tail _ (.tail _ (.tail _ (.head _)))))⟩
    | 1, 0 => exact ⟨_, (.tail _ (.tail _ (.tail _ (.head _))))⟩
    | 1, 1 => exact ⟨_, (.tail _ (.tail _ (.head _)))⟩
    | 1, 2 => exact ⟨_, (.tail _ (.head _))⟩
    | 1, 3 => exact ⟨_, (.head _)⟩
  · match hh, R with
    | 0, 0 => exact ⟨_, (.tail _ (.tail _ (.tail _ (.tail _ (.tail _ (.tail _ (.tail _ (.head _))))))))⟩
    | 0, 1 => exact ⟨_, (.tail _ (.tail _ (.tail _ (.tail _ (.tail _ (.tail _ (.head _)))))))⟩
    | 0, 2 => exact ⟨_, (.tail _ (.tail _ (.tail _ (.tail _ (.tail _ (.head _))))))⟩
    | 0, 3 => exact ⟨_, (.tail _ (.tail _ (.tail _ (.tail _ (.head _)))))⟩
    | 1, 0 => exact ⟨_, (.tail _ (.tail _ (.tail _ (.head _))))⟩
    | 1, 1 => exact ⟨_, (.tail _ (.tail _ (.head _)))⟩
    | 1, 2 => exact ⟨_, (.tail _ (.head _))⟩
    | 1, 3 => exact ⟨_, (.head _)⟩

theorem trip_blk1 (h : InvM arg14.view arg15.view S V f_arg14 f_arg15 (trip_k0_t1.sl.HW_arg14_8 (F := Ideal) i arg3 arg4 arg5 arg14 X_arg3 X_arg4 X_arg5 k f_arg14) (trip_k0_t1.sl.HW_arg15_8 (F := Ideal) i arg3 arg4 arg5 arg6 arg14 arg15 X_arg3 X_arg4 X_arg5 X_arg6 k f_arg14 f_arg15) (cntT n 8))
    (hs : ∀ hh R, ScoreBlk (S hh R) (n + 512) (kT i arg4 arg5 X_arg4 X_arg5 k hh 1) (qT arg3 X_arg3 hh R))
    (hv : ∀ hh, ValBlk (V hh) (n + 512) (vT i arg6 X_arg6 k hh 1)) :
    InvM arg14.view arg15.view S V f_arg14 f_arg15 (trip_k0_t1.sl.HW_arg14_16 (F := Ideal) i arg3 arg4 arg5 arg14 X_arg3 X_arg4 X_arg5 k f_arg14) (trip_k0_t1.sl.HW_arg15_16 (F := Ideal) i arg3 arg4 arg5 arg6 arg14 arg15 X_arg3 X_arg4 X_arg5 X_arg6 k f_arg14 f_arg15) (cntT n 16) := by
  have i9 : InvM arg14.view arg15.view S V f_arg14 f_arg15 (trip_k0_t1.sl.HW_arg14_9 (F := Ideal) i arg3 arg4 arg5 arg14 X_arg3 X_arg4 X_arg5 k f_arg14) (trip_k0_t1.sl.HW_arg15_9 (F := Ideal) i arg3 arg4 arg5 arg6 arg14 arg15 X_arg3 X_arg4 X_arg5 X_arg6 k f_arg14 f_arg15) (cntT n 9) :=
    h.again 0 0 (n + 512) rfl rfl (hs 0 0) (hv 0) (M := (trip_k0_t1.sl.v1388 (F := Ideal) i arg3 arg4 arg5 arg14 X_arg3 X_arg4 X_arg5 k f_arg14)) (A := (trip_k0_t1.sl.v1402 (F := Ideal) i arg3 arg4 arg5 arg6 arg14 arg15 X_arg3 X_arg4 X_arg5 X_arg6 k f_arg14 f_arg15)) rfl rfl
  have i10 : InvM arg14.view arg15.view S V f_arg14 f_arg15 (trip_k0_t1.sl.HW_arg14_10 (F := Ideal) i arg3 arg4 arg5 arg14 X_arg3 X_arg4 X_arg5 k f_arg14) (trip_k0_t1.sl.HW_arg15_10 (F := Ideal) i arg3 arg4 arg5 arg6 arg14 arg15 X_arg3 X_arg4 X_arg5 X_arg6 k f_arg14 f_arg15) (cntT n 10) :=
    i9.again 0 1 (n + 512) rfl rfl (hs 0 1) (hv 0) (M := (trip_k0_t1.sl.v1415 (F := Ideal) i arg3 arg4 arg5 arg14 X_arg3 X_arg4 X_arg5 k f_arg14)) (A := (trip_k0_t1.sl.v1429 (F := Ideal) i arg3 arg4 arg5 arg6 arg14 arg15 X_arg3 X_arg4 X_arg5 X_arg6 k f_arg14 f_arg15)) rfl rfl
  have i11 : InvM arg14.view arg15.view S V f_arg14 f_arg15 (trip_k0_t1.sl.HW_arg14_11 (F := Ideal) i arg3 arg4 arg5 arg14 X_arg3 X_arg4 X_arg5 k f_arg14) (trip_k0_t1.sl.HW_arg15_11 (F := Ideal) i arg3 arg4 arg5 arg6 arg14 arg15 X_arg3 X_arg4 X_arg5 X_arg6 k f_arg14 f_arg15) (cntT n 11) :=
    i10.again 0 2 (n + 512) rfl rfl (hs 0 2) (hv 0) (M := (trip_k0_t1.sl.v1442 (F := Ideal) i arg3 arg4 arg5 arg14 X_arg3 X_arg4 X_arg5 k f_arg14)) (A := (trip_k0_t1.sl.v1456 (F := Ideal) i arg3 arg4 arg5 arg6 arg14 arg15 X_arg3 X_arg4 X_arg5 X_arg6 k f_arg14 f_arg15)) rfl rfl
  have i12 : InvM arg14.view arg15.view S V f_arg14 f_arg15 (trip_k0_t1.sl.HW_arg14_12 (F := Ideal) i arg3 arg4 arg5 arg14 X_arg3 X_arg4 X_arg5 k f_arg14) (trip_k0_t1.sl.HW_arg15_12 (F := Ideal) i arg3 arg4 arg5 arg6 arg14 arg15 X_arg3 X_arg4 X_arg5 X_arg6 k f_arg14 f_arg15) (cntT n 12) :=
    i11.again 0 3 (n + 512) rfl rfl (hs 0 3) (hv 0) (M := (trip_k0_t1.sl.v1469 (F := Ideal) i arg3 arg4 arg5 arg14 X_arg3 X_arg4 X_arg5 k f_arg14)) (A := (trip_k0_t1.sl.v1483 (F := Ideal) i arg3 arg4 arg5 arg6 arg14 arg15 X_arg3 X_arg4 X_arg5 X_arg6 k f_arg14 f_arg15)) rfl rfl
  have i13 : InvM arg14.view arg15.view S V f_arg14 f_arg15 (trip_k0_t1.sl.HW_arg14_13 (F := Ideal) i arg3 arg4 arg5 arg14 X_arg3 X_arg4 X_arg5 k f_arg14) (trip_k0_t1.sl.HW_arg15_13 (F := Ideal) i arg3 arg4 arg5 arg6 arg14 arg15 X_arg3 X_arg4 X_arg5 X_arg6 k f_arg14 f_arg15) (cntT n 13) :=
    i12.again 1 0 (n + 512) rfl rfl (hs 1 0) (hv 1) (M := (trip_k0_t1.sl.v1508 (F := Ideal) i arg3 arg4 arg5 arg14 X_arg3 X_arg4 X_arg5 k f_arg14)) (A := (trip_k0_t1.sl.v1522 (F := Ideal) i arg3 arg4 arg5 arg6 arg14 arg15 X_arg3 X_arg4 X_arg5 X_arg6 k f_arg14 f_arg15)) rfl rfl
  have i14 : InvM arg14.view arg15.view S V f_arg14 f_arg15 (trip_k0_t1.sl.HW_arg14_14 (F := Ideal) i arg3 arg4 arg5 arg14 X_arg3 X_arg4 X_arg5 k f_arg14) (trip_k0_t1.sl.HW_arg15_14 (F := Ideal) i arg3 arg4 arg5 arg6 arg14 arg15 X_arg3 X_arg4 X_arg5 X_arg6 k f_arg14 f_arg15) (cntT n 14) :=
    i13.again 1 1 (n + 512) rfl rfl (hs 1 1) (hv 1) (M := (trip_k0_t1.sl.v1535 (F := Ideal) i arg3 arg4 arg5 arg14 X_arg3 X_arg4 X_arg5 k f_arg14)) (A := (trip_k0_t1.sl.v1549 (F := Ideal) i arg3 arg4 arg5 arg6 arg14 arg15 X_arg3 X_arg4 X_arg5 X_arg6 k f_arg14 f_arg15)) rfl rfl
  have i15 : InvM arg14.view arg15.view S V f_arg14 f_arg15 (trip_k0_t1.sl.HW_arg14_15 (F := Ideal) i arg3 arg4 arg5 arg14 X_arg3 X_arg4 X_arg5 k f_arg14) (trip_k0_t1.sl.HW_arg15_15 (F := Ideal) i arg3 arg4 arg5 arg6 arg14 arg15 X_arg3 X_arg4 X_arg5 X_arg6 k f_arg14 f_arg15) (cntT n 15) :=
    i14.again 1 2 (n + 512) rfl rfl (hs 1 2) (hv 1) (M := (trip_k0_t1.sl.v1562 (F := Ideal) i arg3 arg4 arg5 arg14 X_arg3 X_arg4 X_arg5 k f_arg14)) (A := (trip_k0_t1.sl.v1576 (F := Ideal) i arg3 arg4 arg5 arg6 arg14 arg15 X_arg3 X_arg4 X_arg5 X_arg6 k f_arg14 f_arg15)) rfl rfl
  have i16 : InvM arg14.view arg15.view S V f_arg14 f_arg15 (trip_k0_t1.sl.HW_arg14_16 (F := Ideal) i arg3 arg4 arg5 arg14 X_arg3 X_arg4 X_arg5 k f_arg14) (trip_k0_t1.sl.HW_arg15_16 (F := Ideal) i arg3 arg4 arg5 arg6 arg14 arg15 X_arg3 X_arg4 X_arg5 X_arg6 k f_arg14 f_arg15) (cntT n 16) :=
    i15.again 1 3 (n + 512) rfl rfl (hs 1 3) (hv 1) (M := (trip_k0_t1.sl.v1589 (F := Ideal) i arg3 arg4 arg5 arg14 X_arg3 X_arg4 X_arg5 k f_arg14)) (A := (trip_k0_t1.sl.v1603 (F := Ideal) i arg3 arg4 arg5 arg6 arg14 arg15 X_arg3 X_arg4 X_arg5 X_arg6 k f_arg14 f_arg15)) rfl rfl
  exact i16

theorem trip_blk2 (h : InvM arg14.view arg15.view S V f_arg14 f_arg15 (trip_k0_t1.sl.HW_arg14_16 (F := Ideal) i arg3 arg4 arg5 arg14 X_arg3 X_arg4 X_arg5 k f_arg14) (trip_k0_t1.sl.HW_arg15_16 (F := Ideal) i arg3 arg4 arg5 arg6 arg14 arg15 X_arg3 X_arg4 X_arg5 X_arg6 k f_arg14 f_arg15) (cntT n 16))
    (hs : ∀ hh R, ScoreBlk (S hh R) (n + 1024) (kT i arg4 arg5 X_arg4 X_arg5 k hh 2) (qT arg3 X_arg3 hh R))
    (hv : ∀ hh, ValBlk (V hh) (n + 1024) (vT i arg6 X_arg6 k hh 2)) :
    InvM arg14.view arg15.view S V f_arg14 f_arg15 (trip_k0_t1.sl.HW_arg14_24 (F := Ideal) i arg3 arg4 arg5 arg14 X_arg3 X_arg4 X_arg5 k f_arg14) (trip_k0_t1.sl.HW_arg15_24 (F := Ideal) i arg3 arg4 arg5 arg6 arg14 arg15 X_arg3 X_arg4 X_arg5 X_arg6 k f_arg14 f_arg15) (cntT n 24) := by
  have i17 : InvM arg14.view arg15.view S V f_arg14 f_arg15 (trip_k0_t1.sl.HW_arg14_17 (F := Ideal) i arg3 arg4 arg5 arg14 X_arg3 X_arg4 X_arg5 k f_arg14) (trip_k0_t1.sl.HW_arg15_17 (F := Ideal) i arg3 arg4 arg5 arg6 arg14 arg15 X_arg3 X_arg4 X_arg5 X_arg6 k f_arg14 f_arg15) (cntT n 17) :=
    h.again 0 0 (n + 1024) rfl rfl (hs 0 0) (hv 0) (M := (trip_k0_t1.sl.v1631 (F := Ideal) i arg3 arg4 arg5 arg14 X_arg3 X_arg4 X_arg5 k f_arg14)) (A := (trip_k0_t1.sl.v1645 (F := Ideal) i arg3 arg4 arg5 arg6 arg14 arg15 X_arg3 X_arg4 X_arg5 X_arg6 k f_arg14 f_arg15)) rfl rfl
  have i18 : InvM arg14.view arg15.view S V f_arg14 f_arg15 (trip_k0_t1.sl.HW_arg14_18 (F := Ideal) i arg3 arg4 arg5 arg14 X_arg3 X_arg4 X_arg5 k f_arg14) (trip_k0_t1.sl.HW_arg15_18 (F := Ideal) i arg3 arg4 arg5 arg6 arg14 arg15 X_arg3 X_arg4 X_arg5 X_arg6 k f_arg14 f_arg15) (cntT n 18) :=
    i17.again 0 1 (n + 1024) rfl rfl (hs 0 1) (hv 0) (M := (trip_k0_t1.sl.v1658 (F := Ideal) i arg3 arg4 arg5 arg14 X_arg3 X_arg4 X_arg5 k f_arg14)) (A := (trip_k0_t1.sl.v1672 (F := Ideal) i arg3 arg4 arg5 arg6 arg14 arg15 X_arg3 X_arg4 X_arg5 X_arg6 k f_arg14 f_arg15)) rfl rfl
  have i19 : InvM arg14.view arg15.view S V f_arg14 f_arg15 (trip_k0_t1.sl.HW_arg14_19 (F := Ideal) i arg3 arg4 arg5 arg14 X_arg3 X_arg4 X_arg5 k f_arg14) (trip_k0_t1.sl.HW_arg15_19 (F := Ideal) i arg3 arg4 arg5 arg6 arg14 arg15 X_arg3 X_arg4 X_arg5 X_arg6 k f_arg14 f_arg15) (cntT n 19) :=
    i18.again 0 2 (n + 1024) rfl rfl (hs 0 2) (hv 0) (M := (trip_k0_t1.sl.v1685 (F := Ideal) i arg3 arg4 arg5 arg14 X_arg3 X_arg4 X_arg5 k f_arg14)) (A := (trip_k0_t1.sl.v1699 (F := Ideal) i arg3 arg4 arg5 arg6 arg14 arg15 X_arg3 X_arg4 X_arg5 X_arg6 k f_arg14 f_arg15)) rfl rfl
  have i20 : InvM arg14.view arg15.view S V f_arg14 f_arg15 (trip_k0_t1.sl.HW_arg14_20 (F := Ideal) i arg3 arg4 arg5 arg14 X_arg3 X_arg4 X_arg5 k f_arg14) (trip_k0_t1.sl.HW_arg15_20 (F := Ideal) i arg3 arg4 arg5 arg6 arg14 arg15 X_arg3 X_arg4 X_arg5 X_arg6 k f_arg14 f_arg15) (cntT n 20) :=
    i19.again 0 3 (n + 1024) rfl rfl (hs 0 3) (hv 0) (M := (trip_k0_t1.sl.v1712 (F := Ideal) i arg3 arg4 arg5 arg14 X_arg3 X_arg4 X_arg5 k f_arg14)) (A := (trip_k0_t1.sl.v1726 (F := Ideal) i arg3 arg4 arg5 arg6 arg14 arg15 X_arg3 X_arg4 X_arg5 X_arg6 k f_arg14 f_arg15)) rfl rfl
  have i21 : InvM arg14.view arg15.view S V f_arg14 f_arg15 (trip_k0_t1.sl.HW_arg14_21 (F := Ideal) i arg3 arg4 arg5 arg14 X_arg3 X_arg4 X_arg5 k f_arg14) (trip_k0_t1.sl.HW_arg15_21 (F := Ideal) i arg3 arg4 arg5 arg6 arg14 arg15 X_arg3 X_arg4 X_arg5 X_arg6 k f_arg14 f_arg15) (cntT n 21) :=
    i20.again 1 0 (n + 1024) rfl rfl (hs 1 0) (hv 1) (M := (trip_k0_t1.sl.v1751 (F := Ideal) i arg3 arg4 arg5 arg14 X_arg3 X_arg4 X_arg5 k f_arg14)) (A := (trip_k0_t1.sl.v1765 (F := Ideal) i arg3 arg4 arg5 arg6 arg14 arg15 X_arg3 X_arg4 X_arg5 X_arg6 k f_arg14 f_arg15)) rfl rfl
  have i22 : InvM arg14.view arg15.view S V f_arg14 f_arg15 (trip_k0_t1.sl.HW_arg14_22 (F := Ideal) i arg3 arg4 arg5 arg14 X_arg3 X_arg4 X_arg5 k f_arg14) (trip_k0_t1.sl.HW_arg15_22 (F := Ideal) i arg3 arg4 arg5 arg6 arg14 arg15 X_arg3 X_arg4 X_arg5 X_arg6 k f_arg14 f_arg15) (cntT n 22) :=
    i21.again 1 1 (n + 1024) rfl rfl (hs 1 1) (hv 1) (M := (trip_k0_t1.sl.v1778 (F := Ideal) i arg3 arg4 arg5 arg14 X_arg3 X_arg4 X_arg5 k f_arg14)) (A := (trip_k0_t1.sl.v1792 (F := Ideal) i arg3 arg4 arg5 arg6 arg14 arg15 X_arg3 X_arg4 X_arg5 X_arg6 k f_arg14 f_arg15)) rfl rfl
  have i23 : InvM arg14.view arg15.view S V f_arg14 f_arg15 (trip_k0_t1.sl.HW_arg14_23 (F := Ideal) i arg3 arg4 arg5 arg14 X_arg3 X_arg4 X_arg5 k f_arg14) (trip_k0_t1.sl.HW_arg15_23 (F := Ideal) i arg3 arg4 arg5 arg6 arg14 arg15 X_arg3 X_arg4 X_arg5 X_arg6 k f_arg14 f_arg15) (cntT n 23) :=
    i22.again 1 2 (n + 1024) rfl rfl (hs 1 2) (hv 1) (M := (trip_k0_t1.sl.v1805 (F := Ideal) i arg3 arg4 arg5 arg14 X_arg3 X_arg4 X_arg5 k f_arg14)) (A := (trip_k0_t1.sl.v1819 (F := Ideal) i arg3 arg4 arg5 arg6 arg14 arg15 X_arg3 X_arg4 X_arg5 X_arg6 k f_arg14 f_arg15)) rfl rfl
  have i24 : InvM arg14.view arg15.view S V f_arg14 f_arg15 (trip_k0_t1.sl.HW_arg14_24 (F := Ideal) i arg3 arg4 arg5 arg14 X_arg3 X_arg4 X_arg5 k f_arg14) (trip_k0_t1.sl.HW_arg15_24 (F := Ideal) i arg3 arg4 arg5 arg6 arg14 arg15 X_arg3 X_arg4 X_arg5 X_arg6 k f_arg14 f_arg15) (cntT n 24) :=
    i23.again 1 3 (n + 1024) rfl rfl (hs 1 3) (hv 1) (M := (trip_k0_t1.sl.v1832 (F := Ideal) i arg3 arg4 arg5 arg14 X_arg3 X_arg4 X_arg5 k f_arg14)) (A := (trip_k0_t1.sl.v1846 (F := Ideal) i arg3 arg4 arg5 arg6 arg14 arg15 X_arg3 X_arg4 X_arg5 X_arg6 k f_arg14 f_arg15)) rfl rfl
  exact i24

theorem trip_blk3 (h : InvM arg14.view arg15.view S V f_arg14 f_arg15 (trip_k0_t1.sl.HW_arg14_24 (F := Ideal) i arg3 arg4 arg5 arg14 X_arg3 X_arg4 X_arg5 k f_arg14) (trip_k0_t1.sl.HW_arg15_24 (F := Ideal) i arg3 arg4 arg5 arg6 arg14 arg15 X_arg3 X_arg4 X_arg5 X_arg6 k f_arg14 f_arg15) (cntT n 24))
    (hs : ∀ hh R, ScoreBlk (S hh R) (n + 1536) (kT i arg4 arg5 X_arg4 X_arg5 k hh 3) (qT arg3 X_arg3 hh R))
    (hv : ∀ hh, ValBlk (V hh) (n + 1536) (vT i arg6 X_arg6 k hh 3)) :
    InvM arg14.view arg15.view S V f_arg14 f_arg15 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 k).1 f_arg14 f_arg15) ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 X_arg3 X_arg4 X_arg5 X_arg6 k).2.1 f_arg14 f_arg15) (cntT n 32) := by
  have i25 : InvM arg14.view arg15.view S V f_arg14 f_arg15 (trip_k0_t1.sl.HW_arg14_25 (F := Ideal) i arg3 arg4 arg5 arg14 X_arg3 X_arg4 X_arg5 k f_arg14) (trip_k0_t1.sl.HW_arg15_25 (F := Ideal) i arg3 arg4 arg5 arg6 arg14 arg15 X_arg3 X_arg4 X_arg5 X_arg6 k f_arg14 f_arg15) (cntT n 25) :=
    h.again 0 0 (n + 1536) rfl rfl (hs 0 0) (hv 0) (M := (trip_k0_t1.sl.v1874 (F := Ideal) i arg3 arg4 arg5 arg14 X_arg3 X_arg4 X_arg5 k f_arg14)) (A := (trip_k0_t1.sl.v1888 (F := Ideal) i arg3 arg4 arg5 arg6 arg14 arg15 X_arg3 X_arg4 X_arg5 X_arg6 k f_arg14 f_arg15)) rfl rfl
  have i26 : InvM arg14.view arg15.view S V f_arg14 f_arg15 (trip_k0_t1.sl.HW_arg14_26 (F := Ideal) i arg3 arg4 arg5 arg14 X_arg3 X_arg4 X_arg5 k f_arg14) (trip_k0_t1.sl.HW_arg15_26 (F := Ideal) i arg3 arg4 arg5 arg6 arg14 arg15 X_arg3 X_arg4 X_arg5 X_arg6 k f_arg14 f_arg15) (cntT n 26) :=
    i25.again 0 1 (n + 1536) rfl rfl (hs 0 1) (hv 0) (M := (trip_k0_t1.sl.v1901 (F := Ideal) i arg3 arg4 arg5 arg14 X_arg3 X_arg4 X_arg5 k f_arg14)) (A := (trip_k0_t1.sl.v1915 (F := Ideal) i arg3 arg4 arg5 arg6 arg14 arg15 X_arg3 X_arg4 X_arg5 X_arg6 k f_arg14 f_arg15)) rfl rfl
  have i27 : InvM arg14.view arg15.view S V f_arg14 f_arg15 (trip_k0_t1.sl.HW_arg14_27 (F := Ideal) i arg3 arg4 arg5 arg14 X_arg3 X_arg4 X_arg5 k f_arg14) (trip_k0_t1.sl.HW_arg15_27 (F := Ideal) i arg3 arg4 arg5 arg6 arg14 arg15 X_arg3 X_arg4 X_arg5 X_arg6 k f_arg14 f_arg15) (cntT n 27) :=
    i26.again 0 2 (n + 1536) rfl rfl (hs 0 2) (hv 0) (M := (trip_k0_t1.sl.v1928 (F := Ideal) i arg3 arg4 arg5 arg14 X_arg3 X_arg4 X_arg5 k f_arg14)) (A := (trip_k0_t1.sl.v1942 (F := Ideal) i arg3 arg4 arg5 arg6 arg14 arg15 X_arg3 X_arg4 X_arg5 X_arg6 k f_arg14 f_arg15)) rfl rfl
  have i28 : InvM arg14.view arg15.view S V f_arg14 f_arg15 (trip_k0_t1.sl.HW_arg14_28 (F := Ideal) i arg3 arg4 arg5 arg14 X_arg3 X_arg4 X_arg5 k f_arg14) (trip_k0_t1.sl.HW_arg15_28 (F := Ideal) i arg3 arg4 arg5 arg6 arg14 arg15 X_arg3 X_arg4 X_arg5 X_arg6 k f_arg14 f_arg15) (cntT n 28) :=
    i27.again 0 3 (n + 1536) rfl rfl (hs 0 3) (hv 0) (M := (trip_k0_t1.sl.v1955 (F := Ideal) i arg3 arg4 arg5 arg14 X_arg3 X_arg4 X_arg5 k f_arg14)) (A := (trip_k0_t1.sl.v1969 (F := Ideal) i arg3 arg4 arg5 arg6 arg14 arg15 X_arg3 X_arg4 X_arg5 X_arg6 k f_arg14 f_arg15)) rfl rfl
  have i29 : InvM arg14.view arg15.view S V f_arg14 f_arg15 (trip_k0_t1.sl.HW_arg14_29 (F := Ideal) i arg3 arg4 arg5 arg14 X_arg3 X_arg4 X_arg5 k f_arg14) (trip_k0_t1.sl.HW_arg15_29 (F := Ideal) i arg3 arg4 arg5 arg6 arg14 arg15 X_arg3 X_arg4 X_arg5 X_arg6 k f_arg14 f_arg15) (cntT n 29) :=
    i28.again 1 0 (n + 1536) rfl rfl (hs 1 0) (hv 1) (M := (trip_k0_t1.sl.v1994 (F := Ideal) i arg3 arg4 arg5 arg14 X_arg3 X_arg4 X_arg5 k f_arg14)) (A := (trip_k0_t1.sl.v2008 (F := Ideal) i arg3 arg4 arg5 arg6 arg14 arg15 X_arg3 X_arg4 X_arg5 X_arg6 k f_arg14 f_arg15)) rfl rfl
  have i30 : InvM arg14.view arg15.view S V f_arg14 f_arg15 (trip_k0_t1.sl.HW_arg14_30 (F := Ideal) i arg3 arg4 arg5 arg14 X_arg3 X_arg4 X_arg5 k f_arg14) (trip_k0_t1.sl.HW_arg15_30 (F := Ideal) i arg3 arg4 arg5 arg6 arg14 arg15 X_arg3 X_arg4 X_arg5 X_arg6 k f_arg14 f_arg15) (cntT n 30) :=
    i29.again 1 1 (n + 1536) rfl rfl (hs 1 1) (hv 1) (M := (trip_k0_t1.sl.v2021 (F := Ideal) i arg3 arg4 arg5 arg14 X_arg3 X_arg4 X_arg5 k f_arg14)) (A := (trip_k0_t1.sl.v2035 (F := Ideal) i arg3 arg4 arg5 arg6 arg14 arg15 X_arg3 X_arg4 X_arg5 X_arg6 k f_arg14 f_arg15)) rfl rfl
  have i31 : InvM arg14.view arg15.view S V f_arg14 f_arg15 (trip_k0_t1.sl.HW_arg14_31 (F := Ideal) i arg3 arg4 arg5 arg14 X_arg3 X_arg4 X_arg5 k f_arg14) (trip_k0_t1.sl.HW_arg15_31 (F := Ideal) i arg3 arg4 arg5 arg6 arg14 arg15 X_arg3 X_arg4 X_arg5 X_arg6 k f_arg14 f_arg15) (cntT n 31) :=
    i30.again 1 2 (n + 1536) rfl rfl (hs 1 2) (hv 1) (M := (trip_k0_t1.sl.v2048 (F := Ideal) i arg3 arg4 arg5 arg14 X_arg3 X_arg4 X_arg5 k f_arg14)) (A := (trip_k0_t1.sl.v2062 (F := Ideal) i arg3 arg4 arg5 arg6 arg14 arg15 X_arg3 X_arg4 X_arg5 X_arg6 k f_arg14 f_arg15)) rfl rfl
  unfold trip_k0_t1
  exact i31.again 1 3 (n + 1536) rfl rfl (hs 1 3) (hv 1) (M := (trip_k0_t1.sl.v2075 (F := Ideal) i arg3 arg4 arg5 arg14 X_arg3 X_arg4 X_arg5 k f_arg14)) (A := (trip_k0_t1.sl.v2089 (F := Ideal) i arg3 arg4 arg5 arg6 arg14 arg15 X_arg3 X_arg4 X_arg5 X_arg6 k f_arg14 f_arg15)) rfl rfl

end Cert.AttnIdeal.AttnVal

end
-- ==== Proof.AttnDiag.lean ====
/-
  The blocks on the diagonal: after the loop, every slot takes in the keys of its own 2048 rows, block by block, up to
  the row's own chunk.
-/
module

public import proofs.«01_k».proof.Proof.AttnTrip

@[expose] public section

set_option maxRecDepth 16384

noncomputable section

namespace Cert.AttnIdeal.AttnVal

open Cert.AttnIdeal Cert.AttnIdeal.Gen
open Idealize.ShloMosaic Idealize.SL.Sem

/-- A load of head `hh`'s columns in block `j` of the diagonal. -/
def ldD (i : grid0.Coords) (m : Memref sig .tc .vmem S4096x256 .bf16) (X : BufTy.Contents (Elt Ideal) m.view.ty)
    (hh : Fin 2) (j : Fin 4) : Vec Ideal S512x128 .bf16 :=
  match hh with
  | 0 => View.readAt (Elt Ideal) m.view (Rect.unit (s := S4096x256) (k0_off7 i (BitVec.ofNat 32 (512 * j.val))) S512x128.size (k0_off7_inb i j)).toLoadRect X
  | 1 => View.readAt (Elt Ideal) m.view (Rect.unit (s := S4096x256) (k0_off9 i (BitVec.ofNat 32 (512 * j.val))) S512x128.size (k0_off9_inb i j)).toLoadRect X

/-- The keys of head `hh` in block `j` of the diagonal. -/
def kD (i : grid0.Coords) (arg4 : Memref sig .tc .vmem S4096x256 .bf16) (arg5 : Memref sig .tc .vmem S4096x128 .bf16)
    (X_arg4 : BufTy.Contents (Elt Ideal) arg4.view.ty) (X_arg5 : BufTy.Contents (Elt Ideal) arg5.view.ty)
    (hh : Fin 2) (j : Fin 4) : FVec Ideal S512x256 .bf16 :=
  k0_pay2 (ldD i arg4 X_arg4 hh j)
    (View.readAt (Elt Ideal) arg5.view (Rect.unit (s := S4096x128) (k0_off8 i (BitVec.ofNat 32 (512 * j.val))) S512x128.size (k0_off8_inb i j)).toLoadRect X_arg5)

/-- The values of head `hh` in block `j` of the diagonal, with the ones beside them. -/
def vD (i : grid0.Coords) (arg6 : Memref sig .tc .vmem S4096x256 .bf16) (X_arg6 : BufTy.Contents (Elt Ideal) arg6.view.ty)
    (hh : Fin 2) (j : Fin 4) : FVec Ideal S512x256 .bf16 :=
  k0_pay3 (ldD i arg6 X_arg6 hh j)

variable (c : Dev nD) (i : grid0.Coords)
  (arg3 : Memref sig .tc .vmem S2048x512 .bf16) (harg3 : arg3.IsWhole) (arg4 : Memref sig .tc .vmem S4096x256 .bf16) (harg4 : arg4.IsWhole)
  (arg5 : Memref sig .tc .vmem S4096x128 .bf16) (harg5 : arg5.IsWhole) (arg6 : Memref sig .tc .vmem S4096x256 .bf16) (harg6 : arg6.IsWhole)
  (arg7 : Memref sig .tc .vmem S64x2048 .f32) (harg7 : arg7.IsWhole) (arg8 : Memref sig .tc .vmem S64x2048 .f32) (harg8 : arg8.IsWhole)
  (arg9 : Memref sig .tc .vmem S64x2048 .f32) (harg9 : arg9.IsWhole) (arg10 : Memref sig .tc .vmem S2048x256 .bf16) (harg10 : arg10.IsWhole)
  (arg11 : Memref sig .tc .vmem S64x2048 .bf16) (harg11 : arg11.IsWhole) (arg12 : Memref sig .tc .vmem S64x2048 .bf16) (harg12 : arg12.IsWhole)
  (arg13 : Memref sig .tc .vmem S64x2048 .bf16) (harg13 : arg13.IsWhole) (arg14 : Memref sig .tc .vmem S2x2048x128 .f32) (harg14 : arg14.IsWhole)
  (arg15 : Memref sig .tc .vmem S2x2048x256 .f32) (harg15 : arg15.IsWhole)
  (x0 : Vec Ideal S2048x512 .bf16) (x1 : Vec Ideal S4096x256 .bf16) (x2 : Vec Ideal S4096x128 .bf16) (x3 : Vec Ideal S4096x256 .bf16)
  (S : Fin 2 → Fin 4 → Fin 512 → ℕ → ℝ) (V : Fin 2 → ℕ → Fin 128 → EReal) (n : ℕ)

/-- The writes to the maximum's buffer before the diagonal. -/
def before14 : List (View.Piece (Elt Ideal) S2x2048x128 .f32) :=
  (pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 (kernelRun0_A.sl.v24 i) (harg3.unread x0) (harg4.unread x1) (harg5.unread x2) (harg6.unread x3) (arg14.view.writes (Elt Ideal) arg14.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread x0) (harg4.unread x1) (harg5.unread x2) (harg6.unread x3) (arg14.view.writes (Elt Ideal) arg14.view.junk (kernelRun0_A.sl.HS0_1 (F := Ideal))) (arg15.view.writes (Elt Ideal) arg15.view.junk (kernelRun0_A.sl.HS1_1 (F := Ideal))) (Scf.trips (k0_t1_loop i).lb (k0_t1_loop i).ub (k0_t1_loop i).st)).1 ++ (kernelRun0_A.sl.HS0_1 (F := Ideal)))) (arg15.view.writes (Elt Ideal) arg15.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread x0) (harg4.unread x1) (harg5.unread x2) (harg6.unread x3) (arg14.view.writes (Elt Ideal) arg14.view.junk (kernelRun0_A.sl.HS0_1 (F := Ideal))) (arg15.view.writes (Elt Ideal) arg15.view.junk (kernelRun0_A.sl.HS1_1 (F := Ideal))) (Scf.trips (k0_t1_loop i).lb (k0_t1_loop i).ub (k0_t1_loop i).st)).2 ++ (kernelRun0_A.sl.HS1_1 (F := Ideal)))) (Scf.trips (k0_t2_loop i).lb (k0_t2_loop i).ub (k0_t2_loop i).st)).1 ++ ((pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread x0) (harg4.unread x1) (harg5.unread x2) (harg6.unread x3) (arg14.view.writes (Elt Ideal) arg14.view.junk (kernelRun0_A.sl.HS0_1 (F := Ideal))) (arg15.view.writes (Elt Ideal) arg15.view.junk (kernelRun0_A.sl.HS1_1 (F := Ideal))) (Scf.trips (k0_t1_loop i).lb (k0_t1_loop i).ub (k0_t1_loop i).st)).1 ++ (kernelRun0_A.sl.HS0_1 (F := Ideal)))

/-- The writes to the sums' buffer before the diagonal. -/
def before15 : List (View.Piece (Elt Ideal) S2x2048x256 .f32) :=
  (pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 (kernelRun0_A.sl.v24 i) (harg3.unread x0) (harg4.unread x1) (harg5.unread x2) (harg6.unread x3) (arg14.view.writes (Elt Ideal) arg14.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread x0) (harg4.unread x1) (harg5.unread x2) (harg6.unread x3) (arg14.view.writes (Elt Ideal) arg14.view.junk (kernelRun0_A.sl.HS0_1 (F := Ideal))) (arg15.view.writes (Elt Ideal) arg15.view.junk (kernelRun0_A.sl.HS1_1 (F := Ideal))) (Scf.trips (k0_t1_loop i).lb (k0_t1_loop i).ub (k0_t1_loop i).st)).1 ++ (kernelRun0_A.sl.HS0_1 (F := Ideal)))) (arg15.view.writes (Elt Ideal) arg15.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread x0) (harg4.unread x1) (harg5.unread x2) (harg6.unread x3) (arg14.view.writes (Elt Ideal) arg14.view.junk (kernelRun0_A.sl.HS0_1 (F := Ideal))) (arg15.view.writes (Elt Ideal) arg15.view.junk (kernelRun0_A.sl.HS1_1 (F := Ideal))) (Scf.trips (k0_t1_loop i).lb (k0_t1_loop i).ub (k0_t1_loop i).st)).2 ++ (kernelRun0_A.sl.HS1_1 (F := Ideal)))) (Scf.trips (k0_t2_loop i).lb (k0_t2_loop i).ub (k0_t2_loop i).st)).2 ++ ((pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread x0) (harg4.unread x1) (harg5.unread x2) (harg6.unread x3) (arg14.view.writes (Elt Ideal) arg14.view.junk (kernelRun0_A.sl.HS0_1 (F := Ideal))) (arg15.view.writes (Elt Ideal) arg15.view.junk (kernelRun0_A.sl.HS1_1 (F := Ideal))) (Scf.trips (k0_t1_loop i).lb (k0_t1_loop i).ub (k0_t1_loop i).st)).2 ++ (kernelRun0_A.sl.HS1_1 (F := Ideal)))

theorem diag_blk0 (h : Inv arg14.view arg15.view S V arg14.view.junk arg15.view.junk (before14 c i arg3 harg3 arg4 harg4 arg5 harg5 arg6 harg6 arg7 harg7 arg8 harg8 arg9 harg9 arg10 harg10 arg11 harg11 arg12 harg12 arg13 harg13 arg14 harg14 arg15 harg15 x0 x1 x2 x3) (before15 c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 0, 0, 0], ![0, 0, 0, 0]] ![![0, 0, 0, 0], ![0, 0, 0, 0]]))
    (hs : ∀ hh R j, ScoreBlk (S hh R) (n + 512 * j.val) (kD i arg4 arg5 (harg4.unread x1) (harg5.unread x2) hh j) (qT arg3 (harg3.unread x0) hh R))
    (hv : ∀ hh j, ValBlk (V hh) (n + 512 * j.val) (vD i arg6 (harg6.unread x3) hh j)) :
    Inv arg14.view arg15.view S V arg14.view.junk arg15.view.junk (kernelRun0_A.sl.HS0_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 1, 1], ![0, 1, 1, 1]] ![![1, 0, 0, 0], ![1, 0, 0, 0]]) := by
  have i1 : Inv arg14.view arg15.view S V arg14.view.junk arg15.view.junk (kernelRun0_A.sl.HS0_1_1 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_1_1 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 0, 0, 0], ![0, 0, 0, 0]] ![![1, 0, 0, 0], ![0, 0, 0, 0]]) :=
    h.diagMask 0 0 ![![1, 0, 0, 0], ![0, 0, 0, 0]] (by decide) rfl rfl (hs 0 0 0) (hv 0 0) (M := (kernelRun0_A.sl.v98 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v112 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i2 : Inv arg14.view arg15.view S V arg14.view.junk arg15.view.junk (kernelRun0_A.sl.HS0_2 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_2 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 0, 0], ![0, 0, 0, 0]] ![![1, 0, 0, 0], ![0, 0, 0, 0]]) :=
    i1.diagFull 0 1 ![![0, 1, 0, 0], ![0, 0, 0, 0]] (by decide) rfl rfl (hs 0 1 0) (hv 0 0) (M := (kernelRun0_A.sl.v125 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v139 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i3 : Inv arg14.view arg15.view S V arg14.view.junk arg15.view.junk (kernelRun0_A.sl.HS0_3 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_3 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 1, 0], ![0, 0, 0, 0]] ![![1, 0, 0, 0], ![0, 0, 0, 0]]) :=
    i2.diagFull 0 2 ![![0, 1, 1, 0], ![0, 0, 0, 0]] (by decide) rfl rfl (hs 0 2 0) (hv 0 0) (M := (kernelRun0_A.sl.v152 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v166 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i4 : Inv arg14.view arg15.view S V arg14.view.junk arg15.view.junk (kernelRun0_A.sl.HS0_4 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_4 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 1, 1], ![0, 0, 0, 0]] ![![1, 0, 0, 0], ![0, 0, 0, 0]]) :=
    i3.diagFull 0 3 ![![0, 1, 1, 1], ![0, 0, 0, 0]] (by decide) rfl rfl (hs 0 3 0) (hv 0 0) (M := (kernelRun0_A.sl.v179 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v193 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i5 : Inv arg14.view arg15.view S V arg14.view.junk arg15.view.junk (kernelRun0_A.sl.HS0_5 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_5 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 1, 1], ![0, 0, 0, 0]] ![![1, 0, 0, 0], ![1, 0, 0, 0]]) :=
    i4.diagMask 1 0 ![![1, 0, 0, 0], ![1, 0, 0, 0]] (by decide) rfl rfl (hs 1 0 0) (hv 1 0) (M := (kernelRun0_A.sl.v273 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v287 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i6 : Inv arg14.view arg15.view S V arg14.view.junk arg15.view.junk (kernelRun0_A.sl.HS0_6 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_6 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 1, 1], ![0, 1, 0, 0]] ![![1, 0, 0, 0], ![1, 0, 0, 0]]) :=
    i5.diagFull 1 1 ![![0, 1, 1, 1], ![0, 1, 0, 0]] (by decide) rfl rfl (hs 1 1 0) (hv 1 0) (M := (kernelRun0_A.sl.v300 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v314 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i7 : Inv arg14.view arg15.view S V arg14.view.junk arg15.view.junk (kernelRun0_A.sl.HS0_7 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_7 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 1, 1], ![0, 1, 1, 0]] ![![1, 0, 0, 0], ![1, 0, 0, 0]]) :=
    i6.diagFull 1 2 ![![0, 1, 1, 1], ![0, 1, 1, 0]] (by decide) rfl rfl (hs 1 2 0) (hv 1 0) (M := (kernelRun0_A.sl.v327 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v341 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i8 : Inv arg14.view arg15.view S V arg14.view.junk arg15.view.junk (kernelRun0_A.sl.HS0_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 1, 1], ![0, 1, 1, 1]] ![![1, 0, 0, 0], ![1, 0, 0, 0]]) :=
    i7.diagFull 1 3 ![![0, 1, 1, 1], ![0, 1, 1, 1]] (by decide) rfl rfl (hs 1 3 0) (hv 1 0) (M := (kernelRun0_A.sl.v354 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v368 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  exact i8

theorem diag_blk1 (h : Inv arg14.view arg15.view S V arg14.view.junk arg15.view.junk (kernelRun0_A.sl.HS0_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 1, 1], ![0, 1, 1, 1]] ![![1, 0, 0, 0], ![1, 0, 0, 0]]))
    (hs : ∀ hh R j, ScoreBlk (S hh R) (n + 512 * j.val) (kD i arg4 arg5 (harg4.unread x1) (harg5.unread x2) hh j) (qT arg3 (harg3.unread x0) hh R))
    (hv : ∀ hh j, ValBlk (V hh) (n + 512 * j.val) (vD i arg6 (harg6.unread x3) hh j)) :
    Inv arg14.view arg15.view S V arg14.view.junk arg15.view.junk (kernelRun0_A.sl.HS0_14 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_14 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 2], ![0, 1, 2, 2]] ![![1, 1, 0, 0], ![1, 1, 0, 0]]) := by
  have i9 : Inv arg14.view arg15.view S V arg14.view.junk arg15.view.junk (kernelRun0_A.sl.HS0_9 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_9 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 1, 1], ![0, 1, 1, 1]] ![![1, 1, 0, 0], ![1, 0, 0, 0]]) :=
    h.diagMask 0 1 ![![1, 1, 0, 0], ![1, 0, 0, 0]] (by decide) rfl rfl (hs 0 1 1) (hv 0 1) (M := (kernelRun0_A.sl.v451 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v465 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i10 : Inv arg14.view arg15.view S V arg14.view.junk arg15.view.junk (kernelRun0_A.sl.HS0_10 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_10 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 1], ![0, 1, 1, 1]] ![![1, 1, 0, 0], ![1, 0, 0, 0]]) :=
    i9.diagFull 0 2 ![![0, 1, 2, 1], ![0, 1, 1, 1]] (by decide) rfl rfl (hs 0 2 1) (hv 0 1) (M := (kernelRun0_A.sl.v478 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v492 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i11 : Inv arg14.view arg15.view S V arg14.view.junk arg15.view.junk (kernelRun0_A.sl.HS0_11 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_11 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 2], ![0, 1, 1, 1]] ![![1, 1, 0, 0], ![1, 0, 0, 0]]) :=
    i10.diagFull 0 3 ![![0, 1, 2, 2], ![0, 1, 1, 1]] (by decide) rfl rfl (hs 0 3 1) (hv 0 1) (M := (kernelRun0_A.sl.v505 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v519 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i12 : Inv arg14.view arg15.view S V arg14.view.junk arg15.view.junk (kernelRun0_A.sl.HS0_12 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_12 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 2], ![0, 1, 1, 1]] ![![1, 1, 0, 0], ![1, 1, 0, 0]]) :=
    i11.diagMask 1 1 ![![1, 1, 0, 0], ![1, 1, 0, 0]] (by decide) rfl rfl (hs 1 1 1) (hv 1 1) (M := (kernelRun0_A.sl.v599 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v613 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i13 : Inv arg14.view arg15.view S V arg14.view.junk arg15.view.junk (kernelRun0_A.sl.HS0_13 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_13 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 2], ![0, 1, 2, 1]] ![![1, 1, 0, 0], ![1, 1, 0, 0]]) :=
    i12.diagFull 1 2 ![![0, 1, 2, 2], ![0, 1, 2, 1]] (by decide) rfl rfl (hs 1 2 1) (hv 1 1) (M := (kernelRun0_A.sl.v626 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v640 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i14 : Inv arg14.view arg15.view S V arg14.view.junk arg15.view.junk (kernelRun0_A.sl.HS0_14 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_14 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 2], ![0, 1, 2, 2]] ![![1, 1, 0, 0], ![1, 1, 0, 0]]) :=
    i13.diagFull 1 3 ![![0, 1, 2, 2], ![0, 1, 2, 2]] (by decide) rfl rfl (hs 1 3 1) (hv 1 1) (M := (kernelRun0_A.sl.v653 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v667 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  exact i14

theorem diag_blk2 (h : Inv arg14.view arg15.view S V arg14.view.junk arg15.view.junk (kernelRun0_A.sl.HS0_14 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_14 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 2], ![0, 1, 2, 2]] ![![1, 1, 0, 0], ![1, 1, 0, 0]]))
    (hs : ∀ hh R j, ScoreBlk (S hh R) (n + 512 * j.val) (kD i arg4 arg5 (harg4.unread x1) (harg5.unread x2) hh j) (qT arg3 (harg3.unread x0) hh R))
    (hv : ∀ hh j, ValBlk (V hh) (n + 512 * j.val) (vD i arg6 (harg6.unread x3) hh j)) :
    Inv arg14.view arg15.view S V arg14.view.junk arg15.view.junk (kernelRun0_A.sl.HS0_18 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_18 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 3], ![0, 1, 2, 3]] ![![1, 1, 1, 0], ![1, 1, 1, 0]]) := by
  have i15 : Inv arg14.view arg15.view S V arg14.view.junk arg15.view.junk (kernelRun0_A.sl.HS0_15 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_15 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 2], ![0, 1, 2, 2]] ![![1, 1, 1, 0], ![1, 1, 0, 0]]) :=
    h.diagMask 0 2 ![![1, 1, 1, 0], ![1, 1, 0, 0]] (by decide) rfl rfl (hs 0 2 2) (hv 0 2) (M := (kernelRun0_A.sl.v750 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v764 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i16 : Inv arg14.view arg15.view S V arg14.view.junk arg15.view.junk (kernelRun0_A.sl.HS0_16 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_16 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 3], ![0, 1, 2, 2]] ![![1, 1, 1, 0], ![1, 1, 0, 0]]) :=
    i15.diagFull 0 3 ![![0, 1, 2, 3], ![0, 1, 2, 2]] (by decide) rfl rfl (hs 0 3 2) (hv 0 2) (M := (kernelRun0_A.sl.v777 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v791 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i17 : Inv arg14.view arg15.view S V arg14.view.junk arg15.view.junk (kernelRun0_A.sl.HS0_17 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_17 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 3], ![0, 1, 2, 2]] ![![1, 1, 1, 0], ![1, 1, 1, 0]]) :=
    i16.diagMask 1 2 ![![1, 1, 1, 0], ![1, 1, 1, 0]] (by decide) rfl rfl (hs 1 2 2) (hv 1 2) (M := (kernelRun0_A.sl.v871 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v885 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  have i18 : Inv arg14.view arg15.view S V arg14.view.junk arg15.view.junk (kernelRun0_A.sl.HS0_18 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_18 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 3], ![0, 1, 2, 3]] ![![1, 1, 1, 0], ![1, 1, 1, 0]]) :=
    i17.diagFull 1 3 ![![0, 1, 2, 3], ![0, 1, 2, 3]] (by decide) rfl rfl (hs 1 3 2) (hv 1 2) (M := (kernelRun0_A.sl.v898 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v912 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  exact i18

theorem diag_blk3 (h : Inv arg14.view arg15.view S V arg14.view.junk arg15.view.junk (kernelRun0_A.sl.HS0_18 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_18 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 3], ![0, 1, 2, 3]] ![![1, 1, 1, 0], ![1, 1, 1, 0]]))
    (hs : ∀ hh R j, ScoreBlk (S hh R) (n + 512 * j.val) (kD i arg4 arg5 (harg4.unread x1) (harg5.unread x2) hh j) (qT arg3 (harg3.unread x0) hh R))
    (hv : ∀ hh j, ValBlk (V hh) (n + 512 * j.val) (vD i arg6 (harg6.unread x3) hh j)) :
    ∃ L14, Inv arg14.view arg15.view S V arg14.view.junk arg15.view.junk L14 (kernelRun0_A.sl.HS1_20 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 3], ![0, 1, 2, 3]] ![![1, 1, 1, 1], ![1, 1, 1, 1]]) := by
  have i19 : Inv arg14.view arg15.view S V arg14.view.junk arg15.view.junk (kernelRun0_A.sl.HS0_19 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (kernelRun0_A.sl.HS1_19 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (cntD n ![![0, 1, 2, 3], ![0, 1, 2, 3]] ![![1, 1, 1, 1], ![1, 1, 1, 0]]) :=
    h.diagMask 0 3 ![![1, 1, 1, 1], ![1, 1, 1, 0]] (by decide) rfl rfl (hs 0 3 3) (hv 0 3) (M := (kernelRun0_A.sl.v995 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v1009 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl
  exact ⟨_, i19.diagMask 1 3 ![![1, 1, 1, 1], ![1, 1, 1, 1]] (by decide) rfl rfl (hs 1 3 3) (hv 1 3) (M := (kernelRun0_A.sl.v1089 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) (A := (kernelRun0_A.sl.v1103 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)) rfl rfl⟩

end Cert.AttnIdeal.AttnVal

end
-- ==== Proof.AttnPoint.lean ====
/-
  One grid point: what the two scratch buffers hold after it, from the point's blocks of queries, keys and values.
-/
module

public import proofs.«01_k».proof.Proof.AttnDiag
public import Idealize.ShloMosaic.Lib.Pipeline.ReadBack

@[expose] public section

set_option maxRecDepth 16384

noncomputable section

namespace Cert.AttnIdeal.AttnVal

open Cert.AttnIdeal Cert.AttnIdeal.Gen
open Idealize.ShloMosaic Idealize.SL.Sem

/-- A load through a rectangle of a whole buffer reads the buffer's value there. -/
theorem readAt_unread {s : Shape} {e : EltTy} {m : Memref sig .tc .vmem s e} (hm : m.IsWhole) (x : Vec Ideal s e) (r : Rect s)
    (j : r.toLoadRect.shape.Idx) : View.readAt (Elt Ideal) m.view r.toLoadRect (hm.unread x) j = x (r.idx j) := by
  rw [View.readAt_eq_ld, hm.read_unread]

section data

variable (qd : Fin 2048 → Fin 512 → ℝ) (kd : Fin 4096 → Fin 256 → ℝ) (pd : Fin 4096 → Fin 128 → ℝ) (x3 : Vec Ideal S4096x256 .bf16)

/-- Entry `l` of key `j` of head `hh`. -/
def keyd (hh : Fin 2) (j : Fin 4096) (l : Fin 256) : ℝ :=
  if h : l.val < 128 then kd j ⟨128 * hh.val + l.val, by omega⟩ else pd j ⟨l.val - 128, by omega⟩

/-- The score of row `r` of slot `(hh, R)` against key `j`. -/
def Sd (hh : Fin 2) (R : Fin 4) (r : Fin 512) (j : ℕ) : ℝ :=
  if h : j < 4096 then ∑ l : Fin 256, qd ⟨512 * R.val + r.val, by omega⟩ ⟨256 * hh.val + l.val, by omega⟩ * keyd kd pd hh ⟨j, h⟩ l else 0

/-- The value of key `j` in head `hh`. -/
def Vd (hh : Fin 2) (j : ℕ) (l : Fin 128) : EReal :=
  if h : j < 4096 then x3 (ix2 ⟨j, h⟩ ⟨128 * hh.val + l.val, by omega⟩) else 0

end data

theorem key_apply (a b : Vec Ideal S512x128 .bf16) (j : Fin 512) (l : Fin 256) :
    k0_pay2 a b (ix2 j l) = if h : l.val < 128 then a (ix2 j ⟨l.val, h⟩) else b (ix2 j ⟨l.val - 128, by omega⟩) := by
  pointwise [k0_pay2]

theorem one_bf16 : Ideal.ofBits FTy.bf16 16256#16 = 1 := by
  simp [Ideal.ofBits, Ideal.ieee, -EReal.coe_mul]
  norm_num

theorem val_apply (a : Vec Ideal S512x128 .bf16) (j : Fin 512) (l : Fin 256) :
    k0_pay3 a (ix2 j l) = if h : l.val < 128 then a (ix2 j ⟨l.val, h⟩) else (1 : EReal) := by
  pointwise [k0_pay3, one_bf16]

theorem q_apply {arg3 : Memref sig .tc .vmem S2048x512 .bf16} (harg3 : arg3.IsWhole) (x0 : Vec Ideal S2048x512 .bf16) (hh : Fin 2) (R : Fin 4)
    (r : Fin 512) (l : Fin 256) :
    qT arg3 (harg3.unread x0) hh R (ix2 r l) = x0 (ix2 ⟨512 * R.val + r.val, by omega⟩ ⟨256 * hh.val + l.val, by omega⟩) := by
  unfold qT
  rw [readAt_unread]
  congr 1
  funext a
  apply Fin.ext
  match a with
  | 0 => show 512 * R.val + 1 * r.val = 512 * R.val + r.val; rw [one_mul]
  | 1 => show 256 * hh.val + 1 * l.val = 256 * hh.val + l.val; rw [one_mul]

theorem two (i : grid0.Coords) : (i 2).val = 0 ∨ (i 2).val = 1 := by
  have h : (i 2).val < 2 := (i 2).isLt
  omega

theorem off7_eq (i : grid0.Coords) : ∀ j : Fin 4, k0_off7 i (BitVec.ofNat 32 (512 * j.val)) = ![2048 * (i 2).val + 512 * j.val, 0] := by
  unfold k0_off7
  rcases two i with h | h <;> rw [h] <;> decide

theorem off8_eq (i : grid0.Coords) : ∀ j : Fin 4, k0_off8 i (BitVec.ofNat 32 (512 * j.val)) = ![2048 * (i 2).val + 512 * j.val, 0] := by
  unfold k0_off8
  rcases two i with h | h <;> rw [h] <;> decide

theorem off9_eq (i : grid0.Coords) : ∀ j : Fin 4, k0_off9 i (BitVec.ofNat 32 (512 * j.val)) = ![2048 * (i 2).val + 512 * j.val, 128] := by
  unfold k0_off9
  rcases two i with h | h <;> rw [h] <;> decide

theorem trips1 (i : grid0.Coords) : (k0_t1_loop i).trips = (i 2).val := by
  unfold k0_t1_loop
  rcases two i with h | h <;> rw [h] <;> decide

theorem trips2 (i : grid0.Coords) : (k0_t2_loop i).trips = 0 := by
  unfold k0_t2_loop
  rcases two i with h | h <;> rw [h] <;> decide

theorem k_zero (i : grid0.Coords) (k : Fin (k0_t1_loop i).trips) : k.val = 0 := by
  have := k.isLt
  have h := trips1 i
  rcases two i with h' | h' <;> omega

theorem off1_eq (i : grid0.Coords) (k : Fin (k0_t1_loop i).trips) (j : Fin 4) :
    k0_off1 i k (BitVec.ofNat 32 (512 * j.val)) = ![512 * j.val, 0] := by
  unfold k0_off1
  rw [k_zero i k]
  revert j
  decide

theorem off2_eq (i : grid0.Coords) (k : Fin (k0_t1_loop i).trips) (j : Fin 4) :
    k0_off2 i k (BitVec.ofNat 32 (512 * j.val)) = ![512 * j.val, 0] := by
  unfold k0_off2
  rw [k_zero i k]
  revert j
  decide

theorem off3_eq (i : grid0.Coords) (k : Fin (k0_t1_loop i).trips) (j : Fin 4) :
    k0_off3 i k (BitVec.ofNat 32 (512 * j.val)) = ![512 * j.val, 128] := by
  unfold k0_off3
  rw [k_zero i k]
  revert j
  decide

/-- A load of 512 rows by 128 columns. -/
theorem blk_apply {s0 s1 : ℕ} {m : Memref sig .tc .vmem ⟨2, ![s0, s1]⟩ .bf16} (hm : m.IsWhole) (x : Vec Ideal ⟨2, ![s0, s1]⟩ .bf16)
    (off : Fin 2 → ℕ) (inb : ∀ a, off a + S512x128.size a ≤ (⟨2, ![s0, s1]⟩ : Shape).size a) (o0 o1 : ℕ) (ho : off = ![o0, o1]) (j : Fin 512)
    (l : Fin 128) (h0 : o0 + j.val < s0) (h1 : o1 + l.val < s1) :
    View.readAt (Elt Ideal) m.view (Rect.unit (s := ⟨2, ![s0, s1]⟩) off S512x128.size inb).toLoadRect (hm.unread x) (ix2 j l)
      = x (ix2 ⟨o0 + j.val, h0⟩ ⟨o1 + l.val, h1⟩) := by
  subst ho
  rw [readAt_unread]
  congr 1
  funext a
  apply Fin.ext
  match a with
  | 0 => show o0 + 1 * j.val = o0 + j.val; rw [one_mul]
  | 1 => show o1 + 1 * l.val = o1 + l.val; rw [one_mul]

theorem ldD_apply (i : grid0.Coords) {m : Memref sig .tc .vmem S4096x256 .bf16} (hm : m.IsWhole) (x : Vec Ideal S4096x256 .bf16)
    (hh : Fin 2) (j : Fin 4) (jj : Fin 512) (l : Fin 128) (hn : 2048 * (i 2).val + 512 * j.val + jj.val < 4096) :
    ldD i m (hm.unread x) hh j (ix2 jj l) = x (ix2 ⟨2048 * (i 2).val + 512 * j.val + jj.val, hn⟩ ⟨128 * hh.val + l.val, by omega⟩) := by
  match hh with
  | 0 =>
    refine (blk_apply hm x _ _ _ _ (off7_eq i j) jj l hn (by omega)).trans ?_
    congr 1
  | 1 =>
    refine (blk_apply hm x _ _ _ _ (off9_eq i j) jj l hn (by omega)).trans ?_
    congr 1

theorem ldT_apply (i : grid0.Coords) {m : Memref sig .tc .vmem S4096x256 .bf16} (hm : m.IsWhole) (x : Vec Ideal S4096x256 .bf16)
    (k : Fin (k0_t1_loop i).trips) (hh : Fin 2) (j : Fin 4) (jj : Fin 512) (l : Fin 128) (hn : 512 * j.val + jj.val < 4096) :
    ldT i m (hm.unread x) k hh j (ix2 jj l) = x (ix2 ⟨512 * j.val + jj.val, hn⟩ ⟨128 * hh.val + l.val, by omega⟩) := by
  match hh with
  | 0 =>
    refine (blk_apply hm x _ _ _ _ (off1_eq i k j) jj l hn (by omega)).trans ?_
    congr 1
  | 1 =>
    refine (blk_apply hm x _ _ _ _ (off3_eq i k j) jj l hn (by omega)).trans ?_
    congr 1

/-- A sum of products of reals. -/
theorem dot_coe {n : ℕ} (a b : Fin n → ℝ) : ∑ l, ((a l : ℝ) : EReal) * ((b l : ℝ) : EReal) = ((∑ l, a l * b l : ℝ) : EReal) := by
  rw [← Finset.sum_congr rfl (fun l _ => EReal.coe_mul (a l) (b l))]
  induction (Finset.univ : Finset (Fin n)) using Finset.induction_on with
  | empty => simp
  | insert x s hx ih => rw [Finset.sum_insert hx, Finset.sum_insert hx, EReal.coe_add, ih]

variable (c : Dev nD) (i : grid0.Coords)
  (arg3 : Memref sig .tc .vmem S2048x512 .bf16) (harg3 : arg3.IsWhole) (arg4 : Memref sig .tc .vmem S4096x256 .bf16) (harg4 : arg4.IsWhole)
  (arg5 : Memref sig .tc .vmem S4096x128 .bf16) (harg5 : arg5.IsWhole) (arg6 : Memref sig .tc .vmem S4096x256 .bf16) (harg6 : arg6.IsWhole)
  (arg7 : Memref sig .tc .vmem S64x2048 .f32) (harg7 : arg7.IsWhole) (arg8 : Memref sig .tc .vmem S64x2048 .f32) (harg8 : arg8.IsWhole)
  (arg9 : Memref sig .tc .vmem S64x2048 .f32) (harg9 : arg9.IsWhole) (arg10 : Memref sig .tc .vmem S2048x256 .bf16) (harg10 : arg10.IsWhole)
  (arg11 : Memref sig .tc .vmem S64x2048 .bf16) (harg11 : arg11.IsWhole) (arg12 : Memref sig .tc .vmem S64x2048 .bf16) (harg12 : arg12.IsWhole)
  (arg13 : Memref sig .tc .vmem S64x2048 .bf16) (harg13 : arg13.IsWhole) (arg14 : Memref sig .tc .vmem S2x2048x128 .f32) (harg14 : arg14.IsWhole)
  (arg15 : Memref sig .tc .vmem S2x2048x256 .f32) (harg15 : arg15.IsWhole)
  (x0 : Vec Ideal S2048x512 .bf16) (x1 : Vec Ideal S4096x256 .bf16) (x2 : Vec Ideal S4096x128 .bf16) (x3 : Vec Ideal S4096x256 .bf16)
  (qd : Fin 2048 → Fin 512 → ℝ) (kd : Fin 4096 → Fin 256 → ℝ) (pd : Fin 4096 → Fin 128 → ℝ)
  (h0 : ∀ a b, x0 (ix2 a b) = ((qd a b : ℝ) : EReal)) (h1 : ∀ a b, x1 (ix2 a b) = ((kd a b : ℝ) : EReal))
  (h2 : ∀ a b, x2 (ix2 a b) = ((pd a b : ℝ) : EReal))

include h0 h1 h2

/-- A block of scores from the reads of its queries and its keys. -/
theorem scoreBlk_of (hh : Fin 2) (R : Fin 4) (n : ℕ) (hn : n + 512 ≤ 4096) (a b : Vec Ideal S512x128 .bf16)
    (ha : ∀ (jj : Fin 512) (l : Fin 128), a (ix2 jj l) = x1 (ix2 ⟨n + jj.val, by omega⟩ ⟨128 * hh.val + l.val, by omega⟩))
    (hb : ∀ (jj : Fin 512) (l : Fin 128), b (ix2 jj l) = x2 (ix2 ⟨n + jj.val, by omega⟩ l)) :
    ScoreBlk (Sd qd kd pd hh R) n (k0_pay2 a b) (qT arg3 (harg3.unread x0) hh R) := by
  intro r j
  rw [scores_apply]
  unfold Sd
  rw [dif_pos (show n + j.val < 4096 by omega), ← dot_coe]
  refine Finset.sum_congr rfl fun l _ => ?_
  rw [q_apply, h0, key_apply]
  unfold keyd
  by_cases hl : l.val < 128
  · rw [dif_pos hl, dif_pos hl, ha, h1]
  · rw [dif_neg hl, dif_neg hl, hb, h2]

omit h0 h1 h2 in
theorem valBlk_of (hh : Fin 2) (n : ℕ) (hn : n + 512 ≤ 4096) (a : Vec Ideal S512x128 .bf16)
    (ha : ∀ (jj : Fin 512) (l : Fin 128), a (ix2 jj l) = x3 (ix2 ⟨n + jj.val, by omega⟩ ⟨128 * hh.val + l.val, by omega⟩)) :
    ValBlk (Vd x3 hh) n (k0_pay3 a) := by
  intro j l
  rw [val_apply, val_apply]
  refine ⟨?_, ?_⟩
  · rw [dif_pos (show l.val < 128 from l.isLt), ha]
    unfold Vd
    rw [dif_pos (show n + j.val < 4096 by omega)]
  · rw [dif_neg (show ¬(128 + l.val < 128) by omega)]

theorem scoreD (hh : Fin 2) (R j : Fin 4) :
    ScoreBlk (Sd qd kd pd hh R) (2048 * (i 2).val + 512 * j.val) (kD i arg4 arg5 (harg4.unread x1) (harg5.unread x2) hh j)
      (qT arg3 (harg3.unread x0) hh R) := by
  have h := two i
  refine scoreBlk_of arg3 harg3 x0 x1 x2 qd kd pd h0 h1 h2 hh R _ (by omega) _ _ (fun jj l => ldD_apply i harg4 x1 hh j jj l (by omega))
    (fun jj l => (blk_apply harg5 x2 _ _ _ _ (off8_eq i j) jj l (by omega) (by omega)).trans ?_)
  congr 1
  funext a
  apply Fin.ext
  match a with
  | 0 => rfl
  | 1 => exact Nat.zero_add _

omit h0 h1 h2 in
theorem valD (hh : Fin 2) (j : Fin 4) :
    ValBlk (Vd x3 hh) (2048 * (i 2).val + 512 * j.val) (vD i arg6 (harg6.unread x3) hh j) := by
  have h := two i
  exact valBlk_of x3 hh _ (by omega) _ (fun jj l => ldD_apply i harg6 x3 hh j jj l (by omega))

theorem scoreT (k : Fin (k0_t1_loop i).trips) (hh : Fin 2) (R j : Fin 4) :
    ScoreBlk (Sd qd kd pd hh R) (0 + 512 * j.val) (kT i arg4 arg5 (harg4.unread x1) (harg5.unread x2) k hh j)
      (qT arg3 (harg3.unread x0) hh R) := by
  rw [Nat.zero_add]
  refine scoreBlk_of arg3 harg3 x0 x1 x2 qd kd pd h0 h1 h2 hh R _ (by omega) _ _ (fun jj l => ldT_apply i harg4 x1 k hh j jj l (by omega))
    (fun jj l => (blk_apply harg5 x2 _ _ _ _ (off2_eq i k j) jj l (by omega) (by omega)).trans ?_)
  congr 1
  funext a
  apply Fin.ext
  match a with
  | 0 => rfl
  | 1 => exact Nat.zero_add _

omit h0 h1 h2 in
theorem valT (k : Fin (k0_t1_loop i).trips) (hh : Fin 2) (j : Fin 4) :
    ValBlk (Vd x3 hh) (0 + 512 * j.val) (vT i arg6 (harg6.unread x3) k hh j) := by
  rw [Nat.zero_add]
  exact valBlk_of x3 hh _ (by omega) _ (fun jj l => ldT_apply i harg6 x3 k hh j jj l (by omega))

omit h0 h1 h2 in
theorem ninf_fill (y : S2x2048x128.Idx) : (k0_pay403 (F := Ideal)) y = ⊥ := by
  obtain ⟨a, b, d, rfl⟩ : ∃ a b d, y = ix3 a b d := ⟨y 0, y 1, y 2, by funext z; match z with | 0 => rfl | 1 => rfl | 2 => rfl⟩
  pointwise [k0_pay403]
  exact ninf

omit h0 h1 h2 in
theorem zero_fill (y : S2x2048x256.Idx) : (k0_pay404 (F := Ideal)) y = 0 := by
  obtain ⟨a, b, d, rfl⟩ : ∃ a b d, y = ix3 a b d := ⟨y 0, y 1, y 2, by funext z; match z with | 0 => rfl | 1 => rfl | 2 => rfl⟩
  pointwise [k0_pay404]

omit h0 h1 h2 in
/-- The fills leave every slot with no key taken in. -/
theorem fill_good (hh : Fin 2) (R : Fin 4) :
    Good (Sd qd kd pd hh R) (Vd x3 hh) (fun _ => 0)
      (arg14.view.readAt (Elt Ideal) (slotM hh R).toLoadRect (arg14.view.writes (Elt Ideal) arg14.view.junk (kernelRun0_A.sl.HS0_1 (F := Ideal))))
      (arg15.view.readAt (Elt Ideal) (slotA hh R).toLoadRect (arg15.view.writes (Elt Ideal) arg15.view.junk (kernelRun0_A.sl.HS1_1 (F := Ideal)))) := by
  have e14 : arg14.view.readAt (Elt Ideal) (slotM hh R).toLoadRect (arg14.view.writes (Elt Ideal) arg14.view.junk (kernelRun0_A.sl.HS0_1 (F := Ideal))) = View.ld (k0_pay403 (F := Ideal)) (slotM hh R) :=
    View.readCov_fill arg14.view _ _ _ _ (by decide)
  have e15 : arg15.view.readAt (Elt Ideal) (slotA hh R).toLoadRect (arg15.view.writes (Elt Ideal) arg15.view.junk (kernelRun0_A.sl.HS1_1 (F := Ideal))) = View.ld (k0_pay404 (F := Ideal)) (slotA hh R) :=
    View.readCov_fill arg15.view _ _ _ _ (by decide)
  rw [e14, e15]
  intro r
  refine Or.inl ⟨rfl, fun l => ⟨ninf_fill _, zero_fill _, zero_fill _⟩⟩

omit h0 h1 h2 in
theorem before14_zero (h : (i 2).val = 0) : before14 c i arg3 harg3 arg4 harg4 arg5 harg5 arg6 harg6 arg7 harg7 arg8 harg8 arg9 harg9 arg10 harg10 arg11 harg11 arg12 harg12 arg13 harg13 arg14 harg14 arg15 harg15 x0 x1 x2 x3 = (kernelRun0_A.sl.HS0_1 (F := Ideal)) := by
  unfold before14
  rw [show Scf.trips (k0_t2_loop i).lb (k0_t2_loop i).ub (k0_t2_loop i).st = 0 from trips2 i,
    show Scf.trips (k0_t1_loop i).lb (k0_t1_loop i).ub (k0_t1_loop i).st = 0 from (trips1 i).trans h, pb_k0_t2.eq_1, pb_k0_t1.eq_1]
  rfl

omit h0 h1 h2 in
theorem before15_zero (h : (i 2).val = 0) : before15 c i arg3 harg3 arg4 harg4 arg5 harg5 arg6 harg6 arg7 harg7 arg8 harg8 arg9 harg9 arg10 harg10 arg11 harg11 arg12 harg12 arg13 harg13 arg14 harg14 arg15 harg15 x0 x1 x2 x3 = (kernelRun0_A.sl.HS1_1 (F := Ideal)) := by
  unfold before15
  rw [show Scf.trips (k0_t2_loop i).lb (k0_t2_loop i).ub (k0_t2_loop i).st = 0 from trips2 i,
    show Scf.trips (k0_t1_loop i).lb (k0_t1_loop i).ub (k0_t1_loop i).st = 0 from (trips1 i).trans h, pb_k0_t2.eq_1, pb_k0_t1.eq_1]
  rfl

/-- Before the diagonal, every slot has taken in the keys of the row blocks before its own. -/
theorem before_inv : Inv arg14.view arg15.view (Sd qd kd pd) (Vd x3) arg14.view.junk arg15.view.junk (before14 c i arg3 harg3 arg4 harg4 arg5 harg5 arg6 harg6 arg7 harg7 arg8 harg8 arg9 harg9 arg10 harg10 arg11 harg11 arg12 harg12 arg13 harg13 arg14 harg14 arg15 harg15 x0 x1 x2 x3) (before15 c i arg3 harg3 arg4 harg4 arg5 harg5 arg6 harg6 arg7 harg7 arg8 harg8 arg9 harg9 arg10 harg10 arg11 harg11 arg12 harg12 arg13 harg13 arg14 harg14 arg15 harg15 x0 x1 x2 x3) (cntD (2048 * (i 2).val) ![![0, 0, 0, 0], ![0, 0, 0, 0]] ![![0, 0, 0, 0], ![0, 0, 0, 0]]) := by
  have hz : ∀ n hh R, cntD n ![![0, 0, 0, 0], ![0, 0, 0, 0]] ![![0, 0, 0, 0], ![0, 0, 0, 0]] hh R = fun _ => n := by
    intro n hh R
    funext r
    unfold cntD
    have e : (![![0, 0, 0, 0], ![0, 0, 0, 0]] : Fin 2 → Fin 4 → ℕ) hh R = 0 := by revert hh R; decide
    rw [e, mul_zero, zero_mul]
    rfl
  rcases two i with h | h
  · rw [before14_zero _ _ _ _ _ _ _ _ _ _ _ _ _ _ _ _ _ _ _ _ _ _ _ _ _ _ _ _ _ _ _ _ h, before15_zero _ _ _ _ _ _ _ _ _ _ _ _ _ _ _ _ _ _ _ _ _ _ _ _ _ _ _ _ _ _ _ _ h]
    refine ⟨fun hh R => ?_⟩
    rw [hz, h]
    exact fill_good _ _ _ _ _ _ hh R
  · have k1 : 0 < (k0_t1_loop i).trips := by rw [trips1, h]; exact Nat.one_pos
    have ht1 : Scf.trips (k0_t1_loop i).lb (k0_t1_loop i).ub (k0_t1_loop i).st = 0 + 1 := (trips1 i).trans h
    have e := pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 (harg3.unread x0) (harg4.unread x1) (harg5.unread x2) (harg6.unread x3) (arg14.view.writes (Elt Ideal) arg14.view.junk (kernelRun0_A.sl.HS0_1 (F := Ideal))) (arg15.view.writes (Elt Ideal) arg15.view.junk (kernelRun0_A.sl.HS1_1 (F := Ideal))) ⟨0, k1⟩
    rw [show ((⟨0, k1⟩ : Fin (k0_t1_loop i).trips) : ℕ) = 0 from rfl, pb_k0_t1.eq_1] at e
    have i8 := trip_first i arg3 arg4 arg5 arg6 arg14 arg15 (harg3.unread x0) (harg4.unread x1) (harg5.unread x2) (harg6.unread x3) ⟨0, k1⟩ (arg14.view.writes (Elt Ideal) arg14.view.junk (kernelRun0_A.sl.HS0_1 (F := Ideal))) (arg15.view.writes (Elt Ideal) arg15.view.junk (kernelRun0_A.sl.HS1_1 (F := Ideal))) (Sd qd kd pd) (Vd x3) 0
      (fun hh R => fill_good _ _ _ _ _ _ hh R) (fun hh R => scoreT _ _ _ _ _ _ _ _ _ _ _ _ _ h0 h1 h2 ⟨0, k1⟩ hh R 0)
      (fun hh => valT _ _ _ _ ⟨0, k1⟩ hh 0)
    have i16 := trip_blk1 i arg3 arg4 arg5 arg6 arg14 arg15 (harg3.unread x0) (harg4.unread x1) (harg5.unread x2) (harg6.unread x3) ⟨0, k1⟩ (arg14.view.writes (Elt Ideal) arg14.view.junk (kernelRun0_A.sl.HS0_1 (F := Ideal))) (arg15.view.writes (Elt Ideal) arg15.view.junk (kernelRun0_A.sl.HS1_1 (F := Ideal))) (Sd qd kd pd) (Vd x3) 0 i8
      (fun hh R => scoreT _ _ _ _ _ _ _ _ _ _ _ _ _ h0 h1 h2 ⟨0, k1⟩ hh R 1) (fun hh => valT _ _ _ _ ⟨0, k1⟩ hh 1)
    have i24 := trip_blk2 i arg3 arg4 arg5 arg6 arg14 arg15 (harg3.unread x0) (harg4.unread x1) (harg5.unread x2) (harg6.unread x3) ⟨0, k1⟩ (arg14.view.writes (Elt Ideal) arg14.view.junk (kernelRun0_A.sl.HS0_1 (F := Ideal))) (arg15.view.writes (Elt Ideal) arg15.view.junk (kernelRun0_A.sl.HS1_1 (F := Ideal))) (Sd qd kd pd) (Vd x3) 0 i16
      (fun hh R => scoreT _ _ _ _ _ _ _ _ _ _ _ _ _ h0 h1 h2 ⟨0, k1⟩ hh R 2) (fun hh => valT _ _ _ _ ⟨0, k1⟩ hh 2)
    have i32 := trip_blk3 Variants.none c none i arg3 harg3 arg4 harg4 arg5 harg5 arg6 harg6 arg7 harg7 arg8 harg8 arg9 harg9 arg10 harg10 arg11 harg11 arg12 harg12 arg13 harg13 arg14 harg14 arg15 harg15 (harg3.unread x0) (harg4.unread x1) (harg5.unread x2) (harg6.unread x3) ⟨0, k1⟩ (arg14.view.writes (Elt Ideal) arg14.view.junk (kernelRun0_A.sl.HS0_1 (F := Ideal))) (arg15.view.writes (Elt Ideal) arg15.view.junk (kernelRun0_A.sl.HS1_1 (F := Ideal))) (Sd qd kd pd) (Vd x3) 0 i24
      (fun hh R => scoreT _ _ _ _ _ _ _ _ _ _ _ _ _ h0 h1 h2 ⟨0, k1⟩ hh R 3) (fun hh => valT _ _ _ _ ⟨0, k1⟩ hh 3)
    refine ⟨fun hh R => ?_⟩
    have hg := i32.inv.good hh R
    have e32 : cntT 0 32 hh R = fun _ => 2048 * (i 2).val := by
      funext r
      unfold cntT
      omega
    rw [e32, ← View.writes_append, ← View.writes_append] at hg
    rw [hz]
    unfold before14 before15
    rw [show Scf.trips (k0_t2_loop i).lb (k0_t2_loop i).ub (k0_t2_loop i).st = 0 from trips2 i, pb_k0_t2.eq_1, ht1, e]
    simp only [List.nil_append, List.append_nil, View.writes_nil]
    exact hg

/-- After the point, every row has taken in its keys up to its own chunk. -/
theorem after_inv : ∃ L14, Inv arg14.view arg15.view (Sd qd kd pd) (Vd x3) arg14.view.junk arg15.view.junk L14 (kernelRun0_A.sl.HS1_20 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3)
    (cntD (2048 * (i 2).val) ![![0, 1, 2, 3], ![0, 1, 2, 3]] ![![1, 1, 1, 1], ![1, 1, 1, 1]]) := by
  have hs := scoreD i arg3 harg3 arg4 harg4 arg5 harg5 x0 x1 x2 qd kd pd h0 h1 h2
  have hv := valD i arg6 harg6 x3
  have b0 := before_inv c i arg3 harg3 arg4 harg4 arg5 harg5 arg6 harg6 arg7 harg7 arg8 harg8 arg9 harg9 arg10 harg10 arg11 harg11 arg12 harg12 arg13 harg13 arg14 harg14 arg15 harg15 x0 x1 x2 x3 qd kd pd h0 h1 h2
  exact diag_blk3 c i arg3 harg3 arg4 harg4 arg5 harg5 arg6 harg6 arg7 harg7 arg8 harg8 arg9 harg9 arg10 harg10 arg11 harg11 arg12 harg12 arg13 harg13 arg14 harg14 arg15 harg15 x0 x1 x2 x3 _ _ _ (diag_blk2 c i arg3 harg3 arg4 harg4 arg5 harg5 arg6 harg6 arg7 harg7 arg8 harg8 arg9 harg9 arg10 harg10 arg11 harg11 arg12 harg12 arg13 harg13 arg14 harg14 arg15 harg15 x0 x1 x2 x3 _ _ _ (diag_blk1 c i arg3 harg3 arg4 harg4 arg5 harg5 arg6 harg6 arg7 harg7 arg8 harg8 arg9 harg9 arg10 harg10 arg11 harg11 arg12 harg12 arg13 harg13 arg14 harg14 arg15 harg15 x0 x1 x2 x3 _ _ _ (diag_blk0 c i arg3 harg3 arg4 harg4 arg5 harg5 arg6 harg6 arg7 harg7 arg8 harg8 arg9 harg9 arg10 harg10 arg11 harg11 arg12 harg12 arg13 harg13 arg14 harg14 arg15 harg15 x0 x1 x2 x3 _ _ _ b0 hs hv) hs hv) hs hv) hs hv

end Cert.AttnIdeal.AttnVal

end
-- ==== Proof.AttnOut.lean ====
/-
  What a grid point writes: every row's weighted mean of the values of the keys up to its own chunk.
-/
module

public import proofs.«01_k».proof.Proof.AttnPoint

@[expose] public section

set_option maxRecDepth 16384

noncomputable section

namespace Cert.AttnIdeal.AttnVal

open Cert.AttnIdeal Cert.AttnIdeal.Gen
open Idealize.ShloMosaic Idealize.SL.Sem

/-- The mean of the values `V` of the first `n` keys, weighted by powers of two of the scores `S`. -/
def soft (S : ℕ → ℝ) (V : ℕ → EReal) (n : ℕ) : EReal :=
  ∑ j ∈ Finset.range n, (((2 : ℝ) ^ S j / ∑ i ∈ Finset.range n, (2 : ℝ) ^ S i : ℝ) : EReal) * V j

theorem sum_wt (S : ℕ → ℝ) (μ : ℝ) (n : ℕ) :
    ∑ j ∈ Finset.range n, wt (S j) μ = ((∑ j ∈ Finset.range n, (2 : ℝ) ^ (S j - μ) : ℝ) : EReal) := by
  induction n with
  | zero => simp
  | succ n ih => rw [Finset.sum_range_succ, Finset.sum_range_succ, EReal.coe_add, ih]; rfl

/-- A row's quotient. -/
theorem RowOK.div {S : ℕ → ℝ} {V : ℕ → Fin 128 → EReal} {n : ℕ} {m a d : Fin 128 → EReal} (h : RowOK S V n m a d) (hn : 0 < n)
    (l : Fin 128) : Ideal.div (a l) (d l) = soft S (fun j => V j l) n := by
  obtain ⟨h0, -⟩ | ⟨μ, h⟩ := h
  · omega
  obtain ⟨-, ha, hd⟩ := h l
  have hpos : 0 < ∑ j ∈ Finset.range n, (2 : ℝ) ^ (S j - μ) :=
    Finset.sum_pos (fun j _ => Real.rpow_pos_of_pos (by norm_num) _) ⟨0, Finset.mem_range.mpr hn⟩
  have hpos' : 0 < ∑ j ∈ Finset.range n, (2 : ℝ) ^ S j :=
    Finset.sum_pos (fun j _ => Real.rpow_pos_of_pos (by norm_num) _) ⟨0, Finset.mem_range.mpr hn⟩
  rw [ha, hd, sum_wt]
  unfold Ideal.div
  rw [if_neg (by rw [EReal.coe_eq_zero]; exact hpos.ne'), ← EReal.coe_inv, mul_comm, real_mul_sum _ _ (inv_nonneg.mpr hpos.le)]
  unfold soft
  refine Finset.sum_congr rfl fun j _ => ?_
  rw [← mul_assoc]
  congr 1
  show ((_ : ℝ) : EReal) * (((2 : ℝ) ^ (S j - μ) : ℝ) : EReal) = _
  rw [← EReal.coe_mul]
  congr 1
  have hz : ∀ j, (2 : ℝ) ^ (S j - μ) = (2 : ℝ) ^ S j / (2 : ℝ) ^ μ := fun j => Real.rpow_sub (by norm_num) _ _
  have hμ : (2 : ℝ) ^ μ ≠ 0 := (Real.rpow_pos_of_pos (by norm_num) _).ne'
  simp only [hz]
  rw [← Finset.sum_div]
  field_simp

variable (c : Dev nD) (i : grid0.Coords)
  (arg3 : Memref sig .tc .vmem S2048x512 .bf16) (harg3 : arg3.IsWhole) (arg4 : Memref sig .tc .vmem S4096x256 .bf16) (harg4 : arg4.IsWhole)
  (arg5 : Memref sig .tc .vmem S4096x128 .bf16) (harg5 : arg5.IsWhole) (arg6 : Memref sig .tc .vmem S4096x256 .bf16) (harg6 : arg6.IsWhole)
  (arg7 : Memref sig .tc .vmem S64x2048 .f32) (harg7 : arg7.IsWhole) (arg8 : Memref sig .tc .vmem S64x2048 .f32) (harg8 : arg8.IsWhole)
  (arg9 : Memref sig .tc .vmem S64x2048 .f32) (harg9 : arg9.IsWhole) (arg10 : Memref sig .tc .vmem S2048x256 .bf16) (harg10 : arg10.IsWhole)
  (arg11 : Memref sig .tc .vmem S64x2048 .bf16) (harg11 : arg11.IsWhole) (arg12 : Memref sig .tc .vmem S64x2048 .bf16) (harg12 : arg12.IsWhole)
  (arg13 : Memref sig .tc .vmem S64x2048 .bf16) (harg13 : arg13.IsWhole) (arg14 : Memref sig .tc .vmem S2x2048x128 .f32) (harg14 : arg14.IsWhole)
  (arg15 : Memref sig .tc .vmem S2x2048x256 .f32) (harg15 : arg15.IsWhole)
  (x0 : Vec Ideal S2048x512 .bf16) (x1 : Vec Ideal S4096x256 .bf16) (x2 : Vec Ideal S4096x128 .bf16) (x3 : Vec Ideal S4096x256 .bf16)
  (x4 x5 x6 : Vec Ideal S64x2048 .f32)
  (qd : Fin 2048 → Fin 512 → ℝ) (kd : Fin 4096 → Fin 256 → ℝ) (pd : Fin 4096 → Fin 128 → ℝ)
  (h0 : ∀ a b, x0 (ix2 a b) = ((qd a b : ℝ) : EReal)) (h1 : ∀ a b, x1 (ix2 a b) = ((kd a b : ℝ) : EReal))
  (h2 : ∀ a b, x2 (ix2 a b) = ((pd a b : ℝ) : EReal))

theorem left (R : Fin 4) (r : Fin 512) (l : Fin 128) :
    (kernelRun0_A.sl.v1113 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (ix3 0 ⟨512 * R.val + r.val, by omega⟩ l)
      = arg15.view.readCov (kernelRun0_A.sl.HS1_20 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (slotA 0 R).toLoadRect (ix3 0 r ⟨l.val, by omega⟩) := by
  unfold kernelRun0_A.sl.v1113
  rw [View.readCov_eq_canon', View.readCov_eq_canon']
  refine congrArg (View.canon _) ?_
  funext a
  apply Fin.ext
  match a with
  | 0 => rfl
  | 1 => show 0 + 1 * (512 * R.val + r.val) = 512 * R.val + 1 * r.val; omega
  | 2 => rfl

theorem left' (R : Fin 4) (r : Fin 512) (l : Fin 128) :
    (kernelRun0_A.sl.v1115 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (ix3 0 ⟨512 * R.val + r.val, by omega⟩ l)
      = arg15.view.readCov (kernelRun0_A.sl.HS1_20 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (slotA 0 R).toLoadRect (ix3 0 r ⟨128 + l.val, by omega⟩) := by
  unfold kernelRun0_A.sl.v1115
  rw [View.readCov_eq_canon', View.readCov_eq_canon']
  refine congrArg (View.canon _) ?_
  funext a
  apply Fin.ext
  match a with
  | 0 => rfl
  | 1 => show 0 + 1 * (512 * R.val + r.val) = 512 * R.val + 1 * r.val; omega
  | 2 => show 128 + 1 * l.val = 0 + 1 * (128 + l.val); omega

theorem right (R : Fin 4) (r : Fin 512) (l : Fin 128) :
    (kernelRun0_A.sl.v1120 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (ix3 0 ⟨512 * R.val + r.val, by omega⟩ l)
      = arg15.view.readCov (kernelRun0_A.sl.HS1_20 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (slotA 1 R).toLoadRect (ix3 0 r ⟨l.val, by omega⟩) := by
  unfold kernelRun0_A.sl.v1120
  rw [View.readCov_eq_canon', View.readCov_eq_canon']
  refine congrArg (View.canon _) ?_
  funext a
  apply Fin.ext
  match a with
  | 0 => rfl
  | 1 => show 0 + 1 * (512 * R.val + r.val) = 512 * R.val + 1 * r.val; omega
  | 2 => rfl

theorem right' (R : Fin 4) (r : Fin 512) (l : Fin 128) :
    (kernelRun0_A.sl.v1122 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (ix3 0 ⟨512 * R.val + r.val, by omega⟩ l)
      = arg15.view.readCov (kernelRun0_A.sl.HS1_20 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (slotA 1 R).toLoadRect (ix3 0 r ⟨128 + l.val, by omega⟩) := by
  unfold kernelRun0_A.sl.v1122
  rw [View.readCov_eq_canon', View.readCov_eq_canon']
  refine congrArg (View.canon _) ?_
  funext a
  apply Fin.ext
  match a with
  | 0 => rfl
  | 1 => show 0 + 1 * (512 * R.val + r.val) = 512 * R.val + 1 * r.val; omega
  | 2 => show 128 + 1 * l.val = 0 + 1 * (128 + l.val); omega

theorem quot_left (a b : Vec Ideal S1x2048x128 .f32) (r : Fin 2048) (l : Fin 128) :
    k0_pay567 a b (ix2 r l) = Ideal.div (a (ix3 0 r l)) (b (ix3 0 r l)) := by
  pointwise [k0_pay567]

theorem quot_right (a b : Vec Ideal S1x2048x128 .f32) (r : Fin 2048) (l : Fin 128) :
    k0_pay1 a b (ix2 r l) = Ideal.div (a (ix3 0 r l)) (b (ix3 0 r l)) := by
  pointwise [k0_pay1]

include h0 h1 h2 in
/-- The quotient of a slot's row. -/
theorem slot_quot (hh : Fin 2) (R : Fin 4) (r : Fin 512) (l : Fin 128) :
    Ideal.div (arg15.view.readCov (kernelRun0_A.sl.HS1_20 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (slotA hh R).toLoadRect (ix3 0 r ⟨l.val, by omega⟩))
      (arg15.view.readCov (kernelRun0_A.sl.HS1_20 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3) (slotA hh R).toLoadRect (ix3 0 r ⟨128 + l.val, by omega⟩))
      = soft (Sd qd kd pd hh R r) (fun j => Vd x3 hh j l) (2048 * (i 2).val + 64 * ((512 * R.val + r.val) / 64 + 1)) := by
  obtain ⟨L14, hI⟩ := after_inv c i arg3 harg3 arg4 harg4 arg5 harg5 arg6 harg6 arg7 harg7 arg8 harg8 arg9 harg9 arg10 harg10 arg11 harg11 arg12 harg12 arg13 harg13 arg14 harg14 arg15 harg15 x0 x1 x2 x3 qd kd pd h0 h1 h2
  have hg := hI.good hh R r
  have e : cntD (2048 * (i 2).val) ![![0, 1, 2, 3], ![0, 1, 2, 3]] ![![1, 1, 1, 1], ![1, 1, 1, 1]] hh R r
      = 2048 * (i 2).val + 64 * ((512 * R.val + r.val) / 64 + 1) := by
    unfold cntD
    have e1 : (![![0, 1, 2, 3], ![0, 1, 2, 3]] : Fin 2 → Fin 4 → ℕ) hh R = R.val := (by decide : ∀ (hh : Fin 2) (R : Fin 4), (![![0, 1, 2, 3], ![0, 1, 2, 3]] : Fin 2 → Fin 4 → ℕ) hh R = R.val) hh R
    have e2 : (![![1, 1, 1, 1], ![1, 1, 1, 1]] : Fin 2 → Fin 4 → ℕ) hh R = 1 := (by decide : ∀ (hh : Fin 2) (R : Fin 4), (![![1, 1, 1, 1], ![1, 1, 1, 1]] : Fin 2 → Fin 4 → ℕ) hh R = 1) hh R
    rw [e1, e2]
    omega
  rw [e] at hg
  exact hg.div (by omega) l

include h0 h1 h2 in
/-- What the point leaves in the output's block. -/
theorem out_apply (hh : Fin 2) (R : Fin 4) (r : Fin 512) (l : Fin 128) :
    out0_A_7 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 (ix2 ⟨512 * R.val + r.val, by omega⟩ ⟨128 * hh.val + l.val, by omega⟩)
      = soft (Sd qd kd pd hh R r) (fun j => Vd x3 hh j l) (2048 * (i 2).val + 64 * ((512 * R.val + r.val) / 64 + 1)) := by
  unfold out0_A_7
  rw [View.read_writes_junk_apply_eq_canon]
  unfold kernelRun0_A
  dsimp only
  rw [← slot_quot c i arg3 harg3 arg4 harg4 arg5 harg5 arg6 harg6 arg7 harg7 arg8 harg8 arg9 harg9 arg10 harg10 arg11 harg11 arg12 harg12 arg13 harg13 arg14 harg14 arg15 harg15 x0 x1 x2 x3 qd kd pd h0 h1 h2 hh R r l]
  match hh with
  | 0 =>
    rw [View.canon_cons_of_not_mem _ _ (by
      rw [Rect.mem_set_unit]
      intro h
      have := (h 1).1
      have h' : 128 ≤ 128 * (0 : Fin 2).val + l.val := this
      have := l.isLt
      simp at h'
      omega)]
    have e : (ix2 ⟨512 * R.val + r.val, by omega⟩ ⟨128 * (0 : Fin 2).val + l.val, by omega⟩ : S2048x256.Idx)
        = (Rect.unit (s := S2048x256) ![0, 0] S2048x128.size inb_S2048x256_S2048x128_0_0).emb (ix2 ⟨512 * R.val + r.val, by omega⟩ l) := by
      funext a
      apply Fin.ext
      match a with
      | 0 => show 512 * R.val + r.val = 0 + 1 * (512 * R.val + r.val); omega
      | 1 => show 128 * 0 + l.val = 0 + 1 * l.val; omega
    rw [e, View.canon_cons_emb, quot_left, left, left']
  | 1 =>
    have e : (ix2 ⟨512 * R.val + r.val, by omega⟩ ⟨128 * (1 : Fin 2).val + l.val, by omega⟩ : S2048x256.Idx)
        = (Rect.unit (s := S2048x256) ![0, 128] ![2048, 128] inb_S2048x256_S2048x128_0_128).emb (ix2 ⟨512 * R.val + r.val, by omega⟩ l) := by
      funext a
      apply Fin.ext
      match a with
      | 0 => show 512 * R.val + r.val = 0 + 1 * (512 * R.val + r.val); omega
      | 1 => show 128 * 1 + l.val = 128 + 1 * l.val; omega
    rw [e, View.canon_cons_emb]
    refine (quot_right _ _ _ _).trans ?_
    rw [right, right']

end Cert.AttnIdeal.AttnVal

end
-- ==== Proof.AttnRef.lean ====
/-
  The reference's attention, row by row: the softmax over the visible keys is the weighted mean that the kernel's
  rows are, with weights that are powers of two of the scores divided by the logarithm of two.
-/
module

public import proofs.«01_k».proof.Proof.Gen.AttnReferenceIdeal.Read
public import proofs.«01_k».proof.Proof.AttnOut

@[expose] public section

set_option maxRecDepth 16384

noncomputable section

namespace Cert.AttnReferenceIdeal.AttnRef

open Cert.AttnReferenceIdeal Cert.AttnReferenceIdeal.Read
open Idealize.ShloMosaic Idealize.SL.Sem
open Cert.AttnIdeal.AttnVal (soft ninf)

/-! ## A masked softmax over the extended reals -/

theorem coe_sum {ι : Type} (T : Finset ι) (f : ι → ℝ) : ∑ k ∈ T, (f k : EReal) = ((∑ k ∈ T, f k : ℝ) : EReal) := by
  classical
  induction T using Finset.induction_on with
  | empty => simp
  | insert a T ha ih => rw [Finset.sum_insert ha, Finset.sum_insert ha, EReal.coe_add, ih]

/-- A sum over all 4096 keys of which only the first `n` count. -/
theorem sum_visible {M : Type} [AddCommMonoid M] {n : ℕ} (hn : n ≤ 4096) (f : ℕ → M) :
    ∑ k : Fin 4096, (if k.val < n then f k.val else 0) = ∑ j ∈ Finset.range n, f j := by
  rw [Fin.sum_univ_eq_sum_range (fun j => if j < n then f j else 0) 4096, ← Finset.sum_filter]
  refine Finset.sum_congr (Finset.ext fun j => ?_) fun _ _ => rfl
  simp only [Finset.mem_filter, Finset.mem_range]
  omega

theorem row_max_real {n : ℕ} (h0 : 0 < n) (x : ℕ → ℝ) (t : Fin 4096 → EReal)
    (ht : ∀ j, t j = if j.val < n then (x j.val : EReal) else ⊥) :
    ∃ ν : ℝ, (Finset.univ : Finset (Fin 4096)).fold max ⊥ t = (ν : EReal) := by
  have h1 : (Finset.univ : Finset (Fin 4096)).fold max ⊥ t ≠ ⊤ :=
    ne_of_lt ((Finset.fold_max_lt ⊤).mpr ⟨bot_lt_top, fun j _ => by
      rw [ht]; split
      · exact EReal.coe_lt_top _
      · exact bot_lt_top⟩)
  have h2 : (Finset.univ : Finset (Fin 4096)).fold max ⊥ t ≠ ⊥ := by
    have hle : t 0 ≤ (Finset.univ : Finset (Fin 4096)).fold max ⊥ t :=
      (Finset.le_fold_max _).mpr (Or.inr ⟨0, Finset.mem_univ _, le_refl _⟩)
    rw [ht, if_pos (show ((0 : Fin 4096) : ℕ) < n from h0)] at hle
    exact ne_bot_of_le_ne_bot (EReal.coe_ne_bot _) hle
  exact ⟨_, (EReal.coe_toReal h1 h2).symm⟩

theorem softmax_row {n : ℕ} (h0 : 0 < n) (hn : n ≤ 4096) (S : ℕ → ℝ) (t : Fin 4096 → EReal)
    (ht : ∀ j, t j = if j.val < n then ((S j.val * Real.log 2 : ℝ) : EReal) else ⊥) (V : Fin 4096 → EReal) (W : ℕ → EReal)
    (hW : ∀ j, V j = W j.val) (μ : EReal) (hμ : μ = (Finset.univ : Finset (Fin 4096)).fold max ⊥ t) :
    ∑ k, V k * Ideal.div (Ideal.exp (t k - μ)) (∑ i, Ideal.exp (t i - μ)) = soft S W n := by
  obtain ⟨ν, hν⟩ := row_max_real h0 (fun j => S j * Real.log 2) t ht
  rw [hν] at hμ
  subst hμ
  have hexp : ∀ k, Ideal.exp (t k - (ν : EReal)) = ((if k.val < n then (2 : ℝ) ^ S k.val * Real.exp (-ν) else 0 : ℝ) : EReal) := by
    intro k
    rw [ht]
    split
    · rw [← EReal.coe_sub, Ideal.exp_coe, sub_eq_add_neg, Real.exp_add, Real.rpow_def_of_pos (by norm_num), mul_comm (Real.log 2)]
    · rw [EReal.bot_sub, Ideal.exp_bot]; rfl
  have hpos : 0 < ∑ j ∈ Finset.range n, (2 : ℝ) ^ S j :=
    Finset.sum_pos (fun j _ => Real.rpow_pos_of_pos (by norm_num) _) ⟨0, Finset.mem_range.mpr h0⟩
  have hD : ∑ i, Ideal.exp (t i - (ν : EReal)) = (((∑ j ∈ Finset.range n, (2 : ℝ) ^ S j) * Real.exp (-ν) : ℝ) : EReal) := by
    simp only [hexp]
    rw [coe_sum, sum_visible hn (fun j => (2 : ℝ) ^ S j * Real.exp (-ν)), Finset.sum_mul]
  have hne : (∑ j ∈ Finset.range n, (2 : ℝ) ^ S j) * Real.exp (-ν) ≠ 0 := (mul_pos hpos (Real.exp_pos _)).ne'
  rw [hD]
  unfold soft
  rw [← sum_visible hn (fun j => (((2 : ℝ) ^ S j / ∑ i ∈ Finset.range n, (2 : ℝ) ^ S i : ℝ) : EReal) * W j)]
  refine Finset.sum_congr rfl fun k _ => ?_
  rw [Ideal.div_coe hne, hexp, ← EReal.coe_mul, hW]
  split
  · rw [mul_comm]
    congr 2
    field_simp
  · rw [zero_mul, EReal.coe_zero, mul_zero]

/-! ## The reference's scores -/

/-- The scale the reference multiplies its scores by, as a real. -/
def scale : ℝ := (Ideal.ofBits .f32 1033096506#32).toReal

theorem scale_coe : Ideal.ofBits .f32 1033096506#32 = (scale : EReal) := by
  refine (EReal.coe_toReal ?_ ?_).symm <;> simp [Ideal.ofBits, Ideal.ieee, -EReal.coe_mul]

/-- A key's 192 lanes: its own 128 and the 64 that all heads share. -/
def key (kr : S2x4096x16x128.Idx → ℝ) (pr : S2x4096x64.Idx → ℝ) (b : Fin 2) (j : Fin 4096) (h : Fin 16) (d : Fin 192) : ℝ :=
  if hd : d.val < 128 then kr (ix4 b j h ⟨d.val, hd⟩) else pr (ix3 b j ⟨d.val - 128, by omega⟩)

/-- A score divided by the logarithm of two. -/
def score (qr : S2x4096x16x192.Idx → ℝ) (kr : S2x4096x16x128.Idx → ℝ) (pr : S2x4096x64.Idx → ℝ) (b : Fin 2) (h : Fin 16)
    (s : Fin 4096) (j : ℕ) : ℝ :=
  if hj : j < 4096 then (∑ d : Fin 192, qr (ix4 b s h d) * key kr pr b ⟨j, hj⟩ h d) * (scale / Real.log 2) else 0

/-- A value at a key. -/
def vat (x3 : (⟨S2x4096x16x128, .f32⟩ : BufTy).Contents (Elt Ideal)) (b : Fin 2) (h : Fin 16) (e : Fin 128) (j : ℕ) : EReal :=
  if hj : j < 4096 then x3 (ix4 b ⟨j, hj⟩ h e) else 0

theorem chunk_val : ∀ r : Fin 4096,
    Scalar.select
      (IntOp.andi (IntOp.cmpi .ne (if BitVec.ofNat 32 r.val = 0 then (0 : BitVec 32) else if (BitVec.ofNat 32 r.val).msb then -1 else 1) (if (64#32) = 0 then (0 : BitVec 32) else if (64#32).msb then -1 else 1))
        (IntOp.cmpi .ne (IntOp.remsi .host (BitVec.ofNat 32 r.val) 64#32) 0#32))
      (IntOp.subi (IntOp.divsi .host (BitVec.ofNat 32 r.val) 64#32) 1#32)
      (IntOp.divsi .host (BitVec.ofNat 32 r.val) 64#32) = BitVec.ofNat 32 (r.val / 64) := by
  decide +kernel

theorem chunk_le : ∀ a b : Fin 64, IntOp.cmpi CmpIPredicate.sle (BitVec.ofNat 32 b.val) (BitVec.ofNat 32 a.val)
    = if b.val ≤ a.val then 1#1 else 0#1 := by decide +kernel

theorem chunk_apply (i : S4096.Idx) : val_main_v4 (F := Ideal) i = BitVec.ofNat 32 ((i 0).val / 64) :=
  chunk_val (i 0)

theorem mask_apply (s j : Fin 4096) : val_main_v9 (F := Ideal) (ix2 s j) = if j.val < 64 * (s.val / 64 + 1) then 1#1 else 0#1 := by
  rw [val_main_v9_apply, val_main_v7_apply, val_main_v8_apply, val_main_v5_apply, val_main_v6_apply, chunk_apply, chunk_apply]
  have h := chunk_le ⟨s.val / 64, by omega⟩ ⟨j.val / 64, by omega⟩
  refine Eq.trans h ?_
  show (if j.val / 64 ≤ s.val / 64 then 1#1 else 0#1) = _
  by_cases hj : j.val / 64 ≤ s.val / 64
  · rw [if_pos hj, if_pos (by omega)]
  · rw [if_neg hj, if_neg (by omega)]

theorem key_apply (x1 : (⟨S2x4096x16x128, .f32⟩ : BufTy).Contents (Elt Ideal)) (x2 : (⟨S2x4096x64, .f32⟩ : BufTy).Contents (Elt Ideal))
    (kr : S2x4096x16x128.Idx → ℝ) (pr : S2x4096x64.Idx → ℝ) (h1 : ∀ i, x1 i = (kr i : EReal)) (h2 : ∀ i, x2 i = (pr i : EReal))
    (b : Fin 2) (j : Fin 4096) (h : Fin 16) (d : Fin 192) :
    val_main_v2 (F := Ideal) x1 x2 (ix4 b j h d) = (key kr pr b j h d : EReal) := by
  unfold val_main_v2 key
  pointwise []
  split
  · exact h1 _
  · rw [val_main_v1_apply, val_main_v0_apply]
    refine (h2 _).trans (congrArg (fun z => (pr z : EReal)) (funext fun a => ?_))
    match a with | ⟨0, _⟩ => rfl | ⟨1, _⟩ => rfl | ⟨2, _⟩ => rfl

theorem ninf_host : FloatOps.ofBits (F := Ideal) .f32 4286578688#32 = ⊥ := ninf

section Rows

variable (x0 : (⟨S2x4096x16x192, .f32⟩ : BufTy).Contents (Elt Ideal)) (x1 : (⟨S2x4096x16x128, .f32⟩ : BufTy).Contents (Elt Ideal))
  (x2 : (⟨S2x4096x64, .f32⟩ : BufTy).Contents (Elt Ideal)) (x3 : (⟨S2x4096x16x128, .f32⟩ : BufTy).Contents (Elt Ideal))
  (qr : S2x4096x16x192.Idx → ℝ) (kr : S2x4096x16x128.Idx → ℝ) (pr : S2x4096x64.Idx → ℝ)
  (h0 : ∀ i, x0 i = (qr i : EReal)) (h1 : ∀ i, x1 i = (kr i : EReal)) (h2 : ∀ i, x2 i = (pr i : EReal))
  (b : Fin 2) (h : Fin 16) (s : Fin 4096)

include h0 h1 h2 in
theorem score_apply (j : Fin 4096) :
    val_main_v12 (F := Ideal) x0 x1 x2 (ix4 b h s j) = ((score qr kr pr b h s j.val * Real.log 2 : ℝ) : EReal) := by
  rw [val_main_v12_apply, val_main_v11_apply, val_main_cst_apply, val_main_v10_apply]
  have hs : ∀ k : Fin 192, x0 (lidx_main_v10 (ix4 b h s j) k) * val_main_v2 (F := Ideal) x1 x2 (ridx_main_v10 (ix4 b h s j) k)
      = ((qr (ix4 b s h k) * key kr pr b j h k : ℝ) : EReal) := by
    intro k
    have e1 : lidx_main_v10 (ix4 b h s j) k = ix4 b s h k := funext fun a => match a with
      | ⟨0, _⟩ => rfl | ⟨1, _⟩ => rfl | ⟨2, _⟩ => rfl | ⟨3, _⟩ => rfl
    have e2 : ridx_main_v10 (ix4 b h s j) k = ix4 b j h k := funext fun a => match a with
      | ⟨0, _⟩ => rfl | ⟨1, _⟩ => rfl | ⟨2, _⟩ => rfl | ⟨3, _⟩ => rfl
    rw [e1, e2, h0, key_apply x1 x2 kr pr h1 h2, EReal.coe_mul]
  rw [Finset.sum_congr rfl (fun k _ => hs k), coe_sum]
  have hlog : Real.log 2 ≠ 0 := (Real.log_pos (by norm_num)).ne'
  refine (congrArg (fun z => _ * z) scale_coe).trans ?_
  refine (EReal.coe_mul _ _).symm.trans (congrArg _ ?_)
  unfold score
  rw [dif_pos j.isLt, mul_assoc, div_mul_cancel₀ _ hlog]

include h0 h1 h2 in
theorem masked_apply (j : Fin 4096) :
    val_main_v13 (F := Ideal) x0 x1 x2 (ix4 b h s j)
      = if j.val < 64 * (s.val / 64 + 1) then ((score qr kr pr b h s j.val * Real.log 2 : ℝ) : EReal) else ⊥ := by
  rw [val_main_v13_apply, score_apply x0 x1 x2 qr kr pr h0 h1 h2, val_main_call1_v2_apply, val_main_call1_v1_apply]
  have e : idx_main_call1_v1 (ix4 b h s j) = ix2 s j := funext fun a => match a with
    | ⟨0, _⟩ => rfl | ⟨1, _⟩ => rfl
  rw [e, mask_apply]
  split
  · rfl
  · exact ninf

theorem max_apply :
    val_main_v16 (F := Ideal) x0 x1 x2 (ix3 b h s)
      = (Finset.univ : Finset (Fin 4096)).fold max ⊥ (fun k => val_main_v13 (F := Ideal) x0 x1 x2 (ix4 b h s k)) := by
  rw [val_main_v16_apply, val_main_v15_apply, val_main_cst_2_apply, ninf_host]
  unfold val_main_v14
  rw [Host.reduce_eq_fold_single FloatOps.maximumf _ _ _ (by decide : S2x16x4096x4096.Reduces [3] S2x16x4096), val_main_cst_1_apply, ninf_host]
  refine (max_bot_left _).trans ?_
  refine Finset.fold_congr fun k _ => ?_
  exact congrArg (val_main_v13 (F := Ideal) x0 x1 x2) (funext fun a => Fin.ext (by
    match a with | ⟨0, _⟩ => rfl | ⟨1, _⟩ => rfl | ⟨2, _⟩ => rfl | ⟨3, _⟩ => rfl))

theorem exp_apply (j : Fin 4096) :
    val_main_v20 (F := Ideal) x0 x1 x2 (ix4 b h s j)
      = Ideal.exp (val_main_v13 (F := Ideal) x0 x1 x2 (ix4 b h s j) - val_main_v16 (F := Ideal) x0 x1 x2 (ix3 b h s)) := by
  rw [val_main_v20_apply, val_main_v19_apply, val_main_v18_apply, val_main_v17_apply]
  have e : idx_main_v17 (idx_main_v18 (ix4 b h s j)) = ix3 b h s := funext fun a => match a with
    | ⟨0, _⟩ => rfl | ⟨1, _⟩ => rfl | ⟨2, _⟩ => rfl
  rw [e]
  rfl

theorem weight_apply (j : Fin 4096) :
    val_main_v24 (F := Ideal) x0 x1 x2 (ix4 b h s j)
      = Ideal.div (val_main_v20 (F := Ideal) x0 x1 x2 (ix4 b h s j)) (∑ i : Fin 4096, val_main_v20 (F := Ideal) x0 x1 x2 (ix4 b h s i)) := by
  rw [val_main_v24_apply, val_main_v23_apply, val_main_v22_apply, val_main_v21_apply, val_main_cst_3_apply]
  have z : FloatOps.ofBits (F := Ideal) .f32 0#32 = 0 := by show Ideal.ofBits .f32 0#32 = 0; simp [Ideal.ofBits, Ideal.ieee]
  rw [z, zero_add]
  refine congrArg (Ideal.div _) (Finset.sum_congr rfl fun k _ => ?_)
  exact congrArg (val_main_v20 (F := Ideal) x0 x1 x2) (funext fun a => match a with
    | ⟨0, _⟩ => rfl | ⟨1, _⟩ => rfl | ⟨2, _⟩ => rfl | ⟨3, _⟩ => rfl)

include h0 h1 h2 in
theorem mean_apply (e : Fin 128) :
    val_main_v25 (F := Ideal) x0 x1 x2 x3 (ix4 b h e s)
      = soft (score qr kr pr b h s) (vat x3 b h e) (64 * (s.val / 64 + 1)) := by
  rw [val_main_v25_apply]
  rw [← softmax_row (n := 64 * (s.val / 64 + 1)) (by omega) (by omega) (score qr kr pr b h s)
    (fun k => val_main_v13 (F := Ideal) x0 x1 x2 (ix4 b h s k)) (masked_apply x0 x1 x2 qr kr pr h0 h1 h2 b h s)
    (fun k => x3 (ix4 b k h e)) (vat x3 b h e) (fun k => by unfold vat; rw [dif_pos k.isLt]) _ (max_apply x0 x1 x2 b h s)]
  refine Finset.sum_congr rfl fun k _ => ?_
  have e1 : lidx_main_v25 (ix4 b h e s) k = ix4 b k h e := funext fun a => match a with
    | ⟨0, _⟩ => rfl | ⟨1, _⟩ => rfl | ⟨2, _⟩ => rfl | ⟨3, _⟩ => rfl
  have e2 : ridx_main_v25 (ix4 b h e s) k = ix4 b h s k := funext fun a => match a with
    | ⟨0, _⟩ => rfl | ⟨1, _⟩ => rfl | ⟨2, _⟩ => rfl | ⟨3, _⟩ => rfl
  rw [e1, e2, weight_apply]
  simp only [exp_apply]

end Rows

/-- The reference's attention at row `4096 b + s` and column `128 h + e`. -/
theorem ref_apply (x0 : (⟨S2x4096x16x192, .f32⟩ : BufTy).Contents (Elt Ideal)) (x1 : (⟨S2x4096x16x128, .f32⟩ : BufTy).Contents (Elt Ideal))
    (x2 : (⟨S2x4096x64, .f32⟩ : BufTy).Contents (Elt Ideal)) (x3 : (⟨S2x4096x16x128, .f32⟩ : BufTy).Contents (Elt Ideal))
    (qr : S2x4096x16x192.Idx → ℝ) (kr : S2x4096x16x128.Idx → ℝ) (pr : S2x4096x64.Idx → ℝ)
    (h0 : ∀ i, x0 i = (qr i : EReal)) (h1 : ∀ i, x1 i = (kr i : EReal)) (h2 : ∀ i, x2 i = (pr i : EReal))
    (b : Fin 2) (s : Fin 4096) (h : Fin 16) (e : Fin 128) :
    val_main_v28 (F := Ideal) x0 x1 x2 x3 (ix2 (⟨4096 * b.val + s.val, by omega⟩ : Fin 8192) (⟨128 * h.val + e.val, by omega⟩ : Fin 2048))
      = soft (score qr kr pr b h s) (vat x3 b h e) (64 * (s.val / 64 + 1)) := by
  rw [val_main_v28_apply, val_main_v27_apply, val_main_v26_apply, ← mean_apply x0 x1 x2 x3 qr kr pr h0 h1 h2]
  show val_main_v25 (F := Ideal) x0 x1 x2 x3 _ = _
  refine congrArg (val_main_v25 (F := Ideal) x0 x1 x2 x3) (funext fun a => Fin.ext ?_)
  have hb := b.isLt
  have hs := s.isLt
  have hh := h.isLt
  have he := e.isLt
  match a with
  | ⟨0, _⟩ => show ((4096 * b.val + s.val) * 2048 + (128 * h.val + e.val)) / 8388608 = b.val; omega
  | ⟨1, _⟩ => show ((4096 * b.val + s.val) * 2048 + (128 * h.val + e.val)) / 128 % 16 = h.val; omega
  | ⟨2, _⟩ => show ((4096 * b.val + s.val) * 2048 + (128 * h.val + e.val)) % 128 = e.val; omega
  | ⟨3, _⟩ => show ((4096 * b.val + s.val) * 2048 + (128 * h.val + e.val)) / 2048 % 4096 = s.val; omega

end Cert.AttnReferenceIdeal.AttnRef
-- ==== Proof.AttnKernel.lean ====
/-
  The attention call's arrays: what the host hands it, what each grid point reads and writes back, and that the result
  arrays end as the reference's.
-/
module

public import proofs.«01_k».proof.Defs
public import proofs.«01_k».proof.Proof.AttnRef
public import Idealize.ShloMosaic.Lib.Pipeline.Value
public import Idealize.ShloMosaic.Lib.StableHlo.ReadAt

@[expose] public section

set_option maxRecDepth 16384

noncomputable section

namespace Cert.AttnIdeal.AttnVal

open Cert.AttnIdeal Cert.AttnIdeal.Gen
open Idealize.ShloMosaic Idealize.ShloMosaic.TcCoe Idealize.SL.Sem
open Cert.AttnReferenceIdeal.AttnRef (scale scale_coe key score vat)

/-! ## The arguments as real arrays -/

/-- A query's 256 lanes as the host leaves them: scaled, with zeros after lane 192. -/
def qpad (qr : S2x4096x16x192.Idx → ℝ) (b : Fin 2) (s : Fin 4096) (h : Fin 16) (l : Fin 256) : ℝ :=
  if hl : l.val < 192 then qr (ix4 b s h ⟨l.val, hl⟩) * (scale / Real.log 2) else 0

/-- The 128 lanes of the shared key part: zeros after lane 64. -/
def ppad (pr : S2x4096x64.Idx → ℝ) (b : Fin 2) (s : Fin 4096) (l : Fin 128) : ℝ :=
  if hl : l.val < 64 then pr (ix3 b s ⟨l.val, hl⟩) else 0

theorem two_f32 : Ideal.ofBits FTy.f32 1073741824#32 = ((2 : ℝ) : EReal) := by
  simp [Ideal.ofBits, Ideal.ieee, -EReal.coe_mul]; norm_num

/-- The host's scale: the reference's divided by the logarithm of two. -/
theorem host_scale : Ideal.div (Ideal.ofBits FTy.f32 1033096506#32) (Ideal.log (Ideal.ofBits FTy.f32 1073741824#32))
    = ((scale / Real.log 2 : ℝ) : EReal) := by
  have hlog : Real.log 2 ≠ 0 := (Real.log_pos (by norm_num)).ne'
  rw [two_f32, Ideal.log_coe, if_neg (by norm_num), Ideal.div_coe hlog, scale_coe, ← EReal.coe_mul, mul_one_div]

theorem zero_pad : FloatOps.sitofp (F := Ideal) FTy.bf16 (0#32) = (0 : EReal) := by
  show (((0#32).toInt : ℝ) : EReal) = 0
  simp

/-- The scores of a block in the kernel's layout are the reference's. -/
theorem sum_lanes (f : Fin 256 → ℝ) (g : Fin 192 → ℝ) (hlo : ∀ d : Fin 192, f ⟨d.val, by omega⟩ = g d)
    (hhi : ∀ l : Fin 256, 192 ≤ l.val → f l = 0) : ∑ l, f l = ∑ d, g d := by
  have h := Fin.sum_univ_add (fun l : Fin (192 + 64) => f l)
  refine h.trans ?_
  have hlo' : ∀ d : Fin 192, f (Fin.castAdd 64 d) = g d := hlo
  rw [Finset.sum_congr rfl (fun d _ => hlo' d), Finset.sum_eq_zero (fun d _ => hhi _ (by show 192 ≤ 192 + d.val; omega)), add_zero]

variable (m : (ℓ : Loc nD τ sig) → Buf (Elt Ideal) ℓ)

/-! ## What the host hands the call -/

theorem V_v6 (c : Dev nD) (qr : S2x4096x16x192.Idx → ℝ) (h0 : ∀ i, m ((c : Thread nD τ).loc main_arg0) i = (qr i : EReal))
    (b : Fin 2) (s : Fin 4096) (h : Fin 16) (l : Fin 256) :
    V m c main_v6 (ix2 (⟨4096 * b.val + s.val, by omega⟩ : Fin 8192) (⟨256 * h.val + l.val, by omega⟩ : Fin 4096))
      = (qpad qr b s h l : EReal) := by
  unfold V
  after_reads_at
  unfold qpad
  rw [host_scale, zero_pad]
  split
  · rw [EReal.coe_mul]
    exact congrArg (· * _) (h0 _)
  · rfl

theorem V_v8 (c : Dev nD) (b : Fin 2) (s : Fin 4096) (h : Fin 16) (l : Fin 128) :
    V m c main_v8 (ix2 (⟨4096 * b.val + s.val, by omega⟩ : Fin 8192) (⟨128 * h.val + l.val, by omega⟩ : Fin 2048))
      = m ((c : Thread nD τ).loc main_arg1) (ix4 b s h l) := by
  unfold V
  after_reads_at

theorem V_v11 (c : Dev nD) (pr : S2x4096x64.Idx → ℝ) (h2 : ∀ i, m ((c : Thread nD τ).loc main_arg2) i = (pr i : EReal))
    (b : Fin 2) (s : Fin 4096) (l : Fin 128) :
    V m c main_v11 (ix2 (⟨4096 * b.val + s.val, by omega⟩ : Fin 8192) l) = (ppad pr b s l : EReal) := by
  unfold V
  after_reads_at
  unfold ppad
  rw [zero_pad]
  split
  · exact h2 _
  · rfl

theorem V_v13 (c : Dev nD) (b : Fin 2) (s : Fin 4096) (h : Fin 16) (l : Fin 128) :
    V m c main_v13 (ix2 (⟨4096 * b.val + s.val, by omega⟩ : Fin 8192) (⟨128 * h.val + l.val, by omega⟩ : Fin 2048))
      = m ((c : Thread nD τ).loc main_arg3) (ix4 b s h l) := by
  unfold V
  after_reads_at

theorem V_v14 (c : Dev nD) (r k : Fin 2048) :
    V m c main_v14 (ix2 r k) = m ((c : Thread nD τ).loc main_arg4) (ix3 0 r k) := by
  unfold V
  after_reads_at

theorem V_v15 (c : Dev nD) (r k : Fin 2048) :
    V m c main_v15 (ix2 r k) = m ((c : Thread nD τ).loc main_arg5) (ix3 0 r k) := by
  unfold V
  after_reads_at

theorem V_v16 (c : Dev nD) (r k : Fin 2048) :
    V m c main_v16 (ix2 r k) = m ((c : Thread nD τ).loc main_arg6) (ix3 0 r k) := by
  unfold V
  after_reads_at

/-! ## The blocks of a grid point -/

/-- The block index of every window: point `t` is batch `t / 16`, head pair `t / 2 % 8` and row half `t % 2`; the weights'
    row tiles go with the point. -/
theorem idx_facts : ∀ t : Fin cfg0.N,
    (win0_0.index t (0 : Fin 2) = t.val / 16 * 2 + t.val % 2 ∧ win0_0.index t (1 : Fin 2) = t.val / 2 % 8)
    ∧ (win0_1.index t (0 : Fin 2) = t.val / 16 ∧ win0_1.index t (1 : Fin 2) = t.val / 2 % 8)
    ∧ (win0_2.index t (0 : Fin 2) = t.val / 16 ∧ win0_2.index t (1 : Fin 2) = 0)
    ∧ (win0_3.index t (0 : Fin 2) = t.val / 16 ∧ win0_3.index t (1 : Fin 2) = t.val / 2 % 8)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val / 16 * 2 + t.val % 2 ∧ win0_7.index t (1 : Fin 2) = t.val / 2 % 8)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ ((grid0.coords t) 2).val = t.val % 2 :=
  (by decide +kernel : ∀ t : Fin grid0.N, _)

theorem lt_N (t : Fin cfg0.N) : t.val < 32 := lt_of_lt_of_eq t.isLt (show cfg0.N = 32 from N_0)

/-- The batch, the head and the row of the sequence that a point's coordinates name. -/
def bOf (t : Fin cfg0.N) : Fin 2 := ⟨t.val / 16, by have := lt_N t; omega⟩
def hOf (t : Fin cfg0.N) (e : Fin 2) : Fin 16 := ⟨2 * (t.val / 2 % 8) + e.val, by have := e.isLt; omega⟩
def sOf (t : Fin cfg0.N) (a : Fin 2048) : Fin 4096 := ⟨2048 * (t.val % 2) + a.val, by have := a.isLt; omega⟩

/-- The real arrays a point's windows hold. -/
def qBlk (qr : S2x4096x16x192.Idx → ℝ) (t : Fin cfg0.N) (a : Fin 2048) (k : Fin 512) : ℝ :=
  qpad qr (bOf t) (sOf t a) (hOf t ⟨k.val / 256, by omega⟩) ⟨k.val % 256, by omega⟩
def kBlk (kr : S2x4096x16x128.Idx → ℝ) (t : Fin cfg0.N) (j : Fin 4096) (k : Fin 256) : ℝ :=
  kr (ix4 (bOf t) j (hOf t ⟨k.val / 128, by omega⟩) ⟨k.val % 128, by omega⟩)
def pBlk (pr : S2x4096x64.Idx → ℝ) (t : Fin cfg0.N) (j : Fin 4096) (k : Fin 128) : ℝ := ppad pr (bOf t) j k

theorem blk0 (c : Dev nD) (qr : S2x4096x16x192.Idx → ℝ) (h0 : ∀ i, m ((c : Thread nD τ).loc main_arg0) i = (qr i : EReal))
    (t : Fin cfg0.N) (a : Fin 2048) (k : Fin 512) :
    (iblk m c 0 t : Vec Ideal S2048x512 .bf16) (ix2 a k) = (qBlk qr t a k : EReal) := by
  obtain ⟨⟨e0, e1⟩, -⟩ := idx_facts t
  have ht := lt_N t
  unfold qBlk
  rw [← V_v6 m c qr h0]
  unfold iblk
  rw [View.read_apply]
  show V m c main_v6 _ = V m c main_v6 _
  congr 1
  funext x
  apply Fin.ext
  match x with
  | ⟨0, _⟩ => show win0_0.index t (0 : Fin 2) * 2048 + 1 * a.val = 4096 * (t.val / 16) + (2048 * (t.val % 2) + a.val); rw [e0]; omega
  | ⟨1, _⟩ => show win0_0.index t (1 : Fin 2) * 512 + 1 * k.val = 256 * (2 * (t.val / 2 % 8) + k.val / 256) + k.val % 256; rw [e1]; omega

theorem blk1 (c : Dev nD) (kr : S2x4096x16x128.Idx → ℝ) (h1 : ∀ i, m ((c : Thread nD τ).loc main_arg1) i = (kr i : EReal))
    (t : Fin cfg0.N) (j : Fin 4096) (k : Fin 256) :
    (iblk m c 1 t : Vec Ideal S4096x256 .bf16) (ix2 j k) = (kBlk kr t j k : EReal) := by
  obtain ⟨-, ⟨e0, e1⟩, -⟩ := idx_facts t
  have ht := lt_N t
  unfold kBlk
  rw [← h1, ← V_v8 m c]
  unfold iblk
  rw [View.read_apply]
  show V m c main_v8 _ = V m c main_v8 _
  congr 1
  funext x
  apply Fin.ext
  match x with
  | ⟨0, _⟩ => show win0_1.index t (0 : Fin 2) * 4096 + 1 * j.val = 4096 * (t.val / 16) + j.val; rw [e0]; omega
  | ⟨1, _⟩ => show win0_1.index t (1 : Fin 2) * 256 + 1 * k.val = 128 * (2 * (t.val / 2 % 8) + k.val / 128) + k.val % 128; rw [e1]; omega

theorem blk2 (c : Dev nD) (pr : S2x4096x64.Idx → ℝ) (h2 : ∀ i, m ((c : Thread nD τ).loc main_arg2) i = (pr i : EReal))
    (t : Fin cfg0.N) (j : Fin 4096) (k : Fin 128) :
    (iblk m c 2 t : Vec Ideal S4096x128 .bf16) (ix2 j k) = (pBlk pr t j k : EReal) := by
  obtain ⟨-, -, ⟨e0, e1⟩, -⟩ := idx_facts t
  have ht := lt_N t
  unfold pBlk
  rw [← V_v11 m c pr h2]
  unfold iblk
  rw [View.read_apply]
  show V m c main_v11 _ = V m c main_v11 _
  congr 1
  funext x
  apply Fin.ext
  match x with
  | ⟨0, _⟩ => show win0_2.index t (0 : Fin 2) * 4096 + 1 * j.val = 4096 * (t.val / 16) + j.val; rw [e0]; omega
  | ⟨1, _⟩ => show win0_2.index t (1 : Fin 2) * 128 + 1 * k.val = k.val; rw [e1]; omega

theorem blk3 (c : Dev nD) (t : Fin cfg0.N) (j : Fin 4096) (e : Fin 2) (l : Fin 128) :
    (iblk m c 3 t : Vec Ideal S4096x256 .bf16) (ix2 j ⟨128 * e.val + l.val, by omega⟩)
      = m ((c : Thread nD τ).loc main_arg3) (ix4 (bOf t) j (hOf t e) l) := by
  obtain ⟨-, -, -, ⟨e0, e1⟩, -⟩ := idx_facts t
  have ht := lt_N t
  rw [← V_v13 m c]
  unfold iblk
  rw [View.read_apply]
  show V m c main_v13 _ = V m c main_v13 _
  congr 1
  funext x
  apply Fin.ext
  match x with
  | ⟨0, _⟩ => show win0_3.index t (0 : Fin 2) * 4096 + 1 * j.val = 4096 * (t.val / 16) + j.val; rw [e0]; omega
  | ⟨1, _⟩ => show win0_3.index t (1 : Fin 2) * 256 + 1 * (128 * e.val + l.val) = 128 * (2 * (t.val / 2 % 8) + e.val) + l.val; rw [e1]; omega

/-! ## A point's rows -/

theorem score_eq (qr : S2x4096x16x192.Idx → ℝ) (kr : S2x4096x16x128.Idx → ℝ) (pr : S2x4096x64.Idx → ℝ) (t : Fin cfg0.N)
    (e : Fin 2) (R : Fin 4) (r : Fin 512) :
    Sd (qBlk qr t) (kBlk kr t) (pBlk pr t) e R r = score qr kr pr (bOf t) (hOf t e) (sOf t ⟨512 * R.val + r.val, by omega⟩) := by
  funext j
  unfold Sd score
  by_cases hj : j < 4096
  · rw [dif_pos hj, dif_pos hj, Finset.sum_mul]
    refine sum_lanes _ _ (fun d => ?_) (fun l hl => ?_)
    · have hd := d.isLt
      have he := e.isLt
      unfold qBlk keyd key qpad kBlk pBlk ppad
      simp only [show (256 * e.val + d.val) % 256 = d.val by omega, show (256 * e.val + d.val) / 256 = e.val by omega, dif_pos hd]
      by_cases hd' : d.val < 128
      · simp only [dif_pos hd', show (128 * e.val + d.val) % 128 = d.val by omega, show (128 * e.val + d.val) / 128 = e.val by omega]
        ring
      · simp only [dif_neg hd', dif_pos (show d.val - 128 < 64 by omega)]
        ring
    · have hl' := l.isLt
      have he := e.isLt
      unfold qBlk qpad
      rw [dif_neg (by show ¬ (256 * e.val + l.val) % 256 < 192; omega), zero_mul]
  · rw [dif_neg hj, dif_neg hj]

theorem value_eq (c : Dev nD) (t : Fin cfg0.N) (e : Fin 2) (l : Fin 128) :
    (fun j => Vd (iblk m c 3 t) e j l) = vat (m ((c : Thread nD τ).loc main_arg3)) (bOf t) (hOf t e) l := by
  funext j
  unfold Vd vat
  by_cases hj : j < 4096
  · rw [dif_pos hj, dif_pos hj]
    exact blk3 m c t ⟨j, hj⟩ e l
  · rw [dif_neg hj, dif_neg hj]

/-- What the attention's result array ends holding. -/
def G (c : Dev nD) : Vec Ideal S8192x2048 .bf16 :=
  Cert.AttnReferenceIdeal.Read.val_main_v28 (F := Ideal) (m ((c : Thread nD τ).loc main_arg0)) (m ((c : Thread nD τ).loc main_arg1))
    (m ((c : Thread nD τ).loc main_arg2)) (m ((c : Thread nD τ).loc main_arg3))

section
variable (c : Dev nD) (qr : S2x4096x16x192.Idx → ℝ) (kr : S2x4096x16x128.Idx → ℝ) (pr : S2x4096x64.Idx → ℝ)
  (h0 : ∀ i, m ((c : Thread nD τ).loc main_arg0) i = (qr i : EReal)) (h1 : ∀ i, m ((c : Thread nD τ).loc main_arg1) i = (kr i : EReal))
  (h2 : ∀ i, m ((c : Thread nD τ).loc main_arg2) i = (pr i : EReal))

include h0 h1 h2 in
/-- A point's output block at an index. -/
theorem point_apply (t : Fin cfg0.N) (e : Fin 2) (R : Fin 4) (r : Fin 512) (l : Fin 128) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t)
        (ix2 ⟨512 * R.val + r.val, by omega⟩ ⟨128 * e.val + l.val, by omega⟩)
      = G m c (ix2 (⟨4096 * (bOf t).val + (sOf t ⟨512 * R.val + r.val, by omega⟩).val, by omega⟩ : Fin 8192)
          (⟨128 * (hOf t e).val + l.val, by omega⟩ : Fin 2048)) := by
  rw [out_apply (qd := qBlk qr t) (kd := kBlk kr t) (pd := pBlk pr t) (h0 := blk0 m c qr h0 t) (h1 := blk1 m c kr h1 t)
    (h2 := blk2 m c pr h2 t)]
  unfold G
  rw [Cert.AttnReferenceIdeal.AttnRef.ref_apply _ _ _ _ qr kr pr h0 h1 h2, score_eq, value_eq]
  obtain ⟨-, -, -, -, -, -, -, -, -, -, -, ei⟩ := idx_facts t
  refine congrArg (soft _ _) ?_
  show 2048 * ((grid0.coords t) 2).val + 64 * ((512 * R.val + r.val) / 64 + 1)
    = 64 * ((2048 * (t.val % 2) + (512 * R.val + r.val)) / 64 + 1)
  rw [ei]
  omega

include h0 h1 h2 in
/-- A point writes back its block of `G`. -/
theorem flushed_eq (t : Fin cfg0.N) :
    (dats m 0 c).flushed 7 t = ((cfg0.win 7).blk t).view.read (Elt Ideal) (G m c) := by
  rw [Value.flushed7_A]
  obtain ⟨-, -, -, -, -, -, -, ⟨e0, e1⟩, -⟩ := idx_facts t
  have ht := lt_N t
  funext y
  have hy0 : (y 0).val < 2048 := (y 0).isLt
  have hy1 : (y 1).val < 256 := (y 1).isLt
  have hy : (cfg0.win 7).xinj (grid0.coords t) y
      = (ix2 ⟨512 * ((y 0).val / 512) + (y 0).val % 512, by omega⟩ ⟨128 * ((y 1).val / 128) + (y 1).val % 128, by omega⟩ : S2048x256.Idx) := by
    funext a
    apply Fin.ext
    match a with
    | ⟨0, _⟩ => show (y 0).val = 512 * ((y 0).val / 512) + (y 0).val % 512; omega
    | ⟨1, _⟩ => show (y 1).val = 128 * ((y 1).val / 128) + (y 1).val % 128; omega
  refine (congrArg (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t)) hy).trans ?_
  refine (point_apply m c qr kr pr h0 h1 h2 t ⟨(y 1).val / 128, by omega⟩ ⟨(y 0).val / 512, by omega⟩ ⟨(y 0).val % 512, by omega⟩
    ⟨(y 1).val % 128, by omega⟩).trans ?_
  rw [View.read_apply]
  show G m c _ = G m c _
  congr 1
  funext a
  apply Fin.ext
  match a with
  | ⟨0, _⟩ =>
    show 4096 * (t.val / 16) + (2048 * (t.val % 2) + (512 * ((y 0).val / 512) + (y 0).val % 512)) = win0_7.index t (0 : Fin 2) * 2048 + 1 * (y 0).val
    rw [e0]; omega
  | ⟨1, _⟩ =>
    show 128 * (2 * (t.val / 2 % 8) + (y 1).val / 128) + (y 1).val % 128 = win0_7.index t (1 : Fin 2) * 256 + 1 * (y 1).val
    rw [e1]; omega

/-- An index is in a point's block when its row is in the point's row tile and its column in the point's head pair. -/
theorem mem_blk (t : Fin cfg0.N) (i : S8192x2048.Idx) :
    i ∈ ((cfg0.win 7).blk t).view.set ↔ ∀ a : Fin 2, win0_7.index t a * S2048x256.size a ≤ (i a).val
      ∧ (i a).val < win0_7.index t a * S2048x256.size a + S2048x256.size a := by
  show i ∈ ((View.whole main_v17_0).slice (win0_7.rect t)).set ↔ _
  rw [View.set_slice_whole, Rect.mem_set_unit]
  exact Iff.rfl

theorem flush_all : ∀ t : Fin cfg0.N, (cfg0.win 7).flush t = true ∧ (cfg0.win 8).flush t = true ∧ (cfg0.win 9).flush t = true
    ∧ (cfg0.win 10).flush t = true := (by decide +kernel : ∀ t : Fin grid0.N, _)

theorem covered (i : S8192x2048.Idx) : ∃ t : Fin cfg0.N, (cfg0.win 7).flush t = true ∧ i ∈ ((cfg0.win 7).blk t).view.set := by
  have h0 : (i 0).val < 8192 := (i 0).isLt
  have h1 : (i 1).val < 2048 := (i 1).isLt
  have hlt : (i 0).val / 4096 * 16 + (i 1).val / 256 * 2 + (i 0).val / 2048 % 2 < cfg0.N := by rw [show cfg0.N = 32 from N_0]; omega
  refine ⟨⟨_, hlt⟩, (flush_all _).1, ?_⟩
  obtain ⟨-, -, -, -, -, -, -, ⟨e0, e1⟩, -⟩ := idx_facts ⟨_, hlt⟩
  rw [mem_blk]
  intro a
  match a with
  | ⟨0, _⟩ =>
    show win0_7.index _ (0 : Fin 2) * 2048 ≤ (i 0).val ∧ (i 0).val < win0_7.index _ (0 : Fin 2) * 2048 + 2048
    rw [e0]
    dsimp only
    omega
  | ⟨1, _⟩ =>
    show win0_7.index _ (1 : Fin 2) * 256 ≤ (i 1).val ∧ (i 1).val < win0_7.index _ (1 : Fin 2) * 256 + 256
    rw [e1]
    dsimp only
    omega

include h0 h1 h2 in
/-- The attention's result array after the run. -/
theorem final : (dats m 0 c).arrAt 7 cfg0.N = G m c :=
  (dats m 0 c).arrAt_eq_of_cover 7 _ (fun t _ => flushed_eq m c qr kr pr h0 h1 h2 t) covered

end

/-! ## The three weights, cast tile by tile -/

theorem hz : (![0, 0] : Fin 2 → Nat) = fun _ => 0 := funext fun a => by fin_cases a <;> rfl

/-- What weight 0's result array ends holding. -/
def W0 (c : Dev nD) : Vec Ideal S2048x2048 .bf16 := fun i => m ((c : Thread nD τ).loc main_arg4) (ix3 0 (i 0) (i 1))

theorem cast0 (x : Vec Ideal S64x2048 .f32) : k0_pay400 x = x := by
  funext i
  unfold k0_pay400
  idx_vars i
  pointwise

theorem out8_eq (c : Dev nD) (t : Fin cfg0.N) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t)
      = (iblk m c 4 t : Vec Ideal S64x2048 .f32) := by
  unfold out0_A_8
  rw [View.read_writes_eq_canon _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t))]
  unfold kernelRun0_A
  dsimp only
  sl_unfold_words
  rw [View.canon_unit_zero hz]
  simp only [View.readAt_eq_ld, (hs0_4 t).read_unread, View.ld_unit_zero (S := S64x2048) hz]
  exact cast0 _

theorem blk4 (c : Dev nD) (t : Fin cfg0.N) (r : Fin 64) (k : Fin 2048) :
    (iblk m c 4 t : Vec Ideal S64x2048 .f32) (ix2 r k)
      = W0 m c (ix2 ⟨64 * t.val + r.val, by have := lt_N t; omega⟩ k) := by
  obtain ⟨-, -, -, -, ⟨e0, e1⟩, -⟩ := idx_facts t
  show _ = m ((c : Thread nD τ).loc main_arg4) (ix3 0 (⟨64 * t.val + r.val, _⟩ : Fin 2048) k)
  rw [← V_v14 m c]
  unfold iblk
  rw [View.read_apply]
  show V m c main_v14 _ = V m c main_v14 _
  congr 1
  funext x
  apply Fin.ext
  match x with
  | ⟨0, _⟩ => show win0_4.index t (0 : Fin 2) * 64 + 1 * r.val = 64 * t.val + r.val; rw [e0]; omega
  | ⟨1, _⟩ => show win0_4.index t (1 : Fin 2) * 2048 + 1 * k.val = k.val; rw [e1]; omega

theorem flushed8_eq (c : Dev nD) (t : Fin cfg0.N) :
    (dats m 0 c).flushed 8 t = ((cfg0.win 8).blk t).view.read (Elt Ideal) (W0 m c) := by
  rw [Value.flushed8_A, out8_eq]
  obtain ⟨-, -, -, -, -, -, -, -, ⟨e0, e1⟩, -⟩ := idx_facts t
  funext y
  have hy : (cfg0.win 8).xinj (grid0.coords t) y = (ix2 ⟨(y 0).val, (y 0).isLt⟩ ⟨(y 1).val, (y 1).isLt⟩ : S64x2048.Idx) := by
    funext a; match a with
    | ⟨0, _⟩ => rfl
    | ⟨1, _⟩ => rfl
  show (iblk m c 4 t : Vec Ideal S64x2048 .f32) ((cfg0.win 8).xinj (grid0.coords t) y) = _
  rw [hy, blk4, View.read_apply]
  show W0 m c _ = W0 m c _
  congr 1
  funext a
  apply Fin.ext
  match a with
  | ⟨0, _⟩ => show 64 * t.val + (y 0).val = win0_8.index t (0 : Fin 2) * 64 + 1 * (y 0).val; rw [e0]; omega
  | ⟨1, _⟩ => show (y 1).val = win0_8.index t (1 : Fin 2) * 2048 + 1 * (y 1).val; rw [e1]; omega

theorem mem_blk8 (t : Fin cfg0.N) (i : S2048x2048.Idx) :
    i ∈ ((cfg0.win 8).blk t).view.set ↔ ∀ a : Fin 2, win0_8.index t a * S64x2048.size a ≤ (i a).val
      ∧ (i a).val < win0_8.index t a * S64x2048.size a + S64x2048.size a := by
  show i ∈ ((View.whole main_v17_1).slice (win0_8.rect t)).set ↔ _
  rw [View.set_slice_whole, Rect.mem_set_unit]
  exact Iff.rfl

theorem covered8 (i : S2048x2048.Idx) : ∃ t : Fin cfg0.N, (cfg0.win 8).flush t = true ∧ i ∈ ((cfg0.win 8).blk t).view.set := by
  have h0 : (i 0).val < 2048 := (i 0).isLt
  have h1 : (i 1).val < 2048 := (i 1).isLt
  have hlt : (i 0).val / 64 < cfg0.N := by rw [show cfg0.N = 32 from N_0]; omega
  refine ⟨⟨_, hlt⟩, (flush_all _).2.1, ?_⟩
  obtain ⟨-, -, -, -, -, -, -, -, ⟨e0, e1⟩, -⟩ := idx_facts ⟨_, hlt⟩
  rw [mem_blk8]
  intro a
  match a with
  | ⟨0, _⟩ =>
    show win0_8.index _ (0 : Fin 2) * 64 ≤ (i 0).val ∧ (i 0).val < win0_8.index _ (0 : Fin 2) * 64 + 64
    rw [e0]
    dsimp only
    omega
  | ⟨1, _⟩ =>
    show win0_8.index _ (1 : Fin 2) * 2048 ≤ (i 1).val ∧ (i 1).val < win0_8.index _ (1 : Fin 2) * 2048 + 2048
    rw [e1]; omega

theorem final8 (c : Dev nD) : (dats m 0 c).arrAt 8 cfg0.N = W0 m c :=
  (dats m 0 c).arrAt_eq_of_cover 8 _ (fun t _ => flushed8_eq m c t) covered8

/-- What weight 1's result array ends holding. -/
def W1 (c : Dev nD) : Vec Ideal S2048x2048 .bf16 := fun i => m ((c : Thread nD τ).loc main_arg5) (ix3 0 (i 0) (i 1))

theorem cast1 (x : Vec Ideal S64x2048 .f32) : k0_pay401 x = x := by
  funext i
  unfold k0_pay401
  idx_vars i
  pointwise

theorem out9_eq (c : Dev nD) (t : Fin cfg0.N) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t)
      = (iblk m c 5 t : Vec Ideal S64x2048 .f32) := by
  unfold out0_A_9
  rw [View.read_writes_eq_canon _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t))]
  unfold kernelRun0_A
  dsimp only
  sl_unfold_words
  rw [View.canon_unit_zero hz]
  simp only [View.readAt_eq_ld, (hs0_5 t).read_unread, View.ld_unit_zero (S := S64x2048) hz]
  exact cast1 _

theorem blk5 (c : Dev nD) (t : Fin cfg0.N) (r : Fin 64) (k : Fin 2048) :
    (iblk m c 5 t : Vec Ideal S64x2048 .f32) (ix2 r k)
      = W1 m c (ix2 ⟨64 * t.val + r.val, by have := lt_N t; omega⟩ k) := by
  obtain ⟨-, -, -, -, -, ⟨e0, e1⟩, -⟩ := idx_facts t
  show _ = m ((c : Thread nD τ).loc main_arg5) (ix3 0 (⟨64 * t.val + r.val, _⟩ : Fin 2048) k)
  rw [← V_v15 m c]
  unfold iblk
  rw [View.read_apply]
  show V m c main_v15 _ = V m c main_v15 _
  congr 1
  funext x
  apply Fin.ext
  match x with
  | ⟨0, _⟩ => show win0_5.index t (0 : Fin 2) * 64 + 1 * r.val = 64 * t.val + r.val; rw [e0]; omega
  | ⟨1, _⟩ => show win0_5.index t (1 : Fin 2) * 2048 + 1 * k.val = k.val; rw [e1]; omega

theorem flushed9_eq (c : Dev nD) (t : Fin cfg0.N) :
    (dats m 0 c).flushed 9 t = ((cfg0.win 9).blk t).view.read (Elt Ideal) (W1 m c) := by
  rw [Value.flushed9_A, out9_eq]
  obtain ⟨-, -, -, -, -, -, -, -, -, ⟨e0, e1⟩, -⟩ := idx_facts t
  funext y
  have hy : (cfg0.win 9).xinj (grid0.coords t) y = (ix2 ⟨(y 0).val, (y 0).isLt⟩ ⟨(y 1).val, (y 1).isLt⟩ : S64x2048.Idx) := by
    funext a; match a with
    | ⟨0, _⟩ => rfl
    | ⟨1, _⟩ => rfl
  show (iblk m c 5 t : Vec Ideal S64x2048 .f32) ((cfg0.win 9).xinj (grid0.coords t) y) = _
  rw [hy, blk5, View.read_apply]
  show W1 m c _ = W1 m c _
  congr 1
  funext a
  apply Fin.ext
  match a with
  | ⟨0, _⟩ => show 64 * t.val + (y 0).val = win0_9.index t (0 : Fin 2) * 64 + 1 * (y 0).val; rw [e0]; omega
  | ⟨1, _⟩ => show (y 1).val = win0_9.index t (1 : Fin 2) * 2048 + 1 * (y 1).val; rw [e1]; omega

theorem mem_blk9 (t : Fin cfg0.N) (i : S2048x2048.Idx) :
    i ∈ ((cfg0.win 9).blk t).view.set ↔ ∀ a : Fin 2, win0_9.index t a * S64x2048.size a ≤ (i a).val
      ∧ (i a).val < win0_9.index t a * S64x2048.size a + S64x2048.size a := by
  show i ∈ ((View.whole main_v17_2).slice (win0_9.rect t)).set ↔ _
  rw [View.set_slice_whole, Rect.mem_set_unit]
  exact Iff.rfl

theorem covered9 (i : S2048x2048.Idx) : ∃ t : Fin cfg0.N, (cfg0.win 9).flush t = true ∧ i ∈ ((cfg0.win 9).blk t).view.set := by
  have h0 : (i 0).val < 2048 := (i 0).isLt
  have h1 : (i 1).val < 2048 := (i 1).isLt
  have hlt : (i 0).val / 64 < cfg0.N := by rw [show cfg0.N = 32 from N_0]; omega
  refine ⟨⟨_, hlt⟩, (flush_all _).2.2.1, ?_⟩
  obtain ⟨-, -, -, -, -, -, -, -, -, ⟨e0, e1⟩, -⟩ := idx_facts ⟨_, hlt⟩
  rw [mem_blk9]
  intro a
  match a with
  | ⟨0, _⟩ =>
    show win0_9.index _ (0 : Fin 2) * 64 ≤ (i 0).val ∧ (i 0).val < win0_9.index _ (0 : Fin 2) * 64 + 64
    rw [e0]
    dsimp only
    omega
  | ⟨1, _⟩ =>
    show win0_9.index _ (1 : Fin 2) * 2048 ≤ (i 1).val ∧ (i 1).val < win0_9.index _ (1 : Fin 2) * 2048 + 2048
    rw [e1]; omega

theorem final9 (c : Dev nD) : (dats m 0 c).arrAt 9 cfg0.N = W1 m c :=
  (dats m 0 c).arrAt_eq_of_cover 9 _ (fun t _ => flushed9_eq m c t) covered9

/-- What weight 2's result array ends holding. -/
def W2 (c : Dev nD) : Vec Ideal S2048x2048 .bf16 := fun i => m ((c : Thread nD τ).loc main_arg6) (ix3 0 (i 0) (i 1))

theorem cast2 (x : Vec Ideal S64x2048 .f32) : k0_pay402 x = x := by
  funext i
  unfold k0_pay402
  idx_vars i
  pointwise

theorem out10_eq (c : Dev nD) (t : Fin cfg0.N) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t)
      = (iblk m c 6 t : Vec Ideal S64x2048 .f32) := by
  unfold out0_A_10
  rw [View.read_writes_eq_canon _ _ _ (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t))]
  unfold kernelRun0_A
  dsimp only
  sl_unfold_words
  rw [View.canon_unit_zero hz]
  simp only [View.readAt_eq_ld, (hs0_6 t).read_unread, View.ld_unit_zero (S := S64x2048) hz]
  exact cast2 _

theorem blk6 (c : Dev nD) (t : Fin cfg0.N) (r : Fin 64) (k : Fin 2048) :
    (iblk m c 6 t : Vec Ideal S64x2048 .f32) (ix2 r k)
      = W2 m c (ix2 ⟨64 * t.val + r.val, by have := lt_N t; omega⟩ k) := by
  obtain ⟨-, -, -, -, -, -, ⟨e0, e1⟩, -⟩ := idx_facts t
  show _ = m ((c : Thread nD τ).loc main_arg6) (ix3 0 (⟨64 * t.val + r.val, _⟩ : Fin 2048) k)
  rw [← V_v16 m c]
  unfold iblk
  rw [View.read_apply]
  show V m c main_v16 _ = V m c main_v16 _
  congr 1
  funext x
  apply Fin.ext
  match x with
  | ⟨0, _⟩ => show win0_6.index t (0 : Fin 2) * 64 + 1 * r.val = 64 * t.val + r.val; rw [e0]; omega
  | ⟨1, _⟩ => show win0_6.index t (1 : Fin 2) * 2048 + 1 * k.val = k.val; rw [e1]; omega

theorem flushed10_eq (c : Dev nD) (t : Fin cfg0.N) :
    (dats m 0 c).flushed 10 t = ((cfg0.win 10).blk t).view.read (Elt Ideal) (W2 m c) := by
  rw [Value.flushed10_A, out10_eq]
  obtain ⟨-, -, -, -, -, -, -, -, -, -, ⟨e0, e1⟩, -⟩ := idx_facts t
  funext y
  have hy : (cfg0.win 10).xinj (grid0.coords t) y = (ix2 ⟨(y 0).val, (y 0).isLt⟩ ⟨(y 1).val, (y 1).isLt⟩ : S64x2048.Idx) := by
    funext a; match a with
    | ⟨0, _⟩ => rfl
    | ⟨1, _⟩ => rfl
  show (iblk m c 6 t : Vec Ideal S64x2048 .f32) ((cfg0.win 10).xinj (grid0.coords t) y) = _
  rw [hy, blk6, View.read_apply]
  show W2 m c _ = W2 m c _
  congr 1
  funext a
  apply Fin.ext
  match a with
  | ⟨0, _⟩ => show 64 * t.val + (y 0).val = win0_10.index t (0 : Fin 2) * 64 + 1 * (y 0).val; rw [e0]; omega
  | ⟨1, _⟩ => show (y 1).val = win0_10.index t (1 : Fin 2) * 2048 + 1 * (y 1).val; rw [e1]; omega

theorem mem_blk10 (t : Fin cfg0.N) (i : S2048x2048.Idx) :
    i ∈ ((cfg0.win 10).blk t).view.set ↔ ∀ a : Fin 2, win0_10.index t a * S64x2048.size a ≤ (i a).val
      ∧ (i a).val < win0_10.index t a * S64x2048.size a + S64x2048.size a := by
  show i ∈ ((View.whole main_v17_3).slice (win0_10.rect t)).set ↔ _
  rw [View.set_slice_whole, Rect.mem_set_unit]
  exact Iff.rfl

theorem covered10 (i : S2048x2048.Idx) : ∃ t : Fin cfg0.N, (cfg0.win 10).flush t = true ∧ i ∈ ((cfg0.win 10).blk t).view.set := by
  have h0 : (i 0).val < 2048 := (i 0).isLt
  have h1 : (i 1).val < 2048 := (i 1).isLt
  have hlt : (i 0).val / 64 < cfg0.N := by rw [show cfg0.N = 32 from N_0]; omega
  refine ⟨⟨_, hlt⟩, (flush_all _).2.2.2, ?_⟩
  obtain ⟨-, -, -, -, -, -, -, -, -, -, ⟨e0, e1⟩, -⟩ := idx_facts ⟨_, hlt⟩
  rw [mem_blk10]
  intro a
  match a with
  | ⟨0, _⟩ =>
    show win0_10.index _ (0 : Fin 2) * 64 ≤ (i 0).val ∧ (i 0).val < win0_10.index _ (0 : Fin 2) * 64 + 64
    rw [e0]
    dsimp only
    omega
  | ⟨1, _⟩ =>
    show win0_10.index _ (1 : Fin 2) * 2048 ≤ (i 1).val ∧ (i 1).val < win0_10.index _ (1 : Fin 2) * 2048 + 2048
    rw [e1]; omega

theorem final10 (c : Dev nD) : (dats m 0 c).arrAt 10 cfg0.N = W2 m c :=
  (dats m 0 c).arrAt_eq_of_cover 10 _ (fun t _ => flushed10_eq m c t) covered10

end Cert.AttnIdeal.AttnVal

end
-- ==== Proof.Attn.lean ====
/-
  The attention call's claims: what the precondition says of the inputs, the weights' casts, and the two results joined.
-/
module

public import proofs.«01_k».proof.Proof.AttnKernel
public import proofs.«01_k».proof.Proof.Gen.Attn.Frame
public import proofs.«01_k».proof.Proof.Gen.AttnReferenceIdeal.Read
public import Idealize.ShloMosaic.Adequacy
public import Idealize.ShloMosaic.Lib.ReduceAll

@[expose] public section

set_option maxRecDepth 16384

noncomputable section

namespace Cert.Proof.Attn

open Idealize.ShloMosaic Idealize.ShloMosaic.TcCoe Idealize.SL.Sem
open Cert.AttnIdeal.AttnVal (G W0 W1 W2)
open Cert.AttnReferenceIdeal.Read

/-- The precondition's own side conditions. -/
theorem pre_facts : Cert.Pre_scores_finite.Facts where
  bcast_S_S2x4096x16x192 := by decide
  reducesTo_S2x4096x16x192_S_d0_1_2_3 := by decide
  h_S_ := by decide
  bcast_S_S2x4096x16x128 := by decide
  reducesTo_S2x4096x16x128_S_d0_1_2_3 := by decide
  bcast_S_S2x4096x64 := by decide
  reducesTo_S2x4096x64_S_d0_1_2 := by decide

instance : Cert.Pre_scores_finite.Facts := pre_facts

/-- A value whose magnitude is below infinity is a real number. -/
theorem real_of_lt (x : EReal) (h : Ideal.cmp .olt (max x (-x)) ⊤ = 1#1) : x = ((x.toReal : ℝ) : EReal) := by
  have h' : max x (-x) < ⊤ := by
    by_contra hn
    simp [Ideal.cmp, hn] at h
  have ht : x ≠ ⊤ := by
    rintro rfl
    simp at h'
  have hb : x ≠ ⊥ := by
    rintro rfl
    simp at h'
  exact (EReal.coe_toReal ht hb).symm

/-- The bound's bits are infinity. -/
theorem inf_bits : Ideal.ofBits .f32 0x7F800000#32 = (⊤ : EReal) := by
  simp [Ideal.ofBits, Ideal.ieee]

instance : Subsingleton Cert.Pre_scores_finite.S_.Idx := ⟨fun a b => funext fun k => k.elim0⟩

/-- The precondition says that the queries and the two key parts are real numbers. -/
theorem pre_real (x0 : FVec Ideal Cert.Pre_scores_finite.S2x4096x16x192 .f32) (x1 : FVec Ideal Cert.Pre_scores_finite.S2x4096x16x128 .f32)
    (x2 : FVec Ideal Cert.Pre_scores_finite.S2x4096x64 .f32) (x3 : FVec Ideal Cert.Pre_scores_finite.S2x4096x16x128 .f32)
    (x4 x5 x6 : FVec Ideal Cert.Pre_scores_finite.S1x2048x2048 .f32)
    (h : Cert.Pre_scores_finite.fn (F := Ideal) x0 x1 x2 x3 x4 x5 x6 = fun _ => 1#1) :
    (∀ i, x0 i = ((EReal.toReal (x0 i) : ℝ) : EReal)) ∧ (∀ i, x1 i = ((EReal.toReal (x1 i) : ℝ) : EReal))
      ∧ (∀ i, x2 i = ((EReal.toReal (x2 i) : ℝ) : EReal)) := by
  have h' := congrFun h (fun k => k.elim0)
  dsimp only [Cert.Pre_scores_finite.fn] at h'
  have hand : ∀ a b : BitVec 1, a &&& b = 1#1 → a = 1#1 ∧ b = 1#1 := by decide
  obtain ⟨h01, h2⟩ := hand _ _ h'
  obtain ⟨h0, h1⟩ := hand _ _ h01
  refine ⟨fun i => real_of_lt _ ?_, fun i => real_of_lt _ ?_, fun i => real_of_lt _ ?_⟩
  · have := Host.reduce_andi_all _ _ _ _ _ h0 i
    rw [← inf_bits]; exact this
  · have := Host.reduce_andi_all _ _ _ _ _ h1 i
    rw [← inf_bits]; exact this
  · have := Host.reduce_andi_all _ _ _ _ _ h2 i
    rw [← inf_bits]; exact this

/-- A weight's cast at an index, in the reference. -/
theorem weight0 (x : Vec Ideal Cert.AttnReferenceIdeal.S1x2048x2048 .f32) :
    (val_main_v30 (F := Ideal) x : Vec Ideal Cert.AttnReferenceIdeal.S2048x2048 .bf16)
      = fun i => x (ix3 0 (i 0) (i 1)) := by
  funext i
  idx_vars i
  unfold val_main_v30 val_main_v29
  pointwise

theorem weight1 (x : Vec Ideal Cert.AttnReferenceIdeal.S1x2048x2048 .f32) :
    (val_main_v32 (F := Ideal) x : Vec Ideal Cert.AttnReferenceIdeal.S2048x2048 .bf16)
      = fun i => x (ix3 0 (i 0) (i 1)) := by
  funext i
  idx_vars i
  unfold val_main_v32 val_main_v31
  pointwise

theorem weight2 (x : Vec Ideal Cert.AttnReferenceIdeal.S1x2048x2048 .f32) :
    (val_main_v34 (F := Ideal) x : Vec Ideal Cert.AttnReferenceIdeal.S2048x2048 .bf16)
      = fun i => x (ix3 0 (i 0) (i 1)) := by
  funext i
  idx_vars i
  unfold val_main_v34 val_main_v33
  pointwise

/-- The program's frame at the bit-exact instance. -/
theorem frame_p : Cert.quiescent_Attn := fun m ρ _ => Cert.Attn.Gen.frame m ρ

/-- The idealized program's frame. -/
theorem frame_pi : Cert.quiescent_AttnIdeal := fun m ρ _ => Cert.AttnIdeal.Gen.frame m ρ

/-- The same where the precondition is met. -/
theorem frame_pi_pre : Cert.quiescent_AttnIdeal_pre_scores_finite := fun m ρ _ => Cert.AttnIdeal.Gen.frame m ρ

/-- The reference's frame: host operations only, no semaphore. -/
theorem frame_ri : Cert.quiescent_AttnReferenceIdeal := fun m ρ _ =>
  (θ_run Cert.AttnReferenceIdeal.defs _ _).mono (fun r h => ⟨fun c => (h c).2.2.2.2, sem_eq_zero_of_no_sems (by decide) r.2⟩)
    (Cert.AttnReferenceIdeal.Value.run (F := Ideal) m ρ)

/-- The same where the precondition is met. -/
theorem frame_ri_pre : Cert.quiescent_AttnReferenceIdeal_pre_scores_finite := fun m ρ _ => frame_ri m ρ trivial

/-- The kernel's four result arrays are the reference's, element by element. -/
theorem algebraic : Cert.algebraic_AttnIdeal_AttnReferenceIdeal_pre_scores_finite := fun m ρ m' ρ' hpre hag =>
  ⟨fun c => G m c, fun c => W0 m c, fun c => W1 m c, fun c => W2 m c,
    (θ_run Cert.AttnIdeal.defs _ _).mono (fun r h c => by
        obtain ⟨h0, h1, h2⟩ := pre_real _ _ _ _ _ _ _ (hpre c)
        exact ⟨(h c).1.trans (Cert.AttnIdeal.AttnVal.final m c _ _ _ h0 h1 h2),
          (h c).2.1.trans (Cert.AttnIdeal.AttnVal.final8 m c),
          (h c).2.2.1.trans (Cert.AttnIdeal.AttnVal.final9 m c),
          (h c).2.2.2.1.trans (Cert.AttnIdeal.AttnVal.final10 m c), (h c).2.2.2.2⟩)
      (Cert.AttnIdeal.Value.run_blocks (F := Ideal) m ρ),
    (θ_run Cert.AttnReferenceIdeal.defs _ _).mono (fun r h c => by
        obtain ⟨a0, a1, a2, a3, a4, a5, a6⟩ := hag c
        exact ⟨(h c).1.trans ((val_main_v28_eq (F := Ideal) _ _).trans (by rw [a0, a1, a2, a3]; rfl)),
          (h c).2.1.trans ((val_main_v30_eq (F := Ideal) _).trans ((weight0 _).trans (by rw [a4]; rfl))),
          (h c).2.2.1.trans ((val_main_v32_eq (F := Ideal) _).trans ((weight1 _).trans (by rw [a5]; rfl))),
          (h c).2.2.2.1.trans ((val_main_v34_eq (F := Ideal) _).trans ((weight2 _).trans (by rw [a6]; rfl))),
          (h c).2.2.2.2⟩)
      (Cert.AttnReferenceIdeal.Value.run (F := Ideal) m' ρ')⟩

end Cert.Proof.Attn

end
-- ==== Proof.NormKernel.lean ====
/-
  The first norm, the rotary tables and the latent columns of the projection, read at an index: what each grid point leaves
  in the four output blocks and in the carried scratch, and what the four result arrays end holding.
-/
module

public import proofs.«01_k».proof.Defs
public import proofs.«01_k».proof.Proof.Gen.NormIdeal.Value
public import Idealize.ShloMosaic.Lib.Pipeline.Value
public import Idealize.ShloMosaic.Lib.Pointwise
public import Idealize.ShloMosaic.Lib.StableHlo.ReadAt
public import Idealize.ShloMosaic.Lib.Tactic

@[expose] public section

set_option maxRecDepth 16384

noncomputable section

namespace Cert.NormIdeal.NmVal

open Cert.NormIdeal Cert.NormIdeal.Gen
open Idealize.ShloMosaic Idealize.ShloMosaic.TcCoe Idealize.SL.Sem

theorem hz : (![0, 0] : Fin 2 → Nat) = fun _ => 0 := funext fun a => by fin_cases a <;> rfl

/-! ## What a point leaves in each buffer -/

section
variable {F : FTy → Type} [FloatOps F]
variable (c : Dev nD) (i : grid0.Coords)
  (a1 : Memref sig .tc .vmem S512x2048 .f32) (h1 : a1.IsWhole)
  (a2 : Memref sig .tc .vmem S1x2048 .f32) (h2 : a2.IsWhole)
  (a3 : Memref sig .tc .vmem S512x1 .i32) (h3 : a3.IsWhole)
  (a4 : Memref sig .tc .vmem S1x128 .f32) (h4 : a4.IsWhole)
  (a5 : Memref sig .tc .vmem S1024x2048 .f32) (h5 : a5.IsWhole)
  (a6 : Memref sig .tc .vmem S512x2048 .bf16) (h6 : a6.IsWhole)
  (a7 : Memref sig .tc .vmem S512x128 .f32) (h7 : a7.IsWhole)
  (a8 : Memref sig .tc .vmem S512x128 .f32) (h8 : a8.IsWhole)
  (a9 : Memref sig .tc .vmem S512x1024 .bf16) (h9 : a9.IsWhole)
  (a10 : Memref sig .tc .vmem S1024x2048 .bf16) (h10 : a10.IsWhole)
  (x0 : Vec F S512x2048 .f32) (x1 : Vec F S1x2048 .f32) (x2 : Vec F S512x1 .i32) (x3 : Vec F S1x128 .f32)
  (x4 : Vec F S1024x2048 .f32) (xs : Vec F S1024x2048 .bf16)

/-- On the first point the scratch is left holding the rounded weight rows. -/
theorem scratch_A (hc : cond0_0 i) :
    sout0_A_0 c i a1 h1 a2 h2 a3 h3 a4 h4 a5 h5 a6 h6 a7 h7 a8 h8 a9 h9 a10 h10 hc x0 x1 x2 x3 x4 = k0_pay2 x4 := by
  unfold sout0_A_0
  rw [View.read_writes_eq_canon _ _ _ (scover0_A_0 c i a1 h1 a2 h2 a3 h3 a4 h4 a5 h5 a6 h6 a7 h7 a8 h8 a9 h9 a10 h10 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x2048) hz, View.ld_unit_zero (S := S1x2048) hz, View.ld_unit_zero (S := S512x1) hz, View.ld_unit_zero (S := S1x128) hz, View.ld_unit_zero (S := S1024x2048) hz]

/-- Output 5 on the first point. -/
theorem out_A_5 (hc : cond0_0 i) :
    out0_A_5 c i a1 h1 a2 h2 a3 h3 a4 h4 a5 h5 a6 h6 a7 h7 a8 h8 a9 h9 a10 h10 hc x0 x1 x2 x3 x4 = k0_pay3 x0 x1 := by
  unfold out0_A_5
  rw [View.read_writes_eq_canon _ _ _ (cover0_A_5 c i a1 h1 a2 h2 a3 h3 a4 h4 a5 h5 a6 h6 a7 h7 a8 h8 a9 h9 a10 h10 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x2048) hz, View.ld_unit_zero (S := S1x2048) hz, View.ld_unit_zero (S := S512x1) hz, View.ld_unit_zero (S := S1x128) hz, View.ld_unit_zero (S := S1024x2048) hz]

/-- Output 6 on the first point. -/
theorem out_A_6 (hc : cond0_0 i) :
    out0_A_6 c i a1 h1 a2 h2 a3 h3 a4 h4 a5 h5 a6 h6 a7 h7 a8 h8 a9 h9 a10 h10 hc x0 x1 x2 x3 x4 = k0_pay5 x2 x3 := by
  unfold out0_A_6
  rw [View.read_writes_eq_canon _ _ _ (cover0_A_6 c i a1 h1 a2 h2 a3 h3 a4 h4 a5 h5 a6 h6 a7 h7 a8 h8 a9 h9 a10 h10 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x2048) hz, View.ld_unit_zero (S := S1x2048) hz, View.ld_unit_zero (S := S512x1) hz, View.ld_unit_zero (S := S1x128) hz, View.ld_unit_zero (S := S1024x2048) hz]

/-- Output 7 on the first point. -/
theorem out_A_7 (hc : cond0_0 i) :
    out0_A_7 c i a1 h1 a2 h2 a3 h3 a4 h4 a5 h5 a6 h6 a7 h7 a8 h8 a9 h9 a10 h10 hc x0 x1 x2 x3 x4 = k0_pay6 x2 x3 := by
  unfold out0_A_7
  rw [View.read_writes_eq_canon _ _ _ (cover0_A_7 c i a1 h1 a2 h2 a3 h3 a4 h4 a5 h5 a6 h6 a7 h7 a8 h8 a9 h9 a10 h10 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x2048) hz, View.ld_unit_zero (S := S1x2048) hz, View.ld_unit_zero (S := S512x1) hz, View.ld_unit_zero (S := S1x128) hz, View.ld_unit_zero (S := S1024x2048) hz]

/-- Output 5 on a later point. -/
theorem out_B_5 (hc : ¬cond0_0 i) :
    out0_B_5 c i a1 h1 a2 h2 a3 h3 a4 h4 a5 h5 a6 h6 a7 h7 a8 h8 a9 h9 a10 h10 hc x0 x1 x2 x3 x4 xs = k0_pay3 x0 x1 := by
  unfold out0_B_5
  rw [View.read_writes_eq_canon _ _ _ (cover0_B_5 c i a1 h1 a2 h2 a3 h3 a4 h4 a5 h5 a6 h6 a7 h7 a8 h8 a9 h9 a10 h10 hc x0 x1 x2 x3 x4 xs)]
  unfold kernelRun0_B
  dsimp only
  sl_unfold_words
  rw [View.canon_unit_zero hz]
  simp only [View.readAt_eq_ld, h1.read_unread, h2.read_unread, h3.read_unread, h4.read_unread, h5.read_unread, h10.read_unread, View.ld_unit_zero (S := S512x2048) hz, View.ld_unit_zero (S := S1x2048) hz, View.ld_unit_zero (S := S512x1) hz, View.ld_unit_zero (S := S1x128) hz, View.ld_unit_zero (S := S1024x2048) hz]

/-- Output 6 on a later point. -/
theorem out_B_6 (hc : ¬cond0_0 i) :
    out0_B_6 c i a1 h1 a2 h2 a3 h3 a4 h4 a5 h5 a6 h6 a7 h7 a8 h8 a9 h9 a10 h10 hc x0 x1 x2 x3 x4 xs = k0_pay5 x2 x3 := by
  unfold out0_B_6
  rw [View.read_writes_eq_canon _ _ _ (cover0_B_6 c i a1 h1 a2 h2 a3 h3 a4 h4 a5 h5 a6 h6 a7 h7 a8 h8 a9 h9 a10 h10 hc x0 x1 x2 x3 x4 xs)]
  unfold kernelRun0_B
  dsimp only
  sl_unfold_words
  rw [View.canon_unit_zero hz]
  simp only [View.readAt_eq_ld, h1.read_unread, h2.read_unread, h3.read_unread, h4.read_unread, h5.read_unread, h10.read_unread, View.ld_unit_zero (S := S512x2048) hz, View.ld_unit_zero (S := S1x2048) hz, View.ld_unit_zero (S := S512x1) hz, View.ld_unit_zero (S := S1x128) hz, View.ld_unit_zero (S := S1024x2048) hz]

/-- Output 7 on a later point. -/
theorem out_B_7 (hc : ¬cond0_0 i) :
    out0_B_7 c i a1 h1 a2 h2 a3 h3 a4 h4 a5 h5 a6 h6 a7 h7 a8 h8 a9 h9 a10 h10 hc x0 x1 x2 x3 x4 xs = k0_pay6 x2 x3 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 xs)]
  unfold kernelRun0_B
  dsimp only
  sl_unfold_words
  rw [View.canon_unit_zero hz]
  simp only [View.readAt_eq_ld, h1.read_unread, h2.read_unread, h3.read_unread, h4.read_unread, h5.read_unread, h10.read_unread, View.ld_unit_zero (S := S512x2048) hz, View.ld_unit_zero (S := S1x2048) hz, View.ld_unit_zero (S := S512x1) hz, View.ld_unit_zero (S := S1x128) hz, View.ld_unit_zero (S := S1024x2048) hz]

/-- The latent columns on the first point: with the weight rows just rounded. -/
theorem out_A_8 (hc : cond0_0 i) :
    out0_A_8 c i a1 h1 a2 h2 a3 h3 a4 h4 a5 h5 a6 h6 a7 h7 a8 h8 a9 h9 a10 h10 hc x0 x1 x2 x3 x4 = k0_pay1 (k0_pay3 x0 x1) (k0_pay2 x4) (constant S512x1024 .f32 0x00000000#32) := by
  unfold out0_A_8
  rw [View.read_writes_eq_canon _ _ _ (cover0_A_8 c i a1 h1 a2 h2 a3 h3 a4 h4 a5 h5 a6 h6 a7 h7 a8 h8 a9 h9 a10 h10 hc x0 x1 x2 x3 x4)]
  unfold kernelRun0_A
  dsimp only
  sl_unfold_words
  rw [View.canon_unit_zero hz, View.readCov_unit_zero (S := S1024x2048) _ hz]
  simp only [View.readAt_eq_ld, h1.read_unread, h2.read_unread, h3.read_unread, h4.read_unread, h5.read_unread, View.ld_unit_zero (S := S512x2048) hz, View.ld_unit_zero (S := S1x2048) hz, View.ld_unit_zero (S := S512x1) hz, View.ld_unit_zero (S := S1x128) hz, View.ld_unit_zero (S := S1024x2048) hz]

/-- On a later point the scratch stays. -/
theorem scratch_B (hc : ¬cond0_0 i) :
    sout0_B_0 c i a1 h1 a2 h2 a3 h3 a4 h4 a5 h5 a6 h6 a7 h7 a8 h8 a9 h9 a10 h10 hc x0 x1 x2 x3 x4 xs = xs := by
  unfold sout0_B_0
  rfl

/-- The latent columns on a later point: with what the scratch holds. -/
theorem out_B_8 (hc : ¬cond0_0 i) :
    out0_B_8 c i a1 h1 a2 h2 a3 h3 a4 h4 a5 h5 a6 h6 a7 h7 a8 h8 a9 h9 a10 h10 hc x0 x1 x2 x3 x4 xs = k0_pay1 (k0_pay3 x0 x1) xs (constant S512x1024 .f32 0x00000000#32) := by
  unfold out0_B_8
  rw [View.read_writes_eq_canon _ _ _ (cover0_B_8 c i a1 h1 a2 h2 a3 h3 a4 h4 a5 h5 a6 h6 a7 h7 a8 h8 a9 h9 a10 h10 hc x0 x1 x2 x3 x4 xs)]
  unfold kernelRun0_B
  dsimp only
  sl_unfold_words
  rw [View.canon_unit_zero hz]
  simp only [View.readAt_eq_ld, h1.read_unread, h2.read_unread, h3.read_unread, h4.read_unread, h5.read_unread, h10.read_unread, View.ld_unit_zero (S := S512x2048) hz, View.ld_unit_zero (S := S1x2048) hz, View.ld_unit_zero (S := S512x1) hz, View.ld_unit_zero (S := S1x128) hz, View.ld_unit_zero (S := S1024x2048) hz]

end

/-! ## The blocks at an index -/

/-- The block indices over the grid. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 6 ∧ win0_4.index t (1 : Fin 2) = 0) :=
  (by decide +kernel : ∀ t : Fin grid0.N, _)

/-- Row `r` of tile `t`. -/
def rowOf (t : Fin cfg0.N) (r : Fin 512) : Fin 8192 :=
  ⟨t.val * 512 + r.val, by have := lt_of_lt_of_eq t.isLt (show cfg0.N = 16 from N_0); omega⟩

/-- A small count read as a real. -/
theorem count_real (n : ℕ) (h : n < 128) : (FloatOps.sitofp FTy.f32 (BitVec.ofNat 32 n) : Ideal FTy.f32) = (((n : ℕ) : ℝ) : EReal) := by
  have e : (BitVec.ofNat 32 n).toInt = (n : ℤ) := by
    rw [BitVec.toInt_eq_toNat_of_lt (by rw [BitVec.toNat_ofNat]; omega), BitVec.toNat_ofNat]
    omega
  show (((BitVec.ofNat 32 n).toInt : ℝ) : EReal) = _
  rw [e]
  rfl

/-- The rotary frequencies: powers of 10000, for 64 retention lanes and twice for 32 latent lanes. -/
def freq (n : ℕ) : EReal :=
  if n < 64 then Ideal.pow (Ideal.ofBits FTy.f32 1176256512#32) (Ideal.div (-((n : ℕ) : ℝ)) (Ideal.ofBits FTy.f32 1115684864#32))
  else Ideal.pow (Ideal.ofBits FTy.f32 1176256512#32) (Ideal.div (-(((n - 64) % 32 : ℕ) : ℝ)) (Ideal.ofBits FTy.f32 1107296256#32))

section
variable (m : (ℓ : Loc nD τ sig) → Buf (Elt Ideal) ℓ)

theorem V_v1 (c : Dev nD) (k : Fin 2048) : V m c main_v1 (ix2 0 k) = m ((c : Thread nD τ).loc main_arg2) (ix2 0 k) := by
  unfold V
  after_reads_at

theorem V_v2 (c : Dev nD) (p : Fin 8192) : V m c main_v2 (ix2 p 0) = m ((c : Thread nD τ).loc main_arg1) (ix1 p) := by
  unfold V
  after_reads_at

theorem V_v4 (c : Dev nD) (r : Fin 11328) (k : Fin 2048) :
    V m c main_v4 (ix2 r k) = m ((c : Thread nD τ).loc main_arg3) (ix3 0 k r) := by
  unfold V
  after_reads_at

theorem V_v18 (c : Dev nD) (l : Fin 128) : V m c main_v18 (ix2 0 l) = freq l.val := by
  unfold V freq
  after_reads_at
  by_cases h0 : l.val < 64
  · rw [dif_pos h0, if_pos h0]
    after_reads_at
    rw [count_real _ (by omega)]
  · rw [dif_neg h0, if_neg h0]
    by_cases h1 : l.val - 64 < 32
    · rw [dif_pos h1]
      after_reads_at
      rw [Nat.mod_eq_of_lt h1, count_real _ (by omega)]
    · have hl := l.isLt
      rw [dif_neg h1, show (l.val - 64) % 32 = l.val - 64 - 32 by omega]
      after_reads_at
      rw [count_real _ (by omega)]

theorem blk0 (c : Dev nD) (t : Fin cfg0.N) (r : Fin 512) (k : Fin 2048) :
    (iblk m c 0 t : Vec Ideal S512x2048 .f32) (ix2 r k) = m ((c : Thread nD τ).loc main_arg0) (ix2 (rowOf t r) k) := by
  obtain ⟨⟨e0, e1⟩, -, -, -, -⟩ := idx_facts t
  have hr := r.isLt
  have hk := k.isLt
  rw [← V_main_arg0 m c]
  unfold iblk rowOf
  rw [View.read_apply]
  show V m c main_arg0 _ = V m c main_arg0 _
  congr 1
  funext a
  apply Fin.ext
  match a with
  | ⟨0, _⟩ => show win0_0.index t (0 : Fin 2) * 512 + 1 * r.val = t.val * 512 + r.val; rw [e0]; omega
  | ⟨1, _⟩ => show win0_0.index t (1 : Fin 2) * 2048 + 1 * k.val = k.val; rw [e1]; omega

theorem blk1 (c : Dev nD) (t : Fin cfg0.N) (r : Fin 1) (k : Fin 2048) :
    (iblk m c 1 t : Vec Ideal S1x2048 .f32) (ix2 r k) = m ((c : Thread nD τ).loc main_arg2) (ix2 0 k) := by
  obtain ⟨-, ⟨e0, e1⟩, -, -, -⟩ := idx_facts t
  have hr := r.isLt
  have hk := k.isLt
  rw [← V_v1 m c k]
  unfold iblk
  rw [View.read_apply]
  show V m c main_v1 _ = V m c main_v1 _
  congr 1
  funext a
  apply Fin.ext
  match a with
  | ⟨0, _⟩ => show win0_1.index t (0 : Fin 2) * 1 + 1 * r.val = 0; rw [e0]; omega
  | ⟨1, _⟩ => show win0_1.index t (1 : Fin 2) * 2048 + 1 * k.val = k.val; rw [e1]; omega

theorem blk2 (c : Dev nD) (t : Fin cfg0.N) (r : Fin 512) (k : Fin 1) :
    (iblk m c 2 t : Vec Ideal S512x1 .i32) (ix2 r k) = m ((c : Thread nD τ).loc main_arg1) (ix1 (rowOf t r)) := by
  obtain ⟨-, -, ⟨e0, e1⟩, -, -⟩ := idx_facts t
  have hr := r.isLt
  have hk := k.isLt
  rw [← V_v2 m c (rowOf t r)]
  unfold iblk rowOf
  rw [View.read_apply]
  show V m c main_v2 _ = V m c main_v2 _
  congr 1
  funext a
  apply Fin.ext
  match a with
  | ⟨0, _⟩ => show win0_2.index t (0 : Fin 2) * 512 + 1 * r.val = t.val * 512 + r.val; rw [e0]; omega
  | ⟨1, _⟩ => show win0_2.index t (1 : Fin 2) * 1 + 1 * k.val = 0; rw [e1]; omega

theorem blk3 (c : Dev nD) (t : Fin cfg0.N) (r : Fin 1) (k : Fin 128) :
    (iblk m c 3 t : Vec Ideal S1x128 .f32) (ix2 r k) = freq k.val := by
  obtain ⟨-, -, -, ⟨e0, e1⟩, -⟩ := idx_facts t
  have hr := r.isLt
  have hk := k.isLt
  rw [← V_v18 m c k]
  unfold iblk
  rw [View.read_apply]
  show V m c main_v18 _ = V m c main_v18 _
  congr 1
  funext a
  apply Fin.ext
  match a with
  | ⟨0, _⟩ => show win0_3.index t (0 : Fin 2) * 1 + 1 * r.val = 0; rw [e0]; omega
  | ⟨1, _⟩ => show win0_3.index t (1 : Fin 2) * 128 + 1 * k.val = k.val; rw [e1]; omega

theorem blk4 (c : Dev nD) (t : Fin cfg0.N) (r : Fin 1024) (k : Fin 2048) :
    (X0_4 m c t : Vec Ideal S1024x2048 .f32) (ix2 r k) = m ((c : Thread nD τ).loc main_arg3) (ix3 0 k ⟨6144 + r.val, by omega⟩) := by
  obtain ⟨-, -, -, -, ⟨e0, e1⟩⟩ := idx_facts t
  have hr := r.isLt
  have hk := k.isLt
  rw [← V_v4 m c ⟨6144 + r.val, by omega⟩ k]
  unfold X0_4 Pipeline.Window.fill
  rw [dif_pos (moved0_4 t _)]
  unfold iblk
  rw [View.read_apply]
  show V m c main_v4 _ = V m c main_v4 _
  congr 1
  funext a
  apply Fin.ext
  match a with
  | ⟨0, _⟩ => show win0_4.index t (0 : Fin 2) * 1024 + 1 * r.val = 6144 + r.val; rw [e0]; omega
  | ⟨1, _⟩ => show win0_4.index t (1 : Fin 2) * 2048 + 1 * k.val = k.val; rw [e1]; omega

/-- The weight rows are the same at every point. -/
theorem blk4_stay (c : Dev nD) (t t' : Fin cfg0.N) : (X0_4 m c t : Vec Ideal S1024x2048 .f32) = X0_4 m c t' := by
  funext j
  idx_vars j
  rw [blk4, blk4]

/-- What every point leaves in the four outputs and the scratch. -/
theorem state (c : Dev nD) : ∀ (n : ℕ) (h : n < cfg0.N), outsAt0 m c n h
    = (k0_pay3 (iblk m c 0 ⟨n, h⟩) (iblk m c 1 ⟨n, h⟩), k0_pay5 (iblk m c 2 ⟨n, h⟩) (iblk m c 3 ⟨n, h⟩),
       k0_pay6 (iblk m c 2 ⟨n, h⟩) (iblk m c 3 ⟨n, h⟩),
       k0_pay1 (k0_pay3 (iblk m c 0 ⟨n, h⟩) (iblk m c 1 ⟨n, h⟩)) (k0_pay2 (X0_4 m c ⟨n, h⟩)) (constant S512x1024 .f32 0x00000000#32),
       k0_pay2 (X0_4 m c ⟨n, h⟩)) := by
  intro n
  induction n with
  | zero =>
    intro h
    rw [outsAt0_A m c ⟨0, h⟩ rfl, out_A_5, out_A_6, out_A_7, out_A_8, scratch_A]
  | succ n ih =>
    intro h
    by_cases h0 : (n + 1) % 16 = 0
    · rw [outsAt0_A m c ⟨n + 1, h⟩ h0, out_A_5, out_A_6, out_A_7, out_A_8, scratch_A]
    · rw [outsAt0_B m c ⟨n + 1, h⟩ h0, out_B_5, out_B_6, out_B_7, out_B_8, scratch_B]
      have e : outsAt0 m c ((⟨n + 1, h⟩ : Fin cfg0.N).val - 1) (Nat.lt_of_le_of_lt (Nat.sub_le _ _) h)
          = outsAt0 m c n (Nat.lt_of_succ_lt h) := rfl
      rw [e, ih (Nat.lt_of_succ_lt h), blk4_stay m c ⟨n, Nat.lt_of_succ_lt h⟩ ⟨n + 1, h⟩]

/-! ## The payloads at an index -/

/-- The mean's divisor, 2048, and the number added under the root, as printed. -/
abbrev width : EReal := Ideal.ofBits FTy.f32 1157627904#32
abbrev eps : EReal := Ideal.ofBits FTy.f32 897988541#32

/-- One over the root mean square of a row. -/
def invRms (x : Fin 2048 → EReal) : EReal := Ideal.rsqrt (Ideal.div (∑ j, x j * x j) width + eps)

/-- The normed input at an index. -/
def norm (x : Vec Ideal S8192x2048 .f32) (g : Vec Ideal S1x2048 .f32) (p : Fin 8192) (j : Fin 2048) : EReal :=
  x (ix2 p j) * invRms (fun k => x (ix2 p k)) * g (ix2 0 j)

/-- The rotary angle of a token and a lane. -/
def angle (pos : Vec Ideal S8192 .i32) (p : Fin 8192) (l : Fin 128) : EReal := (((pos (ix1 p)).toInt : ℝ) : EReal) * freq l.val

/-- The latent columns. -/
def latent (x : Vec Ideal S8192x2048 .f32) (g : Vec Ideal S1x2048 .f32) (w : Vec Ideal S1x2048x11328 .f32) (p : Fin 8192)
    (l : Fin 1024) : EReal :=
  ∑ k : Fin 2048, norm x g p k * w (ix3 0 k ⟨6144 + l.val, by omega⟩)

theorem pay3_apply (x : Vec Ideal S512x2048 .f32) (g : Vec Ideal S1x2048 .f32) (r : Fin 512) (l : Fin 2048) :
    k0_pay3 x g (ix2 r l) = x (ix2 r l) * invRms (fun k => x (ix2 r k)) * g (ix2 0 l) := by
  unfold invRms
  pointwise [k0_pay3]

theorem pay5_apply (q : Vec Ideal S512x1 .i32) (f : Vec Ideal S1x128 .f32) (r : Fin 512) (l : Fin 128) :
    k0_pay5 (F := Ideal) q f (ix2 r l) = Ideal.cos ((((q (ix2 r 0)).toInt : ℝ) : EReal) * f (ix2 0 l)) := by
  pointwise [k0_pay5, k0_pay4]
  rfl

theorem pay6_apply (q : Vec Ideal S512x1 .i32) (f : Vec Ideal S1x128 .f32) (r : Fin 512) (l : Fin 128) :
    k0_pay6 (F := Ideal) q f (ix2 r l) = Ideal.sin ((((q (ix2 r 0)).toInt : ℝ) : EReal) * f (ix2 0 l)) := by
  pointwise [k0_pay6, k0_pay4]
  rfl

theorem pay1_apply (u : Vec Ideal S512x2048 .bf16) (w : Vec Ideal S1024x2048 .f32) (r : Fin 512) (l : Fin 1024) :
    k0_pay1 u (k0_pay2 w) (constant S512x1024 .f32 0x00000000#32) (ix2 r l) = ∑ k : Fin 2048, u (ix2 r k) * w (ix2 l k) := by
  pointwise [k0_pay1, k0_pay2]

/-! ## The result arrays -/

/-- Result 0 after the run. -/
theorem G5_apply (c : Dev nD) (p : Fin 8192) (l : Fin 2048) : Value.G5 m c (ix2 p l) = norm (m ((c : Thread nD τ).loc main_arg0)) (m ((c : Thread nD τ).loc main_arg2)) p l := by
  have hp := p.isLt
  have hl := l.isLt
  have hN : cfg0.N = 16 := N_0
  have hv : Value.pt5Of (ix2 p l) = p.val / 512 := by
    show 1 * (p.val / 512 - 0) + 1 * (l.val / 2048 - 0) = _; omega
  have hpt : Value.pt5Of (ix2 p l) < cfg0.N := by rw [hN, hv]; omega
  unfold Value.G5
  rw [dif_pos hpt, ← Value.outsAt0_sweep m c _ hpt, state]
  have el : Value.loc5Of (ix2 p l) = (ix2 ⟨p.val % 512, by omega⟩ l : S512x2048.Idx) := by
    funext a; match a with
    | ⟨0, _⟩ => rfl
    | ⟨1, _⟩ => exact Fin.ext (Nat.mod_eq_of_lt hl)
  have hrow : rowOf ⟨Value.pt5Of (ix2 p l), hpt⟩ ⟨p.val % 512, by omega⟩ = p := by
    apply Fin.ext
    show Value.pt5Of (ix2 p l) * 512 + p.val % 512 = p.val
    rw [hv]; omega
  rw [el]
  show k0_pay3 _ _ _ = _
  rw [pay3_apply]
  unfold norm
  simp only [blk0, blk1, hrow]

/-- Result 1 after the run. -/
theorem G6_apply (c : Dev nD) (p : Fin 8192) (l : Fin 128) : Value.G6 m c (ix2 p l) = Ideal.cos (angle (m ((c : Thread nD τ).loc main_arg1)) p l) := by
  have hp := p.isLt
  have hl := l.isLt
  have hN : cfg0.N = 16 := N_0
  have hv : Value.pt6Of (ix2 p l) = p.val / 512 := by
    show 1 * (p.val / 512 - 0) + 1 * (l.val / 128 - 0) = _; omega
  have hpt : Value.pt6Of (ix2 p l) < cfg0.N := by rw [hN, hv]; omega
  unfold Value.G6
  rw [dif_pos hpt, ← Value.outsAt0_sweep m c _ hpt, state]
  have el : Value.loc6Of (ix2 p l) = (ix2 ⟨p.val % 512, by omega⟩ l : S512x128.Idx) := by
    funext a; match a with
    | ⟨0, _⟩ => rfl
    | ⟨1, _⟩ => exact Fin.ext (Nat.mod_eq_of_lt hl)
  have hrow : rowOf ⟨Value.pt6Of (ix2 p l), hpt⟩ ⟨p.val % 512, by omega⟩ = p := by
    apply Fin.ext
    show Value.pt6Of (ix2 p l) * 512 + p.val % 512 = p.val
    rw [hv]; omega
  rw [el]
  show k0_pay5 _ _ _ = _
  rw [pay5_apply]
  unfold angle
  rw [blk2, blk3, hrow]

/-- Result 2 after the run. -/
theorem G7_apply (c : Dev nD) (p : Fin 8192) (l : Fin 128) : Value.G7 m c (ix2 p l) = Ideal.sin (angle (m ((c : Thread nD τ).loc main_arg1)) p l) := by
  have hp := p.isLt
  have hl := l.isLt
  have hN : cfg0.N = 16 := N_0
  have hv : Value.pt7Of (ix2 p l) = p.val / 512 := by
    show 1 * (p.val / 512 - 0) + 1 * (l.val / 128 - 0) = _; omega
  have hpt : Value.pt7Of (ix2 p l) < cfg0.N := by rw [hN, hv]; omega
  unfold Value.G7
  rw [dif_pos hpt, ← Value.outsAt0_sweep m c _ hpt, state]
  have el : Value.loc7Of (ix2 p l) = (ix2 ⟨p.val % 512, by omega⟩ l : S512x128.Idx) := by
    funext a; match a with
    | ⟨0, _⟩ => rfl
    | ⟨1, _⟩ => exact Fin.ext (Nat.mod_eq_of_lt hl)
  have hrow : rowOf ⟨Value.pt7Of (ix2 p l), hpt⟩ ⟨p.val % 512, by omega⟩ = p := by
    apply Fin.ext
    show Value.pt7Of (ix2 p l) * 512 + p.val % 512 = p.val
    rw [hv]; omega
  rw [el]
  show k0_pay6 _ _ _ = _
  rw [pay6_apply]
  unfold angle
  rw [blk2, blk3, hrow]

/-- Result 3 after the run. -/
theorem G8_apply (c : Dev nD) (p : Fin 8192) (l : Fin 1024) : Value.G8 m c (ix2 p l) = latent (m ((c : Thread nD τ).loc main_arg0)) (m ((c : Thread nD τ).loc main_arg2)) (m ((c : Thread nD τ).loc main_arg3)) p l := by
  have hp := p.isLt
  have hl := l.isLt
  have hN : cfg0.N = 16 := N_0
  have hv : Value.pt8Of (ix2 p l) = p.val / 512 := by
    show 1 * (p.val / 512 - 0) + 1 * (l.val / 1024 - 0) = _; omega
  have hpt : Value.pt8Of (ix2 p l) < cfg0.N := by rw [hN, hv]; omega
  unfold Value.G8
  rw [dif_pos hpt, ← Value.outsAt0_sweep m c _ hpt, state]
  have el : Value.loc8Of (ix2 p l) = (ix2 ⟨p.val % 512, by omega⟩ l : S512x1024.Idx) := by
    funext a; match a with
    | ⟨0, _⟩ => rfl
    | ⟨1, _⟩ => exact Fin.ext (Nat.mod_eq_of_lt hl)
  have hrow : rowOf ⟨Value.pt8Of (ix2 p l), hpt⟩ ⟨p.val % 512, by omega⟩ = p := by
    apply Fin.ext
    show Value.pt8Of (ix2 p l) * 512 + p.val % 512 = p.val
    rw [hv]; omega
  rw [el]
  show k0_pay1 _ (k0_pay2 _) _ _ = _
  rw [pay1_apply]
  unfold latent norm
  refine Finset.sum_congr rfl fun k _ => ?_
  rw [pay3_apply]
  simp only [blk0, blk1, blk4, hrow]

end

end Cert.NormIdeal.NmVal

end
-- ==== Proof.Norm.lean ====
/-
  The claims of the first norm, the rotary tables and the latent columns: the reference read at an index, and the results
  joined.
-/
module

public import proofs.«01_k».proof.Proof.NormKernel
public import proofs.«01_k».proof.Proof.Gen.Norm.Frame
public import proofs.«01_k».proof.Proof.Gen.NormReferenceIdeal.Read
public import Idealize.ShloMosaic.Adequacy

@[expose] public section

set_option maxRecDepth 16384

noncomputable section

namespace Cert.Proof.Norm

open Idealize.ShloMosaic Idealize.ShloMosaic.TcCoe Idealize.SL.Sem
open Cert.NormIdeal (S8192x2048 S8192 S1x2048 S1x2048x11328 S8192x128 S8192x1024)
open Cert.NormIdeal.NmVal (norm invRms angle freq latent count_real)
open Cert.NormReferenceIdeal.Read

section
variable (x : Vec Ideal S8192x2048 .f32) (pos : Vec Ideal S8192 .i32) (g : Vec Ideal S1x2048 .f32)
  (w : Vec Ideal S1x2048x11328 .f32)

/-- The norm at an index. -/
theorem norm_apply (p : Fin 8192) (j : Fin 2048) : val_main_v50 (F := Ideal) x g (ix2 p j) = norm x g p j := by
  unfold NormIdeal.NmVal.norm invRms
  pointwise [val_main_v50, val_main_v49, val_main_v48, val_main_v47, val_main_v46, val_main_v45, val_main_v44, val_main_v43,
    val_main_v42, val_main_v41, val_main_v40, val_main_v39, val_main_v38, val_main_v37, val_main_cst_5, val_main_cst_6,
    val_main_cst_7]

/-- The retention's angles at an index. -/
theorem wide_apply (p : Fin 8192) (l : Fin 64) : val_main_v11 (F := Ideal) pos (ix2 p l)
    = (((pos (ix1 p)).toInt : ℝ) : EReal) * freq l.val := by
  unfold freq
  rw [if_pos l.isLt, ← count_real _ (by omega)]
  pointwise [val_main_v11, val_main_v10, val_main_v9, val_main_v8, val_main_v7, val_main_v6, val_main_v5, val_main_v4,
    val_main_v3, val_main_v2, val_main_v1, val_main_v0, val_main_cst, val_main_cst_0]
  rfl

/-- The latent lanes' angles at an index, in each of their two copies. -/
theorem narrow_apply (p : Fin 8192) (l : Fin 32) : val_main_v23 (F := Ideal) pos (ix2 p l)
    = (((pos (ix1 p)).toInt : ℝ) : EReal) * freq (64 + l.val) := by
  unfold freq
  rw [if_neg (by omega), show (64 + l.val - 64) % 32 = l.val by omega, ← count_real _ (by omega)]
  pointwise [val_main_v23, val_main_v22, val_main_v21, val_main_v20, val_main_v19, val_main_v18, val_main_v17, val_main_v16,
    val_main_v15, val_main_v14, val_main_v13, val_main_v12, val_main_cst_1, val_main_cst_2]
  rfl

theorem narrow_apply' (p : Fin 8192) (l : Fin 32) : val_main_v35 (F := Ideal) pos (ix2 p l)
    = (((pos (ix1 p)).toInt : ℝ) : EReal) * freq (96 + l.val) := by
  unfold freq
  rw [if_neg (by omega), show (96 + l.val - 64) % 32 = l.val by omega, ← count_real _ (by omega)]
  pointwise [val_main_v35, val_main_v34, val_main_v33, val_main_v32, val_main_v31, val_main_v30, val_main_v29, val_main_v28,
    val_main_v27, val_main_v26, val_main_v25, val_main_v24, val_main_cst_3, val_main_cst_4]
  rfl

/-- The joined angles at an index. -/
theorem angle_apply (p : Fin 8192) (l : Fin 128) : val_main_v36 (F := Ideal) pos (ix2 p l) = angle pos p l := by
  have h1 := wide_apply pos
  have h2 := narrow_apply pos
  have h3 := narrow_apply' pos
  have hl := l.isLt
  unfold val_main_v36 NormIdeal.NmVal.angle
  generalize val_main_v11 (F := Ideal) pos = y1 at h1 ⊢
  generalize val_main_v23 (F := Ideal) pos = y2 at h2 ⊢
  generalize val_main_v35 (F := Ideal) pos = y3 at h3 ⊢
  pointwise
  by_cases c1 : l.val < 64
  · rw [dif_pos c1]; exact h1 p ⟨l.val, c1⟩
  · rw [dif_neg c1]
    by_cases c2 : l.val - 64 < 32
    · rw [dif_pos c2]
      refine (h2 p ⟨l.val - 64, c2⟩).trans ?_
      rw [show 64 + (l.val - 64) = l.val by omega]
    · rw [dif_neg c2]
      refine (h3 p ⟨l.val - 64 - 32, by omega⟩).trans ?_
      rw [show 96 + (l.val - 64 - 32) = l.val by omega]

/-- The full product at an index. -/
theorem full_apply (p : Fin 8192) (q : Fin 11328) :
    val_main_v52 (F := Ideal) x g w (ix2 p q) = ∑ k : Fin 2048, norm x g p k * w (ix3 0 k q) := by
  have hn := norm_apply x g
  unfold val_main_v52 val_main_v51
  generalize val_main_v50 (F := Ideal) x g = y at hn ⊢
  pointwise
  simp only [hn]

/-! ## The four results as functions of the arguments -/

theorem norm_eq : (val_main_v53 (F := Ideal) x g : Vec Ideal S8192x2048 .bf16) = fun i => norm x g (i 0) (i 1) := by
  funext i
  idx_vars i
  exact norm_apply x g _ _

theorem cos_eq : (val_main_v54 (F := Ideal) pos : Vec Ideal S8192x128 .f32) = fun i => Ideal.cos (angle pos (i 0) (i 1)) := by
  funext i
  idx_vars i
  show Ideal.cos (val_main_v36 (F := Ideal) pos (ix2 i0 i1)) = _
  rw [angle_apply]

theorem sin_eq : (val_main_v55 (F := Ideal) pos : Vec Ideal S8192x128 .f32) = fun i => Ideal.sin (angle pos (i 0) (i 1)) := by
  funext i
  idx_vars i
  show Ideal.sin (val_main_v36 (F := Ideal) pos (ix2 i0 i1)) = _
  rw [angle_apply]

theorem latent_eq : (val_main_v57 (F := Ideal) x g w : Vec Ideal S8192x1024 .bf16) = fun i => latent x g w (i 0) (i 1) := by
  have hn := full_apply x g w
  funext i
  idx_vars i
  show _ = latent x g w i0 i1
  unfold latent val_main_v57 val_main_v56
  rw [← hn]
  generalize val_main_v52 (F := Ideal) x g w = y at hn ⊢
  pointwise

end

/-- The program's frame at the bit-exact instance. -/
theorem frame_p : Cert.quiescent_Norm := fun m ρ _ => Cert.Norm.Gen.frame m ρ

/-- The idealized program's frame. -/
theorem frame_pi : Cert.quiescent_NormIdeal := fun m ρ _ => Cert.NormIdeal.Gen.frame m ρ

/-- The reference's frame: host operations only, no semaphore. -/
theorem frame_ri : Cert.quiescent_NormReferenceIdeal := fun m ρ _ =>
  (θ_run Cert.NormReferenceIdeal.defs _ _).mono (fun r h => ⟨fun c => (h c).2.2.2.2, sem_eq_zero_of_no_sems (by decide) r.2⟩)
    (Cert.NormReferenceIdeal.Value.run (F := Ideal) m ρ)

section
open Cert.NormIdeal
variable (m : (ℓ : Loc nD τ sig) → Buf (Elt Ideal) ℓ) (c : Dev nD)

theorem result0 : (Value.G5 m c : Vec Ideal S8192x2048 .bf16)
    = fun i => norm (m ((c.tc : Thread nD τ).loc main_arg0)) (m ((c.tc : Thread nD τ).loc main_arg2)) (i 0) (i 1) := by
  funext i; idx_vars i; exact NmVal.G5_apply m c _ _

theorem result1 : (Value.G6 m c : Vec Ideal S8192x128 .f32)
    = fun i => Ideal.cos (angle (m ((c.tc : Thread nD τ).loc main_arg1)) (i 0) (i 1)) := by
  funext i; idx_vars i; exact NmVal.G6_apply m c _ _

theorem result2 : (Value.G7 m c : Vec Ideal S8192x128 .f32)
    = fun i => Ideal.sin (angle (m ((c.tc : Thread nD τ).loc main_arg1)) (i 0) (i 1)) := by
  funext i; idx_vars i; exact NmVal.G7_apply m c _ _

theorem result3 : (Value.G8 m c : Vec Ideal S8192x1024 .bf16)
    = fun i => latent (m ((c.tc : Thread nD τ).loc main_arg0)) (m ((c.tc : Thread nD τ).loc main_arg2))
        (m ((c.tc : Thread nD τ).loc main_arg3)) (i 0) (i 1) := by
  funext i; idx_vars i; exact NmVal.G8_apply m c _ _

end

/-- The kernel's four result arrays are the reference's, element by element. -/
theorem algebraic : Cert.algebraic_NormIdeal_NormReferenceIdeal := fun m ρ m' ρ' _ hag =>
  ⟨fun c => Cert.NormIdeal.Value.G5 m c, fun c => Cert.NormIdeal.Value.G6 m c, fun c => Cert.NormIdeal.Value.G7 m c,
    fun c => Cert.NormIdeal.Value.G8 m c, Cert.NormIdeal.Value.run m ρ,
    (θ_run Cert.NormReferenceIdeal.defs _ _).mono (fun r h c => by
      obtain ⟨h0, h1, h2, h3⟩ := hag c
      exact ⟨(h c).1.trans ((val_main_v53_eq (F := Ideal) _ _).trans ((norm_eq _ _).trans (by
          rw [h0, h2]; exact (result0 m c).symm))),
        (h c).2.1.trans ((val_main_v54_eq (F := Ideal) _).trans ((cos_eq _).trans (by
          rw [h1]; exact (result1 m c).symm))),
        (h c).2.2.1.trans ((val_main_v55_eq (F := Ideal) _).trans ((sin_eq _).trans (by
          rw [h1]; exact (result2 m c).symm))),
        (h c).2.2.2.1.trans ((val_main_v57_eq (F := Ideal) _ _ _).trans ((latent_eq _ _ _).trans (by
          rw [h0, h2, h3]; exact (result3 m c).symm))), (h c).2.2.2.2⟩)
      (Cert.NormReferenceIdeal.Value.run (F := Ideal) m' ρ')⟩

end Cert.Proof.Norm

end
-- ==== Proof.RetSums.lean ====
/-
  The retention's sums over real numbers: the state carried from one block of 256 keys to the next, and one query's
  weighted sum of the values as a sum over the query's own block plus a reading of the state.
-/
module

public import Idealize.ShloMosaic.PureOps.Ideal.Laws

@[expose] public section

noncomputable section

namespace Cert.Ret

/-- The weight of key `m` for query `n`: a power of the head's decay where the key's chunk of 64 is not after the query's. -/
def decay (L : ℝ) (n m : ℕ) : ℝ := if m / 64 ≤ n / 64 then Real.exp (L * |(n : ℝ) - (m : ℝ)|) else 0

/-- The state after the first `N` keys. -/
def state (L : ℝ) (K : ℕ → Fin 128 → ℝ) (V : ℕ → Fin 256 → ℝ) (N : ℕ) (d : Fin 128) (e : Fin 256) : ℝ :=
  ∑ m ∈ Finset.range N, K m d * Real.exp (L * ((N : ℝ) - 1 - m)) * V m e

/-- A query's weighted sum of the first `M` values. -/
def out (L : ℝ) (Q : Fin 128 → ℝ) (K : ℕ → Fin 128 → ℝ) (V : ℕ → Fin 256 → ℝ) (M n : ℕ) (e : Fin 256) : ℝ :=
  ∑ m ∈ Finset.range M, (∑ d : Fin 128, Q d * K m d) * decay L n m * V m e

variable (L : ℝ) (Q : Fin 128 → ℝ) (K : ℕ → Fin 128 → ℝ) (V : ℕ → Fin 256 → ℝ)

theorem state_zero (d : Fin 128) (e : Fin 256) : state L K V 0 d e = 0 := by
  unfold state
  simp

/-- One more block of 256 keys. -/
theorem state_step (N : ℕ) (d : Fin 128) (e : Fin 256) :
    state L K V (N + 256) d e = state L K V N d e * Real.exp (L * 256)
      + ∑ r : Fin 256, (K (N + r.val) d * Real.exp (L * (255 - (r.val : ℝ)))) * V (N + r.val) e := by
  unfold state
  rw [Finset.sum_range_add, Finset.sum_mul, Finset.sum_range (n := 256)]
  congr 1
  · refine Finset.sum_congr rfl fun m _ => ?_
    rw [show L * (((N + 256 : ℕ) : ℝ) - 1 - m) = L * ((N : ℝ) - 1 - m) + L * 256 by push_cast; ring, Real.exp_add]
    ring
  · refine Finset.sum_congr rfl fun r _ => ?_
    rw [show L * (((N + 256 : ℕ) : ℝ) - 1 - ((N + r.val : ℕ) : ℝ)) = L * (255 - (r.val : ℝ)) by push_cast; ring]

/-- A query of the block after the first `N` keys: its own block, and the state. -/
theorem out_split (N M : ℕ) (hN : 64 ∣ N) (r : Fin 256) (hM : N + 256 ≤ M) (e : Fin 256) :
    out L Q K V M (N + r.val) e
      = ∑ m : Fin 256, ((∑ d : Fin 128, Q d * K (N + m.val) d) * decay L r.val m.val) * V (N + m.val) e
        + ∑ d : Fin 128, (Q d * Real.exp (L * ((r.val : ℝ) + 1))) * state L K V N d e := by
  obtain ⟨M', rfl⟩ := Nat.exists_eq_add_of_le hM
  obtain ⟨j, rfl⟩ := hN
  have hr := r.isLt
  unfold out state
  rw [Finset.sum_range_add, Finset.sum_range_add,
    Finset.sum_eq_zero (s := Finset.range M') (fun m _ => by
      have : ¬(64 * j + 256 + m) / 64 ≤ (64 * j + r.val) / 64 := by omega
      unfold decay
      rw [if_neg this, mul_zero, zero_mul]), add_zero, add_comm]
  congr 1
  · rw [Finset.sum_range]
    refine Finset.sum_congr rfl fun m _ => ?_
    have hm := m.isLt
    congr 2
    unfold decay
    have e1 : (64 * j + m.val) / 64 ≤ (64 * j + r.val) / 64 ↔ m.val / 64 ≤ r.val / 64 := by omega
    have e2 : ((64 * j + r.val : ℕ) : ℝ) - ((64 * j + m.val : ℕ) : ℝ) = (r.val : ℝ) - (m.val : ℝ) := by push_cast; ring
    simp only [e1, e2]
  · have hd : ∀ m ∈ Finset.range (64 * j), (∑ d : Fin 128, Q d * K m d) * decay L (64 * j + r.val) m * V m e
        = ∑ d : Fin 128, (Q d * Real.exp (L * ((r.val : ℝ) + 1))) * (K m d * Real.exp (L * (((64 * j : ℕ) : ℝ) - 1 - m)) * V m e) := by
      intro m hm
      have hm' := Finset.mem_range.mp hm
      have h1 : decay L (64 * j + r.val) m = Real.exp (L * ((r.val : ℝ) + 1)) * Real.exp (L * (((64 * j : ℕ) : ℝ) - 1 - m)) := by
        have hc : (m : ℝ) ≤ ((64 * j + r.val : ℕ) : ℝ) := by exact_mod_cast (by omega : m ≤ 64 * j + r.val)
        unfold decay
        rw [if_pos (by omega), ← Real.exp_add, abs_of_nonneg (by linarith)]
        congr 1
        push_cast
        ring
      rw [h1, Finset.sum_mul, Finset.sum_mul]
      refine Finset.sum_congr rfl fun d _ => ?_
      ring
    rw [Finset.sum_congr rfl hd, Finset.sum_comm]
    refine Finset.sum_congr rfl fun d _ => ?_
    rw [Finset.mul_sum]

end Cert.Ret

end
-- ==== Proof.RetBlock.lean ====
/-
  One block of 256 rows of one retention head: the vectors the kernel computes from the head's slices, and what each of
  them holds at an index.
-/
module

public import proofs.«01_k».proof.Proof.RetSums
public import proofs.«01_k».proof.Proof.Gen.MixIdeal.Skeleton
public import Idealize.ShloMosaic.Lib.Pipeline.Value
public import Idealize.ShloMosaic.Lib.Pointwise
public import Idealize.ShloMosaic.Lib.StableHlo.ReadAt
public import Idealize.ShloMosaic.Lib.Tactic

@[expose] public section

set_option maxRecDepth 16384

noncomputable section

namespace Cert.MixIdeal.MxVal

open Cert.MixIdeal Cert.MixIdeal.Gen
open Idealize.ShloMosaic Idealize.ShloMosaic.TcCoe Idealize.SL.Sem

/-! ## The vectors -/

section
variable {F : FTy → Type} [FloatOps F]

/-- The lanes of the first half. -/
def firstHalf : IVec S256x128 1 := cmpi .slt (iota .tc S256x128 32 [1] iota_S256x128_d1_w32) (broadcast S256x128 64#32)

/-- The cosines, spread over both halves of the lanes. -/
def tabC (cs : Vec F S256x128 .f32) : FVec F S256x128 .f32 :=
  select firstHalf cs (dynamicRotate 1 64#32 none cs rotates_S256x128_d1)

/-- The sines, negated on the first half and spread over the second. -/
def tabS (sn : Vec F S256x128 .f32) : FVec F S256x128 .f32 :=
  select firstHalf (subf (broadcast S256x128 (Scalar.ofBits .f32 0x00000000#32)) sn) (dynamicRotate 1 64#32 none sn rotates_S256x128_d1)

/-- A table times the key's scale. -/
def scaled (x : FVec F S256x128 .f32) : FVec F S256x128 .f32 :=
  mulf x (broadcast S256x128 (Scalar.ofBits .f32 0x3DB504F3#32))

/-- Rows rotated by two tables. -/
def roped (t : Vec F S256x128 .bf16) (c s : FVec F S256x128 .f32) : FVec F S256x128 .f32 :=
  addf (mulf (extf .f32 t bitsLt_bf16_f32) c) (mulf (dynamicRotate 1 64#32 none (extf .f32 t bitsLt_bf16_f32 : FVec F S256x128 .f32) rotates_S256x128_d1) s)

/-- The block's outputs before the norm: its own scores over its own values, and the queries over the carried state. -/
def mixed (q k : FVec F S256x128 .f32) (v : Vec F S256x256 .bf16) (dec : Vec F S1x256x256 .f32) (qd : Vec F S1x256x128 .f32)
    (st : Vec F S1x128x256 .f32) : FVec F S256x256 .f32 :=
  addf
    (matmul dot_S256x256_S256x256_S256x256_1_0_0_1_n_n none
      (truncf .bf16 (mulf (matmul dot_S256x128_S256x128_S256x256_1_1_0_0_n_n none (truncf .bf16 q bitsLt_bf16_f32 : FVec F S256x128 .bf16)
        (truncf .bf16 k bitsLt_bf16_f32 : FVec F S256x128 .bf16) (constant S256x256 .f32 0x00000000#32))
        (shapeCast S256x256 dec shapeCasts_S1x256x256_S256x256)) bitsLt_bf16_f32 : FVec F S256x256 .bf16) v (constant S256x256 .f32 0x00000000#32))
    (matmul dot_S256x128_S128x256_S256x256_1_0_0_1_n_n none
      (truncf .bf16 (mulf q (shapeCast S256x128 qd shapeCasts_S1x256x128_S256x128)) bitsLt_bf16_f32 : FVec F S256x128 .bf16)
      (truncf .bf16 (shapeCast S128x256 st shapeCasts_S1x128x256_S128x256 : FVec F S128x256 .f32) bitsLt_bf16_f32 : FVec F S128x256 .bf16)
      (constant S256x256 .f32 0x00000000#32))

/-- The state after the block. -/
def carried (k : FVec F S256x128 .f32) (v : Vec F S256x256 .bf16) (kd : Vec F S1x256x128 .f32) (st : Vec F S1x128x256 .f32)
    (l : Elt F .f32) : FVec F S1x128x256 .f32 :=
  shapeCast S1x128x256
    (addf
      (mulf (shapeCast S128x256 st shapeCasts_S1x128x256_S128x256)
        (broadcastTo S128x256 (exp (broadcast S1x256 (Scalar.mulf l (Scalar.ofBits .f32 0x43800000#32)) : FVec F S1x256 .f32)) broadcasts_S1x256_S128x256))
      (matmul dot_S256x128_S256x256_S128x256_0_0_1_1_n_n none
        (truncf .bf16 (mulf k (shapeCast S256x128 kd shapeCasts_S1x256x128_S256x128)) bitsLt_bf16_f32 : FVec F S256x128 .bf16) v
        (constant S128x256 .f32 0x00000000#32)) : FVec F S128x256 .f32)
    shapeCasts_S128x256_S1x128x256

/-- A row's mean, over the row. -/
def centred (o : FVec F S256x256 .f32) : FVec F S256x256 .f32 :=
  subf o (broadcastTo S256x256 (divf (shapeCast S256x1 (multiReduction .add [1] S256 o 0x00000000#32 reduces_S256x256_S256 (.inl rfl) rfl : FVec F S256 .f32) shapeCasts_S256_S256x1)
    (broadcast S256x1 (Scalar.ofBits .f32 0x43800000#32)) : FVec F S256x1 .f32) broadcasts_S256x1_S256x256)

/-- The root mean square's reciprocal, over the row. -/
def spread (oc : FVec F S256x256 .f32) : FVec F S256x256 .f32 :=
  broadcastTo S256x256 (rsqrt (addf (divf (shapeCast S256x1 (multiReduction .add [1] S256 (mulf oc oc) 0x00000000#32 reduces_S256x256_S256 (.inl rfl) rfl : FVec F S256 .f32) shapeCasts_S256_S256x1)
    (broadcast S256x1 (Scalar.ofBits .f32 0x43800000#32))) (broadcast S256x1 (Scalar.ofBits .f32 0x358637BD#32)) : FVec F S256x1 .f32)) broadcasts_S256x1_S256x256

/-- The gate's factor. -/
def gateOf (rg : Vec F S256x256 .bf16) : FVec F S256x256 .f32 :=
  mulf (extf .f32 rg bitsLt_bf16_f32) (divf (broadcast S256x256 (Scalar.ofBits .f32 0x3F800000#32))
    (addf (broadcast S256x256 (Scalar.ofBits .f32 0x3F800000#32)) (exp (subf (broadcast S256x256 (Scalar.ofBits .f32 0x00000000#32)) (extf .f32 rg bitsLt_bf16_f32) : FVec F S256x256 .f32))))

/-- The block's rows as stored: normed, times the gain, times the gate. -/
def stored (o : FVec F S256x256 .f32) (g : Vec F S1x256 .f32) (rg : Vec F S256x256 .bf16) : FVec F S256x256 .bf16 :=
  truncf .bf16 (mulf (mulf (mulf (centred o) (spread (centred o))) (broadcastTo S256x256 (shapeCast S1x256 g shapeCasts_S1x256_S1x256 : FVec F S1x256 .f32) broadcasts_S1x256_S256x256)) (gateOf rg)) bitsLt_bf16_f32

end
end Cert.MixIdeal.MxVal

end
-- ==== Proof.RetPays.lean ====
/-
  The retention payloads of the kernel, one for each block of rows and head, as the vectors of the block.
-/
module

public import proofs.«01_k».proof.Proof.RetBlock

@[expose] public section

set_option maxRecDepth 16384

noncomputable section

namespace Cert.MixIdeal.MxVal

open Cert.MixIdeal Cert.MixIdeal.Gen
open Idealize.ShloMosaic Idealize.ShloMosaic.TcCoe Idealize.SL.Sem

variable {F : FTy → Type} [FloatOps F] (cs sn : Vec F S256x128 .f32) (tq tk : Vec F S256x128 .bf16) (v : Vec F S256x256 .bf16)
  (dec : Vec F S1x256x256 .f32) (qd kd : Vec F S1x256x128 .f32) (st : Vec F S1x128x256 .f32) (g : Vec F S1x256 .f32)
  (rg : Vec F S256x256 .bf16) (l : Elt F .f32)

/-- A head's rows of the result, from its slices. -/
def headRows : FVec F S256x256 .bf16 :=
  stored (mixed (roped tq (tabC cs) (tabS sn)) (roped tk (scaled (tabC cs)) (scaled (tabS sn))) v dec qd st) g rg

/-- A head's state after the block, from its slices. -/
def headState : FVec F S1x128x256 .f32 :=
  carried (roped tk (scaled (tabC cs)) (scaled (tabS sn))) v kd st l

theorem rows_0_0 :
    (k0_pay101 (k0_pay100 (k0_pay94 cs sn tq) (k0_pay96 cs sn tq) (k0_pay97 cs sn tk) v dec qd st) g rg)
      = headRows cs sn tq tk v dec qd st g rg := rfl

theorem rows_0_1 :
    (k0_pay111 (k0_pay107 (k0_pay102 (k0_pay90 cs) (k0_pay91 sn) tq) (k0_pay104 (k0_pay90 cs) (k0_pay91 sn) tq) (k0_pay105 (k0_pay92 cs) (k0_pay93 sn) tk) v dec qd st) (k0_pay109 (k0_pay102 (k0_pay90 cs) (k0_pay91 sn) tq) (k0_pay104 (k0_pay90 cs) (k0_pay91 sn) tq) (k0_pay105 (k0_pay92 cs) (k0_pay93 sn) tk) v dec qd st) k0_pay110 g rg)
      = headRows cs sn tq tk v dec qd st g rg := rfl

theorem rows_0_2 :
    (k0_pay121 (k0_pay118 (k0_pay112 (k0_pay90 cs) (k0_pay91 sn) tq) (k0_pay114 (k0_pay92 cs) tk) (k0_pay115 (k0_pay93 sn) tk) v dec qd st) (k0_pay120 (k0_pay112 (k0_pay90 cs) (k0_pay91 sn) tq) (k0_pay114 (k0_pay92 cs) tk) (k0_pay115 (k0_pay93 sn) tk) v dec qd st) g rg)
      = headRows cs sn tq tk v dec qd st g rg := rfl

theorem rows_0_3 :
    (k0_pay129 (k0_pay127 (k0_pay93 sn) (k0_pay122 (k0_pay90 cs) (k0_pay91 sn) tq) (k0_pay123 tk) (k0_pay124 (k0_pay92 cs) tk) v dec qd st) g rg)
      = headRows cs sn tq tk v dec qd st g rg := rfl

theorem rows_0_4 :
    (k0_pay136 (k0_pay133 (k0_pay92 cs) (k0_pay93 sn) (k0_pay130 (k0_pay90 cs) (k0_pay91 sn) tq) tk v dec qd st) g rg)
      = headRows cs sn tq tk v dec qd st g rg := rfl

theorem rows_0_5 :
    (k0_pay145 (k0_pay142 (k0_pay92 cs) (k0_pay93 sn) (k0_pay138 (k0_pay90 cs) tq) (k0_pay139 (k0_pay91 sn) tq) tk v dec qd st) g rg)
      = headRows cs sn tq tk v dec qd st g rg := rfl

theorem rows_0_6 :
    (k0_pay154 (k0_pay150 (k0_pay91 sn) (k0_pay92 cs) (k0_pay93 sn) (k0_pay146 tq) (k0_pay147 (k0_pay90 cs) tq) tk v dec qd st) g rg)
      = headRows cs sn tq tk v dec qd st g rg := rfl

theorem rows_0_7 :
    (k0_pay161 (k0_pay157 (k0_pay90 cs) (k0_pay91 sn) (k0_pay92 cs) (k0_pay93 sn) tq tk v dec qd st) g rg)
      = headRows cs sn tq tk v dec qd st g rg := rfl

theorem rows_1_0 :
    (k0_pay174 (k0_pay172 (k0_pay167 cs sn tq) v (k0_pay169 cs sn tq tk dec) qd st) (k0_pay173 (k0_pay167 cs sn tq) v (k0_pay169 cs sn tq tk dec) qd st) g rg)
      = headRows cs sn tq tk v dec qd st g rg := rfl

theorem rows_1_1 :
    (k0_pay182 (k0_pay180 (k0_pay175 (k0_pay163 cs) (k0_pay164 sn) tq) v (k0_pay177 (k0_pay163 cs) (k0_pay164 sn) (k0_pay165 cs) (k0_pay166 sn) tq tk dec) qd st) (k0_pay181 (k0_pay175 (k0_pay163 cs) (k0_pay164 sn) tq) v (k0_pay177 (k0_pay163 cs) (k0_pay164 sn) (k0_pay165 cs) (k0_pay166 sn) tq tk dec) qd st) (Scalar.ofBits .f32 0x358637BD#32) g rg)
      = headRows cs sn tq tk v dec qd st g rg := rfl

theorem rows_1_2 :
    (k0_pay190 (k0_pay188 (k0_pay183 (k0_pay163 cs) (k0_pay164 sn) tq) v (k0_pay185 (k0_pay163 cs) (k0_pay164 sn) (k0_pay165 cs) (k0_pay166 sn) tq tk) dec qd st) (k0_pay189 (k0_pay183 (k0_pay163 cs) (k0_pay164 sn) tq) v (k0_pay185 (k0_pay163 cs) (k0_pay164 sn) (k0_pay165 cs) (k0_pay166 sn) tq tk) dec qd st) (Scalar.ofBits .f32 0x43800000#32) g rg)
      = headRows cs sn tq tk v dec qd st g rg := rfl

theorem rows_1_3 :
    (k0_pay198 (k0_pay196 (k0_pay191 (k0_pay163 cs) (k0_pay164 sn) tq) v (k0_pay193 (k0_pay163 cs) (k0_pay164 sn) (k0_pay165 cs) (k0_pay166 sn) tq tk) dec qd st) (k0_pay197 (k0_pay191 (k0_pay163 cs) (k0_pay164 sn) tq) v (k0_pay193 (k0_pay163 cs) (k0_pay164 sn) (k0_pay165 cs) (k0_pay166 sn) tq tk) dec qd st) g rg)
      = headRows cs sn tq tk v dec qd st g rg := rfl

theorem rows_1_4 :
    (k0_pay207 (k0_pay204 (k0_pay199 (k0_pay163 cs) (k0_pay164 sn) tq) (k0_pay201 (k0_pay163 cs) (k0_pay164 sn) tq) (k0_pay202 (k0_pay165 cs) (k0_pay166 sn) tk) v dec qd st) (k0_pay206 (k0_pay199 (k0_pay163 cs) (k0_pay164 sn) tq) (k0_pay201 (k0_pay163 cs) (k0_pay164 sn) tq) (k0_pay202 (k0_pay165 cs) (k0_pay166 sn) tk) v dec qd st) g rg)
      = headRows cs sn tq tk v dec qd st g rg := rfl

theorem rows_1_5 :
    (k0_pay215 (k0_pay212 (k0_pay208 (k0_pay163 cs) (k0_pay164 sn) tq) (k0_pay209 (k0_pay165 cs) (k0_pay166 sn) tk) (k0_pay210 (k0_pay163 cs) (k0_pay164 sn) tq) v dec qd st) (k0_pay214 (k0_pay208 (k0_pay163 cs) (k0_pay164 sn) tq) (k0_pay209 (k0_pay165 cs) (k0_pay166 sn) tk) (k0_pay210 (k0_pay163 cs) (k0_pay164 sn) tq) v dec qd st) (Scalar.ofBits .f32 0x43800000#32) g rg)
      = headRows cs sn tq tk v dec qd st g rg := rfl

theorem rows_1_6 :
    (k0_pay224 (k0_pay222 (k0_pay166 sn) (k0_pay216 (k0_pay163 cs) (k0_pay164 sn) tq) (k0_pay218 (k0_pay165 cs) tk) (k0_pay219 tk) v dec qd st) g rg)
      = headRows cs sn tq tk v dec qd st g rg := rfl

theorem rows_1_7 :
    (k0_pay1 (k0_pay232 (k0_pay229 (k0_pay165 cs) (k0_pay166 sn) (k0_pay225 (k0_pay163 cs) (k0_pay164 sn) tq) (k0_pay226 tk) v dec qd st)) (k0_pay233 (k0_pay229 (k0_pay165 cs) (k0_pay166 sn) (k0_pay225 (k0_pay163 cs) (k0_pay164 sn) tq) (k0_pay226 tk) v dec qd st)) (Scalar.ofBits .f32 0x358637BD#32) g rg)
      = headRows cs sn tq tk v dec qd st g rg := rfl

theorem state_0_0 :
    (k0_pay99 (k0_pay95 cs sn tk) v st kd l)
      = headState cs sn tk v kd st l := rfl

theorem state_0_1 :
    (k0_pay108 (k0_pay103 (k0_pay92 cs) (k0_pay93 sn) tk) v st kd l)
      = headState cs sn tk v kd st l := rfl

theorem state_0_2 :
    (k0_pay119 (k0_pay114 (k0_pay92 cs) tk) (k0_pay115 (k0_pay93 sn) tk) v st kd l)
      = headState cs sn tk v kd st l := rfl

theorem state_0_3 :
    (k0_pay128 (k0_pay93 sn) (k0_pay123 tk) (k0_pay124 (k0_pay92 cs) tk) v st kd l)
      = headState cs sn tk v kd st l := rfl

theorem state_0_4 :
    (k0_pay135 (k0_pay134 (k0_pay92 cs) (k0_pay93 sn) tk v st kd l))
      = headState cs sn tk v kd st l := rfl

theorem state_0_5 :
    (k0_pay144 (k0_pay143 (k0_pay92 cs) (k0_pay93 sn) tk v st kd l))
      = headState cs sn tk v kd st l := rfl

theorem state_0_6 :
    (k0_pay153 v (k0_pay151 (k0_pay92 cs) (k0_pay93 sn) tk kd) (k0_pay152 st l))
      = headState cs sn tk v kd st l := rfl

theorem state_0_7 :
    (k0_pay160 v (k0_pay156 st) (k0_pay158 (k0_pay92 cs) (k0_pay93 sn) tk kd) (k0_pay159 l))
      = headState cs sn tk v kd st l := rfl

theorem state_1_0 :
    (k0_pay171 (k0_pay168 cs sn tk) v st kd l)
      = headState cs sn tk v kd st l := rfl

theorem state_1_1 :
    (k0_pay179 (k0_pay176 (k0_pay165 cs) (k0_pay166 sn) tk) v st kd l)
      = headState cs sn tk v kd st l := rfl

theorem state_1_2 :
    (k0_pay187 (k0_pay184 (k0_pay165 cs) (k0_pay166 sn) tk) v st kd l)
      = headState cs sn tk v kd st l := rfl

theorem state_1_3 :
    (k0_pay195 (k0_pay192 (k0_pay165 cs) (k0_pay166 sn) tk) v st kd l)
      = headState cs sn tk v kd st l := rfl

theorem state_1_4 :
    (k0_pay205 (k0_pay200 (k0_pay165 cs) (k0_pay166 sn) tk) v st kd l)
      = headState cs sn tk v kd st l := rfl

theorem state_1_5 :
    (k0_pay213 (k0_pay209 (k0_pay165 cs) (k0_pay166 sn) tk) v st kd l)
      = headState cs sn tk v kd st l := rfl

theorem state_1_6 :
    (k0_pay223 (k0_pay166 sn) (k0_pay218 (k0_pay165 cs) tk) (k0_pay219 tk) v st kd l)
      = headState cs sn tk v kd st l := rfl

theorem state_1_7 :
    (k0_pay231 (k0_pay230 (k0_pay165 cs) (k0_pay166 sn) (k0_pay226 tk) v st kd l))
      = headState cs sn tk v kd st l := rfl

end Cert.MixIdeal.MxVal

end
-- ==== Proof.RetSem.lean ====
/-
  One block of 256 rows of one retention head over the extended reals: what its vectors hold at an index, and its rows and
  its state as the recurrence's sums.
-/
module

public import proofs.«01_k».proof.Proof.RetPays

@[expose] public section

set_option maxRecDepth 16384

noncomputable section

namespace Cert.MixIdeal.MxVal

open Cert.MixIdeal Cert.MixIdeal.Gen
open Idealize.ShloMosaic Idealize.ShloMosaic.TcCoe Idealize.SL.Sem

/-- The lane of a rotary table that a lane of a head uses. -/
def lane (d : Fin 128) : Fin 128 := ⟨d.val % 64, by omega⟩

/-- The lane that a lane of a head is rotated with. -/
def mate (d : Fin 128) : Fin 128 := ⟨(d.val + 64) % 128, by omega⟩

/-- A sine with the sign its half takes. -/
def sgn (d : Fin 128) (s : EReal) : EReal := if d.val < 64 then 0 - s else s

/-- The key's scale. -/
def kappa : EReal := Ideal.ofBits .f32 0x3DB504F3#32

/-- An entry rotated with its mate. -/
def turn (t : Fin 128 → EReal) (c s : Fin 128 → EReal) (d : Fin 128) : EReal :=
  t d * c (lane d) + t (mate d) * sgn d (s (lane d))

/-- The same with the two tables scaled first. -/
def turnK (t : Fin 128 → EReal) (c s : Fin 128 → EReal) (d : Fin 128) : EReal :=
  t d * (c (lane d) * kappa) + t (mate d) * (sgn d (s (lane d)) * kappa)

theorem zero_f32 : Ideal.ofBits FTy.f32 0#32 = 0 := by
  simp [Ideal.ofBits, Ideal.ieee]

theorem lane_lt : ∀ d : Fin 128, IntOp.cmpi CmpIPredicate.slt (BitVec.ofNat 32 d.val) 64#32 = if d.val < 64 then 1#1 else 0#1 := by
  decide

theorem select_one (a b : EReal) : Scalar.select (1#1) a b = a := rfl

theorem select_zero (a b : EReal) : Scalar.select (0#1) a b = b := rfl

theorem firstHalf_apply (n : Fin 256) (d : Fin 128) : firstHalf (ix2 n d) = if d.val < 64 then 1#1 else 0#1 := by
  pointwise [firstHalf]
  exact lane_lt d

theorem tabC_apply (cs : Vec Ideal S256x128 .f32) (n : Fin 256) (d : Fin 128) :
    tabC cs (ix2 n d) = cs (ix2 n (lane d)) := by
  pointwise [tabC, firstHalf_apply]
  have hd := d.isLt
  by_cases h : d.val < 64
  · rw [if_pos h, select_one, show lane d = d from Fin.ext (Nat.mod_eq_of_lt h)]
  · rw [if_neg h, select_zero]
    exact congrArg (fun q => cs (ix2 n q)) (Fin.ext (by unfold lane; dsimp only; omega))

theorem tabS_apply (sn : Vec Ideal S256x128 .f32) (n : Fin 256) (d : Fin 128) :
    tabS sn (ix2 n d) = sgn d (sn (ix2 n (lane d))) := by
  pointwise [tabS, firstHalf_apply]
  have hd := d.isLt
  unfold sgn
  by_cases h : d.val < 64
  · rw [if_pos h, if_pos h, select_one, show lane d = d from Fin.ext (Nat.mod_eq_of_lt h)]
  · rw [if_neg h, if_neg h, select_zero]
    exact congrArg (fun q => sn (ix2 n q)) (Fin.ext (by unfold lane; dsimp only; omega))

theorem roped_apply (t : Vec Ideal S256x128 .bf16) (c s : FVec Ideal S256x128 .f32) (n : Fin 256) (d : Fin 128) :
    roped t c s (ix2 n d) = t (ix2 n d) * c (ix2 n d) + t (ix2 n (mate d)) * s (ix2 n d) := by
  pointwise [roped]
  rw [show (⟨(d.val + 128 - 64) % 128, by omega⟩ : Fin 128) = mate d from
    Fin.ext (by unfold mate; dsimp only; congr 1)]

theorem scaled_apply (x : FVec Ideal S256x128 .f32) (n : Fin 256) (d : Fin 128) :
    scaled x (ix2 n d) = x (ix2 n d) * kappa := by
  pointwise [scaled, kappa]

theorem mixed_apply (q k : FVec Ideal S256x128 .f32) (v : Vec Ideal S256x256 .bf16) (dec : Vec Ideal S1x256x256 .f32)
    (qd : Vec Ideal S1x256x128 .f32) (st : Vec Ideal S1x128x256 .f32) (n e : Fin 256) :
    mixed q k v dec qd st (ix2 n e)
      = ∑ j : Fin 256, ((∑ d : Fin 128, q (ix2 n d) * k (ix2 j d)) * dec (ix3 0 n j)) * v (ix2 j e)
        + ∑ d : Fin 128, (q (ix2 n d) * qd (ix3 0 n d)) * st (ix3 0 d e) := by
  pointwise [mixed, zero_f32]

theorem carried_apply (k : FVec Ideal S256x128 .f32) (v : Vec Ideal S256x256 .bf16)
    (kd : Vec Ideal S1x256x128 .f32) (st : Vec Ideal S1x128x256 .f32) (l : EReal) (z : Fin 1) (d : Fin 128) (e : Fin 256) :
    carried (F := Ideal) k v kd st l (ix3 z d e)
      = st (ix3 0 d e) * Ideal.exp (l * Ideal.ofBits .f32 0x43800000#32)
        + ∑ r : Fin 256, (k (ix2 r d) * kd (ix3 0 r d)) * v (ix2 r e) := by
  pointwise [carried, zero_f32]

theorem centred_apply (o : FVec Ideal S256x256 .f32) (n e : Fin 256) :
    centred o (ix2 n e) = o (ix2 n e) - Ideal.div (∑ j : Fin 256, o (ix2 n j)) (Ideal.ofBits .f32 0x43800000#32) := by
  pointwise [centred, zero_f32]

theorem spread_apply (o : FVec Ideal S256x256 .f32) (n e : Fin 256) :
    spread o (ix2 n e) = Ideal.rsqrt (Ideal.div (∑ j : Fin 256, o (ix2 n j) * o (ix2 n j)) (Ideal.ofBits .f32 0x43800000#32) + Ideal.ofBits .f32 0x358637BD#32) := by
  pointwise [spread, zero_f32]

theorem gateOf_apply (rg : Vec Ideal S256x256 .bf16) (n e : Fin 256) :
    gateOf rg (ix2 n e) = rg (ix2 n e) * Ideal.div 1 (1 + Ideal.exp (0 - rg (ix2 n e))) := by
  pointwise [gateOf, zero_f32]

theorem c256 : Ideal.ofBits .f32 0x43800000#32 = ((256 : ℝ) : EReal) := by
  simp [Ideal.ofBits, Ideal.ieee, -EReal.coe_mul]
  norm_num

theorem sum_coe {ι : Type} (T : Finset ι) (f : ι → ℝ) : ∑ k ∈ T, (f k : EReal) = ((∑ k ∈ T, f k : ℝ) : EReal) := by
  classical
  refine Finset.induction_on T (by simp) fun a T ha ih => ?_
  rw [Finset.sum_insert ha, Finset.sum_insert ha, ih, EReal.coe_add]

/-- A head's output row normed, times its gain, times its gate. -/
def finish (o : Fin 256 → EReal) (g rg : EReal) (e : Fin 256) : EReal :=
  let mu := Ideal.div (∑ j : Fin 256, o j) (Ideal.ofBits .f32 0x43800000#32)
  let var := Ideal.div (∑ j : Fin 256, (o j - mu) * (o j - mu)) (Ideal.ofBits .f32 0x43800000#32)
  (o e - mu) * Ideal.rsqrt (var + Ideal.ofBits .f32 0x358637BD#32) * g * (rg * Ideal.div 1 (1 + Ideal.exp (0 - rg)))

theorem stored_apply (o : FVec Ideal S256x256 .f32) (g : Vec Ideal S1x256 .f32) (rg : Vec Ideal S256x256 .bf16) (n e : Fin 256) :
    stored o g rg (ix2 n e) = finish (fun j => o (ix2 n j)) (g (ix2 0 e)) (rg (ix2 n e)) e := by
  pointwise [stored, gateOf_apply, spread_apply, centred_apply, finish]

section
variable (L : ℝ) (Q K : ℕ → Fin 128 → ℝ) (V : ℕ → Fin 256 → ℝ) (N : ℕ)
variable (cs sn : Vec Ideal S256x128 .f32) (tq tk : Vec Ideal S256x128 .bf16) (v : Vec Ideal S256x256 .bf16)
  (dec : Vec Ideal S1x256x256 .f32) (qd kd : Vec Ideal S1x256x128 .f32) (st : Vec Ideal S1x128x256 .f32) (g : Vec Ideal S1x256 .f32)
  (rg : Vec Ideal S256x256 .bf16) (l : EReal)
  (hq : ∀ (n : Fin 256) (d : Fin 128), turn (fun d => tq (ix2 n d)) (fun d => cs (ix2 n d)) (fun d => sn (ix2 n d)) d = (Q (N + n.val) d : EReal))
  (hk : ∀ (n : Fin 256) (d : Fin 128), turnK (fun d => tk (ix2 n d)) (fun d => cs (ix2 n d)) (fun d => sn (ix2 n d)) d = (K (N + n.val) d : EReal))
  (hv : ∀ n e : Fin 256, v (ix2 n e) = (V (N + n.val) e : EReal))
  (hdec : ∀ n j : Fin 256, dec (ix3 0 n j) = (Cert.Ret.decay L n.val j.val : EReal))
  (hqd : ∀ (n : Fin 256) (d : Fin 128), qd (ix3 0 n d) = (Real.exp (L * ((n.val : ℝ) + 1)) : EReal))
  (hkd : ∀ (n : Fin 256) (d : Fin 128), kd (ix3 0 n d) = (Real.exp (L * (255 - (n.val : ℝ))) : EReal))
  (hst : ∀ (d : Fin 128) (e : Fin 256), st (ix3 0 d e) = (Cert.Ret.state L K V N d e : EReal))
  (hl : l = (L : EReal)) (hN : 64 ∣ N) (hM : N + 256 ≤ 4096)
include hk hv hst

include hq hdec hqd hN hM in
/-- A head's rows are the finished sums over every key. -/
theorem headRows_eq (n e : Fin 256) :
    headRows cs sn tq tk v dec qd st g rg (ix2 n e)
      = finish (fun j => (Cert.Ret.out L (Q (N + n.val)) K V 4096 (N + n.val) j : EReal)) (g (ix2 0 e)) (rg (ix2 n e)) e := by
  unfold headRows
  rw [stored_apply]
  congr 1
  funext j
  have hq' : ∀ (n : Fin 256) (d : Fin 128), roped tq (tabC cs) (tabS sn) (ix2 n d) = (Q (N + n.val) d : EReal) := fun n d => by
    rw [roped_apply, tabC_apply, tabS_apply]
    exact hq n d
  have hk' : ∀ (n : Fin 256) (d : Fin 128), roped tk (scaled (tabC cs)) (scaled (tabS sn)) (ix2 n d) = (K (N + n.val) d : EReal) := fun n d => by
    rw [roped_apply, scaled_apply, scaled_apply, tabC_apply, tabS_apply]
    exact hk n d
  rw [mixed_apply, Cert.Ret.out_split L (Q (N + n.val)) K V N 4096 hN n hM j]
  simp only [hq', hk', hv, hdec, hqd, hst, ← EReal.coe_mul, sum_coe, ← EReal.coe_add]

include hkd hl in
/-- A head's state after the block is the state with the block's keys. -/
theorem headState_eq (z : Fin 1) (d : Fin 128) (e : Fin 256) :
    headState (F := Ideal) cs sn tk v kd st l (ix3 z d e) = (Cert.Ret.state L K V (N + 256) d e : EReal) := by
  unfold headState
  have hk' : ∀ (n : Fin 256) (d : Fin 128), roped tk (scaled (tabC cs)) (scaled (tabS sn)) (ix2 n d) = (K (N + n.val) d : EReal) := fun n d => by
    rw [roped_apply, scaled_apply, scaled_apply, tabC_apply, tabS_apply]
    exact hk n d
  rw [carried_apply, Cert.Ret.state_step, c256, hl]
  simp only [hk', hv, hkd, hst, ← EReal.coe_mul, Ideal.exp_coe, sum_coe, ← EReal.coe_add]

end

end Cert.MixIdeal.MxVal

end
-- ==== Proof.RetTile.lean ====
/-
  One tile of 512 rows of the retention branch: its two blocks' payloads, from the tile's slices and the carried scratch.
-/
module

public import proofs.«01_k».proof.Proof.RetSem
public import Idealize.ShloMosaic.Lib.Pipeline.ValueKit.Tiles

@[expose] public section

set_option maxRecDepth 16384

noncomputable section

namespace Cert.MixIdeal.MxVal

open Cert.MixIdeal Cert.MixIdeal.Gen
open Idealize.ShloMosaic Idealize.ShloMosaic.TcCoe Idealize.SL.Sem

/-! ## Loads of whole buffers at an index -/

theorem rd {s : Shape} {e : EltTy} {sp : Space} {m : Memref sig .tc sp s e} (hm : m.IsWhole) (x : Vec Ideal s e) (r : Rect s)
    (j : r.toLoadRect.shape.Idx) : View.readAt (Elt Ideal) m.view r.toLoadRect (hm.unread x) j = x (r.idx j) := by
  rw [View.readAt_eq_ld, hm.read_unread]

theorem rd1 {A : ℕ} {e : EltTy} {sp : Space} {m : Memref sig .tc sp ⟨1, ![A]⟩ e} (hm : m.IsWhole) (x : Vec Ideal ⟨1, ![A]⟩ e)
    {o : ℕ} (inb) (j : (Rect.unit (s := ⟨1, ![A]⟩) ![o] ![1] inb).toLoadRect.shape.Idx) (i : Fin A) (hi : i.val = o) :
    View.readAt (Elt Ideal) m.view (Rect.unit (s := ⟨1, ![A]⟩) ![o] ![1] inb).toLoadRect (hm.unread x) j = x (ix1 i) := by
  rw [rd]
  refine congrArg x (funext fun a => Fin.ext ?_)
  rw [Rect.idx_unit_val]
  match a with
  | ⟨0, _⟩ =>
    have hj : (j (0 : Fin 1)).val < 1 := (j (0 : Fin 1)).isLt
    show o + (j (0 : Fin 1)).val = i.val
    omega

theorem rd2 {A B a b : ℕ} {e : EltTy} {sp : Space} {m : Memref sig .tc sp ⟨2, ![A, B]⟩ e} (hm : m.IsWhole) (x : Vec Ideal ⟨2, ![A, B]⟩ e)
    {o p : ℕ} (inb) (n : Fin a) (d : Fin b) (i : Fin A) (j : Fin B) (hi : i.val = o + n.val) (hj : j.val = p + d.val) :
    View.readAt (Elt Ideal) m.view (Rect.unit (s := ⟨2, ![A, B]⟩) ![o, p] ![a, b] inb).toLoadRect (hm.unread x) (ix2 n d) = x (ix2 i j) := by
  rw [rd]
  refine congrArg x (funext fun a => Fin.ext ?_)
  rw [Rect.idx_unit_val]
  match a with
  | ⟨0, _⟩ => exact hi.symm
  | ⟨1, _⟩ => exact hj.symm

theorem rd3 {A B C b c : ℕ} {e : EltTy} {sp : Space} {m : Memref sig .tc sp ⟨3, ![A, B, C]⟩ e} (hm : m.IsWhole) (x : Vec Ideal ⟨3, ![A, B, C]⟩ e)
    {o : ℕ} (inb) (z : Fin 1) (d : Fin b) (k : Fin c) (i : Fin A) (j : Fin B) (l : Fin C) (hi : i.val = o) (hj : j.val = d.val) (hl : l.val = k.val) :
    View.readAt (Elt Ideal) m.view (Rect.unit (s := ⟨3, ![A, B, C]⟩) ![o, 0, 0] ![1, b, c] inb).toLoadRect (hm.unread x) (ix3 z d k) = x (ix3 i j l) := by
  rw [rd]
  refine congrArg x (funext fun a => Fin.ext ?_)
  rw [Rect.idx_unit_val]
  match a with
  | ⟨0, _⟩ => show o + z.val = i.val; omega
  | ⟨1, _⟩ => show 0 + d.val = j.val; omega
  | ⟨2, _⟩ => show 0 + k.val = l.val; omega

/-! ## Buffers filled head by head -/

theorem canon_head {A B C : ℕ} {e : EltTy} {o : ℕ} (inb) (w : (⟨3, ![1, B, C]⟩ : Shape).Idx → Elt Ideal e)
    (T : List (View.Piece (Elt Ideal) ⟨3, ![A, B, C]⟩ e)) (h : Fin A) (d : Fin B) (k : Fin C) :
    View.canon ((⟨Rect.unit (s := ⟨3, ![A, B, C]⟩) ![o, 0, 0] ![1, B, C] inb, w⟩ : View.Piece (Elt Ideal) ⟨3, ![A, B, C]⟩ e) :: T) (ix3 h d k)
      = if h.val = o then w (ix3 0 d k) else View.canon T (ix3 h d k) := by
  by_cases hh : h.val = o
  · rw [if_pos hh]
    have : (ix3 h d k : (⟨3, ![A, B, C]⟩ : Shape).Idx) = (Rect.unit (s := ⟨3, ![A, B, C]⟩) ![o, 0, 0] ![1, B, C] inb).emb (ix3 (0 : Fin 1) d k) := by
      refine funext fun a => Fin.ext ?_
      show _ = ((Rect.unit (s := ⟨3, ![A, B, C]⟩) ![o, 0, 0] ![1, B, C] inb).idx (ix3 (0 : Fin 1) d k) a : ℕ)
      rw [Rect.idx_unit_val]
      match a with
      | ⟨0, _⟩ => show h.val = o + 0; omega
      | ⟨1, _⟩ => show d.val = 0 + d.val; omega
      | ⟨2, _⟩ => show k.val = 0 + k.val; omega
    rw [this, View.canon_cons_emb]
  · rw [if_neg hh, View.canon_cons_of_not_mem]
    intro hm
    obtain ⟨x, hx⟩ := (Rect.unit (s := ⟨3, ![A, B, C]⟩) ![o, 0, 0] ![1, B, C] inb).exists_idx_of_mem hm
    have h0 := congrArg Fin.val (congrFun hx (0 : Fin 3))
    rw [Rect.idx_unit_val] at h0
    have hx0 : (x (0 : Fin 3)).val < 1 := (x (0 : Fin 3)).isLt
    have h1 : h.val = o + (x (0 : Fin 3)).val := by first | exact h0 | exact h0.symm
    omega

theorem cov3 {A B C : ℕ} {e : EltTy} {sp : Space} (m : Memref sig .tc sp ⟨3, ![A, B, C]⟩ e) (T : List (View.Piece (Elt Ideal) ⟨3, ![A, B, C]⟩ e))
    {o : ℕ} (inb) (z : Fin 1) (d : Fin B) (k : Fin C) (i : Fin A) (hi : i.val = o) :
    View.readCov m.view T (Rect.unit (s := ⟨3, ![A, B, C]⟩) ![o, 0, 0] ![1, B, C] inb).toLoadRect (ix3 z d k) = View.canon T (ix3 i d k) := by
  rw [View.readCov_eq_canon']
  refine congrArg (View.canon T) (funext fun a => Fin.ext ?_)
  rw [Rect.idx_unit_val]
  match a with
  | ⟨0, _⟩ => show o + z.val = i.val; omega
  | ⟨1, _⟩ => show 0 + d.val = d.val; omega
  | ⟨2, _⟩ => show 0 + k.val = k.val; omega

/-! ## The tile -/

/-- Row `n` of block `b` of the tile. -/
def rowAt (b : ℕ) (hb : b ≤ 1) (n : Fin 256) : Fin 512 := ⟨256 * b + n.val, by omega⟩

/-- Lane `d` of a head's query or key. -/
def colQ (h : Fin 8) (d : Fin 128) : Fin 1024 := ⟨128 * h.val + d.val, by omega⟩

/-- Lane `e` of a head's value. -/
def colV (h : Fin 8) (e : Fin 256) : Fin 2048 := ⟨256 * h.val + e.val, by omega⟩

/-- The tile's inputs as real queries, keys and values of rows `N …` of a sequence. -/
structure Tile (L : Fin 8 → ℝ) (Q K : Fin 8 → ℕ → Fin 128 → ℝ) (V : Fin 8 → ℕ → Fin 256 → ℝ) (N : ℕ)
    (x0 : Vec Ideal S8 .f32) (x10 x11 : Vec Ideal S512x128 .f32) (x12 x13 : Vec Ideal S512x1024 .bf16) (x14 : Vec Ideal S512x2048 .bf16) : Prop where
  hL : ∀ h : Fin 8, x0 (ix1 h) = (L h : EReal)
  hQ : ∀ (h : Fin 8) (r : Fin 512) (d : Fin 128), turn (fun d => x12 (ix2 r (colQ h d))) (fun d => x10 (ix2 r d)) (fun d => x11 (ix2 r d)) d
    = (Q h (N + r.val) d : EReal)
  hK : ∀ (h : Fin 8) (r : Fin 512) (d : Fin 128), turnK (fun d => x13 (ix2 r (colQ h d))) (fun d => x10 (ix2 r d)) (fun d => x11 (ix2 r d)) d
    = (K h (N + r.val) d : EReal)
  hV : ∀ (h : Fin 8) (r : Fin 512) (e : Fin 256), x14 (ix2 r (colV h e)) = (V h (N + r.val) e : EReal)
  hN : 64 ∣ N
  hM : N + 512 ≤ 4096

variable {L : Fin 8 → ℝ} {Q K : Fin 8 → ℕ → Fin 128 → ℝ} {V : Fin 8 → ℕ → Fin 256 → ℝ} {N : ℕ}
  {x0 : Vec Ideal S8 .f32} {x10 x11 : Vec Ideal S512x128 .f32} {x12 x13 : Vec Ideal S512x1024 .bf16} {x14 : Vec Ideal S512x2048 .bf16}
  {x15 : Vec Ideal S512x2048 .bf16} {x16 : Vec Ideal S1x2048 .f32}

/-- The head of a column of the result. -/
def headOf (k : Fin 2048) : Fin 8 := ⟨k.val / 256, by omega⟩

/-- The tile's rows of the result. -/
def rowsOf (L : Fin 8 → ℝ) (Q K : Fin 8 → ℕ → Fin 128 → ℝ) (V : Fin 8 → ℕ → Fin 256 → ℝ) (N : ℕ)
    (x15 : Vec Ideal S512x2048 .bf16) (x16 : Vec Ideal S1x2048 .f32) (r : Fin 512) (k : Fin 2048) : EReal :=
  finish (fun j => (Cert.Ret.out (L (headOf k)) (Q (headOf k) (N + r.val)) (K (headOf k)) (V (headOf k)) 4096 (N + r.val) j : EReal))
    (x16 (ix2 0 k)) (x15 (ix2 r k)) ⟨k.val % 256, by omega⟩

section
variable (T : Tile L Q K V N x0 x10 x11 x12 x13 x14) (b : ℕ) (hb : b ≤ 1) (h : Fin 8)
  {cs sn : Vec Ideal S256x128 .f32} {tq tk : Vec Ideal S256x128 .bf16} {v : Vec Ideal S256x256 .bf16}
  {dec : Vec Ideal S1x256x256 .f32} {qd kd : Vec Ideal S1x256x128 .f32} {st : Vec Ideal S1x128x256 .f32} {g : Vec Ideal S1x256 .f32}
  {rg : Vec Ideal S256x256 .bf16} {l : EReal}
  (hcs : ∀ (n : Fin 256) (d : Fin 128), cs (ix2 n d) = x10 (ix2 (rowAt b hb n) d))
  (hsn : ∀ (n : Fin 256) (d : Fin 128), sn (ix2 n d) = x11 (ix2 (rowAt b hb n) d))
  (htq : ∀ (n : Fin 256) (d : Fin 128), tq (ix2 n d) = x12 (ix2 (rowAt b hb n) (colQ h d)))
  (htk : ∀ (n : Fin 256) (d : Fin 128), tk (ix2 n d) = x13 (ix2 (rowAt b hb n) (colQ h d)))
  (hv : ∀ (n e : Fin 256), v (ix2 n e) = x14 (ix2 (rowAt b hb n) (colV h e)))
  (hdec : ∀ n j : Fin 256, dec (ix3 0 n j) = (Cert.Ret.decay (L h) n.val j.val : EReal))
  (hqd : ∀ (n : Fin 256) (d : Fin 128), qd (ix3 0 n d) = (Real.exp (L h * ((n.val : ℝ) + 1)) : EReal))
  (hkd : ∀ (n : Fin 256) (d : Fin 128), kd (ix3 0 n d) = (Real.exp (L h * (255 - (n.val : ℝ))) : EReal))
  (hst : ∀ (d : Fin 128) (e : Fin 256), st (ix3 0 d e) = (Cert.Ret.state (L h) (K h) (V h) (N + 256 * b) d e : EReal))
  (hg : ∀ e : Fin 256, g (ix2 0 e) = x16 (ix2 0 (colV h e)))
  (hrg : ∀ (n e : Fin 256), rg (ix2 n e) = x15 (ix2 (rowAt b hb n) (colV h e)))
  (hl : l = x0 (ix1 h))
include T hcs hsn htk hv hst

include htq hdec hqd hg hrg in
theorem tile_rows (n e : Fin 256) :
    headRows cs sn tq tk v dec qd st g rg (ix2 n e)
      = rowsOf L Q K V N x15 x16 (rowAt b hb n) (colV h e) := by
  have hM := T.hM
  have hN := T.hN
  refine (headRows_eq (L h) (Q h) (K h) (V h) (N + 256 * b) cs sn tq tk v dec qd st g rg
    (fun n d => ?_) (fun n d => ?_) (fun n e => ?_) hdec hqd hst (by omega) (by omega) n e).trans ?_
  · simp only [htq, hcs, hsn]
    exact (T.hQ h (rowAt b hb n) d).trans (by simp only [rowAt, Nat.add_assoc])
  · simp only [htk, hcs, hsn]
    exact (T.hK h (rowAt b hb n) d).trans (by simp only [rowAt, Nat.add_assoc])
  · rw [hv]
    exact (T.hV h (rowAt b hb n) e).trans (by simp only [rowAt, Nat.add_assoc])
  · rw [hg, hrg]
    unfold rowsOf
    have h1 : headOf (colV h e) = h := Fin.ext (by unfold headOf colV; dsimp only; omega)
    have h2 : (⟨(colV h e).val % 256, by omega⟩ : Fin 256) = e := Fin.ext (by unfold colV; dsimp only; omega)
    rw [h1, h2]
    simp only [rowAt, Nat.add_assoc]

include hkd hl in
theorem tile_state (z : Fin 1) (d : Fin 128) (e : Fin 256) :
    headState (F := Ideal) cs sn tk v kd st l (ix3 z d e) = (Cert.Ret.state (L h) (K h) (V h) (N + 256 * (b + 1)) d e : EReal) := by
  have hM := T.hM
  refine (headState_eq (L h) (K h) (V h) (N + 256 * b) cs sn tk v kd st l
    (fun n d => ?_) (fun n e => ?_) hkd hst (hl.trans (T.hL h)) z d e).trans (by rw [Nat.mul_add, Nat.mul_one, Nat.add_assoc])
  · simp only [htk, hcs, hsn]
    exact (T.hK h (rowAt b hb n) d).trans (by simp only [rowAt, Nat.add_assoc])
  · rw [hv]
    exact (T.hV h (rowAt b hb n) e).trans (by simp only [rowAt, Nat.add_assoc])

end

/-- A block of the result stored through its rectangle. -/
theorem tile_at (b : ℕ) (hb : b ≤ 1) (h : Fin 8) {o p : ℕ} (ho : o = 256 * b) (hp : p = 256 * h.val) (r : Fin 512) (k : Fin 2048)
    {w : (⟨2, ![256, 256]⟩ : Shape).Idx → Elt Ideal .bf16} (G : Fin 512 → Fin 2048 → EReal)
    (hw : ∀ n e : Fin 256, w (ix2 n e) = G (rowAt b hb n) (colV h e)) :
    View.TileAt (S := S512x2048) (Val := Elt Ideal) (e := .bf16) (ix2 r k) ![o, p] ![256, 256] w (G r k) := by
  intro x hx
  have h0 : r.val = o + (x (0 : Fin 2)).val := hx (0 : Fin 2)
  have h1 : k.val = p + (x (1 : Fin 2)).val := hx (1 : Fin 2)
  have hxe : x = ix2 (n0 := 256) (n1 := 256) (x (0 : Fin 2)) (x (1 : Fin 2)) := by
    refine funext fun a => ?_
    match a with
    | ⟨0, _⟩ => rfl
    | ⟨1, _⟩ => rfl
  rw [hxe]
  refine (hw _ _).trans ?_
  congr 1
  · exact Fin.ext (by unfold rowAt; dsimp only; omega)
  · exact Fin.ext (by unfold colV; dsimp only; omega)

/-- The carried scratch's three tables. -/
structure Held (L : Fin 8 → ℝ) (dec : Vec Ideal S8x256x256 .f32) (qd kd : Vec Ideal S8x256x128 .f32) : Prop where
  hdec : ∀ (h : Fin 8) (n j : Fin 256), dec (ix3 h n j) = (Cert.Ret.decay (L h) n.val j.val : EReal)
  hqd : ∀ (h : Fin 8) (n : Fin 256) (d : Fin 128), qd (ix3 h n d) = (Real.exp (L h * ((n.val : ℝ) + 1)) : EReal)
  hkd : ∀ (h : Fin 8) (n : Fin 256) (d : Fin 128), kd (ix3 h n d) = (Real.exp (L h * (255 - (n.val : ℝ))) : EReal)

end Cert.MixIdeal.MxVal

end
-- ==== Proof.MlaPays.lean ====
/-
  The latent projections' payloads at an index: the queries head by head, the keys, the shared rotary key and the values.
-/
module

public import proofs.«01_k».proof.Proof.RetTile
public import proofs.«01_k».proof.Proof.Gen.MixIdeal.Frame

@[expose] public section

set_option maxRecDepth 16384

noncomputable section

namespace Cert.MixIdeal.MxVal

open Cert.MixIdeal Cert.MixIdeal.Gen
open Idealize.ShloMosaic Idealize.ShloMosaic.TcCoe Idealize.SL.Sem

/-- The scale of the queries. -/
def qScale : EReal := Ideal.ofBits .f32 0x3DD53B95#32

/-- Columns `o` to `o + 127` of the queries, scaled. -/
def nopeV {F : FTy → Type} [FloatOps F] (v : FVec F S512x128 .f32) : FVec F S512x128 .bf16 :=
  truncf .bf16 (mulf v (broadcast S512x128 (Scalar.ofBits .f32 0x3DD53B95#32))) bitsLt_bf16_f32

/-- A slab of 128 columns rotated by three tables. -/
def ropeV {F : FTy → Type} [FloatOps F] (c lo hi v : FVec F S512x128 .f32) : FVec F S512x128 .bf16 :=
  truncf .bf16 (addf (addf (mulf v c) (mulf (dynamicRotate 1 96#32 none v rotates_S512x128_d1) lo)) (mulf (dynamicRotate 1 32#32 none v rotates_S512x128_d1) hi)) bitsLt_bf16_f32

theorem nope_pay_0 {F : FTy → Type} [FloatOps F] (a : FVec F S512x512 .bf16) (w : Vec F S4096x512 .bf16) : k0_pay52 a w = nopeV (extractStridedSlice S512x128 ![0, 0] (k0_pay51 a w) slices_S512x4096_o0_0_S512x128) := rfl

theorem rope_pay_0 {F : FTy → Type} [FloatOps F] (a : FVec F S512x512 .bf16) (c lo hi : FVec F S512x128 .f32) (w : Vec F S4096x512 .bf16) : k0_pay53 a c lo hi w = ropeV (k0_pay48 c) (k0_pay49 lo) (k0_pay50 hi) (extractStridedSlice S512x128 ![0, 128] (k0_pay51 a w) slices_S512x4096_o0_128_S512x128) := rfl

theorem nope_pay_1 {F : FTy → Type} [FloatOps F] (a : FVec F S512x512 .bf16) (w : Vec F S4096x512 .bf16) : k0_pay54 a w = nopeV (extractStridedSlice S512x128 ![0, 256] (k0_pay51 a w) slices_S512x4096_o0_256_S512x128) := rfl

theorem rope_pay_1 {F : FTy → Type} [FloatOps F] (a : FVec F S512x512 .bf16) (c lo hi : FVec F S512x128 .f32) (w : Vec F S4096x512 .bf16) : k0_pay56 c lo hi (k0_pay55 a w) = ropeV c lo hi (extractStridedSlice S512x128 ![0, 384] (k0_pay51 a w) slices_S512x4096_o0_384_S512x128) := rfl

theorem nope_pay_2 {F : FTy → Type} [FloatOps F] (q : FVec F S512x4096 .f32) : k0_pay57 q = nopeV (extractStridedSlice S512x128 ![0, 512] q slices_S512x4096_o0_512_S512x128) := rfl

theorem rope_pay_2 {F : FTy → Type} [FloatOps F] (c lo hi : FVec F S512x128 .f32) (q : FVec F S512x4096 .f32) : k0_pay58 c lo hi q = ropeV c lo hi (extractStridedSlice S512x128 ![0, 640] q slices_S512x4096_o0_640_S512x128) := rfl

theorem nope_pay_3 {F : FTy → Type} [FloatOps F] (q : FVec F S512x4096 .f32) : k0_pay59 q = nopeV (extractStridedSlice S512x128 ![0, 768] q slices_S512x4096_o0_768_S512x128) := rfl

theorem rope_pay_3 {F : FTy → Type} [FloatOps F] (c lo hi : FVec F S512x128 .f32) (q : FVec F S512x4096 .f32) : k0_pay60 c lo hi q = ropeV c lo hi (extractStridedSlice S512x128 ![0, 896] q slices_S512x4096_o0_896_S512x128) := rfl

theorem nope_pay_4 {F : FTy → Type} [FloatOps F] (q : FVec F S512x4096 .f32) : k0_pay61 q = nopeV (extractStridedSlice S512x128 ![0, 1024] q slices_S512x4096_o0_1024_S512x128) := rfl

theorem rope_pay_4 {F : FTy → Type} [FloatOps F] (c lo hi : FVec F S512x128 .f32) (q : FVec F S512x4096 .f32) : k0_pay62 c lo hi q = ropeV c lo hi (extractStridedSlice S512x128 ![0, 1152] q slices_S512x4096_o0_1152_S512x128) := rfl

theorem nope_pay_5 {F : FTy → Type} [FloatOps F] (q : FVec F S512x4096 .f32) : k0_pay63 q = nopeV (extractStridedSlice S512x128 ![0, 1280] q slices_S512x4096_o0_1280_S512x128) := rfl

theorem rope_pay_5 {F : FTy → Type} [FloatOps F] (c lo hi : FVec F S512x128 .f32) (q : FVec F S512x4096 .f32) : k0_pay64 c lo hi q = ropeV c lo hi (extractStridedSlice S512x128 ![0, 1408] q slices_S512x4096_o0_1408_S512x128) := rfl

theorem nope_pay_6 {F : FTy → Type} [FloatOps F] (q : FVec F S512x4096 .f32) : k0_pay65 q = nopeV (extractStridedSlice S512x128 ![0, 1536] q slices_S512x4096_o0_1536_S512x128) := rfl

theorem rope_pay_6 {F : FTy → Type} [FloatOps F] (c lo hi : FVec F S512x128 .f32) (q : FVec F S512x4096 .f32) : k0_pay67 c lo hi (k0_pay66 q) = ropeV c lo hi (extractStridedSlice S512x128 ![0, 1664] q slices_S512x4096_o0_1664_S512x128) := rfl

theorem nope_pay_7 {F : FTy → Type} [FloatOps F] (q : FVec F S512x4096 .f32) : k0_pay68 q = nopeV (extractStridedSlice S512x128 ![0, 1792] q slices_S512x4096_o0_1792_S512x128) := rfl

theorem rope_pay_7 {F : FTy → Type} [FloatOps F] (c lo hi : FVec F S512x128 .f32) (q : FVec F S512x4096 .f32) : k0_pay69 c lo hi q = ropeV c lo hi (extractStridedSlice S512x128 ![0, 1920] q slices_S512x4096_o0_1920_S512x128) := rfl

theorem nope_pay_8 {F : FTy → Type} [FloatOps F] (q : FVec F S512x4096 .f32) : k0_pay70 q = nopeV (extractStridedSlice S512x128 ![0, 2048] q slices_S512x4096_o0_2048_S512x128) := rfl

theorem rope_pay_8 {F : FTy → Type} [FloatOps F] (c lo hi : FVec F S512x128 .f32) (q : FVec F S512x4096 .f32) : k0_pay71 c lo hi q = ropeV c lo hi (extractStridedSlice S512x128 ![0, 2176] q slices_S512x4096_o0_2176_S512x128) := rfl

theorem nope_pay_9 {F : FTy → Type} [FloatOps F] (q : FVec F S512x4096 .f32) : k0_pay72 q = nopeV (extractStridedSlice S512x128 ![0, 2304] q slices_S512x4096_o0_2304_S512x128) := rfl

theorem rope_pay_9 {F : FTy → Type} [FloatOps F] (c lo hi : FVec F S512x128 .f32) (q : FVec F S512x4096 .f32) : k0_pay73 c lo hi q = ropeV c lo hi (extractStridedSlice S512x128 ![0, 2432] q slices_S512x4096_o0_2432_S512x128) := rfl

theorem nope_pay_10 {F : FTy → Type} [FloatOps F] (q : FVec F S512x4096 .f32) : k0_pay74 q = nopeV (extractStridedSlice S512x128 ![0, 2560] q slices_S512x4096_o0_2560_S512x128) := rfl

theorem rope_pay_10 {F : FTy → Type} [FloatOps F] (c lo hi : FVec F S512x128 .f32) (q : FVec F S512x4096 .f32) : k0_pay75 c lo hi q = ropeV c lo hi (extractStridedSlice S512x128 ![0, 2688] q slices_S512x4096_o0_2688_S512x128) := rfl

theorem nope_pay_11 {F : FTy → Type} [FloatOps F] (q : FVec F S512x4096 .f32) : k0_pay76 q = nopeV (extractStridedSlice S512x128 ![0, 2816] q slices_S512x4096_o0_2816_S512x128) := rfl

theorem rope_pay_11 {F : FTy → Type} [FloatOps F] (c lo hi : FVec F S512x128 .f32) (q : FVec F S512x4096 .f32) : k0_pay78 c lo hi (k0_pay77 q) = ropeV c lo hi (extractStridedSlice S512x128 ![0, 2944] q slices_S512x4096_o0_2944_S512x128) := rfl

theorem nope_pay_12 {F : FTy → Type} [FloatOps F] (q : FVec F S512x4096 .f32) : k0_pay79 q = nopeV (extractStridedSlice S512x128 ![0, 3072] q slices_S512x4096_o0_3072_S512x128) := rfl

theorem rope_pay_12 {F : FTy → Type} [FloatOps F] (c lo hi : FVec F S512x128 .f32) (q : FVec F S512x4096 .f32) : k0_pay80 c lo hi q = ropeV c lo hi (extractStridedSlice S512x128 ![0, 3200] q slices_S512x4096_o0_3200_S512x128) := rfl

theorem nope_pay_13 {F : FTy → Type} [FloatOps F] (q : FVec F S512x4096 .f32) : k0_pay81 q = nopeV (extractStridedSlice S512x128 ![0, 3328] q slices_S512x4096_o0_3328_S512x128) := rfl

theorem rope_pay_13 {F : FTy → Type} [FloatOps F] (c lo hi : FVec F S512x128 .f32) (q : FVec F S512x4096 .f32) : k0_pay82 c lo hi q = ropeV c lo hi (extractStridedSlice S512x128 ![0, 3456] q slices_S512x4096_o0_3456_S512x128) := rfl

theorem nope_pay_14 {F : FTy → Type} [FloatOps F] (q : FVec F S512x4096 .f32) : k0_pay83 q = nopeV (extractStridedSlice S512x128 ![0, 3584] q slices_S512x4096_o0_3584_S512x128) := rfl

theorem rope_pay_14 {F : FTy → Type} [FloatOps F] (c lo hi : FVec F S512x128 .f32) (q : FVec F S512x4096 .f32) : k0_pay84 c lo hi q = ropeV c lo hi (extractStridedSlice S512x128 ![0, 3712] q slices_S512x4096_o0_3712_S512x128) := rfl

theorem nope_pay_15 {F : FTy → Type} [FloatOps F] (q : FVec F S512x4096 .f32) : k0_pay85 q = nopeV (extractStridedSlice S512x128 ![0, 3840] q slices_S512x4096_o0_3840_S512x128) := rfl

theorem rope_pay_15 {F : FTy → Type} [FloatOps F] (c lo hi : FVec F S512x128 .f32) (q : FVec F S512x4096 .f32) : k0_pay86 c lo hi q = ropeV c lo hi (extractStridedSlice S512x128 ![0, 3968] q slices_S512x4096_o0_3968_S512x128) := rfl

/-! ## At an index -/

/-- Lanes ahead of and behind a lane, around the slab. -/
def ahead (d : Fin 128) : Fin 128 := ⟨(d.val + 32) % 128, by omega⟩
def behind (d : Fin 128) : Fin 128 := ⟨(d.val + 96) % 128, by omega⟩

/-- The three tables a slab is rotated by, from the tables of cosines and sines. -/
def cosV (c : Fin 128 → EReal) (d : Fin 128) : EReal := if d.val < 64 then c (mate d) else 0
def loV (s : Fin 128 → EReal) (d : Fin 128) : EReal := if d.val < 32 then 0 - s (mate d) else 0
def hiV (s : Fin 128 → EReal) (d : Fin 128) : EReal := if 32 ≤ d.val ∧ d.val < 64 then s (mate d) else 0

/-- A slab's lane rotated. -/
def ropeE (v c lo hi : Fin 128 → EReal) (d : Fin 128) : EReal := v d * c d + v (ahead d) * lo d + v (behind d) * hi d

theorem lane_lt32 : ∀ d : Fin 128, IntOp.cmpi CmpIPredicate.slt (BitVec.ofNat 32 d.val) 32#32 = if d.val < 32 then 1#1 else 0#1 := by
  decide +kernel

theorem lane_mid : ∀ d : Fin 128, IntOp.andi (IntOp.cmpi CmpIPredicate.sge (BitVec.ofNat 32 d.val) 32#32) (IntOp.cmpi CmpIPredicate.slt (BitVec.ofNat 32 d.val) 64#32)
    = if 32 ≤ d.val ∧ d.val < 64 then 1#1 else 0#1 := by
  decide +kernel

theorem nopeV_apply (v : FVec Ideal S512x128 .f32) (n : Fin 512) (d : Fin 128) : nopeV v (ix2 n d) = v (ix2 n d) * qScale := by
  pointwise [nopeV, qScale]

theorem ropeV_apply (c lo hi v : FVec Ideal S512x128 .f32) (n : Fin 512) (d : Fin 128) : ropeV c lo hi v (ix2 n d)
    = ropeE (fun e => v (ix2 n e)) (fun e => c (ix2 n e)) (fun e => lo (ix2 n e)) (fun e => hi (ix2 n e)) d := by
  pointwise [ropeV, ropeE, ahead, behind]
  rw [show (⟨(d.val + 128 - 96) % 128, by omega⟩ : Fin 128) = ⟨(d.val + 32) % 128, by omega⟩ from Fin.ext (by dsimp only; omega),
    show (⟨(d.val + 128 - 32) % 128, by omega⟩ : Fin 128) = ⟨(d.val + 96) % 128, by omega⟩ from Fin.ext (by dsimp only; omega)]

theorem slab_apply (o : ℕ) (ho : o + 128 ≤ 4096) (hs) (q : FVec Ideal S512x4096 .f32) (n : Fin 512) (d : Fin 128) :
    extractStridedSlice S512x128 ![0, o] q hs (ix2 n d) = q (ix2 n ⟨o + d.val, by omega⟩) := by
  refine congrArg q (funext fun a => Fin.ext ?_)
  match a with
  | ⟨0, _⟩ => show 0 + n.val = n.val; omega
  | ⟨1, _⟩ => rfl

theorem pay41_apply (x : Vec Ideal S512x128 .f32) (n : Fin 512) (d : Fin 128) : k0_pay41 x (ix2 n d) = cosV (fun e => x (ix2 n e)) d := by
  pointwise [k0_pay41]
  rw [lane_lt d]
  unfold cosV
  by_cases h : d.val < 64
  · rw [if_pos h, if_pos h, select_one]
    exact congrArg (fun e => x (ix2 n e)) (Fin.ext (by show (d.val + 128 - 64) % 128 = (d.val + 64) % 128; omega))
  · rw [if_neg h, if_neg h, select_zero]

theorem pay42_apply (x : Vec Ideal S512x128 .f32) (n : Fin 512) (d : Fin 128) : k0_pay42 x (ix2 n d) = loV (fun e => x (ix2 n e)) d := by
  pointwise [k0_pay42, k0_pay40]
  rw [lane_lt32 d]
  unfold loV
  by_cases h : d.val < 32
  · rw [if_pos h, if_pos h, select_one]
    exact congrArg (fun e => 0 - x (ix2 n e)) (Fin.ext (by show (d.val + 128 - 64) % 128 = (d.val + 64) % 128; omega))
  · rw [if_neg h, if_neg h, select_zero]

theorem pay43_apply (x : Vec Ideal S512x128 .f32) (n : Fin 512) (d : Fin 128) : k0_pay43 x (ix2 n d) = hiV (fun e => x (ix2 n e)) d := by
  pointwise [k0_pay43, k0_pay40]
  rw [lane_mid d]
  unfold hiV
  by_cases h : 32 ≤ d.val ∧ d.val < 64
  · rw [if_pos h, if_pos h, select_one]
    exact congrArg (fun e => x (ix2 n e)) (Fin.ext (by show (d.val + 128 - 64) % 128 = (d.val + 64) % 128; omega))
  · rw [if_neg h, if_neg h, select_zero]

theorem pay48_apply (x : FVec Ideal S512x128 .f32) (n : Fin 512) (d : Fin 128) : k0_pay48 x (ix2 n d) = x (ix2 n d) * qScale := by
  pointwise [k0_pay48, qScale]

theorem pay49_apply (x : FVec Ideal S512x128 .f32) (n : Fin 512) (d : Fin 128) : k0_pay49 x (ix2 n d) = x (ix2 n d) * qScale := by
  pointwise [k0_pay49, qScale]

theorem pay50_apply (x : FVec Ideal S512x128 .f32) (n : Fin 512) (d : Fin 128) : k0_pay50 x (ix2 n d) = x (ix2 n d) * qScale := by
  pointwise [k0_pay50, qScale]

/-- A latent normed and multiplied by its gain. -/
def normE (x g : Fin 512 → EReal) (k : Fin 512) : EReal :=
  x k * Ideal.rsqrt (Ideal.div (∑ j : Fin 512, x j * x j) (Ideal.ofBits .f32 0x44000000#32) + Ideal.ofBits .f32 0x358637BD#32) * g k

theorem pay37_apply (x : Vec Ideal S512x512 .bf16) (g : Vec Ideal S1x512 .f32) (n k : Fin 512) :
    k0_pay37 x g (ix2 n k) = normE (fun j => x (ix2 n j)) (fun j => g (ix2 0 j)) k := by
  pointwise [k0_pay37, normE]

theorem pay39_apply (x : Vec Ideal S512x512 .bf16) (g : Vec Ideal S1x512 .f32) (n k : Fin 512) :
    k0_pay39 (k0_pay38 x) g (ix2 n k) = normE (fun j => x (ix2 n j)) (fun j => g (ix2 0 j)) k := by
  pointwise [k0_pay39, k0_pay38, normE]

theorem pay51_apply (a : FVec Ideal S512x512 .bf16) (w : Vec Ideal S4096x512 .bf16) (n : Fin 512) (l : Fin 4096) :
    k0_pay51 a w (ix2 n l) = ∑ k : Fin 512, a (ix2 n k) * w (ix2 l k) := by
  pointwise [k0_pay51]

theorem pay87_apply (a : FVec Ideal S512x512 .bf16) (w : Vec Ideal S512x2048 .bf16) (n : Fin 512) (l : Fin 2048) :
    k0_pay87 a w (ix2 n l) = ∑ k : Fin 512, a (ix2 n k) * w (ix2 k l) := by
  pointwise [k0_pay87]

theorem pay88_apply (a : FVec Ideal S512x512 .bf16) (w : Vec Ideal S512x2048 .bf16) (n : Fin 512) (l : Fin 2048) :
    k0_pay88 a w (ix2 n l) = ∑ k : Fin 512, a (ix2 n k) * w (ix2 k l) := by
  pointwise [k0_pay88]

theorem pay44_apply (u : Vec Ideal S512x2048 .bf16) (w : Vec Ideal S128x2048 .f32) (n : Fin 512) (d : Fin 128) :
    k0_pay44 u w (ix2 n d) = ∑ k : Fin 2048, u (ix2 n k) * w (ix2 d k) := by
  pointwise [k0_pay44]

theorem pe_pay {F : FTy → Type} [FloatOps F] (lo hi : FVec F S512x128 .f32) (x10 : Vec F S512x128 .f32) (u : Vec F S512x2048 .bf16) (w : Vec F S128x2048 .f32) :
    k0_pay47 lo hi (k0_pay44 u w) (k0_pay45 x10 u w) (k0_pay46 u w) = ropeV (k0_pay41 x10) lo hi (k0_pay44 u w) := rfl

/-! ## A tile of the results -/

/-- The queries before their scale: the normed latent against the up-projection's rows. -/
def projE (x g : Fin 512 → EReal) (w : Fin 4096 → Fin 512 → EReal) (l : Fin 4096) : EReal := ∑ k : Fin 512, normE x g k * w l k

/-- Column `e` of the slab that holds column `l`. -/
def slabCol (l : Fin 4096) (e : Fin 128) : Fin 4096 := ⟨l.val / 128 * 128 + e.val, by omega⟩

/-- A row of the queries: each head's first 128 columns scaled, the next 128 rotated by scaled tables. -/
def queryE (Q : Fin 4096 → EReal) (c s : Fin 128 → EReal) (l : Fin 4096) : EReal :=
  if l.val % 256 < 128 then Q l * qScale
  else ropeE (fun e => Q (slabCol l e)) (fun e => cosV c e * qScale) (fun e => loV s e * qScale) (fun e => hiV s e * qScale) ⟨l.val % 128, by omega⟩

section
variable (Q : Fin 512 → Fin 4096 → EReal) (C S : Fin 512 → Fin 128 → EReal) (q : FVec Ideal S512x4096 .f32) (hq : ∀ n l, q (ix2 n l) = Q n l)

include hq in
theorem nope_tile (o : ℕ) (ho : o + 128 ≤ 4096) (hm : o % 256 = 0) (hs) (n : Fin 512) (d : Fin 128) :
    nopeV (extractStridedSlice S512x128 ![0, o] q hs) (ix2 n d) = queryE (Q n) (C n) (S n) ⟨o + d.val, by omega⟩ := by
  rw [nopeV_apply, slab_apply o ho, hq]
  unfold queryE
  rw [if_pos (by show (o + d.val) % 256 < 128; omega)]

variable (c lo hi : FVec Ideal S512x128 .f32) (hc : ∀ n d, c (ix2 n d) = cosV (C n) d * qScale) (hlo : ∀ n d, lo (ix2 n d) = loV (S n) d * qScale)
  (hhi : ∀ n d, hi (ix2 n d) = hiV (S n) d * qScale)

include hq hc hlo hhi in
theorem rope_tile (o : ℕ) (ho : o + 128 ≤ 4096) (hm : o % 256 = 128) (hs) (n : Fin 512) (d : Fin 128) :
    ropeV c lo hi (extractStridedSlice S512x128 ![0, o] q hs) (ix2 n d) = queryE (Q n) (C n) (S n) ⟨o + d.val, by omega⟩ := by
  rw [ropeV_apply]
  unfold queryE
  rw [if_neg (by show ¬(o + d.val) % 256 < 128; omega)]
  have e1 : (fun e => extractStridedSlice S512x128 ![0, o] q hs (ix2 n e)) = fun e => Q n (slabCol ⟨o + d.val, by omega⟩ e) := by
    funext e
    rw [slab_apply o ho, hq]
    exact congrArg (Q n) (Fin.ext (by show o + e.val = (o + d.val) / 128 * 128 + e.val; omega))
  have e2 : (⟨(o + d.val) % 128, by omega⟩ : Fin 128) = d := Fin.ext (by dsimp only; omega)
  rw [e1, e2]
  simp only [hc, hlo, hhi]

end

section
variable {a1 x1 : Vec Ideal S512x512 .bf16} {a5 x5 : Vec Ideal S1x512 .f32}
  (h1 : ∀ n k, a1 (ix2 n k) = x1 (ix2 n k)) (h5 : ∀ k, a5 (ix2 0 k) = x5 (ix2 0 k))

include h1 h5 in
theorem proj_tile {a7 x7 : Vec Ideal S4096x512 .bf16} (h7 : ∀ l k, a7 (ix2 l k) = x7 (ix2 l k)) (n : Fin 512) (l : Fin 4096) :
    k0_pay51 (k0_pay37 a1 a5) a7 (ix2 n l) = projE (fun j => x1 (ix2 n j)) (fun j => x5 (ix2 0 j)) (fun l k => x7 (ix2 l k)) l := by
  rw [pay51_apply]
  unfold projE
  refine Finset.sum_congr rfl fun k _ => ?_
  rw [pay37_apply, h7]
  simp only [h1, h5]

include h1 h5 in
theorem key_tile {a8 x8 : Vec Ideal S512x2048 .bf16} (h8 : ∀ k l, a8 (ix2 k l) = x8 (ix2 k l)) (n : Fin 512) (l : Fin 2048) :
    k0_pay87 (k0_pay39 (k0_pay38 a1) a5) a8 (ix2 n l) = ∑ k : Fin 512, normE (fun j => x1 (ix2 n j)) (fun j => x5 (ix2 0 j)) k * x8 (ix2 k l) := by
  rw [pay87_apply]
  refine Finset.sum_congr rfl fun k _ => ?_
  rw [pay39_apply, h8]
  simp only [h1, h5]

include h1 h5 in
theorem val_tile {a8 x8 : Vec Ideal S512x2048 .bf16} (h8 : ∀ k l, a8 (ix2 k l) = x8 (ix2 k l)) (n : Fin 512) (l : Fin 2048) :
    k0_pay88 (k0_pay39 (k0_pay38 a1) a5) a8 (ix2 n l) = ∑ k : Fin 512, normE (fun j => x1 (ix2 n j)) (fun j => x5 (ix2 0 j)) k * x8 (ix2 k l) := by
  rw [pay88_apply]
  refine Finset.sum_congr rfl fun k _ => ?_
  rw [pay39_apply, h8]
  simp only [h1, h5]

end

section
variable {a10 x10 a11 x11 : Vec Ideal S512x128 .f32} (h10 : ∀ n d, a10 (ix2 n d) = x10 (ix2 n d)) (h11 : ∀ n d, a11 (ix2 n d) = x11 (ix2 n d))

include h10 in
theorem cos_tile (n : Fin 512) (d : Fin 128) : k0_pay48 (k0_pay41 a10) (ix2 n d) = cosV (fun e => x10 (ix2 n e)) d * qScale := by
  rw [pay48_apply, pay41_apply]
  simp only [h10]

include h11 in
theorem lo_tile (n : Fin 512) (d : Fin 128) : k0_pay49 (k0_pay42 a11) (ix2 n d) = loV (fun e => x11 (ix2 n e)) d * qScale := by
  rw [pay49_apply, pay42_apply]
  simp only [h11]

include h11 in
theorem hi_tile (n : Fin 512) (d : Fin 128) : k0_pay50 (k0_pay43 a11) (ix2 n d) = hiV (fun e => x11 (ix2 n e)) d * qScale := by
  rw [pay50_apply, pay43_apply]
  simp only [h11]

/-- A row of the shared rotary key. -/
def peE (u : Fin 2048 → EReal) (w : Fin 128 → Fin 2048 → EReal) (c s : Fin 128 → EReal) (d : Fin 128) : EReal :=
  ropeE (fun e => ∑ k : Fin 2048, u k * w e k) (cosV c) (loV s) (hiV s) d

include h10 h11 in
theorem pe_tile {a3 x3 : Vec Ideal S512x2048 .bf16} {a4 x4 : Vec Ideal S128x2048 .f32} (h3 : ∀ n k, a3 (ix2 n k) = x3 (ix2 n k))
    (h4 : ∀ d k, a4 (ix2 d k) = x4 (ix2 d k)) (n : Fin 512) (d : Fin 128) :
    k0_pay47 (k0_pay42 a11) (k0_pay43 a11) (k0_pay44 a3 a4) (k0_pay45 a10 a3 a4) (k0_pay46 a3 a4) (ix2 n d)
      = peE (fun k => x3 (ix2 n k)) (fun e k => x4 (ix2 e k)) (fun e => x10 (ix2 n e)) (fun e => x11 (ix2 n e)) d := by
  rw [pe_pay, ropeV_apply]
  unfold peE
  simp only [pay41_apply, pay42_apply, pay43_apply, pay44_apply, h10, h11, h3, h4]

end

/-- A slab stored through its rectangle. -/
theorem slab_at (o : ℕ) (ho : o + 128 ≤ 4096) (r : Fin 512) (k : Fin 4096)
    {w : (⟨2, ![512, 128]⟩ : Shape).Idx → Elt Ideal .bf16} (G : Fin 512 → Fin 4096 → EReal)
    (hw : ∀ (n : Fin 512) (d : Fin 128), w (ix2 n d) = G n ⟨o + d.val, by omega⟩) :
    View.TileAt (S := S512x4096) (Val := Elt Ideal) (e := .bf16) (ix2 r k) ![0, o] ![512, 128] w (G r k) := by
  intro x hx
  have h0 : r.val = 0 + (x (0 : Fin 2)).val := hx (0 : Fin 2)
  have h1 : k.val = o + (x (1 : Fin 2)).val := hx (1 : Fin 2)
  have hxe : x = ix2 (n0 := 512) (n1 := 128) (x (0 : Fin 2)) (x (1 : Fin 2)) := by
    refine funext fun a => ?_
    match a with
    | ⟨0, _⟩ => rfl
    | ⟨1, _⟩ => rfl
  rw [hxe]
  refine (hw _ _).trans ?_
  congr 1
  · exact Fin.ext (by omega)
  · exact Fin.ext (by dsimp only; omega)

/-- A whole result stored at once. -/
theorem whole_at {A B : ℕ} (r : Fin A) (k : Fin B)
    {w : (⟨2, ![A, B]⟩ : Shape).Idx → Elt Ideal .bf16} (G : Fin A → Fin B → EReal) (hw : ∀ (n : Fin A) (d : Fin B), w (ix2 n d) = G n d) :
    View.TileAt (S := ⟨2, ![A, B]⟩) (Val := Elt Ideal) (e := .bf16) (ix2 r k) ![0, 0] ![A, B] w (G r k) := by
  intro x hx
  have h0 : r.val = 0 + (x (0 : Fin 2)).val := hx (0 : Fin 2)
  have h1 : k.val = 0 + (x (1 : Fin 2)).val := hx (1 : Fin 2)
  have hxe : x = ix2 (n0 := A) (n1 := B) (x (0 : Fin 2)) (x (1 : Fin 2)) := by
    refine funext fun a => ?_
    match a with
    | ⟨0, _⟩ => rfl
    | ⟨1, _⟩ => rfl
  rw [hxe]
  refine (hw _ _).trans ?_
  congr 1
  · exact Fin.ext (by omega)
  · exact Fin.ext (by omega)

end Cert.MixIdeal.MxVal

end
-- ==== Proof.MlaRunA.lean ====
/-
  The latent projections at a grid point that starts a sequence: its tile of the queries, keys, shared rotary key and values.
-/
module

public import proofs.«01_k».proof.Proof.MlaPays

@[expose] public section

set_option maxRecDepth 16384

noncomputable section

namespace Cert.MixIdeal.MxVal

open Cert.MixIdeal Cert.MixIdeal.Gen
open Idealize.ShloMosaic Idealize.ShloMosaic.TcCoe Idealize.SL.Sem

section
variable {c : Dev nD} {i : grid0.Coords} {arg1 : Memref sig .tc .smem S8 .f32} {harg1 : arg1.IsWhole} {arg2 : Memref sig .tc .vmem S512x512 .bf16} {harg2 : arg2.IsWhole} {arg3 : Memref sig .tc .vmem S512x512 .bf16} {harg3 : arg3.IsWhole} {arg4 : Memref sig .tc .vmem S512x2048 .bf16} {harg4 : arg4.IsWhole} {arg5 : Memref sig .tc .vmem S128x2048 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S4096x512 .bf16} {harg8 : arg8.IsWhole} {arg9 : Memref sig .tc .vmem S512x2048 .bf16} {harg9 : arg9.IsWhole} {arg10 : Memref sig .tc .vmem S512x2048 .bf16} {harg10 : arg10.IsWhole} {arg11 : Memref sig .tc .vmem S512x128 .f32} {harg11 : arg11.IsWhole} {arg12 : Memref sig .tc .vmem S512x128 .f32} {harg12 : arg12.IsWhole} {arg13 : Memref sig .tc .vmem S512x1024 .bf16} {harg13 : arg13.IsWhole} {arg14 : Memref sig .tc .vmem S512x1024 .bf16} {harg14 : arg14.IsWhole} {arg15 : Memref sig .tc .vmem S512x2048 .bf16} {harg15 : arg15.IsWhole} {arg16 : Memref sig .tc .vmem S512x2048 .bf16} {harg16 : arg16.IsWhole} {arg17 : Memref sig .tc .vmem S1x2048 .f32} {harg17 : arg17.IsWhole} {arg18 : Memref sig .tc .vmem S512x4096 .bf16} {harg18 : arg18.IsWhole} {arg19 : Memref sig .tc .vmem S512x2048 .bf16} {harg19 : arg19.IsWhole} {arg20 : Memref sig .tc .vmem S512x128 .bf16} {harg20 : arg20.IsWhole} {arg21 : Memref sig .tc .vmem S512x2048 .bf16} {harg21 : arg21.IsWhole} {arg22 : Memref sig .tc .vmem S512x2048 .bf16} {harg22 : arg22.IsWhole} {arg23 : Memref sig .tc .vmem S8x128x256 .f32} {harg23 : arg23.IsWhole} {arg24 : Memref sig .tc .vmem S8x256x256 .f32} {harg24 : arg24.IsWhole} {arg25 : Memref sig .tc .vmem S8x256x128 .f32} {harg25 : arg25.IsWhole} {arg26 : Memref sig .tc .vmem S8x256x128 .f32} {harg26 : arg26.IsWhole}  {hc0 : cond0_0 i}
variable     {x0 : Vec Ideal S8 .f32} {x1 : Vec Ideal S512x512 .bf16} {x2 : Vec Ideal S512x512 .bf16} {x3 : Vec Ideal S512x2048 .bf16} {x4 : Vec Ideal S128x2048 .f32} {x5 : Vec Ideal S1x512 .f32} {x6 : Vec Ideal S1x512 .f32} {x7 : Vec Ideal S4096x512 .bf16} {x8 : Vec Ideal S512x2048 .bf16} {x9 : Vec Ideal S512x2048 .bf16} {x10 : Vec Ideal S512x128 .f32} {x11 : Vec Ideal S512x128 .f32} {x12 : Vec Ideal S512x1024 .bf16} {x13 : Vec Ideal S512x1024 .bf16} {x14 : Vec Ideal S512x2048 .bf16} {x15 : Vec Ideal S512x2048 .bf16} {x16 : Vec Ideal S1x2048 .f32}

theorem out17A (r : Fin 512) (k : Fin 4096) : out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 (ix2 r k) = queryE (projE (fun j => x1 (ix2 r j)) (fun j => x5 (ix2 0 j)) (fun l k => x7 (ix2 l k))) (fun e => x10 (ix2 r e)) (fun e => x11 (ix2 r e)) k := by
  unfold out0_A_17
  rw [View.read_writes_junk_eq_canon]
  refine View.canon_eq_of_allAt _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 _) ?_
  unfold kernelRun0_A
  dsimp only
  refine View.allAt_cons_unit _ _ _ _ _ (slab_at 3968 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_15 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 3968 (by omega) rfl _ n e)
  refine View.allAt_cons_unit _ _ _ _ _ (slab_at 3840 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_15 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 3840 (by omega) rfl _ n e)
  refine View.allAt_cons_unit _ _ _ _ _ (slab_at 3712 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_14 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 3712 (by omega) rfl _ n e)
  refine View.allAt_cons_unit _ _ _ _ _ (slab_at 3584 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_14 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 3584 (by omega) rfl _ n e)
  refine View.allAt_cons_unit _ _ _ _ _ (slab_at 3456 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_13 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 3456 (by omega) rfl _ n e)
  refine View.allAt_cons_unit _ _ _ _ _ (slab_at 3328 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_13 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 3328 (by omega) rfl _ n e)
  refine View.allAt_cons_unit _ _ _ _ _ (slab_at 3200 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_12 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 3200 (by omega) rfl _ n e)
  refine View.allAt_cons_unit _ _ _ _ _ (slab_at 3072 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_12 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 3072 (by omega) rfl _ n e)
  refine View.allAt_cons_unit _ _ _ _ _ (slab_at 2944 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_11 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 2944 (by omega) rfl _ n e)
  refine View.allAt_cons_unit _ _ _ _ _ (slab_at 2816 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_11 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 2816 (by omega) rfl _ n e)
  refine View.allAt_cons_unit _ _ _ _ _ (slab_at 2688 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_10 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 2688 (by omega) rfl _ n e)
  refine View.allAt_cons_unit _ _ _ _ _ (slab_at 2560 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_10 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 2560 (by omega) rfl _ n e)
  refine View.allAt_cons_unit _ _ _ _ _ (slab_at 2432 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_9 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 2432 (by omega) rfl _ n e)
  refine View.allAt_cons_unit _ _ _ _ _ (slab_at 2304 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_9 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 2304 (by omega) rfl _ n e)
  refine View.allAt_cons_unit _ _ _ _ _ (slab_at 2176 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_8 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 2176 (by omega) rfl _ n e)
  refine View.allAt_cons_unit _ _ _ _ _ (slab_at 2048 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_8 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 2048 (by omega) rfl _ n e)
  refine View.allAt_cons_unit _ _ _ _ _ (slab_at 1920 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_7 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 1920 (by omega) rfl _ n e)
  refine View.allAt_cons_unit _ _ _ _ _ (slab_at 1792 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_7 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 1792 (by omega) rfl _ n e)
  refine View.allAt_cons_unit _ _ _ _ _ (slab_at 1664 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_6 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 1664 (by omega) rfl _ n e)
  refine View.allAt_cons_unit _ _ _ _ _ (slab_at 1536 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_6 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 1536 (by omega) rfl _ n e)
  refine View.allAt_cons_unit _ _ _ _ _ (slab_at 1408 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_5 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 1408 (by omega) rfl _ n e)
  refine View.allAt_cons_unit _ _ _ _ _ (slab_at 1280 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_5 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 1280 (by omega) rfl _ n e)
  refine View.allAt_cons_unit _ _ _ _ _ (slab_at 1152 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_4 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 1152 (by omega) rfl _ n e)
  refine View.allAt_cons_unit _ _ _ _ _ (slab_at 1024 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_4 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 1024 (by omega) rfl _ n e)
  refine View.allAt_cons_unit _ _ _ _ _ (slab_at 896 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_3 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 896 (by omega) rfl _ n e)
  refine View.allAt_cons_unit _ _ _ _ _ (slab_at 768 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_3 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 768 (by omega) rfl _ n e)
  refine View.allAt_cons_unit _ _ _ _ _ (slab_at 640 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_2 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 640 (by omega) rfl _ n e)
  refine View.allAt_cons_unit _ _ _ _ _ (slab_at 512 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_2 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 512 (by omega) rfl _ n e)
  refine View.allAt_cons_unit _ _ _ _ _ (slab_at 384 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_1 _ _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 384 (by omega) rfl _ n e)
  refine View.allAt_cons_unit _ _ _ _ _ (slab_at 256 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_1 _ _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 256 (by omega) rfl _ n e)
  refine View.allAt_cons_unit _ _ _ _ _ (slab_at 128 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_0 _ _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 128 (by omega) rfl _ n e)
  refine View.allAt_cons_unit _ _ _ _ _ (slab_at 0 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_0 _ _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 0 (by omega) rfl _ n e)
  exact View.allAt_nil _ _

theorem out18A (r : Fin 512) (k : Fin 2048) : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 (ix2 r k) = ∑ j : Fin 512, normE (fun j => x2 (ix2 r j)) (fun j => x6 (ix2 0 j)) j * x8 (ix2 j k) := by
  unfold out0_A_18
  rw [View.read_writes_junk_eq_canon]
  refine View.canon_eq_of_allAt _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 _) ?_
  unfold kernelRun0_A
  dsimp only
  refine View.allAt_cons_unit _ _ _ _ _ (whole_at r k (fun r k => ∑ j : Fin 512, normE (fun j => x2 (ix2 r j)) (fun j => x6 (ix2 0 j)) j * x8 (ix2 j k)) fun n e => ?_) (View.allAt_nil _ _)
  exact key_tile (fun n k => rd2 harg3 x2 _ n k _ _ (Nat.zero_add _).symm (Nat.zero_add _).symm) (fun k => rd2 harg7 x6 _ 0 k _ _ rfl (Nat.zero_add _).symm) (fun n k => rd2 harg9 x8 _ n k _ _ (Nat.zero_add _).symm (Nat.zero_add _).symm) n e

theorem out20A (r : Fin 512) (k : Fin 2048) : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 (ix2 r k) = ∑ j : Fin 512, normE (fun j => x2 (ix2 r j)) (fun j => x6 (ix2 0 j)) j * x9 (ix2 j k) := by
  unfold out0_A_20
  rw [View.read_writes_junk_eq_canon]
  refine View.canon_eq_of_allAt _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 _) ?_
  unfold kernelRun0_A
  dsimp only
  refine View.allAt_cons_unit _ _ _ _ _ (whole_at r k (fun r k => ∑ j : Fin 512, normE (fun j => x2 (ix2 r j)) (fun j => x6 (ix2 0 j)) j * x9 (ix2 j k)) fun n e => ?_) (View.allAt_nil _ _)
  exact val_tile (fun n k => rd2 harg3 x2 _ n k _ _ (Nat.zero_add _).symm (Nat.zero_add _).symm) (fun k => rd2 harg7 x6 _ 0 k _ _ rfl (Nat.zero_add _).symm) (fun n k => rd2 harg10 x9 _ n k _ _ (Nat.zero_add _).symm (Nat.zero_add _).symm) n e

theorem out19A (r : Fin 512) (k : Fin 128) : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 (ix2 r k) = peE (fun k => x3 (ix2 r k)) (fun e k => x4 (ix2 e k)) (fun e => x10 (ix2 r e)) (fun e => x11 (ix2 r e)) k := by
  unfold out0_A_19
  rw [View.read_writes_junk_eq_canon]
  refine View.canon_eq_of_allAt _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 _) ?_
  unfold kernelRun0_A
  dsimp only
  refine View.allAt_cons_unit _ _ _ _ _ (whole_at r k (fun r k => peE (fun k => x3 (ix2 r k)) (fun e k => x4 (ix2 e k)) (fun e => x10 (ix2 r e)) (fun e => x11 (ix2 r e)) k) fun n e => ?_) (View.allAt_nil _ _)
  exact pe_tile (fun n k => rd2 harg11 x10 _ n k _ _ (Nat.zero_add _).symm (Nat.zero_add _).symm) (fun n k => rd2 harg12 x11 _ n k _ _ (Nat.zero_add _).symm (Nat.zero_add _).symm) (fun n k => rd2 harg4 x3 _ n k _ _ (Nat.zero_add _).symm (Nat.zero_add _).symm) (fun n k => rd2 harg5 x4 _ n k _ _ (Nat.zero_add _).symm (Nat.zero_add _).symm) n e

end

end Cert.MixIdeal.MxVal

end
-- ==== Proof.MlaRunB.lean ====
/-
  The latent projections at a grid point that continues a sequence: its tile of the queries, keys, shared rotary key and values.
-/
module

public import proofs.«01_k».proof.Proof.MlaPays

@[expose] public section

set_option maxRecDepth 16384

noncomputable section

namespace Cert.MixIdeal.MxVal

open Cert.MixIdeal Cert.MixIdeal.Gen
open Idealize.ShloMosaic Idealize.ShloMosaic.TcCoe Idealize.SL.Sem

section
variable {c : Dev nD} {i : grid0.Coords} {arg1 : Memref sig .tc .smem S8 .f32} {harg1 : arg1.IsWhole} {arg2 : Memref sig .tc .vmem S512x512 .bf16} {harg2 : arg2.IsWhole} {arg3 : Memref sig .tc .vmem S512x512 .bf16} {harg3 : arg3.IsWhole} {arg4 : Memref sig .tc .vmem S512x2048 .bf16} {harg4 : arg4.IsWhole} {arg5 : Memref sig .tc .vmem S128x2048 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S4096x512 .bf16} {harg8 : arg8.IsWhole} {arg9 : Memref sig .tc .vmem S512x2048 .bf16} {harg9 : arg9.IsWhole} {arg10 : Memref sig .tc .vmem S512x2048 .bf16} {harg10 : arg10.IsWhole} {arg11 : Memref sig .tc .vmem S512x128 .f32} {harg11 : arg11.IsWhole} {arg12 : Memref sig .tc .vmem S512x128 .f32} {harg12 : arg12.IsWhole} {arg13 : Memref sig .tc .vmem S512x1024 .bf16} {harg13 : arg13.IsWhole} {arg14 : Memref sig .tc .vmem S512x1024 .bf16} {harg14 : arg14.IsWhole} {arg15 : Memref sig .tc .vmem S512x2048 .bf16} {harg15 : arg15.IsWhole} {arg16 : Memref sig .tc .vmem S512x2048 .bf16} {harg16 : arg16.IsWhole} {arg17 : Memref sig .tc .vmem S1x2048 .f32} {harg17 : arg17.IsWhole} {arg18 : Memref sig .tc .vmem S512x4096 .bf16} {harg18 : arg18.IsWhole} {arg19 : Memref sig .tc .vmem S512x2048 .bf16} {harg19 : arg19.IsWhole} {arg20 : Memref sig .tc .vmem S512x128 .bf16} {harg20 : arg20.IsWhole} {arg21 : Memref sig .tc .vmem S512x2048 .bf16} {harg21 : arg21.IsWhole} {arg22 : Memref sig .tc .vmem S512x2048 .bf16} {harg22 : arg22.IsWhole} {arg23 : Memref sig .tc .vmem S8x128x256 .f32} {harg23 : arg23.IsWhole} {arg24 : Memref sig .tc .vmem S8x256x256 .f32} {harg24 : arg24.IsWhole} {arg25 : Memref sig .tc .vmem S8x256x128 .f32} {harg25 : arg25.IsWhole} {arg26 : Memref sig .tc .vmem S8x256x128 .f32} {harg26 : arg26.IsWhole}  {hc0 : ¬cond0_0 i}
variable     {x0 : Vec Ideal S8 .f32} {x1 : Vec Ideal S512x512 .bf16} {x2 : Vec Ideal S512x512 .bf16} {x3 : Vec Ideal S512x2048 .bf16} {x4 : Vec Ideal S128x2048 .f32} {x5 : Vec Ideal S1x512 .f32} {x6 : Vec Ideal S1x512 .f32} {x7 : Vec Ideal S4096x512 .bf16} {x8 : Vec Ideal S512x2048 .bf16} {x9 : Vec Ideal S512x2048 .bf16} {x10 : Vec Ideal S512x128 .f32} {x11 : Vec Ideal S512x128 .f32} {x12 : Vec Ideal S512x1024 .bf16} {x13 : Vec Ideal S512x1024 .bf16} {x14 : Vec Ideal S512x2048 .bf16} {x15 : Vec Ideal S512x2048 .bf16} {x16 : Vec Ideal S1x2048 .f32} {xs0 : Vec Ideal S8x128x256 .f32} {xs1 : Vec Ideal S8x256x256 .f32} {xs2 : Vec Ideal S8x256x128 .f32} {xs3 : Vec Ideal S8x256x128 .f32}

theorem out17B (r : Fin 512) (k : Fin 4096) : out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 xs1 xs2 xs3 (ix2 r k) = queryE (projE (fun j => x1 (ix2 r j)) (fun j => x5 (ix2 0 j)) (fun l k => x7 (ix2 l k))) (fun e => x10 (ix2 r e)) (fun e => x11 (ix2 r e)) k := by
  unfold out0_B_17
  rw [View.read_writes_junk_eq_canon]
  refine View.canon_eq_of_allAt _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 xs1 xs2 xs3 _) ?_
  unfold kernelRun0_B
  dsimp only
  refine View.allAt_cons_unit _ _ _ _ _ (slab_at 3968 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_15 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 3968 (by omega) rfl _ n e)
  refine View.allAt_cons_unit _ _ _ _ _ (slab_at 3840 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_15 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 3840 (by omega) rfl _ n e)
  refine View.allAt_cons_unit _ _ _ _ _ (slab_at 3712 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_14 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 3712 (by omega) rfl _ n e)
  refine View.allAt_cons_unit _ _ _ _ _ (slab_at 3584 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_14 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 3584 (by omega) rfl _ n e)
  refine View.allAt_cons_unit _ _ _ _ _ (slab_at 3456 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_13 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 3456 (by omega) rfl _ n e)
  refine View.allAt_cons_unit _ _ _ _ _ (slab_at 3328 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_13 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 3328 (by omega) rfl _ n e)
  refine View.allAt_cons_unit _ _ _ _ _ (slab_at 3200 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_12 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 3200 (by omega) rfl _ n e)
  refine View.allAt_cons_unit _ _ _ _ _ (slab_at 3072 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_12 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 3072 (by omega) rfl _ n e)
  refine View.allAt_cons_unit _ _ _ _ _ (slab_at 2944 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_11 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 2944 (by omega) rfl _ n e)
  refine View.allAt_cons_unit _ _ _ _ _ (slab_at 2816 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_11 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 2816 (by omega) rfl _ n e)
  refine View.allAt_cons_unit _ _ _ _ _ (slab_at 2688 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_10 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 2688 (by omega) rfl _ n e)
  refine View.allAt_cons_unit _ _ _ _ _ (slab_at 2560 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_10 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 2560 (by omega) rfl _ n e)
  refine View.allAt_cons_unit _ _ _ _ _ (slab_at 2432 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_9 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 2432 (by omega) rfl _ n e)
  refine View.allAt_cons_unit _ _ _ _ _ (slab_at 2304 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_9 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 2304 (by omega) rfl _ n e)
  refine View.allAt_cons_unit _ _ _ _ _ (slab_at 2176 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_8 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 2176 (by omega) rfl _ n e)
  refine View.allAt_cons_unit _ _ _ _ _ (slab_at 2048 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_8 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 2048 (by omega) rfl _ n e)
  refine View.allAt_cons_unit _ _ _ _ _ (slab_at 1920 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_7 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 1920 (by omega) rfl _ n e)
  refine View.allAt_cons_unit _ _ _ _ _ (slab_at 1792 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_7 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 1792 (by omega) rfl _ n e)
  refine View.allAt_cons_unit _ _ _ _ _ (slab_at 1664 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_6 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 1664 (by omega) rfl _ n e)
  refine View.allAt_cons_unit _ _ _ _ _ (slab_at 1536 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_6 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 1536 (by omega) rfl _ n e)
  refine View.allAt_cons_unit _ _ _ _ _ (slab_at 1408 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_5 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 1408 (by omega) rfl _ n e)
  refine View.allAt_cons_unit _ _ _ _ _ (slab_at 1280 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_5 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 1280 (by omega) rfl _ n e)
  refine View.allAt_cons_unit _ _ _ _ _ (slab_at 1152 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_4 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 1152 (by omega) rfl _ n e)
  refine View.allAt_cons_unit _ _ _ _ _ (slab_at 1024 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_4 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 1024 (by omega) rfl _ n e)
  refine View.allAt_cons_unit _ _ _ _ _ (slab_at 896 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_3 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 896 (by omega) rfl _ n e)
  refine View.allAt_cons_unit _ _ _ _ _ (slab_at 768 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_3 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 768 (by omega) rfl _ n e)
  refine View.allAt_cons_unit _ _ _ _ _ (slab_at 640 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_2 _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 640 (by omega) rfl _ n e)
  refine View.allAt_cons_unit _ _ _ _ _ (slab_at 512 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_2 _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 512 (by omega) rfl _ n e)
  refine View.allAt_cons_unit _ _ _ _ _ (slab_at 384 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_1 _ _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 384 (by omega) rfl _ n e)
  refine View.allAt_cons_unit _ _ _ _ _ (slab_at 256 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_1 _ _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 256 (by omega) rfl _ n e)
  refine View.allAt_cons_unit _ _ _ _ _ (slab_at 128 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (rope_pay_0 _ _ _ _ _) (ix2 n e)) (rope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) _ _ _ (cos_tile (fun n k => rd2 harg11 x10 _ n k _ _ (Nat.zero_add _).symm (Nat.zero_add _).symm)) (lo_tile (fun n k => rd2 harg12 x11 _ n k _ _ (Nat.zero_add _).symm (Nat.zero_add _).symm)) (hi_tile (fun n k => rd2 harg12 x11 _ n k _ _ (Nat.zero_add _).symm (Nat.zero_add _).symm)) 128 (by omega) rfl _ n e)
  refine View.allAt_cons_unit _ _ _ _ _ (slab_at 0 (by omega) r k (fun r k => queryE (projE (fun j => x1 (ix2 r j)) (fun j => x5 (ix2 0 j)) (fun l k => x7 (ix2 l k))) (fun e => x10 (ix2 r e)) (fun e => x11 (ix2 r e)) k) fun n e => ?_) ?_
  · exact Eq.trans (congrFun (nope_pay_0 _ _) (ix2 n e)) (nope_tile (fun n l => projE (fun j => x1 (ix2 n j)) (fun j => x5 (ix2 0 j)) (fun l k => x7 (ix2 l k)) l) (fun n e => x10 (ix2 n e)) (fun n e => x11 (ix2 n e)) _ (proj_tile (fun n k => rd2 harg2 x1 _ n k _ _ (Nat.zero_add _).symm (Nat.zero_add _).symm) (fun k => rd2 harg6 x5 _ 0 k _ _ rfl (Nat.zero_add _).symm) (fun n k => rd2 harg8 x7 _ n k _ _ (Nat.zero_add _).symm (Nat.zero_add _).symm)) 0 (by omega) rfl _ n e)
  exact View.allAt_nil _ _

theorem out18B (r : Fin 512) (k : Fin 2048) : out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 xs1 xs2 xs3 (ix2 r k) = ∑ j : Fin 512, normE (fun j => x2 (ix2 r j)) (fun j => x6 (ix2 0 j)) j * x8 (ix2 j k) := by
  unfold out0_B_18
  rw [View.read_writes_junk_eq_canon]
  refine View.canon_eq_of_allAt _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 xs1 xs2 xs3 _) ?_
  unfold kernelRun0_B
  dsimp only
  refine View.allAt_cons_unit _ _ _ _ _ (whole_at r k (fun r k => ∑ j : Fin 512, normE (fun j => x2 (ix2 r j)) (fun j => x6 (ix2 0 j)) j * x8 (ix2 j k)) fun n e => ?_) (View.allAt_nil _ _)
  exact key_tile (fun n k => rd2 harg3 x2 _ n k _ _ (Nat.zero_add _).symm (Nat.zero_add _).symm) (fun k => rd2 harg7 x6 _ 0 k _ _ rfl (Nat.zero_add _).symm) (fun n k => rd2 harg9 x8 _ n k _ _ (Nat.zero_add _).symm (Nat.zero_add _).symm) n e

theorem out20B (r : Fin 512) (k : Fin 2048) : out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 xs1 xs2 xs3 (ix2 r k) = ∑ j : Fin 512, normE (fun j => x2 (ix2 r j)) (fun j => x6 (ix2 0 j)) j * x9 (ix2 j k) := by
  unfold out0_B_20
  rw [View.read_writes_junk_eq_canon]
  refine View.canon_eq_of_allAt _ _ _ (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 xs1 xs2 xs3 _) ?_
  unfold kernelRun0_B
  dsimp only
  refine View.allAt_cons_unit _ _ _ _ _ (whole_at r k (fun r k => ∑ j : Fin 512, normE (fun j => x2 (ix2 r j)) (fun j => x6 (ix2 0 j)) j * x9 (ix2 j k)) fun n e => ?_) (View.allAt_nil _ _)
  exact val_tile (fun n k => rd2 harg3 x2 _ n k _ _ (Nat.zero_add _).symm (Nat.zero_add _).symm) (fun k => rd2 harg7 x6 _ 0 k _ _ rfl (Nat.zero_add _).symm) (fun n k => rd2 harg10 x9 _ n k _ _ (Nat.zero_add _).symm (Nat.zero_add _).symm) n e

theorem out19B (r : Fin 512) (k : Fin 128) : out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 xs1 xs2 xs3 (ix2 r k) = peE (fun k => x3 (ix2 r k)) (fun e k => x4 (ix2 e k)) (fun e => x10 (ix2 r e)) (fun e => x11 (ix2 r e)) k := by
  unfold out0_B_19
  rw [View.read_writes_junk_eq_canon]
  refine View.canon_eq_of_allAt _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 xs1 xs2 xs3 _) ?_
  unfold kernelRun0_B
  dsimp only
  refine View.allAt_cons_unit _ _ _ _ _ (whole_at r k (fun r k => peE (fun k => x3 (ix2 r k)) (fun e k => x4 (ix2 e k)) (fun e => x10 (ix2 r e)) (fun e => x11 (ix2 r e)) k) fun n e => ?_) (View.allAt_nil _ _)
  exact pe_tile (fun n k => rd2 harg11 x10 _ n k _ _ (Nat.zero_add _).symm (Nat.zero_add _).symm) (fun n k => rd2 harg12 x11 _ n k _ _ (Nat.zero_add _).symm (Nat.zero_add _).symm) (fun n k => rd2 harg4 x3 _ n k _ _ (Nat.zero_add _).symm (Nat.zero_add _).symm) (fun n k => rd2 harg5 x4 _ n k _ _ (Nat.zero_add _).symm (Nat.zero_add _).symm) n e

end

end Cert.MixIdeal.MxVal

end
-- ==== Proof.RetTab.lean ====
/-
  The tables of the retention branch: the decays inside a block of 256 rows, and the queries' and keys' factors.
-/
module

public import proofs.«01_k».proof.Proof.RetTile
public import proofs.«01_k».proof.Proof.Gen.MixIdeal.Frame

@[expose] public section

set_option maxRecDepth 16384

noncomputable section

namespace Cert.MixIdeal.MxVal

open Cert.MixIdeal Cert.MixIdeal.Gen
open Idealize.ShloMosaic Idealize.ShloMosaic.TcCoe Idealize.SL.Sem

/-- The decays of one head. -/
def decOf {F : FTy → Type} [FloatOps F] (l : Elt F .f32) : FVec F S1x256x256 .f32 :=
  (k0_pay34 k0_pay3 (k0_pay7 (iota .tc S256x256 32 [0] iota_S256x256_d0_w32) k0_pay4 64#32 k0_pay5 k0_pay6 1#32) l)

/-- The queries' factors of one head. -/
def qdOf {F : FTy → Type} [FloatOps F] (l : Elt F .f32) : FVec F S1x256x128 .f32 :=
  (k0_pay35 k0_pay8 l)

/-- The keys' factors of one head. -/
def kdOf {F : FTy → Type} [FloatOps F] (l : Elt F .f32) : FVec F S1x256x128 .f32 :=
  (k0_pay36 k0_pay8 l)

theorem dec_pay_7 {F : FTy → Type} [FloatOps F] (l : Elt F .f32) : (k0_pay34 k0_pay3 (k0_pay7 (iota .tc S256x256 32 [0] iota_S256x256_d0_w32) k0_pay4 64#32 k0_pay5 k0_pay6 1#32) l) = decOf l := rfl

theorem dec_pay_6 {F : FTy → Type} [FloatOps F] (l : Elt F .f32) : (k0_pay30 k0_pay3 (k0_pay7 (iota .tc S256x256 32 [0] iota_S256x256_d0_w32) k0_pay4 64#32 k0_pay5 k0_pay6 1#32) l) = decOf l := rfl

theorem dec_pay_5 {F : FTy → Type} [FloatOps F] (l : Elt F .f32) : (k0_pay27 k0_pay3 (k0_pay7 (iota .tc S256x256 32 [0] iota_S256x256_d0_w32) k0_pay4 64#32 k0_pay5 k0_pay6 1#32) l) = decOf l := rfl

theorem dec_pay_4 {F : FTy → Type} [FloatOps F] (l : Elt F .f32) : (k0_pay24 k0_pay3 (k0_pay7 (iota .tc S256x256 32 [0] iota_S256x256_d0_w32) k0_pay4 64#32 k0_pay5 k0_pay6 1#32) l) = decOf l := rfl

theorem dec_pay_3 {F : FTy → Type} [FloatOps F] (l : Elt F .f32) : (k0_pay20 k0_pay3 (k0_pay7 (iota .tc S256x256 32 [0] iota_S256x256_d0_w32) k0_pay4 64#32 k0_pay5 k0_pay6 1#32) l) = decOf l := rfl

theorem dec_pay_2 {F : FTy → Type} [FloatOps F] (l : Elt F .f32) : (k0_pay15 k0_pay3 (k0_pay7 (iota .tc S256x256 32 [0] iota_S256x256_d0_w32) k0_pay4 64#32 k0_pay5 k0_pay6 1#32) l) = decOf l := rfl

theorem dec_pay_1 {F : FTy → Type} [FloatOps F] (l : Elt F .f32) : (k0_pay12 k0_pay3 (k0_pay7 (iota .tc S256x256 32 [0] iota_S256x256_d0_w32) k0_pay4 64#32 k0_pay5 k0_pay6 1#32) l) = decOf l := rfl

theorem dec_pay_0 {F : FTy → Type} [FloatOps F] (l : Elt F .f32) : (k0_pay9 (iota .tc S256x256 32 [0] iota_S256x256_d0_w32) k0_pay3 k0_pay4 64#32 k0_pay5 k0_pay6 1#32 l) = decOf l := rfl

theorem qd_pay_7 {F : FTy → Type} [FloatOps F] (l : Elt F .f32) : (k0_pay35 k0_pay8 l) = qdOf l := rfl

theorem qd_pay_6 {F : FTy → Type} [FloatOps F] (l : Elt F .f32) : (k0_pay31 k0_pay8 l) = qdOf l := rfl

theorem qd_pay_5 {F : FTy → Type} [FloatOps F] (l : Elt F .f32) : (k0_pay28 k0_pay8 l (Scalar.ofBits .f32 0x3F800000#32)) = qdOf l := rfl

theorem qd_pay_4 {F : FTy → Type} [FloatOps F] (l : Elt F .f32) : (k0_pay25 k0_pay8 l) = qdOf l := rfl

theorem qd_pay_3 {F : FTy → Type} [FloatOps F] (l : Elt F .f32) : (k0_pay21 k0_pay8 l) = qdOf l := rfl

theorem qd_pay_2 {F : FTy → Type} [FloatOps F] (l : Elt F .f32) : (k0_pay18 (k0_pay16 k0_pay8) (k0_pay17 l)) = qdOf l := rfl

theorem qd_pay_1 {F : FTy → Type} [FloatOps F] (l : Elt F .f32) : (k0_pay13 k0_pay8 l) = qdOf l := rfl

theorem qd_pay_0 {F : FTy → Type} [FloatOps F] (l : Elt F .f32) : (k0_pay10 l) = qdOf l := rfl

theorem kd_pay_7 {F : FTy → Type} [FloatOps F] (l : Elt F .f32) : (k0_pay36 k0_pay8 l) = kdOf l := rfl

theorem kd_pay_6 {F : FTy → Type} [FloatOps F] (l : Elt F .f32) : (k0_pay33 (k0_pay32 k0_pay8 l)) = kdOf l := rfl

theorem kd_pay_5 {F : FTy → Type} [FloatOps F] (l : Elt F .f32) : (k0_pay29 k0_pay8 l) = kdOf l := rfl

theorem kd_pay_4 {F : FTy → Type} [FloatOps F] (l : Elt F .f32) : (k0_pay26 k0_pay8 l) = kdOf l := rfl

theorem kd_pay_3 {F : FTy → Type} [FloatOps F] (l : Elt F .f32) : (k0_pay23 (k0_pay22 k0_pay8 l)) = kdOf l := rfl

theorem kd_pay_2 {F : FTy → Type} [FloatOps F] (l : Elt F .f32) : (k0_pay19 k0_pay8 l) = kdOf l := rfl

theorem kd_pay_1 {F : FTy → Type} [FloatOps F] (l : Elt F .f32) : (k0_pay14 k0_pay8 l) = kdOf l := rfl

theorem kd_pay_0 {F : FTy → Type} [FloatOps F] (l : Elt F .f32) : (k0_pay11 l) = kdOf l := rfl

theorem row_real (n : Fin 256) : (FloatOps.sitofp FTy.f32 (BitVec.ofNat 32 n.val) : Ideal FTy.f32) = ((n.val : ℝ) : EReal) := by
  have hn := n.isLt
  have e : (BitVec.ofNat 32 n.val).toInt = (n.val : ℤ) := by
    rw [BitVec.toInt_eq_toNat_of_lt (by rw [BitVec.toNat_ofNat]; omega), BitVec.toNat_ofNat]
    omega
  show (((BitVec.ofNat 32 n.val).toInt : ℝ) : EReal) = _
  rw [e]
  rfl

theorem gap_one : ∀ k : Fin 511, (IntOp.absi (BitVec.ofInt 32 ((k.val : ℤ) - 255))).toInt = |(k.val : ℤ) - 255| := by
  decide +kernel

theorem gap_int (n j : Fin 256) : (IntOp.absi (IntOp.subi (BitVec.ofNat 32 n.val) (BitVec.ofNat 32 j.val))).toInt = |(n.val : ℤ) - (j.val : ℤ)| := by
  have hn := n.isLt
  have hj := j.isLt
  have e : IntOp.subi (BitVec.ofNat 32 n.val) (BitVec.ofNat 32 j.val) = BitVec.ofInt 32 (((n.val + 255 - j.val : ℕ) : ℤ) - 255) := by
    rw [show (((n.val + 255 - j.val : ℕ) : ℤ) - 255) = (n.val : ℤ) - (j.val : ℤ) by omega]
    show BitVec.ofNat 32 n.val - BitVec.ofNat 32 j.val = _
    rw [Int.sub_eq_add_neg, BitVec.ofInt_add, BitVec.ofInt_neg, BitVec.ofInt_natCast, BitVec.ofInt_natCast, BitVec.sub_eq_add_neg]
  rw [e]
  exact (gap_one ⟨n.val + 255 - j.val, by omega⟩).trans (congrArg (fun z : ℤ => |z|) (by show (((n.val + 255 - j.val : ℕ) : ℤ) - 255) = _; omega))

theorem dist_apply (n j : Fin 256) : (k0_pay3 : FVec Ideal S256x256 .f32) (ix2 n j) = ((|(n.val : ℝ) - (j.val : ℝ)| : ℝ) : EReal) := by
  pointwise [k0_pay3]
  show (((IntOp.absi (IntOp.subi (BitVec.ofNat 32 n.val) (BitVec.ofNat 32 j.val))).toInt : ℝ) : EReal) = _
  rw [gap_int]
  push_cast
  rfl

theorem chunk_apply (n j : Fin 256) : k0_pay4 (ix2 n j) = BitVec.ofNat 32 (j.val / 64) := by
  pointwise [k0_pay4]
  revert j
  decide +kernel

theorem chunk_row : ∀ n : Fin 256, Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (1#32) (Scalar.extui (Scalar.cmpi CmpIPredicate.slt 64#32 0#32))))
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32) = BitVec.ofNat 32 (n.val / 64) := by
  decide +kernel

theorem chunk_le : ∀ a b : Fin 4, IntOp.cmpi CmpIPredicate.sle (BitVec.ofNat 32 a.val) (BitVec.ofNat 32 b.val) = if a.val ≤ b.val then 1#1 else 0#1 := by
  decide +kernel

theorem visible_apply (n j : Fin 256) : k0_pay7 (iota .tc S256x256 32 [0] iota_S256x256_d0_w32) k0_pay4 64#32 k0_pay5 k0_pay6 1#32 (ix2 n j)
    = if j.val / 64 ≤ n.val / 64 then 1#1 else 0#1 := by
  pointwise [k0_pay7, chunk_apply, k0_pay5, k0_pay6]
  rw [chunk_row]
  exact chunk_le ⟨j.val / 64, by omega⟩ ⟨n.val / 64, by omega⟩

theorem decOf_apply (l : ℝ) (n j : Fin 256) : decOf (F := Ideal) (l : EReal) (ix3 0 n j) = (Cert.Ret.decay l n.val j.val : EReal) := by
  pointwise [decOf, k0_pay34, dist_apply]
  rw [visible_apply]
  unfold Cert.Ret.decay
  by_cases h : j.val / 64 ≤ n.val / 64
  · rw [if_pos h, if_pos h, ← EReal.coe_mul, Ideal.exp_coe]
    rfl
  · rw [if_neg h, if_neg h]
    rfl

theorem qdOf_apply (l : ℝ) (n : Fin 256) (d : Fin 128) : qdOf (F := Ideal) (l : EReal) (ix3 0 n d) = (Real.exp (l * ((n.val : ℝ) + 1)) : EReal) := by
  pointwise [qdOf, k0_pay35, k0_pay8]
  rw [row_real, ← EReal.coe_one, ← EReal.coe_add, ← EReal.coe_mul, Ideal.exp_coe]

theorem c255 : Ideal.ofBits FTy.f32 1132396544#32 = ((255 : ℝ) : EReal) := by
  simp [Ideal.ofBits, Ideal.ieee, -EReal.coe_mul]
  norm_num

theorem kdOf_apply (l : ℝ) (n : Fin 256) (d : Fin 128) : kdOf (F := Ideal) (l : EReal) (ix3 0 n d) = (Real.exp (l * (255 - (n.val : ℝ))) : EReal) := by
  pointwise [kdOf, k0_pay36, k0_pay8]
  rw [row_real, c255, ← EReal.coe_sub, ← EReal.coe_mul, Ideal.exp_coe]

theorem empty_apply (h : Fin 8) (d : Fin 128) (e : Fin 256) : (k0_pay2 : FVec Ideal S8x128x256 .f32) (ix3 h d e) = 0 := by
  pointwise [k0_pay2]

end Cert.MixIdeal.MxVal
-- ==== Proof.MixHost.lean ====
/-
  The slices a tile of the layer's projections reads, in the program's arguments.
-/
module

public import proofs.«01_k».proof.Proof.RetTab
public import proofs.«01_k».proof.Proof.Gen.MixIdeal.Value

@[expose] public section

set_option maxRecDepth 16384

noncomputable section

namespace Cert.MixIdeal.MxVal

open Cert.MixIdeal Cert.MixIdeal.Gen
open Idealize.ShloMosaic Idealize.ShloMosaic.TcCoe Idealize.SL.Sem

variable (m : (ℓ : Loc nD τ sig) → Buf (Elt Ideal) ℓ)

/-- Row `r` of tile `t`. -/
def tileRow (t : Fin cfg0.N) (r : Fin 512) : Fin 8192 :=
  ⟨t.val * 512 + r.val, by have := lt_of_lt_of_eq t.isLt (show cfg0.N = 16 from N_0); omega⟩

theorem idx_facts : ∀ t : Fin cfg0.N,
    (win0_0.index t (0 : Fin 1) = 0)
    ∧ (win0_1.index t (0 : Fin 2) = t.val ∧ win0_1.index t (1 : Fin 2) = 0)
    ∧ (win0_2.index t (0 : Fin 2) = t.val ∧ win0_2.index t (1 : Fin 2) = 1)
    ∧ (win0_3.index t (0 : Fin 2) = t.val ∧ win0_3.index t (1 : Fin 2) = 0)
    ∧ (win0_4.index t (0 : Fin 2) = 56 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 1)
    ∧ (win0_14.index t (0 : Fin 2) = t.val ∧ win0_14.index t (1 : Fin 2) = 1)
    ∧ (win0_15.index t (0 : Fin 2) = t.val ∧ win0_15.index t (1 : Fin 2) = 2)
    ∧ (win0_16.index t (0 : Fin 2) = 0 ∧ win0_16.index t (1 : Fin 2) = 0) :=
  (by decide +kernel : ∀ t : Fin grid0.N, _)

/-- The columns of the up-projections that a column of the results takes. -/
def keyCol (l : Fin 2048) : Fin 4096 := ⟨256 * (l.val / 128) + l.val % 128, by omega⟩
def valCol (l : Fin 2048) : Fin 4096 := ⟨256 * (l.val / 128) + (128 + l.val % 128), by omega⟩
def queryCol (p : Fin 4096) (h : p.val % 256 < 192) : Fin 3072 := ⟨192 * (p.val / 256) + p.val % 256, by omega⟩

theorem V_v7 (c : Dev nD) (h : Fin 8) : V m c main_v7 (ix1 h) = Ideal.log (1 - Ideal.pow (Ideal.ofBits FTy.f32 0x40000000#32) (Ideal.ofBits FTy.f32 0xC0A00000#32 - (FloatOps.sitofp FTy.f32 (BitVec.ofNat 32 h.val) : Ideal FTy.f32))) := by
  unfold V
  after_reads_at

theorem V_v19 (c : Dev nD) (k : Fin 512) : V m c main_v19 (ix2 0 k) = m ((c : Thread nD τ).loc main_arg6) (ix2 0 k) := by
  unfold V
  after_reads_at

theorem V_v21 (c : Dev nD) (k : Fin 512) : V m c main_v21 (ix2 0 k) = m ((c : Thread nD τ).loc main_arg7) (ix2 0 k) := by
  unfold V
  after_reads_at

theorem V_v29 (c : Dev nD) (k : Fin 2048) : V m c main_v29 (ix2 0 k) = m ((c : Thread nD τ).loc main_arg10) (ix2 0 k) := by
  unfold V
  after_reads_at

theorem V_v17 (c : Dev nD) (r : Fin 11328) (k : Fin 2048) : V m c main_v17 (ix2 r k) = m ((c : Thread nD τ).loc main_arg5) (ix3 0 k r) := by
  unfold V
  after_reads_at

theorem V_v12 (c : Dev nD) (k : Fin 512) (l : Fin 2048) : V m c main_v12 (ix2 k l) = m ((c : Thread nD τ).loc main_arg9) (ix3 0 k (keyCol l)) := by
  unfold V
  after_reads_at
  exact congrArg (fun l => m ((c : Thread nD τ).loc main_arg9) (ix3 0 k l)) (Fin.ext (by show l.val / 128 * 256 + l.val % 128 = 256 * (l.val / 128) + l.val % 128; omega))

theorem V_v15 (c : Dev nD) (k : Fin 512) (l : Fin 2048) : V m c main_v15 (ix2 k l) = m ((c : Thread nD τ).loc main_arg9) (ix3 0 k (valCol l)) := by
  unfold V
  after_reads_at
  exact congrArg (fun l => m ((c : Thread nD τ).loc main_arg9) (ix3 0 k l)) (Fin.ext (by show l.val / 128 * 256 + (128 + l.val % 128) = 256 * (l.val / 128) + (128 + l.val % 128); omega))

/-- Column `d` of the column block `b` of width `w`. -/
def colAt (b w A : ℕ) (hA : b * w + w ≤ A) (d : Fin w) : Fin A := ⟨b * w + d.val, by omega⟩

theorem blk1 (c : Dev nD) (t : Fin cfg0.N) (r : Fin 512) (k : Fin 512) :
    (iblk m c 1 t : Vec Ideal S512x512 .bf16) (ix2 r k) = m ((c : Thread nD τ).loc main_arg1) (ix2 (tileRow t r) (colAt 0 512 1024 (by decide) k)) := by
  obtain ⟨-, ⟨e0, e1⟩, -⟩ := idx_facts t
  have hr := r.isLt
  have hk := k.isLt
  rw [← V_main_arg1 m c]
  unfold iblk tileRow colAt
  rw [View.read_apply]
  show V m c main_arg1 _ = V m c main_arg1 _
  congr 1
  funext a
  apply Fin.ext
  match a with
  | ⟨0, _⟩ => show win0_1.index t (0 : Fin 2) * 512 + 1 * r.val = t.val * 512 + r.val; rw [e0]; omega
  | ⟨1, _⟩ => show win0_1.index t (1 : Fin 2) * 512 + 1 * k.val = 0 * 512 + k.val; rw [e1]; omega

theorem blk2 (c : Dev nD) (t : Fin cfg0.N) (r : Fin 512) (k : Fin 512) :
    (iblk m c 2 t : Vec Ideal S512x512 .bf16) (ix2 r k) = m ((c : Thread nD τ).loc main_arg1) (ix2 (tileRow t r) (colAt 1 512 1024 (by decide) k)) := by
  obtain ⟨-, -, ⟨e0, e1⟩, -⟩ := idx_facts t
  have hr := r.isLt
  have hk := k.isLt
  rw [← V_main_arg1 m c]
  unfold iblk tileRow colAt
  rw [View.read_apply]
  show V m c main_arg1 _ = V m c main_arg1 _
  congr 1
  funext a
  apply Fin.ext
  match a with
  | ⟨0, _⟩ => show win0_2.index t (0 : Fin 2) * 512 + 1 * r.val = t.val * 512 + r.val; rw [e0]; omega
  | ⟨1, _⟩ => show win0_2.index t (1 : Fin 2) * 512 + 1 * k.val = 1 * 512 + k.val; rw [e1]; omega

theorem blk3 (c : Dev nD) (t : Fin cfg0.N) (r : Fin 512) (k : Fin 2048) :
    (iblk m c 3 t : Vec Ideal S512x2048 .bf16) (ix2 r k) = m ((c : Thread nD τ).loc main_arg2) (ix2 (tileRow t r) (colAt 0 2048 2048 (by decide) k)) := by
  obtain ⟨-, -, -, ⟨e0, e1⟩, -⟩ := idx_facts t
  have hr := r.isLt
  have hk := k.isLt
  rw [← V_main_arg2 m c]
  unfold iblk tileRow colAt
  rw [View.read_apply]
  show V m c main_arg2 _ = V m c main_arg2 _
  congr 1
  funext a
  apply Fin.ext
  match a with
  | ⟨0, _⟩ => show win0_3.index t (0 : Fin 2) * 512 + 1 * r.val = t.val * 512 + r.val; rw [e0]; omega
  | ⟨1, _⟩ => show win0_3.index t (1 : Fin 2) * 2048 + 1 * k.val = 0 * 2048 + k.val; rw [e1]; omega

theorem blk10 (c : Dev nD) (t : Fin cfg0.N) (r : Fin 512) (k : Fin 128) :
    (iblk m c 10 t : Vec Ideal S512x128 .f32) (ix2 r k) = m ((c : Thread nD τ).loc main_arg3) (ix2 (tileRow t r) (colAt 0 128 128 (by decide) k)) := by
  obtain ⟨-, -, -, -, -, -, -, -, -, -, ⟨e0, e1⟩, -⟩ := idx_facts t
  have hr := r.isLt
  have hk := k.isLt
  rw [← V_main_arg3 m c]
  unfold iblk tileRow colAt
  rw [View.read_apply]
  show V m c main_arg3 _ = V m c main_arg3 _
  congr 1
  funext a
  apply Fin.ext
  match a with
  | ⟨0, _⟩ => show win0_10.index t (0 : Fin 2) * 512 + 1 * r.val = t.val * 512 + r.val; rw [e0]; omega
  | ⟨1, _⟩ => show win0_10.index t (1 : Fin 2) * 128 + 1 * k.val = 0 * 128 + k.val; rw [e1]; omega

theorem blk11 (c : Dev nD) (t : Fin cfg0.N) (r : Fin 512) (k : Fin 128) :
    (iblk m c 11 t : Vec Ideal S512x128 .f32) (ix2 r k) = m ((c : Thread nD τ).loc main_arg4) (ix2 (tileRow t r) (colAt 0 128 128 (by decide) k)) := by
  obtain ⟨-, -, -, -, -, -, -, -, -, -, -, ⟨e0, e1⟩, -⟩ := idx_facts t
  have hr := r.isLt
  have hk := k.isLt
  rw [← V_main_arg4 m c]
  unfold iblk tileRow colAt
  rw [View.read_apply]
  show V m c main_arg4 _ = V m c main_arg4 _
  congr 1
  funext a
  apply Fin.ext
  match a with
  | ⟨0, _⟩ => show win0_11.index t (0 : Fin 2) * 512 + 1 * r.val = t.val * 512 + r.val; rw [e0]; omega
  | ⟨1, _⟩ => show win0_11.index t (1 : Fin 2) * 128 + 1 * k.val = 0 * 128 + k.val; rw [e1]; omega

theorem blk12 (c : Dev nD) (t : Fin cfg0.N) (r : Fin 512) (k : Fin 1024) :
    (iblk m c 12 t : Vec Ideal S512x1024 .bf16) (ix2 r k) = m ((c : Thread nD τ).loc main_arg0) (ix2 (tileRow t r) (colAt 0 1024 10240 (by decide) k)) := by
  obtain ⟨-, -, -, -, -, -, -, -, -, -, -, -, ⟨e0, e1⟩, -⟩ := idx_facts t
  have hr := r.isLt
  have hk := k.isLt
  rw [← V_main_arg0 m c]
  unfold iblk tileRow colAt
  rw [View.read_apply]
  show V m c main_arg0 _ = V m c main_arg0 _
  congr 1
  funext a
  apply Fin.ext
  match a with
  | ⟨0, _⟩ => show win0_12.index t (0 : Fin 2) * 512 + 1 * r.val = t.val * 512 + r.val; rw [e0]; omega
  | ⟨1, _⟩ => show win0_12.index t (1 : Fin 2) * 1024 + 1 * k.val = 0 * 1024 + k.val; rw [e1]; omega

theorem blk13 (c : Dev nD) (t : Fin cfg0.N) (r : Fin 512) (k : Fin 1024) :
    (iblk m c 13 t : Vec Ideal S512x1024 .bf16) (ix2 r k) = m ((c : Thread nD τ).loc main_arg0) (ix2 (tileRow t r) (colAt 1 1024 10240 (by decide) k)) := by
  obtain ⟨-, -, -, -, -, -, -, -, -, -, -, -, -, ⟨e0, e1⟩, -⟩ := idx_facts t
  have hr := r.isLt
  have hk := k.isLt
  rw [← V_main_arg0 m c]
  unfold iblk tileRow colAt
  rw [View.read_apply]
  show V m c main_arg0 _ = V m c main_arg0 _
  congr 1
  funext a
  apply Fin.ext
  match a with
  | ⟨0, _⟩ => show win0_13.index t (0 : Fin 2) * 512 + 1 * r.val = t.val * 512 + r.val; rw [e0]; omega
  | ⟨1, _⟩ => show win0_13.index t (1 : Fin 2) * 1024 + 1 * k.val = 1 * 1024 + k.val; rw [e1]; omega

theorem blk14 (c : Dev nD) (t : Fin cfg0.N) (r : Fin 512) (k : Fin 2048) :
    (iblk m c 14 t : Vec Ideal S512x2048 .bf16) (ix2 r k) = m ((c : Thread nD τ).loc main_arg0) (ix2 (tileRow t r) (colAt 1 2048 10240 (by decide) k)) := by
  obtain ⟨-, -, -, -, -, -, -, -, -, -, -, -, -, -, ⟨e0, e1⟩, -⟩ := idx_facts t
  have hr := r.isLt
  have hk := k.isLt
  rw [← V_main_arg0 m c]
  unfold iblk tileRow colAt
  rw [View.read_apply]
  show V m c main_arg0 _ = V m c main_arg0 _
  congr 1
  funext a
  apply Fin.ext
  match a with
  | ⟨0, _⟩ => show win0_14.index t (0 : Fin 2) * 512 + 1 * r.val = t.val * 512 + r.val; rw [e0]; omega
  | ⟨1, _⟩ => show win0_14.index t (1 : Fin 2) * 2048 + 1 * k.val = 1 * 2048 + k.val; rw [e1]; omega

theorem blk15 (c : Dev nD) (t : Fin cfg0.N) (r : Fin 512) (k : Fin 2048) :
    (iblk m c 15 t : Vec Ideal S512x2048 .bf16) (ix2 r k) = m ((c : Thread nD τ).loc main_arg0) (ix2 (tileRow t r) (colAt 2 2048 10240 (by decide) k)) := by
  obtain ⟨-, -, -, -, -, -, -, -, -, -, -, -, -, -, -, ⟨e0, e1⟩, -⟩ := idx_facts t
  have hr := r.isLt
  have hk := k.isLt
  rw [← V_main_arg0 m c]
  unfold iblk tileRow colAt
  rw [View.read_apply]
  show V m c main_arg0 _ = V m c main_arg0 _
  congr 1
  funext a
  apply Fin.ext
  match a with
  | ⟨0, _⟩ => show win0_15.index t (0 : Fin 2) * 512 + 1 * r.val = t.val * 512 + r.val; rw [e0]; omega
  | ⟨1, _⟩ => show win0_15.index t (1 : Fin 2) * 2048 + 1 * k.val = 2 * 2048 + k.val; rw [e1]; omega

theorem blk5 (c : Dev nD) (t : Fin cfg0.N) (r : Fin 1) (k : Fin 512) :
    (iblk m c 5 t : Vec Ideal S1x512 .f32) (ix2 r k) = V m c main_v19 (ix2 r k) := by
  obtain ⟨-, -, -, -, -, ⟨e0, e1⟩, -⟩ := idx_facts t
  unfold iblk
  rw [View.read_apply]
  show V m c main_v19 _ = V m c main_v19 _
  congr 1
  funext a
  apply Fin.ext
  match a with
  | ⟨0, _⟩ => show win0_5.index t (0 : Fin 2) * 1 + 1 * r.val = r.val; rw [e0]; omega
  | ⟨1, _⟩ => show win0_5.index t (1 : Fin 2) * 512 + 1 * k.val = k.val; rw [e1]; omega

theorem blk6 (c : Dev nD) (t : Fin cfg0.N) (r : Fin 1) (k : Fin 512) :
    (iblk m c 6 t : Vec Ideal S1x512 .f32) (ix2 r k) = V m c main_v21 (ix2 r k) := by
  obtain ⟨-, -, -, -, -, -, ⟨e0, e1⟩, -⟩ := idx_facts t
  unfold iblk
  rw [View.read_apply]
  show V m c main_v21 _ = V m c main_v21 _
  congr 1
  funext a
  apply Fin.ext
  match a with
  | ⟨0, _⟩ => show win0_6.index t (0 : Fin 2) * 1 + 1 * r.val = r.val; rw [e0]; omega
  | ⟨1, _⟩ => show win0_6.index t (1 : Fin 2) * 512 + 1 * k.val = k.val; rw [e1]; omega

theorem blk16 (c : Dev nD) (t : Fin cfg0.N) (r : Fin 1) (k : Fin 2048) :
    (iblk m c 16 t : Vec Ideal S1x2048 .f32) (ix2 r k) = V m c main_v29 (ix2 r k) := by
  obtain ⟨-, -, -, -, -, -, -, -, -, -, -, -, -, -, -, -, ⟨e0, e1⟩⟩ := idx_facts t
  unfold iblk
  rw [View.read_apply]
  show V m c main_v29 _ = V m c main_v29 _
  congr 1
  funext a
  apply Fin.ext
  match a with
  | ⟨0, _⟩ => show win0_16.index t (0 : Fin 2) * 1 + 1 * r.val = r.val; rw [e0]; omega
  | ⟨1, _⟩ => show win0_16.index t (1 : Fin 2) * 2048 + 1 * k.val = k.val; rw [e1]; omega

theorem blk7 (c : Dev nD) (t : Fin cfg0.N) (r : Fin 4096) (k : Fin 512) :
    (iblk m c 7 t : Vec Ideal S4096x512 .bf16) (ix2 r k) = V m c main_v27 (ix2 r k) := by
  obtain ⟨-, -, -, -, -, -, -, ⟨e0, e1⟩, -⟩ := idx_facts t
  unfold iblk
  rw [View.read_apply]
  show V m c main_v27 _ = V m c main_v27 _
  congr 1
  funext a
  apply Fin.ext
  match a with
  | ⟨0, _⟩ => show win0_7.index t (0 : Fin 2) * 4096 + 1 * r.val = r.val; rw [e0]; omega
  | ⟨1, _⟩ => show win0_7.index t (1 : Fin 2) * 512 + 1 * k.val = k.val; rw [e1]; omega

theorem blk8 (c : Dev nD) (t : Fin cfg0.N) (r : Fin 512) (k : Fin 2048) :
    (iblk m c 8 t : Vec Ideal S512x2048 .bf16) (ix2 r k) = V m c main_v12 (ix2 r k) := by
  obtain ⟨-, -, -, -, -, -, -, -, ⟨e0, e1⟩, -⟩ := idx_facts t
  unfold iblk
  rw [View.read_apply]
  show V m c main_v12 _ = V m c main_v12 _
  congr 1
  funext a
  apply Fin.ext
  match a with
  | ⟨0, _⟩ => show win0_8.index t (0 : Fin 2) * 512 + 1 * r.val = r.val; rw [e0]; omega
  | ⟨1, _⟩ => show win0_8.index t (1 : Fin 2) * 2048 + 1 * k.val = k.val; rw [e1]; omega

theorem blk9 (c : Dev nD) (t : Fin cfg0.N) (r : Fin 512) (k : Fin 2048) :
    (iblk m c 9 t : Vec Ideal S512x2048 .bf16) (ix2 r k) = V m c main_v15 (ix2 r k) := by
  obtain ⟨-, -, -, -, -, -, -, -, -, ⟨e0, e1⟩, -⟩ := idx_facts t
  unfold iblk
  rw [View.read_apply]
  show V m c main_v15 _ = V m c main_v15 _
  congr 1
  funext a
  apply Fin.ext
  match a with
  | ⟨0, _⟩ => show win0_9.index t (0 : Fin 2) * 512 + 1 * r.val = r.val; rw [e0]; omega
  | ⟨1, _⟩ => show win0_9.index t (1 : Fin 2) * 2048 + 1 * k.val = k.val; rw [e1]; omega

theorem blk0 (c : Dev nD) (t : Fin cfg0.N) (h : Fin 8) : (iblk m c 0 t : Vec Ideal S8 .f32) (ix1 h) = V m c main_v7 (ix1 h) := by
  obtain ⟨e0, -⟩ := idx_facts t
  unfold iblk
  rw [View.read_apply]
  show V m c main_v7 _ = V m c main_v7 _
  congr 1
  funext a
  apply Fin.ext
  match a with
  | ⟨0, _⟩ => show win0_0.index t (0 : Fin 1) * 8 + 1 * h.val = h.val; rw [e0]; omega

/-- Row `l` of the weight rows of the shared rotary key. -/
def peRow (l : Fin 128) : Fin 11328 := ⟨56 * 128 + l.val, by omega⟩

theorem blk4 (c : Dev nD) (t : Fin cfg0.N) (l : Fin 128) (k : Fin 2048) :
    (X0_4 m c t : Vec Ideal S128x2048 .f32) (ix2 l k) = V m c main_v17 (ix2 (peRow l) k) := by
  obtain ⟨-, -, -, -, ⟨e0, e1⟩, -⟩ := idx_facts t
  have hl := l.isLt
  have hk := k.isLt
  unfold X0_4 Pipeline.Window.fill
  rw [dif_pos (moved0_4 t _)]
  unfold iblk peRow
  rw [View.read_apply]
  show V m c main_v17 _ = V m c main_v17 _
  congr 1
  funext a
  apply Fin.ext
  match a with
  | ⟨0, _⟩ => show win0_4.index t (0 : Fin 2) * 128 + 1 * l.val = 56 * 128 + l.val; rw [e0]; omega
  | ⟨1, _⟩ => show win0_4.index t (1 : Fin 2) * 2048 + 1 * k.val = k.val; rw [e1]; omega

end Cert.MixIdeal.MxVal

end
-- ==== Proof.MixHostQ.lean ====
/-
  The query weights as the call takes them: head by head, each head's 192 rows followed by zeros.
-/
module

public import proofs.«01_k».proof.Proof.MixHost

@[expose] public section

set_option maxRecDepth 16384

noncomputable section

namespace Cert.MixIdeal.MxVal

open Cert.MixIdeal Cert.MixIdeal.Gen
open Idealize.ShloMosaic Idealize.ShloMosaic.TcCoe Idealize.SL.Sem

variable (m : (ℓ : Loc nD τ sig) → Buf (Elt Ideal) ℓ)

theorem pad_zero : (FloatOps.sitofp FTy.bf16 (0#32) : Ideal FTy.bf16) = 0 := by
  show (((0#32 : BitVec 32).toInt : ℝ) : EReal) = 0
  rw [show (0#32 : BitVec 32).toInt = 0 from by decide]
  simp

theorem V_v27 (c : Dev nD) (p : Fin 4096) (k : Fin 512) (h : p.val % 256 < 192) :
    V m c main_v27 (ix2 p k) = m ((c : Thread nD τ).loc main_arg8) (ix3 0 k (queryCol p h)) := by
  have hp := p.isLt
  have h2 : p.val / 256 < 16 ∧ p.val % 256 < 192 := ⟨by omega, h⟩
  unfold V
  after_reads_at
  rw [dif_pos h2]
  exact congrArg (fun l => m ((c : Thread nD τ).loc main_arg8) (ix3 0 k l)) (Fin.ext (by show p.val / 256 * 192 + p.val % 256 = 192 * (p.val / 256) + p.val % 256; omega))

theorem V_v27_pad (c : Dev nD) (p : Fin 4096) (k : Fin 512) (h : ¬p.val % 256 < 192) : V m c main_v27 (ix2 p k) = (0 : EReal) := by
  have h2 : ¬(p.val / 256 < 16 ∧ p.val % 256 < 192) := fun hh => h hh.2
  unfold V
  after_reads_at
  rw [dif_neg h2]
  exact pad_zero

end Cert.MixIdeal.MxVal

end
-- ==== Proof.RetRunA.lean ====
/-
  The retention branch at a grid point that starts a sequence: the tables and the state it sets up, its rows of the result and the state it leaves.
-/
module

public import proofs.«01_k».proof.Proof.RetTab
public import proofs.«01_k».proof.Proof.Gen.MixIdeal.Frame

@[expose] public section

set_option maxRecDepth 16384

noncomputable section

namespace Cert.MixIdeal.MxVal

open Cert.MixIdeal Cert.MixIdeal.Gen
open Idealize.ShloMosaic Idealize.ShloMosaic.TcCoe Idealize.SL.Sem

section
variable {c : Dev nD} {i : grid0.Coords} {arg1 : Memref sig .tc .smem S8 .f32} {harg1 : arg1.IsWhole} {arg2 : Memref sig .tc .vmem S512x512 .bf16} {harg2 : arg2.IsWhole} {arg3 : Memref sig .tc .vmem S512x512 .bf16} {harg3 : arg3.IsWhole} {arg4 : Memref sig .tc .vmem S512x2048 .bf16} {harg4 : arg4.IsWhole} {arg5 : Memref sig .tc .vmem S128x2048 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S4096x512 .bf16} {harg8 : arg8.IsWhole} {arg9 : Memref sig .tc .vmem S512x2048 .bf16} {harg9 : arg9.IsWhole} {arg10 : Memref sig .tc .vmem S512x2048 .bf16} {harg10 : arg10.IsWhole} {arg11 : Memref sig .tc .vmem S512x128 .f32} {harg11 : arg11.IsWhole} {arg12 : Memref sig .tc .vmem S512x128 .f32} {harg12 : arg12.IsWhole} {arg13 : Memref sig .tc .vmem S512x1024 .bf16} {harg13 : arg13.IsWhole} {arg14 : Memref sig .tc .vmem S512x1024 .bf16} {harg14 : arg14.IsWhole} {arg15 : Memref sig .tc .vmem S512x2048 .bf16} {harg15 : arg15.IsWhole} {arg16 : Memref sig .tc .vmem S512x2048 .bf16} {harg16 : arg16.IsWhole} {arg17 : Memref sig .tc .vmem S1x2048 .f32} {harg17 : arg17.IsWhole} {arg18 : Memref sig .tc .vmem S512x4096 .bf16} {harg18 : arg18.IsWhole} {arg19 : Memref sig .tc .vmem S512x2048 .bf16} {harg19 : arg19.IsWhole} {arg20 : Memref sig .tc .vmem S512x128 .bf16} {harg20 : arg20.IsWhole} {arg21 : Memref sig .tc .vmem S512x2048 .bf16} {harg21 : arg21.IsWhole} {arg22 : Memref sig .tc .vmem S512x2048 .bf16} {harg22 : arg22.IsWhole} {arg23 : Memref sig .tc .vmem S8x128x256 .f32} {harg23 : arg23.IsWhole} {arg24 : Memref sig .tc .vmem S8x256x256 .f32} {harg24 : arg24.IsWhole} {arg25 : Memref sig .tc .vmem S8x256x128 .f32} {harg25 : arg25.IsWhole} {arg26 : Memref sig .tc .vmem S8x256x128 .f32} {harg26 : arg26.IsWhole}  {hc0 : cond0_0 i}
variable     {x0 : Vec Ideal S8 .f32} {x1 : Vec Ideal S512x512 .bf16} {x2 : Vec Ideal S512x512 .bf16} {x3 : Vec Ideal S512x2048 .bf16} {x4 : Vec Ideal S128x2048 .f32} {x5 : Vec Ideal S1x512 .f32} {x6 : Vec Ideal S1x512 .f32} {x7 : Vec Ideal S4096x512 .bf16} {x8 : Vec Ideal S512x2048 .bf16} {x9 : Vec Ideal S512x2048 .bf16} {x10 : Vec Ideal S512x128 .f32} {x11 : Vec Ideal S512x128 .f32} {x12 : Vec Ideal S512x1024 .bf16} {x13 : Vec Ideal S512x1024 .bf16} {x14 : Vec Ideal S512x2048 .bf16} {x15 : Vec Ideal S512x2048 .bf16} {x16 : Vec Ideal S1x2048 .f32}
variable {L : Fin 8 → ℝ} {Q K : Fin 8 → ℕ → Fin 128 → ℝ} {V : Fin 8 → ℕ → Fin 256 → ℝ}

variable (T : Tile L Q K V 0 x0 x10 x11 x12 x13 x14)

include T in
theorem decA (h : Fin 8) (n j : Fin 256) : View.canon (kernelRun0_A.sl.HS1_8 c arg1 harg1 x0) (ix3 h n j) = (Cert.Ret.decay (L h) n.val j.val : EReal) := by
  unfold kernelRun0_A.sl.HS1_8
  rw [canon_head]
  by_cases h7 : h.val = 7
  · rw [if_pos h7]
    obtain rfl : h = 7 := Fin.ext h7
    refine Eq.trans (congrFun (dec_pay_7 _) _) (Eq.trans ?_ (decOf_apply (L 7) n j))
    exact congrArg (fun l => decOf (F := Ideal) l (ix3 0 n j)) ((rd1 harg1 x0 _ _ 7 rfl).trans (T.hL 7))
  rw [if_neg h7]
  rw [canon_head]
  by_cases h6 : h.val = 6
  · rw [if_pos h6]
    obtain rfl : h = 6 := Fin.ext h6
    refine Eq.trans (congrFun (dec_pay_6 _) _) (Eq.trans ?_ (decOf_apply (L 6) n j))
    exact congrArg (fun l => decOf (F := Ideal) l (ix3 0 n j)) ((rd1 harg1 x0 _ _ 6 rfl).trans (T.hL 6))
  rw [if_neg h6]
  rw [canon_head]
  by_cases h5 : h.val = 5
  · rw [if_pos h5]
    obtain rfl : h = 5 := Fin.ext h5
    refine Eq.trans (congrFun (dec_pay_5 _) _) (Eq.trans ?_ (decOf_apply (L 5) n j))
    exact congrArg (fun l => decOf (F := Ideal) l (ix3 0 n j)) ((rd1 harg1 x0 _ _ 5 rfl).trans (T.hL 5))
  rw [if_neg h5]
  rw [canon_head]
  by_cases h4 : h.val = 4
  · rw [if_pos h4]
    obtain rfl : h = 4 := Fin.ext h4
    refine Eq.trans (congrFun (dec_pay_4 _) _) (Eq.trans ?_ (decOf_apply (L 4) n j))
    exact congrArg (fun l => decOf (F := Ideal) l (ix3 0 n j)) ((rd1 harg1 x0 _ _ 4 rfl).trans (T.hL 4))
  rw [if_neg h4]
  rw [canon_head]
  by_cases h3 : h.val = 3
  · rw [if_pos h3]
    obtain rfl : h = 3 := Fin.ext h3
    refine Eq.trans (congrFun (dec_pay_3 _) _) (Eq.trans ?_ (decOf_apply (L 3) n j))
    exact congrArg (fun l => decOf (F := Ideal) l (ix3 0 n j)) ((rd1 harg1 x0 _ _ 3 rfl).trans (T.hL 3))
  rw [if_neg h3]
  rw [canon_head]
  by_cases h2 : h.val = 2
  · rw [if_pos h2]
    obtain rfl : h = 2 := Fin.ext h2
    refine Eq.trans (congrFun (dec_pay_2 _) _) (Eq.trans ?_ (decOf_apply (L 2) n j))
    exact congrArg (fun l => decOf (F := Ideal) l (ix3 0 n j)) ((rd1 harg1 x0 _ _ 2 rfl).trans (T.hL 2))
  rw [if_neg h2]
  rw [canon_head]
  by_cases h1 : h.val = 1
  · rw [if_pos h1]
    obtain rfl : h = 1 := Fin.ext h1
    refine Eq.trans (congrFun (dec_pay_1 _) _) (Eq.trans ?_ (decOf_apply (L 1) n j))
    exact congrArg (fun l => decOf (F := Ideal) l (ix3 0 n j)) ((rd1 harg1 x0 _ _ 1 rfl).trans (T.hL 1))
  rw [if_neg h1]
  rw [canon_head]
  by_cases h0 : h.val = 0
  · rw [if_pos h0]
    obtain rfl : h = 0 := Fin.ext h0
    refine Eq.trans (congrFun (dec_pay_0 _) _) (Eq.trans ?_ (decOf_apply (L 0) n j))
    exact congrArg (fun l => decOf (F := Ideal) l (ix3 0 n j)) ((rd1 harg1 x0 _ _ 0 rfl).trans (T.hL 0))
  rw [if_neg h0]
  exact absurd h.isLt (by omega)

include T in
theorem qdA (h : Fin 8) (n : Fin 256) (d : Fin 128) : View.canon (kernelRun0_A.sl.HS2_8 c arg1 harg1 x0) (ix3 h n d) = (Real.exp (L h * ((n.val : ℝ) + 1)) : EReal) := by
  unfold kernelRun0_A.sl.HS2_8
  rw [canon_head]
  by_cases h7 : h.val = 7
  · rw [if_pos h7]
    obtain rfl : h = 7 := Fin.ext h7
    refine Eq.trans (congrFun (qd_pay_7 _) _) (Eq.trans ?_ (qdOf_apply (L 7) n d))
    exact congrArg (fun l => qdOf (F := Ideal) l (ix3 0 n d)) ((rd1 harg1 x0 _ _ 7 rfl).trans (T.hL 7))
  rw [if_neg h7]
  rw [canon_head]
  by_cases h6 : h.val = 6
  · rw [if_pos h6]
    obtain rfl : h = 6 := Fin.ext h6
    refine Eq.trans (congrFun (qd_pay_6 _) _) (Eq.trans ?_ (qdOf_apply (L 6) n d))
    exact congrArg (fun l => qdOf (F := Ideal) l (ix3 0 n d)) ((rd1 harg1 x0 _ _ 6 rfl).trans (T.hL 6))
  rw [if_neg h6]
  rw [canon_head]
  by_cases h5 : h.val = 5
  · rw [if_pos h5]
    obtain rfl : h = 5 := Fin.ext h5
    refine Eq.trans (congrFun (qd_pay_5 _) _) (Eq.trans ?_ (qdOf_apply (L 5) n d))
    exact congrArg (fun l => qdOf (F := Ideal) l (ix3 0 n d)) ((rd1 harg1 x0 _ _ 5 rfl).trans (T.hL 5))
  rw [if_neg h5]
  rw [canon_head]
  by_cases h4 : h.val = 4
  · rw [if_pos h4]
    obtain rfl : h = 4 := Fin.ext h4
    refine Eq.trans (congrFun (qd_pay_4 _) _) (Eq.trans ?_ (qdOf_apply (L 4) n d))
    exact congrArg (fun l => qdOf (F := Ideal) l (ix3 0 n d)) ((rd1 harg1 x0 _ _ 4 rfl).trans (T.hL 4))
  rw [if_neg h4]
  rw [canon_head]
  by_cases h3 : h.val = 3
  · rw [if_pos h3]
    obtain rfl : h = 3 := Fin.ext h3
    refine Eq.trans (congrFun (qd_pay_3 _) _) (Eq.trans ?_ (qdOf_apply (L 3) n d))
    exact congrArg (fun l => qdOf (F := Ideal) l (ix3 0 n d)) ((rd1 harg1 x0 _ _ 3 rfl).trans (T.hL 3))
  rw [if_neg h3]
  rw [canon_head]
  by_cases h2 : h.val = 2
  · rw [if_pos h2]
    obtain rfl : h = 2 := Fin.ext h2
    refine Eq.trans (congrFun (qd_pay_2 _) _) (Eq.trans ?_ (qdOf_apply (L 2) n d))
    exact congrArg (fun l => qdOf (F := Ideal) l (ix3 0 n d)) ((rd1 harg1 x0 _ _ 2 rfl).trans (T.hL 2))
  rw [if_neg h2]
  rw [canon_head]
  by_cases h1 : h.val = 1
  · rw [if_pos h1]
    obtain rfl : h = 1 := Fin.ext h1
    refine Eq.trans (congrFun (qd_pay_1 _) _) (Eq.trans ?_ (qdOf_apply (L 1) n d))
    exact congrArg (fun l => qdOf (F := Ideal) l (ix3 0 n d)) ((rd1 harg1 x0 _ _ 1 rfl).trans (T.hL 1))
  rw [if_neg h1]
  rw [canon_head]
  by_cases h0 : h.val = 0
  · rw [if_pos h0]
    obtain rfl : h = 0 := Fin.ext h0
    refine Eq.trans (congrFun (qd_pay_0 _) _) (Eq.trans ?_ (qdOf_apply (L 0) n d))
    exact congrArg (fun l => qdOf (F := Ideal) l (ix3 0 n d)) ((rd1 harg1 x0 _ _ 0 rfl).trans (T.hL 0))
  rw [if_neg h0]
  exact absurd h.isLt (by omega)

include T in
theorem kdA (h : Fin 8) (n : Fin 256) (d : Fin 128) : View.canon (kernelRun0_A.sl.HS3_8 c arg1 harg1 x0) (ix3 h n d) = (Real.exp (L h * (255 - (n.val : ℝ))) : EReal) := by
  unfold kernelRun0_A.sl.HS3_8
  rw [canon_head]
  by_cases h7 : h.val = 7
  · rw [if_pos h7]
    obtain rfl : h = 7 := Fin.ext h7
    refine Eq.trans (congrFun (kd_pay_7 _) _) (Eq.trans ?_ (kdOf_apply (L 7) n d))
    exact congrArg (fun l => kdOf (F := Ideal) l (ix3 0 n d)) ((rd1 harg1 x0 _ _ 7 rfl).trans (T.hL 7))
  rw [if_neg h7]
  rw [canon_head]
  by_cases h6 : h.val = 6
  · rw [if_pos h6]
    obtain rfl : h = 6 := Fin.ext h6
    refine Eq.trans (congrFun (kd_pay_6 _) _) (Eq.trans ?_ (kdOf_apply (L 6) n d))
    exact congrArg (fun l => kdOf (F := Ideal) l (ix3 0 n d)) ((rd1 harg1 x0 _ _ 6 rfl).trans (T.hL 6))
  rw [if_neg h6]
  rw [canon_head]
  by_cases h5 : h.val = 5
  · rw [if_pos h5]
    obtain rfl : h = 5 := Fin.ext h5
    refine Eq.trans (congrFun (kd_pay_5 _) _) (Eq.trans ?_ (kdOf_apply (L 5) n d))
    exact congrArg (fun l => kdOf (F := Ideal) l (ix3 0 n d)) ((rd1 harg1 x0 _ _ 5 rfl).trans (T.hL 5))
  rw [if_neg h5]
  rw [canon_head]
  by_cases h4 : h.val = 4
  · rw [if_pos h4]
    obtain rfl : h = 4 := Fin.ext h4
    refine Eq.trans (congrFun (kd_pay_4 _) _) (Eq.trans ?_ (kdOf_apply (L 4) n d))
    exact congrArg (fun l => kdOf (F := Ideal) l (ix3 0 n d)) ((rd1 harg1 x0 _ _ 4 rfl).trans (T.hL 4))
  rw [if_neg h4]
  rw [canon_head]
  by_cases h3 : h.val = 3
  · rw [if_pos h3]
    obtain rfl : h = 3 := Fin.ext h3
    refine Eq.trans (congrFun (kd_pay_3 _) _) (Eq.trans ?_ (kdOf_apply (L 3) n d))
    exact congrArg (fun l => kdOf (F := Ideal) l (ix3 0 n d)) ((rd1 harg1 x0 _ _ 3 rfl).trans (T.hL 3))
  rw [if_neg h3]
  rw [canon_head]
  by_cases h2 : h.val = 2
  · rw [if_pos h2]
    obtain rfl : h = 2 := Fin.ext h2
    refine Eq.trans (congrFun (kd_pay_2 _) _) (Eq.trans ?_ (kdOf_apply (L 2) n d))
    exact congrArg (fun l => kdOf (F := Ideal) l (ix3 0 n d)) ((rd1 harg1 x0 _ _ 2 rfl).trans (T.hL 2))
  rw [if_neg h2]
  rw [canon_head]
  by_cases h1 : h.val = 1
  · rw [if_pos h1]
    obtain rfl : h = 1 := Fin.ext h1
    refine Eq.trans (congrFun (kd_pay_1 _) _) (Eq.trans ?_ (kdOf_apply (L 1) n d))
    exact congrArg (fun l => kdOf (F := Ideal) l (ix3 0 n d)) ((rd1 harg1 x0 _ _ 1 rfl).trans (T.hL 1))
  rw [if_neg h1]
  rw [canon_head]
  by_cases h0 : h.val = 0
  · rw [if_pos h0]
    obtain rfl : h = 0 := Fin.ext h0
    refine Eq.trans (congrFun (kd_pay_0 _) _) (Eq.trans ?_ (kdOf_apply (L 0) n d))
    exact congrArg (fun l => kdOf (F := Ideal) l (ix3 0 n d)) ((rd1 harg1 x0 _ _ 0 rfl).trans (T.hL 0))
  rw [if_neg h0]
  exact absurd h.isLt (by omega)

theorem zeroA (h : Fin 8) (d : Fin 128) (e : Fin 256) : View.canon (kernelRun0_A.sl.HS0_1 (F := Ideal)) (ix3 h d e) = (Cert.Ret.state (L h) (K h) (V h) (if h.val < 0 then 256 else 0) d e : EReal) := by
  unfold kernelRun0_A.sl.HS0_1
  rw [if_neg (Nat.not_lt_zero _), Cert.Ret.state_zero, View.canon_cons_unit_lit _ _ _ (by decide)]
  exact empty_apply h d e

include T in
theorem blockA_1 (h : Fin 8) (d : Fin 128) (e : Fin 256) : View.canon (kernelRun0_A.sl.HS0_2 c arg1 harg1 arg11 harg11 arg12 harg12 arg14 harg14 arg15 harg15 arg23 arg26 x0 x10 x11 x13 x14) (ix3 h d e)
    = (Cert.Ret.state (L h) (K h) (V h) (if h.val < 1 then 256 else 0) d e : EReal) := by
  unfold kernelRun0_A.sl.HS0_2
  rw [canon_head]
  by_cases hk : h.val = 0
  · rw [if_pos hk, if_pos (show h.val < 1 by omega)]
    obtain rfl : h = 0 := Fin.ext hk
    exact Eq.trans (congrFun (state_0_0 _ _ _ _ _ _ _) (ix3 0 d e))
      (tile_state T 0 (by omega) 0 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 0 rfl).trans (kdA T 0 n d))
        (fun d e => (cov3 arg23 _ _ 0 d e 0 rfl).trans (zeroA (L := L) (K := K) (V := V) 0 d e)) (rd1 harg1 x0 _ _ 0 rfl) 0 d e)
  · rw [if_neg hk, zeroA (L := L) (K := K) (V := V) h d e]
    simp only [show (h.val < 1) = (h.val < 0) from propext (by omega)]

include T in
theorem blockA_2 (h : Fin 8) (d : Fin 128) (e : Fin 256) : View.canon (kernelRun0_A.sl.HS0_3 c arg1 harg1 arg11 harg11 arg12 harg12 arg14 harg14 arg15 harg15 arg23 arg26 x0 x10 x11 x13 x14) (ix3 h d e)
    = (Cert.Ret.state (L h) (K h) (V h) (if h.val < 2 then 256 else 0) d e : EReal) := by
  unfold kernelRun0_A.sl.HS0_3
  rw [canon_head]
  by_cases hk : h.val = 1
  · rw [if_pos hk, if_pos (show h.val < 2 by omega)]
    obtain rfl : h = 1 := Fin.ext hk
    exact Eq.trans (congrFun (state_0_1 _ _ _ _ _ _ _) (ix3 0 d e))
      (tile_state T 0 (by omega) 1 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 1 rfl).trans (kdA T 1 n d))
        (fun d e => (cov3 arg23 _ _ 0 d e 1 rfl).trans (blockA_1 T 1 d e)) (rd1 harg1 x0 _ _ 1 rfl) 0 d e)
  · rw [if_neg hk, blockA_1 T h d e]
    simp only [show (h.val < 2) = (h.val < 1) from propext (by omega)]

include T in
theorem blockA_3 (h : Fin 8) (d : Fin 128) (e : Fin 256) : View.canon (kernelRun0_A.sl.HS0_4 c arg1 harg1 arg11 harg11 arg12 harg12 arg14 harg14 arg15 harg15 arg23 arg26 x0 x10 x11 x13 x14) (ix3 h d e)
    = (Cert.Ret.state (L h) (K h) (V h) (if h.val < 3 then 256 else 0) d e : EReal) := by
  unfold kernelRun0_A.sl.HS0_4
  rw [canon_head]
  by_cases hk : h.val = 2
  · rw [if_pos hk, if_pos (show h.val < 3 by omega)]
    obtain rfl : h = 2 := Fin.ext hk
    exact Eq.trans (congrFun (state_0_2 _ _ _ _ _ _ _) (ix3 0 d e))
      (tile_state T 0 (by omega) 2 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 2 rfl).trans (kdA T 2 n d))
        (fun d e => (cov3 arg23 _ _ 0 d e 2 rfl).trans (blockA_2 T 2 d e)) (rd1 harg1 x0 _ _ 2 rfl) 0 d e)
  · rw [if_neg hk, blockA_2 T h d e]
    simp only [show (h.val < 3) = (h.val < 2) from propext (by omega)]

include T in
theorem blockA_4 (h : Fin 8) (d : Fin 128) (e : Fin 256) : View.canon (kernelRun0_A.sl.HS0_5 c arg1 harg1 arg11 harg11 arg12 harg12 arg14 harg14 arg15 harg15 arg23 arg26 x0 x10 x11 x13 x14) (ix3 h d e)
    = (Cert.Ret.state (L h) (K h) (V h) (if h.val < 4 then 256 else 0) d e : EReal) := by
  unfold kernelRun0_A.sl.HS0_5
  rw [canon_head]
  by_cases hk : h.val = 3
  · rw [if_pos hk, if_pos (show h.val < 4 by omega)]
    obtain rfl : h = 3 := Fin.ext hk
    exact Eq.trans (congrFun (state_0_3 _ _ _ _ _ _ _) (ix3 0 d e))
      (tile_state T 0 (by omega) 3 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 3 rfl).trans (kdA T 3 n d))
        (fun d e => (cov3 arg23 _ _ 0 d e 3 rfl).trans (blockA_3 T 3 d e)) (rd1 harg1 x0 _ _ 3 rfl) 0 d e)
  · rw [if_neg hk, blockA_3 T h d e]
    simp only [show (h.val < 4) = (h.val < 3) from propext (by omega)]

include T in
theorem blockA_5 (h : Fin 8) (d : Fin 128) (e : Fin 256) : View.canon (kernelRun0_A.sl.HS0_6 c arg1 harg1 arg11 harg11 arg12 harg12 arg14 harg14 arg15 harg15 arg23 arg26 x0 x10 x11 x13 x14) (ix3 h d e)
    = (Cert.Ret.state (L h) (K h) (V h) (if h.val < 5 then 256 else 0) d e : EReal) := by
  unfold kernelRun0_A.sl.HS0_6
  rw [canon_head]
  by_cases hk : h.val = 4
  · rw [if_pos hk, if_pos (show h.val < 5 by omega)]
    obtain rfl : h = 4 := Fin.ext hk
    exact Eq.trans (congrFun (state_0_4 _ _ _ _ _ _ _) (ix3 0 d e))
      (tile_state T 0 (by omega) 4 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 4 rfl).trans (kdA T 4 n d))
        (fun d e => (cov3 arg23 _ _ 0 d e 4 rfl).trans (blockA_4 T 4 d e)) (rd1 harg1 x0 _ _ 4 rfl) 0 d e)
  · rw [if_neg hk, blockA_4 T h d e]
    simp only [show (h.val < 5) = (h.val < 4) from propext (by omega)]

include T in
theorem blockA_6 (h : Fin 8) (d : Fin 128) (e : Fin 256) : View.canon (kernelRun0_A.sl.HS0_7 c arg1 harg1 arg11 harg11 arg12 harg12 arg14 harg14 arg15 harg15 arg23 arg26 x0 x10 x11 x13 x14) (ix3 h d e)
    = (Cert.Ret.state (L h) (K h) (V h) (if h.val < 6 then 256 else 0) d e : EReal) := by
  unfold kernelRun0_A.sl.HS0_7
  rw [canon_head]
  by_cases hk : h.val = 5
  · rw [if_pos hk, if_pos (show h.val < 6 by omega)]
    obtain rfl : h = 5 := Fin.ext hk
    exact Eq.trans (congrFun (state_0_5 _ _ _ _ _ _ _) (ix3 0 d e))
      (tile_state T 0 (by omega) 5 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 5 rfl).trans (kdA T 5 n d))
        (fun d e => (cov3 arg23 _ _ 0 d e 5 rfl).trans (blockA_5 T 5 d e)) (rd1 harg1 x0 _ _ 5 rfl) 0 d e)
  · rw [if_neg hk, blockA_5 T h d e]
    simp only [show (h.val < 6) = (h.val < 5) from propext (by omega)]

include T in
theorem blockA_7 (h : Fin 8) (d : Fin 128) (e : Fin 256) : View.canon (kernelRun0_A.sl.HS0_8 c arg1 harg1 arg11 harg11 arg12 harg12 arg14 harg14 arg15 harg15 arg23 arg26 x0 x10 x11 x13 x14) (ix3 h d e)
    = (Cert.Ret.state (L h) (K h) (V h) (if h.val < 7 then 256 else 0) d e : EReal) := by
  unfold kernelRun0_A.sl.HS0_8
  rw [canon_head]
  by_cases hk : h.val = 6
  · rw [if_pos hk, if_pos (show h.val < 7 by omega)]
    obtain rfl : h = 6 := Fin.ext hk
    exact Eq.trans (congrFun (state_0_6 _ _ _ _ _ _ _) (ix3 0 d e))
      (tile_state T 0 (by omega) 6 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 6 rfl).trans (kdA T 6 n d))
        (fun d e => (cov3 arg23 _ _ 0 d e 6 rfl).trans (blockA_6 T 6 d e)) (rd1 harg1 x0 _ _ 6 rfl) 0 d e)
  · rw [if_neg hk, blockA_6 T h d e]
    simp only [show (h.val < 7) = (h.val < 6) from propext (by omega)]

include T in
theorem blockA_8 (h : Fin 8) (d : Fin 128) (e : Fin 256) : View.canon (kernelRun0_A.sl.HS0_9 c arg1 harg1 arg11 harg11 arg12 harg12 arg14 harg14 arg15 harg15 arg23 arg26 x0 x10 x11 x13 x14) (ix3 h d e)
    = (Cert.Ret.state (L h) (K h) (V h) (if h.val < 8 then 256 else 0) d e : EReal) := by
  unfold kernelRun0_A.sl.HS0_9
  rw [canon_head]
  by_cases hk : h.val = 7
  · rw [if_pos hk, if_pos (show h.val < 8 by omega)]
    obtain rfl : h = 7 := Fin.ext hk
    exact Eq.trans (congrFun (state_0_7 _ _ _ _ _ _ _) (ix3 0 d e))
      (tile_state T 0 (by omega) 7 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 7 rfl).trans (kdA T 7 n d))
        (fun d e => (cov3 arg23 _ _ 0 d e 7 rfl).trans (blockA_7 T 7 d e)) (rd1 harg1 x0 _ _ 7 rfl) 0 d e)
  · rw [if_neg hk, blockA_7 T h d e]
    simp only [show (h.val < 8) = (h.val < 7) from propext (by omega)]

include T in
theorem heldA_0 (h : Fin 8) (d : Fin 128) (e : Fin 256) : View.canon (kernelRun0_A.sl.HS0_9 c arg1 harg1 arg11 harg11 arg12 harg12 arg14 harg14 arg15 harg15 arg23 arg26 x0 x10 x11 x13 x14) (ix3 h d e)
    = (Cert.Ret.state (L h) (K h) (V h) (if h.val < 0 then 512 else 256) d e : EReal) := by
  rw [blockA_8 T h d e, if_pos h.isLt, if_neg (Nat.not_lt_zero _)]

include T in
theorem heldA_1 (h : Fin 8) (d : Fin 128) (e : Fin 256) : View.canon (kernelRun0_A.sl.HS0_10 c arg1 harg1 arg11 harg11 arg12 harg12 arg14 harg14 arg15 harg15 arg23 arg26 x0 x10 x11 x13 x14) (ix3 h d e)
    = (Cert.Ret.state (L h) (K h) (V h) (if h.val < 1 then 512 else 256) d e : EReal) := by
  unfold kernelRun0_A.sl.HS0_10
  rw [canon_head]
  by_cases hk : h.val = 0
  · rw [if_pos hk, if_pos (show h.val < 1 by omega)]
    obtain rfl : h = 0 := Fin.ext hk
    exact Eq.trans (congrFun (state_1_0 _ _ _ _ _ _ _) (ix3 0 d e))
      (tile_state T 1 (by omega) 0 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 0 rfl).trans (kdA T 0 n d))
        (fun d e => (cov3 arg23 _ _ 0 d e 0 rfl).trans (heldA_0 T 0 d e)) (rd1 harg1 x0 _ _ 0 rfl) 0 d e)
  · rw [if_neg hk, heldA_0 T h d e]
    simp only [show (h.val < 1) = (h.val < 0) from propext (by omega)]

include T in
theorem heldA_2 (h : Fin 8) (d : Fin 128) (e : Fin 256) : View.canon (kernelRun0_A.sl.HS0_11 c arg1 harg1 arg11 harg11 arg12 harg12 arg14 harg14 arg15 harg15 arg23 arg26 x0 x10 x11 x13 x14) (ix3 h d e)
    = (Cert.Ret.state (L h) (K h) (V h) (if h.val < 2 then 512 else 256) d e : EReal) := by
  unfold kernelRun0_A.sl.HS0_11
  rw [canon_head]
  by_cases hk : h.val = 1
  · rw [if_pos hk, if_pos (show h.val < 2 by omega)]
    obtain rfl : h = 1 := Fin.ext hk
    exact Eq.trans (congrFun (state_1_1 _ _ _ _ _ _ _) (ix3 0 d e))
      (tile_state T 1 (by omega) 1 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 1 rfl).trans (kdA T 1 n d))
        (fun d e => (cov3 arg23 _ _ 0 d e 1 rfl).trans (heldA_1 T 1 d e)) (rd1 harg1 x0 _ _ 1 rfl) 0 d e)
  · rw [if_neg hk, heldA_1 T h d e]
    simp only [show (h.val < 2) = (h.val < 1) from propext (by omega)]

include T in
theorem heldA_3 (h : Fin 8) (d : Fin 128) (e : Fin 256) : View.canon (kernelRun0_A.sl.HS0_12 c arg1 harg1 arg11 harg11 arg12 harg12 arg14 harg14 arg15 harg15 arg23 arg26 x0 x10 x11 x13 x14) (ix3 h d e)
    = (Cert.Ret.state (L h) (K h) (V h) (if h.val < 3 then 512 else 256) d e : EReal) := by
  unfold kernelRun0_A.sl.HS0_12
  rw [canon_head]
  by_cases hk : h.val = 2
  · rw [if_pos hk, if_pos (show h.val < 3 by omega)]
    obtain rfl : h = 2 := Fin.ext hk
    exact Eq.trans (congrFun (state_1_2 _ _ _ _ _ _ _) (ix3 0 d e))
      (tile_state T 1 (by omega) 2 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 2 rfl).trans (kdA T 2 n d))
        (fun d e => (cov3 arg23 _ _ 0 d e 2 rfl).trans (heldA_2 T 2 d e)) (rd1 harg1 x0 _ _ 2 rfl) 0 d e)
  · rw [if_neg hk, heldA_2 T h d e]
    simp only [show (h.val < 3) = (h.val < 2) from propext (by omega)]

include T in
theorem heldA_4 (h : Fin 8) (d : Fin 128) (e : Fin 256) : View.canon (kernelRun0_A.sl.HS0_13 c arg1 harg1 arg11 harg11 arg12 harg12 arg14 harg14 arg15 harg15 arg23 arg26 x0 x10 x11 x13 x14) (ix3 h d e)
    = (Cert.Ret.state (L h) (K h) (V h) (if h.val < 4 then 512 else 256) d e : EReal) := by
  unfold kernelRun0_A.sl.HS0_13
  rw [canon_head]
  by_cases hk : h.val = 3
  · rw [if_pos hk, if_pos (show h.val < 4 by omega)]
    obtain rfl : h = 3 := Fin.ext hk
    exact Eq.trans (congrFun (state_1_3 _ _ _ _ _ _ _) (ix3 0 d e))
      (tile_state T 1 (by omega) 3 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 3 rfl).trans (kdA T 3 n d))
        (fun d e => (cov3 arg23 _ _ 0 d e 3 rfl).trans (heldA_3 T 3 d e)) (rd1 harg1 x0 _ _ 3 rfl) 0 d e)
  · rw [if_neg hk, heldA_3 T h d e]
    simp only [show (h.val < 4) = (h.val < 3) from propext (by omega)]

include T in
theorem heldA_5 (h : Fin 8) (d : Fin 128) (e : Fin 256) : View.canon (kernelRun0_A.sl.HS0_14 c arg1 harg1 arg11 harg11 arg12 harg12 arg14 harg14 arg15 harg15 arg23 arg26 x0 x10 x11 x13 x14) (ix3 h d e)
    = (Cert.Ret.state (L h) (K h) (V h) (if h.val < 5 then 512 else 256) d e : EReal) := by
  unfold kernelRun0_A.sl.HS0_14
  rw [canon_head]
  by_cases hk : h.val = 4
  · rw [if_pos hk, if_pos (show h.val < 5 by omega)]
    obtain rfl : h = 4 := Fin.ext hk
    exact Eq.trans (congrFun (state_1_4 _ _ _ _ _ _ _) (ix3 0 d e))
      (tile_state T 1 (by omega) 4 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 4 rfl).trans (kdA T 4 n d))
        (fun d e => (cov3 arg23 _ _ 0 d e 4 rfl).trans (heldA_4 T 4 d e)) (rd1 harg1 x0 _ _ 4 rfl) 0 d e)
  · rw [if_neg hk, heldA_4 T h d e]
    simp only [show (h.val < 5) = (h.val < 4) from propext (by omega)]

include T in
theorem heldA_6 (h : Fin 8) (d : Fin 128) (e : Fin 256) : View.canon (kernelRun0_A.sl.HS0_15 c arg1 harg1 arg11 harg11 arg12 harg12 arg14 harg14 arg15 harg15 arg23 arg26 x0 x10 x11 x13 x14) (ix3 h d e)
    = (Cert.Ret.state (L h) (K h) (V h) (if h.val < 6 then 512 else 256) d e : EReal) := by
  unfold kernelRun0_A.sl.HS0_15
  rw [canon_head]
  by_cases hk : h.val = 5
  · rw [if_pos hk, if_pos (show h.val < 6 by omega)]
    obtain rfl : h = 5 := Fin.ext hk
    exact Eq.trans (congrFun (state_1_5 _ _ _ _ _ _ _) (ix3 0 d e))
      (tile_state T 1 (by omega) 5 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 5 rfl).trans (kdA T 5 n d))
        (fun d e => (cov3 arg23 _ _ 0 d e 5 rfl).trans (heldA_5 T 5 d e)) (rd1 harg1 x0 _ _ 5 rfl) 0 d e)
  · rw [if_neg hk, heldA_5 T h d e]
    simp only [show (h.val < 6) = (h.val < 5) from propext (by omega)]

include T in
theorem heldA_7 (h : Fin 8) (d : Fin 128) (e : Fin 256) : View.canon (kernelRun0_A.sl.HS0_16 c arg1 harg1 arg11 harg11 arg12 harg12 arg14 harg14 arg15 harg15 arg23 arg26 x0 x10 x11 x13 x14) (ix3 h d e)
    = (Cert.Ret.state (L h) (K h) (V h) (if h.val < 7 then 512 else 256) d e : EReal) := by
  unfold kernelRun0_A.sl.HS0_16
  rw [canon_head]
  by_cases hk : h.val = 6
  · rw [if_pos hk, if_pos (show h.val < 7 by omega)]
    obtain rfl : h = 6 := Fin.ext hk
    exact Eq.trans (congrFun (state_1_6 _ _ _ _ _ _ _) (ix3 0 d e))
      (tile_state T 1 (by omega) 6 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 6 rfl).trans (kdA T 6 n d))
        (fun d e => (cov3 arg23 _ _ 0 d e 6 rfl).trans (heldA_6 T 6 d e)) (rd1 harg1 x0 _ _ 6 rfl) 0 d e)
  · rw [if_neg hk, heldA_6 T h d e]
    simp only [show (h.val < 7) = (h.val < 6) from propext (by omega)]

include T in
theorem heldA_8 (h : Fin 8) (d : Fin 128) (e : Fin 256) : View.canon ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16).2.2.2.2.2.1) (ix3 h d e)
    = (Cert.Ret.state (L h) (K h) (V h) (if h.val < 8 then 512 else 256) d e : EReal) := by
  unfold kernelRun0_A
  dsimp only
  rw [canon_head]
  by_cases hk : h.val = 7
  · rw [if_pos hk, if_pos (show h.val < 8 by omega)]
    obtain rfl : h = 7 := Fin.ext hk
    exact Eq.trans (congrFun (state_1_7 _ _ _ _ _ _ _) (ix3 0 d e))
      (tile_state T 1 (by omega) 7 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (cov3 arg26 _ _ 0 n d 7 rfl).trans (kdA T 7 n d))
        (fun d e => (cov3 arg23 _ _ 0 d e 7 rfl).trans (heldA_7 T 7 d e)) (rd1 harg1 x0 _ _ 7 rfl) 0 d e)
  · rw [if_neg hk, heldA_7 T h d e]
    simp only [show (h.val < 8) = (h.val < 7) from propext (by omega)]

variable (r : Fin 512) (k : Fin 2048)

include T in
/-- The rows of the result. -/
theorem rowsA : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 (ix2 r k) = rowsOf L Q K V 0 x15 x16 r k := by
  unfold out0_A_21
  rw [View.read_writes_junk_eq_canon]
  refine View.canon_eq_of_allAt _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 _) ?_
  unfold kernelRun0_A
  dsimp only
  refine View.allAt_cons_unit _ _ _ _ _ (tile_at 1 (by omega) 7 rfl rfl r k (rowsOf L Q K V 0 x15 x16) fun n e => ?_) ?_
  · exact Eq.trans (congrFun (rows_1_7 _ _ _ _ _ _ _ _ _ _) (ix2 n e))
      (tile_rows T 1 (by omega) 7 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 7 rfl).trans (decA T 7 n j))
        (fun n d => (cov3 arg25 _ _ 0 n d 7 rfl).trans (qdA T 7 n d))
        (fun d e => (cov3 arg23 _ _ 0 d e 7 rfl).trans (heldA_7 T 7 d e))
        (fun e => rd2 harg17 x16 _ 0 e _ _ rfl rfl) (fun n e => rd2 harg16 x15 _ n e _ _ rfl rfl) n e)
  refine View.allAt_cons_unit _ _ _ _ _ (tile_at 1 (by omega) 6 rfl rfl r k (rowsOf L Q K V 0 x15 x16) fun n e => ?_) ?_
  · exact Eq.trans (congrFun (rows_1_6 _ _ _ _ _ _ _ _ _ _) (ix2 n e))
      (tile_rows T 1 (by omega) 6 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 6 rfl).trans (decA T 6 n j))
        (fun n d => (cov3 arg25 _ _ 0 n d 6 rfl).trans (qdA T 6 n d))
        (fun d e => (cov3 arg23 _ _ 0 d e 6 rfl).trans (heldA_6 T 6 d e))
        (fun e => rd2 harg17 x16 _ 0 e _ _ rfl rfl) (fun n e => rd2 harg16 x15 _ n e _ _ rfl rfl) n e)
  refine View.allAt_cons_unit _ _ _ _ _ (tile_at 1 (by omega) 5 rfl rfl r k (rowsOf L Q K V 0 x15 x16) fun n e => ?_) ?_
  · exact Eq.trans (congrFun (rows_1_5 _ _ _ _ _ _ _ _ _ _) (ix2 n e))
      (tile_rows T 1 (by omega) 5 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 5 rfl).trans (decA T 5 n j))
        (fun n d => (cov3 arg25 _ _ 0 n d 5 rfl).trans (qdA T 5 n d))
        (fun d e => (cov3 arg23 _ _ 0 d e 5 rfl).trans (heldA_5 T 5 d e))
        (fun e => rd2 harg17 x16 _ 0 e _ _ rfl rfl) (fun n e => rd2 harg16 x15 _ n e _ _ rfl rfl) n e)
  refine View.allAt_cons_unit _ _ _ _ _ (tile_at 1 (by omega) 4 rfl rfl r k (rowsOf L Q K V 0 x15 x16) fun n e => ?_) ?_
  · exact Eq.trans (congrFun (rows_1_4 _ _ _ _ _ _ _ _ _ _) (ix2 n e))
      (tile_rows T 1 (by omega) 4 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 4 rfl).trans (decA T 4 n j))
        (fun n d => (cov3 arg25 _ _ 0 n d 4 rfl).trans (qdA T 4 n d))
        (fun d e => (cov3 arg23 _ _ 0 d e 4 rfl).trans (heldA_4 T 4 d e))
        (fun e => rd2 harg17 x16 _ 0 e _ _ rfl rfl) (fun n e => rd2 harg16 x15 _ n e _ _ rfl rfl) n e)
  refine View.allAt_cons_unit _ _ _ _ _ (tile_at 1 (by omega) 3 rfl rfl r k (rowsOf L Q K V 0 x15 x16) fun n e => ?_) ?_
  · exact Eq.trans (congrFun (rows_1_3 _ _ _ _ _ _ _ _ _ _) (ix2 n e))
      (tile_rows T 1 (by omega) 3 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 3 rfl).trans (decA T 3 n j))
        (fun n d => (cov3 arg25 _ _ 0 n d 3 rfl).trans (qdA T 3 n d))
        (fun d e => (cov3 arg23 _ _ 0 d e 3 rfl).trans (heldA_3 T 3 d e))
        (fun e => rd2 harg17 x16 _ 0 e _ _ rfl rfl) (fun n e => rd2 harg16 x15 _ n e _ _ rfl rfl) n e)
  refine View.allAt_cons_unit _ _ _ _ _ (tile_at 1 (by omega) 2 rfl rfl r k (rowsOf L Q K V 0 x15 x16) fun n e => ?_) ?_
  · exact Eq.trans (congrFun (rows_1_2 _ _ _ _ _ _ _ _ _ _) (ix2 n e))
      (tile_rows T 1 (by omega) 2 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 2 rfl).trans (decA T 2 n j))
        (fun n d => (cov3 arg25 _ _ 0 n d 2 rfl).trans (qdA T 2 n d))
        (fun d e => (cov3 arg23 _ _ 0 d e 2 rfl).trans (heldA_2 T 2 d e))
        (fun e => rd2 harg17 x16 _ 0 e _ _ rfl rfl) (fun n e => rd2 harg16 x15 _ n e _ _ rfl rfl) n e)
  refine View.allAt_cons_unit _ _ _ _ _ (tile_at 1 (by omega) 1 rfl rfl r k (rowsOf L Q K V 0 x15 x16) fun n e => ?_) ?_
  · exact Eq.trans (congrFun (rows_1_1 _ _ _ _ _ _ _ _ _ _) (ix2 n e))
      (tile_rows T 1 (by omega) 1 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 1 rfl).trans (decA T 1 n j))
        (fun n d => (cov3 arg25 _ _ 0 n d 1 rfl).trans (qdA T 1 n d))
        (fun d e => (cov3 arg23 _ _ 0 d e 1 rfl).trans (heldA_1 T 1 d e))
        (fun e => rd2 harg17 x16 _ 0 e _ _ rfl rfl) (fun n e => rd2 harg16 x15 _ n e _ _ rfl rfl) n e)
  refine View.allAt_cons_unit _ _ _ _ _ (tile_at 1 (by omega) 0 rfl rfl r k (rowsOf L Q K V 0 x15 x16) fun n e => ?_) ?_
  · exact Eq.trans (congrFun (rows_1_0 _ _ _ _ _ _ _ _ _ _) (ix2 n e))
      (tile_rows T 1 (by omega) 0 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 0 rfl).trans (decA T 0 n j))
        (fun n d => (cov3 arg25 _ _ 0 n d 0 rfl).trans (qdA T 0 n d))
        (fun d e => (cov3 arg23 _ _ 0 d e 0 rfl).trans (heldA_0 T 0 d e))
        (fun e => rd2 harg17 x16 _ 0 e _ _ rfl rfl) (fun n e => rd2 harg16 x15 _ n e _ _ rfl rfl) n e)
  refine View.allAt_cons_unit _ _ _ _ _ (tile_at 0 (by omega) 7 rfl rfl r k (rowsOf L Q K V 0 x15 x16) fun n e => ?_) ?_
  · exact Eq.trans (congrFun (rows_0_7 _ _ _ _ _ _ _ _ _ _) (ix2 n e))
      (tile_rows T 0 (by omega) 7 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 7 rfl).trans (decA T 7 n j))
        (fun n d => (cov3 arg25 _ _ 0 n d 7 rfl).trans (qdA T 7 n d))
        (fun d e => (cov3 arg23 _ _ 0 d e 7 rfl).trans (blockA_7 T 7 d e))
        (fun e => rd2 harg17 x16 _ 0 e _ _ rfl rfl) (fun n e => rd2 harg16 x15 _ n e _ _ rfl rfl) n e)
  refine View.allAt_cons_unit _ _ _ _ _ (tile_at 0 (by omega) 6 rfl rfl r k (rowsOf L Q K V 0 x15 x16) fun n e => ?_) ?_
  · exact Eq.trans (congrFun (rows_0_6 _ _ _ _ _ _ _ _ _ _) (ix2 n e))
      (tile_rows T 0 (by omega) 6 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 6 rfl).trans (decA T 6 n j))
        (fun n d => (cov3 arg25 _ _ 0 n d 6 rfl).trans (qdA T 6 n d))
        (fun d e => (cov3 arg23 _ _ 0 d e 6 rfl).trans (blockA_6 T 6 d e))
        (fun e => rd2 harg17 x16 _ 0 e _ _ rfl rfl) (fun n e => rd2 harg16 x15 _ n e _ _ rfl rfl) n e)
  refine View.allAt_cons_unit _ _ _ _ _ (tile_at 0 (by omega) 5 rfl rfl r k (rowsOf L Q K V 0 x15 x16) fun n e => ?_) ?_
  · exact Eq.trans (congrFun (rows_0_5 _ _ _ _ _ _ _ _ _ _) (ix2 n e))
      (tile_rows T 0 (by omega) 5 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 5 rfl).trans (decA T 5 n j))
        (fun n d => (cov3 arg25 _ _ 0 n d 5 rfl).trans (qdA T 5 n d))
        (fun d e => (cov3 arg23 _ _ 0 d e 5 rfl).trans (blockA_5 T 5 d e))
        (fun e => rd2 harg17 x16 _ 0 e _ _ rfl rfl) (fun n e => rd2 harg16 x15 _ n e _ _ rfl rfl) n e)
  refine View.allAt_cons_unit _ _ _ _ _ (tile_at 0 (by omega) 4 rfl rfl r k (rowsOf L Q K V 0 x15 x16) fun n e => ?_) ?_
  · exact Eq.trans (congrFun (rows_0_4 _ _ _ _ _ _ _ _ _ _) (ix2 n e))
      (tile_rows T 0 (by omega) 4 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 4 rfl).trans (decA T 4 n j))
        (fun n d => (cov3 arg25 _ _ 0 n d 4 rfl).trans (qdA T 4 n d))
        (fun d e => (cov3 arg23 _ _ 0 d e 4 rfl).trans (blockA_4 T 4 d e))
        (fun e => rd2 harg17 x16 _ 0 e _ _ rfl rfl) (fun n e => rd2 harg16 x15 _ n e _ _ rfl rfl) n e)
  refine View.allAt_cons_unit _ _ _ _ _ (tile_at 0 (by omega) 3 rfl rfl r k (rowsOf L Q K V 0 x15 x16) fun n e => ?_) ?_
  · exact Eq.trans (congrFun (rows_0_3 _ _ _ _ _ _ _ _ _ _) (ix2 n e))
      (tile_rows T 0 (by omega) 3 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 3 rfl).trans (decA T 3 n j))
        (fun n d => (cov3 arg25 _ _ 0 n d 3 rfl).trans (qdA T 3 n d))
        (fun d e => (cov3 arg23 _ _ 0 d e 3 rfl).trans (blockA_3 T 3 d e))
        (fun e => rd2 harg17 x16 _ 0 e _ _ rfl rfl) (fun n e => rd2 harg16 x15 _ n e _ _ rfl rfl) n e)
  refine View.allAt_cons_unit _ _ _ _ _ (tile_at 0 (by omega) 2 rfl rfl r k (rowsOf L Q K V 0 x15 x16) fun n e => ?_) ?_
  · exact Eq.trans (congrFun (rows_0_2 _ _ _ _ _ _ _ _ _ _) (ix2 n e))
      (tile_rows T 0 (by omega) 2 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 2 rfl).trans (decA T 2 n j))
        (fun n d => (cov3 arg25 _ _ 0 n d 2 rfl).trans (qdA T 2 n d))
        (fun d e => (cov3 arg23 _ _ 0 d e 2 rfl).trans (blockA_2 T 2 d e))
        (fun e => rd2 harg17 x16 _ 0 e _ _ rfl rfl) (fun n e => rd2 harg16 x15 _ n e _ _ rfl rfl) n e)
  refine View.allAt_cons_unit _ _ _ _ _ (tile_at 0 (by omega) 1 rfl rfl r k (rowsOf L Q K V 0 x15 x16) fun n e => ?_) ?_
  · exact Eq.trans (congrFun (rows_0_1 _ _ _ _ _ _ _ _ _ _) (ix2 n e))
      (tile_rows T 0 (by omega) 1 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 1 rfl).trans (decA T 1 n j))
        (fun n d => (cov3 arg25 _ _ 0 n d 1 rfl).trans (qdA T 1 n d))
        (fun d e => (cov3 arg23 _ _ 0 d e 1 rfl).trans (blockA_1 T 1 d e))
        (fun e => rd2 harg17 x16 _ 0 e _ _ rfl rfl) (fun n e => rd2 harg16 x15 _ n e _ _ rfl rfl) n e)
  refine View.allAt_cons_unit _ _ _ _ _ (tile_at 0 (by omega) 0 rfl rfl r k (rowsOf L Q K V 0 x15 x16) fun n e => ?_) ?_
  · exact Eq.trans (congrFun (rows_0_0 _ _ _ _ _ _ _ _ _ _) (ix2 n e))
      (tile_rows T 0 (by omega) 0 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (cov3 arg24 _ _ 0 n j 0 rfl).trans (decA T 0 n j))
        (fun n d => (cov3 arg25 _ _ 0 n d 0 rfl).trans (qdA T 0 n d))
        (fun d e => (cov3 arg23 _ _ 0 d e 0 rfl).trans (zeroA (L := L) (K := K) (V := V) 0 d e))
        (fun e => rd2 harg17 x16 _ 0 e _ _ rfl rfl) (fun n e => rd2 harg16 x15 _ n e _ _ rfl rfl) n e)
  exact View.allAt_nil _ _

end

end Cert.MixIdeal.MxVal

end
-- ==== Proof.RetRunB.lean ====
/-
  The retention branch at a grid point that continues a sequence: its rows of the result and the state it leaves.
-/
module

public import proofs.«01_k».proof.Proof.RetTile
public import proofs.«01_k».proof.Proof.Gen.MixIdeal.Frame

@[expose] public section

set_option maxRecDepth 16384

noncomputable section

namespace Cert.MixIdeal.MxVal

open Cert.MixIdeal Cert.MixIdeal.Gen
open Idealize.ShloMosaic Idealize.ShloMosaic.TcCoe Idealize.SL.Sem

section
variable {c : Dev nD} {i : grid0.Coords} {arg1 : Memref sig .tc .smem S8 .f32} {harg1 : arg1.IsWhole} {arg2 : Memref sig .tc .vmem S512x512 .bf16} {harg2 : arg2.IsWhole} {arg3 : Memref sig .tc .vmem S512x512 .bf16} {harg3 : arg3.IsWhole} {arg4 : Memref sig .tc .vmem S512x2048 .bf16} {harg4 : arg4.IsWhole} {arg5 : Memref sig .tc .vmem S128x2048 .f32} {harg5 : arg5.IsWhole} {arg6 : Memref sig .tc .vmem S1x512 .f32} {harg6 : arg6.IsWhole} {arg7 : Memref sig .tc .vmem S1x512 .f32} {harg7 : arg7.IsWhole} {arg8 : Memref sig .tc .vmem S4096x512 .bf16} {harg8 : arg8.IsWhole} {arg9 : Memref sig .tc .vmem S512x2048 .bf16} {harg9 : arg9.IsWhole} {arg10 : Memref sig .tc .vmem S512x2048 .bf16} {harg10 : arg10.IsWhole} {arg11 : Memref sig .tc .vmem S512x128 .f32} {harg11 : arg11.IsWhole} {arg12 : Memref sig .tc .vmem S512x128 .f32} {harg12 : arg12.IsWhole} {arg13 : Memref sig .tc .vmem S512x1024 .bf16} {harg13 : arg13.IsWhole} {arg14 : Memref sig .tc .vmem S512x1024 .bf16} {harg14 : arg14.IsWhole} {arg15 : Memref sig .tc .vmem S512x2048 .bf16} {harg15 : arg15.IsWhole} {arg16 : Memref sig .tc .vmem S512x2048 .bf16} {harg16 : arg16.IsWhole} {arg17 : Memref sig .tc .vmem S1x2048 .f32} {harg17 : arg17.IsWhole} {arg18 : Memref sig .tc .vmem S512x4096 .bf16} {harg18 : arg18.IsWhole} {arg19 : Memref sig .tc .vmem S512x2048 .bf16} {harg19 : arg19.IsWhole} {arg20 : Memref sig .tc .vmem S512x128 .bf16} {harg20 : arg20.IsWhole} {arg21 : Memref sig .tc .vmem S512x2048 .bf16} {harg21 : arg21.IsWhole} {arg22 : Memref sig .tc .vmem S512x2048 .bf16} {harg22 : arg22.IsWhole} {arg23 : Memref sig .tc .vmem S8x128x256 .f32} {harg23 : arg23.IsWhole} {arg24 : Memref sig .tc .vmem S8x256x256 .f32} {harg24 : arg24.IsWhole} {arg25 : Memref sig .tc .vmem S8x256x128 .f32} {harg25 : arg25.IsWhole} {arg26 : Memref sig .tc .vmem S8x256x128 .f32} {harg26 : arg26.IsWhole}  {hc0 : ¬cond0_0 i}
variable     {x0 : Vec Ideal S8 .f32} {x1 : Vec Ideal S512x512 .bf16} {x2 : Vec Ideal S512x512 .bf16} {x3 : Vec Ideal S512x2048 .bf16} {x4 : Vec Ideal S128x2048 .f32} {x5 : Vec Ideal S1x512 .f32} {x6 : Vec Ideal S1x512 .f32} {x7 : Vec Ideal S4096x512 .bf16} {x8 : Vec Ideal S512x2048 .bf16} {x9 : Vec Ideal S512x2048 .bf16} {x10 : Vec Ideal S512x128 .f32} {x11 : Vec Ideal S512x128 .f32} {x12 : Vec Ideal S512x1024 .bf16} {x13 : Vec Ideal S512x1024 .bf16} {x14 : Vec Ideal S512x2048 .bf16} {x15 : Vec Ideal S512x2048 .bf16} {x16 : Vec Ideal S1x2048 .f32} {xs0 : Vec Ideal S8x128x256 .f32} {xs1 : Vec Ideal S8x256x256 .f32} {xs2 : Vec Ideal S8x256x128 .f32} {xs3 : Vec Ideal S8x256x128 .f32}
variable {L : Fin 8 → ℝ} {Q K : Fin 8 → ℕ → Fin 128 → ℝ} {V : Fin 8 → ℕ → Fin 256 → ℝ}

variable {N : ℕ} (T : Tile L Q K V N x0 x10 x11 x12 x13 x14) (H : Held L xs1 xs2 xs3)
  (hst : ∀ (h : Fin 8) (d : Fin 128) (e : Fin 256), xs0 (ix3 h d e) = (Cert.Ret.state (L h) (K h) (V h) N d e : EReal))

include T H hst in
theorem heldB_0 (h : Fin 8) (d : Fin 128) (e : Fin 256) : View.canon (kernelRun0_B.sl.HS0_8 c arg1 harg1 arg11 harg11 arg12 harg12 arg14 harg14 arg15 harg15 arg23 harg23 arg26 harg26 x0 x10 x11 x13 x14 xs0 xs3) (ix3 h d e)
    = (Cert.Ret.state (L h) (K h) (V h) (if h.val < 0 then N + 512 else N + 256) d e : EReal) := by
  rw [if_neg (Nat.not_lt_zero _)]
  unfold kernelRun0_B.sl.HS0_8
  rw [canon_head]
  by_cases h7 : h.val = 7
  · rw [if_pos h7]
    obtain rfl : h = 7 := Fin.ext h7
    exact Eq.trans (congrFun (state_0_7 _ _ _ _ _ _ _) (ix3 0 d e))
      (tile_state T 0 (by omega) 7 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 7 n d rfl rfl rfl).trans (H.hkd 7 n d))
        (fun d e => (rd3 harg23 xs0 _ 0 d e 7 d e rfl rfl rfl).trans (hst 7 d e)) (rd1 harg1 x0 _ _ 7 rfl) 0 d e)
  rw [if_neg h7]
  rw [canon_head]
  by_cases h6 : h.val = 6
  · rw [if_pos h6]
    obtain rfl : h = 6 := Fin.ext h6
    exact Eq.trans (congrFun (state_0_6 _ _ _ _ _ _ _) (ix3 0 d e))
      (tile_state T 0 (by omega) 6 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 6 n d rfl rfl rfl).trans (H.hkd 6 n d))
        (fun d e => (rd3 harg23 xs0 _ 0 d e 6 d e rfl rfl rfl).trans (hst 6 d e)) (rd1 harg1 x0 _ _ 6 rfl) 0 d e)
  rw [if_neg h6]
  rw [canon_head]
  by_cases h5 : h.val = 5
  · rw [if_pos h5]
    obtain rfl : h = 5 := Fin.ext h5
    exact Eq.trans (congrFun (state_0_5 _ _ _ _ _ _ _) (ix3 0 d e))
      (tile_state T 0 (by omega) 5 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 5 n d rfl rfl rfl).trans (H.hkd 5 n d))
        (fun d e => (rd3 harg23 xs0 _ 0 d e 5 d e rfl rfl rfl).trans (hst 5 d e)) (rd1 harg1 x0 _ _ 5 rfl) 0 d e)
  rw [if_neg h5]
  rw [canon_head]
  by_cases h4 : h.val = 4
  · rw [if_pos h4]
    obtain rfl : h = 4 := Fin.ext h4
    exact Eq.trans (congrFun (state_0_4 _ _ _ _ _ _ _) (ix3 0 d e))
      (tile_state T 0 (by omega) 4 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 4 n d rfl rfl rfl).trans (H.hkd 4 n d))
        (fun d e => (rd3 harg23 xs0 _ 0 d e 4 d e rfl rfl rfl).trans (hst 4 d e)) (rd1 harg1 x0 _ _ 4 rfl) 0 d e)
  rw [if_neg h4]
  rw [canon_head]
  by_cases h3 : h.val = 3
  · rw [if_pos h3]
    obtain rfl : h = 3 := Fin.ext h3
    exact Eq.trans (congrFun (state_0_3 _ _ _ _ _ _ _) (ix3 0 d e))
      (tile_state T 0 (by omega) 3 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 3 n d rfl rfl rfl).trans (H.hkd 3 n d))
        (fun d e => (rd3 harg23 xs0 _ 0 d e 3 d e rfl rfl rfl).trans (hst 3 d e)) (rd1 harg1 x0 _ _ 3 rfl) 0 d e)
  rw [if_neg h3]
  rw [canon_head]
  by_cases h2 : h.val = 2
  · rw [if_pos h2]
    obtain rfl : h = 2 := Fin.ext h2
    exact Eq.trans (congrFun (state_0_2 _ _ _ _ _ _ _) (ix3 0 d e))
      (tile_state T 0 (by omega) 2 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 2 n d rfl rfl rfl).trans (H.hkd 2 n d))
        (fun d e => (rd3 harg23 xs0 _ 0 d e 2 d e rfl rfl rfl).trans (hst 2 d e)) (rd1 harg1 x0 _ _ 2 rfl) 0 d e)
  rw [if_neg h2]
  rw [canon_head]
  by_cases h1 : h.val = 1
  · rw [if_pos h1]
    obtain rfl : h = 1 := Fin.ext h1
    exact Eq.trans (congrFun (state_0_1 _ _ _ _ _ _ _) (ix3 0 d e))
      (tile_state T 0 (by omega) 1 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 1 n d rfl rfl rfl).trans (H.hkd 1 n d))
        (fun d e => (rd3 harg23 xs0 _ 0 d e 1 d e rfl rfl rfl).trans (hst 1 d e)) (rd1 harg1 x0 _ _ 1 rfl) 0 d e)
  rw [if_neg h1]
  rw [canon_head]
  by_cases h0 : h.val = 0
  · rw [if_pos h0]
    obtain rfl : h = 0 := Fin.ext h0
    exact Eq.trans (congrFun (state_0_0 _ _ _ _ _ _ _) (ix3 0 d e))
      (tile_state T 0 (by omega) 0 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 0 n d rfl rfl rfl).trans (H.hkd 0 n d))
        (fun d e => (rd3 harg23 xs0 _ 0 d e 0 d e rfl rfl rfl).trans (hst 0 d e)) (rd1 harg1 x0 _ _ 0 rfl) 0 d e)
  rw [if_neg h0]
  exact absurd h.isLt (by omega)

include T H hst in
theorem heldB_1 (h : Fin 8) (d : Fin 128) (e : Fin 256) : View.canon (kernelRun0_B.sl.HS0_9 c arg1 harg1 arg11 harg11 arg12 harg12 arg14 harg14 arg15 harg15 arg23 harg23 arg26 harg26 x0 x10 x11 x13 x14 xs0 xs3) (ix3 h d e)
    = (Cert.Ret.state (L h) (K h) (V h) (if h.val < 1 then N + 512 else N + 256) d e : EReal) := by
  unfold kernelRun0_B.sl.HS0_9
  rw [canon_head]
  by_cases hk : h.val = 0
  · rw [if_pos hk, if_pos (show h.val < 1 by omega)]
    obtain rfl : h = 0 := Fin.ext hk
    exact Eq.trans (congrFun (state_1_0 _ _ _ _ _ _ _) (ix3 0 d e))
      (tile_state T 1 (by omega) 0 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 0 n d rfl rfl rfl).trans (H.hkd 0 n d))
        (fun d e => (cov3 arg23 _ _ 0 d e 0 rfl).trans (heldB_0 T H hst 0 d e)) (rd1 harg1 x0 _ _ 0 rfl) 0 d e)
  · rw [if_neg hk, heldB_0 T H hst h d e]
    simp only [show (h.val < 1) = (h.val < 0) from propext (by omega)]

include T H hst in
theorem heldB_2 (h : Fin 8) (d : Fin 128) (e : Fin 256) : View.canon (kernelRun0_B.sl.HS0_10 c arg1 harg1 arg11 harg11 arg12 harg12 arg14 harg14 arg15 harg15 arg23 harg23 arg26 harg26 x0 x10 x11 x13 x14 xs0 xs3) (ix3 h d e)
    = (Cert.Ret.state (L h) (K h) (V h) (if h.val < 2 then N + 512 else N + 256) d e : EReal) := by
  unfold kernelRun0_B.sl.HS0_10
  rw [canon_head]
  by_cases hk : h.val = 1
  · rw [if_pos hk, if_pos (show h.val < 2 by omega)]
    obtain rfl : h = 1 := Fin.ext hk
    exact Eq.trans (congrFun (state_1_1 _ _ _ _ _ _ _) (ix3 0 d e))
      (tile_state T 1 (by omega) 1 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 1 n d rfl rfl rfl).trans (H.hkd 1 n d))
        (fun d e => (cov3 arg23 _ _ 0 d e 1 rfl).trans (heldB_1 T H hst 1 d e)) (rd1 harg1 x0 _ _ 1 rfl) 0 d e)
  · rw [if_neg hk, heldB_1 T H hst h d e]
    simp only [show (h.val < 2) = (h.val < 1) from propext (by omega)]

include T H hst in
theorem heldB_3 (h : Fin 8) (d : Fin 128) (e : Fin 256) : View.canon (kernelRun0_B.sl.HS0_11 c arg1 harg1 arg11 harg11 arg12 harg12 arg14 harg14 arg15 harg15 arg23 harg23 arg26 harg26 x0 x10 x11 x13 x14 xs0 xs3) (ix3 h d e)
    = (Cert.Ret.state (L h) (K h) (V h) (if h.val < 3 then N + 512 else N + 256) d e : EReal) := by
  unfold kernelRun0_B.sl.HS0_11
  rw [canon_head]
  by_cases hk : h.val = 2
  · rw [if_pos hk, if_pos (show h.val < 3 by omega)]
    obtain rfl : h = 2 := Fin.ext hk
    exact Eq.trans (congrFun (state_1_2 _ _ _ _ _ _ _) (ix3 0 d e))
      (tile_state T 1 (by omega) 2 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 2 n d rfl rfl rfl).trans (H.hkd 2 n d))
        (fun d e => (cov3 arg23 _ _ 0 d e 2 rfl).trans (heldB_2 T H hst 2 d e)) (rd1 harg1 x0 _ _ 2 rfl) 0 d e)
  · rw [if_neg hk, heldB_2 T H hst h d e]
    simp only [show (h.val < 3) = (h.val < 2) from propext (by omega)]

include T H hst in
theorem heldB_4 (h : Fin 8) (d : Fin 128) (e : Fin 256) : View.canon (kernelRun0_B.sl.HS0_12 c arg1 harg1 arg11 harg11 arg12 harg12 arg14 harg14 arg15 harg15 arg23 harg23 arg26 harg26 x0 x10 x11 x13 x14 xs0 xs3) (ix3 h d e)
    = (Cert.Ret.state (L h) (K h) (V h) (if h.val < 4 then N + 512 else N + 256) d e : EReal) := by
  unfold kernelRun0_B.sl.HS0_12
  rw [canon_head]
  by_cases hk : h.val = 3
  · rw [if_pos hk, if_pos (show h.val < 4 by omega)]
    obtain rfl : h = 3 := Fin.ext hk
    exact Eq.trans (congrFun (state_1_3 _ _ _ _ _ _ _) (ix3 0 d e))
      (tile_state T 1 (by omega) 3 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 3 n d rfl rfl rfl).trans (H.hkd 3 n d))
        (fun d e => (cov3 arg23 _ _ 0 d e 3 rfl).trans (heldB_3 T H hst 3 d e)) (rd1 harg1 x0 _ _ 3 rfl) 0 d e)
  · rw [if_neg hk, heldB_3 T H hst h d e]
    simp only [show (h.val < 4) = (h.val < 3) from propext (by omega)]

include T H hst in
theorem heldB_5 (h : Fin 8) (d : Fin 128) (e : Fin 256) : View.canon (kernelRun0_B.sl.HS0_13 c arg1 harg1 arg11 harg11 arg12 harg12 arg14 harg14 arg15 harg15 arg23 harg23 arg26 harg26 x0 x10 x11 x13 x14 xs0 xs3) (ix3 h d e)
    = (Cert.Ret.state (L h) (K h) (V h) (if h.val < 5 then N + 512 else N + 256) d e : EReal) := by
  unfold kernelRun0_B.sl.HS0_13
  rw [canon_head]
  by_cases hk : h.val = 4
  · rw [if_pos hk, if_pos (show h.val < 5 by omega)]
    obtain rfl : h = 4 := Fin.ext hk
    exact Eq.trans (congrFun (state_1_4 _ _ _ _ _ _ _) (ix3 0 d e))
      (tile_state T 1 (by omega) 4 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 4 n d rfl rfl rfl).trans (H.hkd 4 n d))
        (fun d e => (cov3 arg23 _ _ 0 d e 4 rfl).trans (heldB_4 T H hst 4 d e)) (rd1 harg1 x0 _ _ 4 rfl) 0 d e)
  · rw [if_neg hk, heldB_4 T H hst h d e]
    simp only [show (h.val < 5) = (h.val < 4) from propext (by omega)]

include T H hst in
theorem heldB_6 (h : Fin 8) (d : Fin 128) (e : Fin 256) : View.canon (kernelRun0_B.sl.HS0_14 c arg1 harg1 arg11 harg11 arg12 harg12 arg14 harg14 arg15 harg15 arg23 harg23 arg26 harg26 x0 x10 x11 x13 x14 xs0 xs3) (ix3 h d e)
    = (Cert.Ret.state (L h) (K h) (V h) (if h.val < 6 then N + 512 else N + 256) d e : EReal) := by
  unfold kernelRun0_B.sl.HS0_14
  rw [canon_head]
  by_cases hk : h.val = 5
  · rw [if_pos hk, if_pos (show h.val < 6 by omega)]
    obtain rfl : h = 5 := Fin.ext hk
    exact Eq.trans (congrFun (state_1_5 _ _ _ _ _ _ _) (ix3 0 d e))
      (tile_state T 1 (by omega) 5 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 5 n d rfl rfl rfl).trans (H.hkd 5 n d))
        (fun d e => (cov3 arg23 _ _ 0 d e 5 rfl).trans (heldB_5 T H hst 5 d e)) (rd1 harg1 x0 _ _ 5 rfl) 0 d e)
  · rw [if_neg hk, heldB_5 T H hst h d e]
    simp only [show (h.val < 6) = (h.val < 5) from propext (by omega)]

include T H hst in
theorem heldB_7 (h : Fin 8) (d : Fin 128) (e : Fin 256) : View.canon (kernelRun0_B.sl.HS0_15 c arg1 harg1 arg11 harg11 arg12 harg12 arg14 harg14 arg15 harg15 arg23 harg23 arg26 harg26 x0 x10 x11 x13 x14 xs0 xs3) (ix3 h d e)
    = (Cert.Ret.state (L h) (K h) (V h) (if h.val < 7 then N + 512 else N + 256) d e : EReal) := by
  unfold kernelRun0_B.sl.HS0_15
  rw [canon_head]
  by_cases hk : h.val = 6
  · rw [if_pos hk, if_pos (show h.val < 7 by omega)]
    obtain rfl : h = 6 := Fin.ext hk
    exact Eq.trans (congrFun (state_1_6 _ _ _ _ _ _ _) (ix3 0 d e))
      (tile_state T 1 (by omega) 6 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 6 n d rfl rfl rfl).trans (H.hkd 6 n d))
        (fun d e => (cov3 arg23 _ _ 0 d e 6 rfl).trans (heldB_6 T H hst 6 d e)) (rd1 harg1 x0 _ _ 6 rfl) 0 d e)
  · rw [if_neg hk, heldB_6 T H hst h d e]
    simp only [show (h.val < 7) = (h.val < 6) from propext (by omega)]

include T H hst in
theorem heldB_8 (h : Fin 8) (d : Fin 128) (e : Fin 256) : View.canon ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 xs1 xs2 xs3).2.2.2.2.2.1) (ix3 h d e)
    = (Cert.Ret.state (L h) (K h) (V h) (if h.val < 8 then N + 512 else N + 256) d e : EReal) := by
  unfold kernelRun0_B
  dsimp only
  rw [canon_head]
  by_cases hk : h.val = 7
  · rw [if_pos hk, if_pos (show h.val < 8 by omega)]
    obtain rfl : h = 7 := Fin.ext hk
    exact Eq.trans (congrFun (state_1_7 _ _ _ _ _ _ _) (ix3 0 d e))
      (tile_state T 1 (by omega) 7 (fun n d => rd2 harg11 x10 _ n d _ _ rfl (Nat.zero_add _).symm)
        (fun n d => rd2 harg12 x11 _ n d _ _ rfl (Nat.zero_add _).symm)
        (fun n d => rd2 harg14 x13 _ n d _ _ rfl rfl)
        (fun n e => rd2 harg15 x14 _ n e _ _ rfl rfl)
        (fun n d => (rd3 harg26 xs3 _ 0 n d 7 n d rfl rfl rfl).trans (H.hkd 7 n d))
        (fun d e => (cov3 arg23 _ _ 0 d e 7 rfl).trans (heldB_7 T H hst 7 d e)) (rd1 harg1 x0 _ _ 7 rfl) 0 d e)
  · rw [if_neg hk, heldB_7 T H hst h d e]
    simp only [show (h.val < 8) = (h.val < 7) from propext (by omega)]

variable (r : Fin 512) (k : Fin 2048)

include T H hst in
/-- The rows of the result. -/
theorem rowsB : out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 xs1 xs2 xs3 (ix2 r k) = rowsOf L Q K V N x15 x16 r k := by
  unfold out0_B_21
  rw [View.read_writes_junk_eq_canon]
  refine View.canon_eq_of_allAt _ _ _ (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 xs0 xs1 xs2 xs3 _) ?_
  unfold kernelRun0_B
  dsimp only
  refine View.allAt_cons_unit _ _ _ _ _ (tile_at 1 (by omega) 7 rfl rfl r k (rowsOf L Q K V N x15 x16) fun n e => ?_) ?_
  · exact Eq.trans (congrFun (rows_1_7 _ _ _ _ _ _ _ _ _ _) (ix2 n e))
      (tile_rows T 1 (by omega) 7 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 7 n j rfl rfl rfl).trans (H.hdec 7 n j))
        (fun n d => (rd3 harg25 xs2 _ 0 n d 7 n d rfl rfl rfl).trans (H.hqd 7 n d))
        (fun d e => (cov3 arg23 _ _ 0 d e 7 rfl).trans (heldB_7 T H hst 7 d e))
        (fun e => rd2 harg17 x16 _ 0 e _ _ rfl rfl) (fun n e => rd2 harg16 x15 _ n e _ _ rfl rfl) n e)
  refine View.allAt_cons_unit _ _ _ _ _ (tile_at 1 (by omega) 6 rfl rfl r k (rowsOf L Q K V N x15 x16) fun n e => ?_) ?_
  · exact Eq.trans (congrFun (rows_1_6 _ _ _ _ _ _ _ _ _ _) (ix2 n e))
      (tile_rows T 1 (by omega) 6 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 6 n j rfl rfl rfl).trans (H.hdec 6 n j))
        (fun n d => (rd3 harg25 xs2 _ 0 n d 6 n d rfl rfl rfl).trans (H.hqd 6 n d))
        (fun d e => (cov3 arg23 _ _ 0 d e 6 rfl).trans (heldB_6 T H hst 6 d e))
        (fun e => rd2 harg17 x16 _ 0 e _ _ rfl rfl) (fun n e => rd2 harg16 x15 _ n e _ _ rfl rfl) n e)
  refine View.allAt_cons_unit _ _ _ _ _ (tile_at 1 (by omega) 5 rfl rfl r k (rowsOf L Q K V N x15 x16) fun n e => ?_) ?_
  · exact Eq.trans (congrFun (rows_1_5 _ _ _ _ _ _ _ _ _ _) (ix2 n e))
      (tile_rows T 1 (by omega) 5 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 5 n j rfl rfl rfl).trans (H.hdec 5 n j))
        (fun n d => (rd3 harg25 xs2 _ 0 n d 5 n d rfl rfl rfl).trans (H.hqd 5 n d))
        (fun d e => (cov3 arg23 _ _ 0 d e 5 rfl).trans (heldB_5 T H hst 5 d e))
        (fun e => rd2 harg17 x16 _ 0 e _ _ rfl rfl) (fun n e => rd2 harg16 x15 _ n e _ _ rfl rfl) n e)
  refine View.allAt_cons_unit _ _ _ _ _ (tile_at 1 (by omega) 4 rfl rfl r k (rowsOf L Q K V N x15 x16) fun n e => ?_) ?_
  · exact Eq.trans (congrFun (rows_1_4 _ _ _ _ _ _ _ _ _ _) (ix2 n e))
      (tile_rows T 1 (by omega) 4 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 4 n j rfl rfl rfl).trans (H.hdec 4 n j))
        (fun n d => (rd3 harg25 xs2 _ 0 n d 4 n d rfl rfl rfl).trans (H.hqd 4 n d))
        (fun d e => (cov3 arg23 _ _ 0 d e 4 rfl).trans (heldB_4 T H hst 4 d e))
        (fun e => rd2 harg17 x16 _ 0 e _ _ rfl rfl) (fun n e => rd2 harg16 x15 _ n e _ _ rfl rfl) n e)
  refine View.allAt_cons_unit _ _ _ _ _ (tile_at 1 (by omega) 3 rfl rfl r k (rowsOf L Q K V N x15 x16) fun n e => ?_) ?_
  · exact Eq.trans (congrFun (rows_1_3 _ _ _ _ _ _ _ _ _ _) (ix2 n e))
      (tile_rows T 1 (by omega) 3 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 3 n j rfl rfl rfl).trans (H.hdec 3 n j))
        (fun n d => (rd3 harg25 xs2 _ 0 n d 3 n d rfl rfl rfl).trans (H.hqd 3 n d))
        (fun d e => (cov3 arg23 _ _ 0 d e 3 rfl).trans (heldB_3 T H hst 3 d e))
        (fun e => rd2 harg17 x16 _ 0 e _ _ rfl rfl) (fun n e => rd2 harg16 x15 _ n e _ _ rfl rfl) n e)
  refine View.allAt_cons_unit _ _ _ _ _ (tile_at 1 (by omega) 2 rfl rfl r k (rowsOf L Q K V N x15 x16) fun n e => ?_) ?_
  · exact Eq.trans (congrFun (rows_1_2 _ _ _ _ _ _ _ _ _ _) (ix2 n e))
      (tile_rows T 1 (by omega) 2 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 2 n j rfl rfl rfl).trans (H.hdec 2 n j))
        (fun n d => (rd3 harg25 xs2 _ 0 n d 2 n d rfl rfl rfl).trans (H.hqd 2 n d))
        (fun d e => (cov3 arg23 _ _ 0 d e 2 rfl).trans (heldB_2 T H hst 2 d e))
        (fun e => rd2 harg17 x16 _ 0 e _ _ rfl rfl) (fun n e => rd2 harg16 x15 _ n e _ _ rfl rfl) n e)
  refine View.allAt_cons_unit _ _ _ _ _ (tile_at 1 (by omega) 1 rfl rfl r k (rowsOf L Q K V N x15 x16) fun n e => ?_) ?_
  · exact Eq.trans (congrFun (rows_1_1 _ _ _ _ _ _ _ _ _ _) (ix2 n e))
      (tile_rows T 1 (by omega) 1 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 1 n j rfl rfl rfl).trans (H.hdec 1 n j))
        (fun n d => (rd3 harg25 xs2 _ 0 n d 1 n d rfl rfl rfl).trans (H.hqd 1 n d))
        (fun d e => (cov3 arg23 _ _ 0 d e 1 rfl).trans (heldB_1 T H hst 1 d e))
        (fun e => rd2 harg17 x16 _ 0 e _ _ rfl rfl) (fun n e => rd2 harg16 x15 _ n e _ _ rfl rfl) n e)
  refine View.allAt_cons_unit _ _ _ _ _ (tile_at 1 (by omega) 0 rfl rfl r k (rowsOf L Q K V N x15 x16) fun n e => ?_) ?_
  · exact Eq.trans (congrFun (rows_1_0 _ _ _ _ _ _ _ _ _ _) (ix2 n e))
      (tile_rows T 1 (by omega) 0 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 0 n j rfl rfl rfl).trans (H.hdec 0 n j))
        (fun n d => (rd3 harg25 xs2 _ 0 n d 0 n d rfl rfl rfl).trans (H.hqd 0 n d))
        (fun d e => (cov3 arg23 _ _ 0 d e 0 rfl).trans (heldB_0 T H hst 0 d e))
        (fun e => rd2 harg17 x16 _ 0 e _ _ rfl rfl) (fun n e => rd2 harg16 x15 _ n e _ _ rfl rfl) n e)
  refine View.allAt_cons_unit _ _ _ _ _ (tile_at 0 (by omega) 7 rfl rfl r k (rowsOf L Q K V N x15 x16) fun n e => ?_) ?_
  · exact Eq.trans (congrFun (rows_0_7 _ _ _ _ _ _ _ _ _ _) (ix2 n e))
      (tile_rows T 0 (by omega) 7 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 7 n j rfl rfl rfl).trans (H.hdec 7 n j))
        (fun n d => (rd3 harg25 xs2 _ 0 n d 7 n d rfl rfl rfl).trans (H.hqd 7 n d))
        (fun d e => (rd3 harg23 xs0 _ 0 d e 7 d e rfl rfl rfl).trans (hst 7 d e))
        (fun e => rd2 harg17 x16 _ 0 e _ _ rfl rfl) (fun n e => rd2 harg16 x15 _ n e _ _ rfl rfl) n e)
  refine View.allAt_cons_unit _ _ _ _ _ (tile_at 0 (by omega) 6 rfl rfl r k (rowsOf L Q K V N x15 x16) fun n e => ?_) ?_
  · exact Eq.trans (congrFun (rows_0_6 _ _ _ _ _ _ _ _ _ _) (ix2 n e))
      (tile_rows T 0 (by omega) 6 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 6 n j rfl rfl rfl).trans (H.hdec 6 n j))
        (fun n d => (rd3 harg25 xs2 _ 0 n d 6 n d rfl rfl rfl).trans (H.hqd 6 n d))
        (fun d e => (rd3 harg23 xs0 _ 0 d e 6 d e rfl rfl rfl).trans (hst 6 d e))
        (fun e => rd2 harg17 x16 _ 0 e _ _ rfl rfl) (fun n e => rd2 harg16 x15 _ n e _ _ rfl rfl) n e)
  refine View.allAt_cons_unit _ _ _ _ _ (tile_at 0 (by omega) 5 rfl rfl r k (rowsOf L Q K V N x15 x16) fun n e => ?_) ?_
  · exact Eq.trans (congrFun (rows_0_5 _ _ _ _ _ _ _ _ _ _) (ix2 n e))
      (tile_rows T 0 (by omega) 5 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 5 n j rfl rfl rfl).trans (H.hdec 5 n j))
        (fun n d => (rd3 harg25 xs2 _ 0 n d 5 n d rfl rfl rfl).trans (H.hqd 5 n d))
        (fun d e => (rd3 harg23 xs0 _ 0 d e 5 d e rfl rfl rfl).trans (hst 5 d e))
        (fun e => rd2 harg17 x16 _ 0 e _ _ rfl rfl) (fun n e => rd2 harg16 x15 _ n e _ _ rfl rfl) n e)
  refine View.allAt_cons_unit _ _ _ _ _ (tile_at 0 (by omega) 4 rfl rfl r k (rowsOf L Q K V N x15 x16) fun n e => ?_) ?_
  · exact Eq.trans (congrFun (rows_0_4 _ _ _ _ _ _ _ _ _ _) (ix2 n e))
      (tile_rows T 0 (by omega) 4 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 4 n j rfl rfl rfl).trans (H.hdec 4 n j))
        (fun n d => (rd3 harg25 xs2 _ 0 n d 4 n d rfl rfl rfl).trans (H.hqd 4 n d))
        (fun d e => (rd3 harg23 xs0 _ 0 d e 4 d e rfl rfl rfl).trans (hst 4 d e))
        (fun e => rd2 harg17 x16 _ 0 e _ _ rfl rfl) (fun n e => rd2 harg16 x15 _ n e _ _ rfl rfl) n e)
  refine View.allAt_cons_unit _ _ _ _ _ (tile_at 0 (by omega) 3 rfl rfl r k (rowsOf L Q K V N x15 x16) fun n e => ?_) ?_
  · exact Eq.trans (congrFun (rows_0_3 _ _ _ _ _ _ _ _ _ _) (ix2 n e))
      (tile_rows T 0 (by omega) 3 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 3 n j rfl rfl rfl).trans (H.hdec 3 n j))
        (fun n d => (rd3 harg25 xs2 _ 0 n d 3 n d rfl rfl rfl).trans (H.hqd 3 n d))
        (fun d e => (rd3 harg23 xs0 _ 0 d e 3 d e rfl rfl rfl).trans (hst 3 d e))
        (fun e => rd2 harg17 x16 _ 0 e _ _ rfl rfl) (fun n e => rd2 harg16 x15 _ n e _ _ rfl rfl) n e)
  refine View.allAt_cons_unit _ _ _ _ _ (tile_at 0 (by omega) 2 rfl rfl r k (rowsOf L Q K V N x15 x16) fun n e => ?_) ?_
  · exact Eq.trans (congrFun (rows_0_2 _ _ _ _ _ _ _ _ _ _) (ix2 n e))
      (tile_rows T 0 (by omega) 2 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 2 n j rfl rfl rfl).trans (H.hdec 2 n j))
        (fun n d => (rd3 harg25 xs2 _ 0 n d 2 n d rfl rfl rfl).trans (H.hqd 2 n d))
        (fun d e => (rd3 harg23 xs0 _ 0 d e 2 d e rfl rfl rfl).trans (hst 2 d e))
        (fun e => rd2 harg17 x16 _ 0 e _ _ rfl rfl) (fun n e => rd2 harg16 x15 _ n e _ _ rfl rfl) n e)
  refine View.allAt_cons_unit _ _ _ _ _ (tile_at 0 (by omega) 1 rfl rfl r k (rowsOf L Q K V N x15 x16) fun n e => ?_) ?_
  · exact Eq.trans (congrFun (rows_0_1 _ _ _ _ _ _ _ _ _ _) (ix2 n e))
      (tile_rows T 0 (by omega) 1 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 1 n j rfl rfl rfl).trans (H.hdec 1 n j))
        (fun n d => (rd3 harg25 xs2 _ 0 n d 1 n d rfl rfl rfl).trans (H.hqd 1 n d))
        (fun d e => (rd3 harg23 xs0 _ 0 d e 1 d e rfl rfl rfl).trans (hst 1 d e))
        (fun e => rd2 harg17 x16 _ 0 e _ _ rfl rfl) (fun n e => rd2 harg16 x15 _ n e _ _ rfl rfl) n e)
  refine View.allAt_cons_unit _ _ _ _ _ (tile_at 0 (by omega) 0 rfl rfl r k (rowsOf L Q K V N x15 x16) fun n e => ?_) ?_
  · exact Eq.trans (congrFun (rows_0_0 _ _ _ _ _ _ _ _ _ _) (ix2 n e))
      (tile_rows T 0 (by omega) 0 (fun n d => rd2 harg11 x10 _ n d _ _ rfl (Nat.zero_add _).symm)
        (fun n d => rd2 harg12 x11 _ n d _ _ rfl (Nat.zero_add _).symm)
        (fun n d => rd2 harg13 x12 _ n d _ _ rfl rfl)
        (fun n d => rd2 harg14 x13 _ n d _ _ rfl rfl)
        (fun n e => rd2 harg15 x14 _ n e _ _ rfl rfl)
        (fun n j => (rd3 harg24 xs1 _ 0 n j 0 n j rfl rfl rfl).trans (H.hdec 0 n j))
        (fun n d => (rd3 harg25 xs2 _ 0 n d 0 n d rfl rfl rfl).trans (H.hqd 0 n d))
        (fun d e => (rd3 harg23 xs0 _ 0 d e 0 d e rfl rfl rfl).trans (hst 0 d e))
        (fun e => rd2 harg17 x16 _ 0 e _ _ rfl rfl) (fun n e => rd2 harg16 x15 _ n e _ _ rfl rfl) n e)
  exact View.allAt_nil _ _

end

end Cert.MixIdeal.MxVal

end
-- ==== Proof.RetFlow.lean ====
/-
  The retention branch along the grid: the state and the tables carried from tile to tile, and every tile's rows of the result.
-/
module

public import proofs.«01_k».proof.Proof.RetRunA
public import proofs.«01_k».proof.Proof.RetRunB
public import proofs.«01_k».proof.Proof.Gen.MixIdeal.Value

@[expose] public section

set_option maxRecDepth 16384

noncomputable section

namespace Cert.MixIdeal.MxVal

open Cert.MixIdeal Cert.MixIdeal.Gen
open Idealize.ShloMosaic Idealize.ShloMosaic.TcCoe Idealize.SL.Sem

variable (m : (ℓ : Loc nD τ sig) → Buf (Elt Ideal) ℓ)

/-- Every tile's slices are real queries, keys and values of its sequence. -/
def Tiled (c : Dev nD) (L : Fin 8 → ℝ) (Q K : ℕ → Fin 8 → ℕ → Fin 128 → ℝ) (V : ℕ → Fin 8 → ℕ → Fin 256 → ℝ) : Prop :=
  ∀ t : Fin cfg0.N, Tile L (Q (t.val / 8)) (K (t.val / 8)) (V (t.val / 8)) (512 * (t.val % 8)) (iblk m c 0 t) (iblk m c 10 t) (iblk m c 11 t)
    (iblk m c 12 t) (iblk m c 13 t) (iblk m c 14 t)

variable (c : Dev nD) {L : Fin 8 → ℝ} {Q K : ℕ → Fin 8 → ℕ → Fin 128 → ℝ} {V : ℕ → Fin 8 → ℕ → Fin 256 → ℝ} (hT : Tiled m c L Q K V)

/-- What the scratch holds after the first `N` keys of sequence `b`, and that its tables are set up. -/
structure After (L : Fin 8 → ℝ) (K : Fin 8 → ℕ → Fin 128 → ℝ) (V : Fin 8 → ℕ → Fin 256 → ℝ) (N : ℕ)
    (o : Vec Ideal S8x128x256 .f32 × Vec Ideal S8x256x256 .f32 × Vec Ideal S8x256x128 .f32 × Vec Ideal S8x256x128 .f32) : Prop where
  hst : ∀ (h : Fin 8) (d : Fin 128) (e : Fin 256), o.1 (ix3 h d e) = (Cert.Ret.state (L h) (K h) (V h) N d e : EReal)
  hH : Held L o.2.1 o.2.2.1 o.2.2.2

include hT in
theorem after_first (t : Fin cfg0.N) (h0 : t.val % 8 = 0) :
    After L (K (t.val / 8)) (V (t.val / 8)) 512 (outsAt0 m c t.val t.isLt).2.2.2.2.2 := by
  have T := hT t
  rw [h0] at T
  rw [outsAt0_A m c t h0]
  refine ⟨fun h d e => ?_, ⟨fun h n j => ?_, fun h n d => ?_, fun h n d => ?_⟩⟩
  · dsimp only
    unfold sout0_A_0
    rw [View.read_writes_junk_eq_canon, heldA_8 T h d e, if_pos h.isLt]
  · dsimp only
    unfold sout0_A_1
    rw [View.read_writes_junk_eq_canon]
    unfold kernelRun0_A
    exact decA T h n j
  · dsimp only
    unfold sout0_A_2
    rw [View.read_writes_junk_eq_canon]
    unfold kernelRun0_A
    exact qdA T h n d
  · dsimp only
    unfold sout0_A_3
    rw [View.read_writes_junk_eq_canon]
    unfold kernelRun0_A
    exact kdA T h n d

include hT in
theorem rows_first (t : Fin cfg0.N) (h0 : t.val % 8 = 0) (r : Fin 512) (k : Fin 2048) :
    (outsAt0 m c t.val t.isLt).2.2.2.2.1 (ix2 r k)
      = rowsOf L (Q (t.val / 8)) (K (t.val / 8)) (V (t.val / 8)) 0 (iblk m c 15 t) (iblk m c 16 t) r k := by
  have T := hT t
  rw [h0] at T
  rw [outsAt0_A m c t h0]
  dsimp only
  exact rowsA T r k

include hT in
theorem after_next (t : Fin cfg0.N) (h0 : ¬t.val % 8 = 0)
    (ih : After L (K (t.val / 8)) (V (t.val / 8)) (512 * (t.val % 8)) (outsAt0 m c (t.val - 1) (Nat.lt_of_le_of_lt (Nat.sub_le _ _) t.isLt)).2.2.2.2.2) :
    After L (K (t.val / 8)) (V (t.val / 8)) (512 * (t.val % 8) + 512) (outsAt0 m c t.val t.isLt).2.2.2.2.2 := by
  rw [outsAt0_B m c t h0]
  refine ⟨fun h d e => ?_, ?_⟩
  · dsimp only
    unfold sout0_B_0
    rw [View.read_writes_junk_eq_canon, heldB_8 (hT t) ih.hH ih.hst h d e, if_pos h.isLt]
  · exact ih.hH

include hT in
theorem rows_next (t : Fin cfg0.N) (h0 : ¬t.val % 8 = 0)
    (ih : After L (K (t.val / 8)) (V (t.val / 8)) (512 * (t.val % 8)) (outsAt0 m c (t.val - 1) (Nat.lt_of_le_of_lt (Nat.sub_le _ _) t.isLt)).2.2.2.2.2)
    (r : Fin 512) (k : Fin 2048) :
    (outsAt0 m c t.val t.isLt).2.2.2.2.1 (ix2 r k)
      = rowsOf L (Q (t.val / 8)) (K (t.val / 8)) (V (t.val / 8)) (512 * (t.val % 8)) (iblk m c 15 t) (iblk m c 16 t) r k := by
  rw [outsAt0_B m c t h0]
  dsimp only
  exact rowsB (hT t) ih.hH ih.hst r k

include hT in
/-- The scratch after every tile. -/
theorem after (n : ℕ) : ∀ hn : n < cfg0.N, After L (K (n / 8)) (V (n / 8)) (512 * (n % 8) + 512) (outsAt0 m c n hn).2.2.2.2.2 := by
  induction n with
  | zero => exact fun hn => after_first m c hT ⟨0, hn⟩ rfl
  | succ n ih =>
    intro hn
    by_cases h0 : (n + 1) % 8 = 0
    · rw [h0]
      exact after_first m c hT ⟨n + 1, hn⟩ h0
    · have e := ih (Nat.lt_of_succ_lt hn)
      rw [show n / 8 = (n + 1) / 8 by omega, show 512 * (n % 8) + 512 = 512 * ((n + 1) % 8) by omega] at e
      exact after_next m c hT ⟨n + 1, hn⟩ h0 e

include hT in
/-- The rows of the result of every tile. -/
theorem rows (t : Fin cfg0.N) (r : Fin 512) (k : Fin 2048) :
    (outsAt0 m c t.val t.isLt).2.2.2.2.1 (ix2 r k)
      = rowsOf L (Q (t.val / 8)) (K (t.val / 8)) (V (t.val / 8)) (512 * (t.val % 8)) (iblk m c 15 t) (iblk m c 16 t) r k := by
  by_cases h0 : t.val % 8 = 0
  · rw [h0]
    exact rows_first m c hT t h0 r k
  · have e := after m c hT (t.val - 1) (Nat.lt_of_le_of_lt (Nat.sub_le _ _) t.isLt)
    rw [show (t.val - 1) / 8 = t.val / 8 by omega, show 512 * ((t.val - 1) % 8) + 512 = 512 * (t.val % 8) by omega] at e
    exact rows_next m c hT t h0 e r k

end Cert.MixIdeal.MxVal

end
-- ==== Proof.MixRefA.lean ====
/-
  The reference's retention branch, first part: the rotated queries and keys and the decays.
-/
module

public import proofs.«01_k».proof.Proof.Gen.MixReferenceIdeal.Read
public import proofs.«01_k».proof.Proof.RetSem

@[expose] public section

set_option maxRecDepth 16384

noncomputable section

namespace Cert.MixReferenceIdeal.MxRef

open Cert.MixReferenceIdeal Cert.MixReferenceIdeal.Read
open Idealize.ShloMosaic Idealize.SL.Sem
open Cert.MixIdeal.MxVal (lane mate sgn kappa turn finish)

variable (x0 : (⟨S8192x10240, .bf16⟩ : BufTy).Contents (Elt Ideal)) (x3 x4 : (⟨S8192x128, .f32⟩ : BufTy).Contents (Elt Ideal))
  (x10 : (⟨S1x2048, .f32⟩ : BufTy).Contents (Elt Ideal))

/-- Lane `d` of head `h`'s query, and of its key, in the projections. -/
def qAt (h : Fin 8) (d : Fin 128) : Fin 10240 := ⟨128 * h.val + d.val, by omega⟩
def kAt (h : Fin 8) (d : Fin 128) : Fin 10240 := ⟨1024 + (128 * h.val + d.val), by omega⟩
def vAt (h : Fin 8) (e : Fin 256) : Fin 10240 := ⟨2048 + (256 * h.val + e.val), by omega⟩
def gAt (k : Fin 2048) : Fin 10240 := ⟨4096 + k.val, by omega⟩
/-- The sequence of a row, its place there, the head of a column and its place there. -/
def seqOf (R : Fin 8192) : Fin 2 := ⟨R.val / 4096, by omega⟩
def posOf (R : Fin 8192) : Fin 4096 := ⟨R.val % 4096, by omega⟩
def hdOf (k : Fin 2048) : Fin 8 := ⟨k.val / 256, by omega⟩
def laneOf (k : Fin 2048) : Fin 256 := ⟨k.val % 256, by omega⟩

/-- Row `n` of sequence `b`. -/
def rowOf (b : Fin 2) (n : Fin 4096) : Fin 8192 := ⟨4096 * b.val + n.val, by omega⟩

theorem row_eq (b : Fin 2) (n : Fin 4096) (h) : (⟨b.val * 4096 + n.val, h⟩ : Fin 8192) = rowOf b n :=
  Fin.ext (by show b.val * 4096 + n.val = 4096 * b.val + n.val; omega)

theorem cos_apply (R : Fin 8192) (h : Fin 8) (d : Fin 128) : val_main_v88 x3 (ix3 R h d) = x3 (ix2 R (lane d)) := by
  pointwise [val_main_v88, val_main_v78, val_main_v77, val_main_v76]
  by_cases h : d.val < 64
  · rw [dif_pos h]
    exact congrArg (fun l => x3 (ix2 R l)) (Fin.ext (by show d.val = d.val % 64; omega))
  · rw [dif_neg h]
    exact congrArg (fun l => x3 (ix2 R l)) (Fin.ext (by show d.val - 64 = d.val % 64; omega))

theorem sin_apply (R : Fin 8192) (h : Fin 8) (d : Fin 128) : val_main_v94 x4 (ix3 R h d) = x4 (ix2 R (lane d)) := by
  pointwise [val_main_v94, val_main_v81, val_main_v80, val_main_v79]
  by_cases h : d.val < 64
  · rw [dif_pos h]
    exact congrArg (fun l => x4 (ix2 R l)) (Fin.ext (by show d.val = d.val % 64; omega))
  · rw [dif_neg h]
    exact congrArg (fun l => x4 (ix2 R l)) (Fin.ext (by show d.val - 64 = d.val % 64; omega))

theorem query_apply (R : Fin 8192) (h : Fin 8) (d : Fin 128) : val_main_v87 x0 (ix3 R h d) = x0 (ix2 R (qAt h d)) := by
  pointwise [val_main_v87, val_main_v83, val_main_v82, val_main_v0]
  exact congrArg (fun l => x0 (ix2 R l)) (Fin.ext (by show h.val * 128 + d.val = 128 * h.val + d.val; omega))

theorem key_apply (R : Fin 8192) (h : Fin 8) (d : Fin 128) : val_main_v98 x0 (ix3 R h d) = x0 (ix2 R (kAt h d)) := by
  pointwise [val_main_v98, val_main_v84, val_main_v82, val_main_v0]
  exact congrArg (fun l => x0 (ix2 R l)) (Fin.ext (by show 1024 + (h.val * 128 + d.val) = 1024 + (128 * h.val + d.val); omega))

theorem value_apply (b : Fin 2) (n : Fin 4096) (h : Fin 8) (e : Fin 256) : val_main_v111 x0 (ix4 b n h e) = x0 (ix2 (rowOf b n) (vAt h e)) := by
  pointwise [val_main_v111, val_main_v85, val_main_v82, val_main_v0]
  exact congrArg₂ (fun r l => x0 (ix2 r l)) (Fin.ext (by show b.val * 4096 + n.val = 4096 * b.val + n.val; omega)) (Fin.ext (by show 2048 + (h.val * 256 + e.val) = 2048 + (256 * h.val + e.val); omega))

theorem cos_apply' (R : Fin 8192) (h : Fin 8) (d : Fin 128) : val_main_v99 x3 (ix3 R h d) = x3 (ix2 R (lane d)) := by
  pointwise [val_main_v99, val_main_v78, val_main_v77, val_main_v76]
  by_cases h : d.val < 64
  · rw [dif_pos h]
    exact congrArg (fun l => x3 (ix2 R l)) (Fin.ext (by show d.val = d.val % 64; omega))
  · rw [dif_neg h]
    exact congrArg (fun l => x3 (ix2 R l)) (Fin.ext (by show d.val - 64 = d.val % 64; omega))

theorem sin_apply' (R : Fin 8192) (h : Fin 8) (d : Fin 128) : val_main_v105 x4 (ix3 R h d) = x4 (ix2 R (lane d)) := by
  pointwise [val_main_v105, val_main_v81, val_main_v80, val_main_v79]
  by_cases h : d.val < 64
  · rw [dif_pos h]
    exact congrArg (fun l => x4 (ix2 R l)) (Fin.ext (by show d.val = d.val % 64; omega))
  · rw [dif_neg h]
    exact congrArg (fun l => x4 (ix2 R l)) (Fin.ext (by show d.val - 64 = d.val % 64; omega))

theorem turned_query (R : Fin 8192) (h : Fin 8) (d : Fin 128) : val_main_v96 x0 x3 x4 (ix3 R h d)
    = turn (fun d => x0 (ix2 R (qAt h d))) (fun d => x3 (ix2 R d)) (fun d => x4 (ix2 R d)) d := by
  pointwise [val_main_v96, val_main_v89, cos_apply, sin_apply, query_apply, val_main_v95, val_main_v93, val_main_v92, val_main_v91, val_main_v90]
  unfold turn
  refine congrArg (x0 (ix2 R (qAt h d)) * x3 (ix2 R (lane d)) + ·) ?_
  by_cases h' : d.val < 64
  · rw [dif_pos h', sgn, if_pos h', zero_sub, mul_neg, ← neg_mul]
    exact congrArg (fun l => -x0 (ix2 R (qAt h l)) * x4 (ix2 R (lane d))) (Fin.ext (by show 64 + d.val = (d.val + 64) % 128; omega))
  · rw [dif_neg h', sgn, if_neg h']
    exact congrArg (fun l => x0 (ix2 R (qAt h l)) * x4 (ix2 R (lane d))) (Fin.ext (by show d.val - 64 = (d.val + 64) % 128; omega))

theorem turned_key (R : Fin 8192) (h : Fin 8) (d : Fin 128) : val_main_v107 x0 x3 x4 (ix3 R h d)
    = turn (fun d => x0 (ix2 R (kAt h d))) (fun d => x3 (ix2 R d)) (fun d => x4 (ix2 R d)) d := by
  pointwise [val_main_v107, val_main_v100, cos_apply', sin_apply', key_apply, val_main_v106, val_main_v104, val_main_v103, val_main_v102, val_main_v101]
  unfold turn
  refine congrArg (x0 (ix2 R (kAt h d)) * x3 (ix2 R (lane d)) + ·) ?_
  by_cases h' : d.val < 64
  · rw [dif_pos h', sgn, if_pos h', zero_sub, mul_neg, ← neg_mul]
    exact congrArg (fun l => -x0 (ix2 R (kAt h l)) * x4 (ix2 R (lane d))) (Fin.ext (by show 64 + d.val = (d.val + 64) % 128; omega))
  · rw [dif_neg h', sgn, if_neg h']
    exact congrArg (fun l => x0 (ix2 R (kAt h l)) * x4 (ix2 R (lane d))) (Fin.ext (by show d.val - 64 = (d.val + 64) % 128; omega))

/-- The logarithm of head `h`'s decay. -/
def rate (h : Fin 8) : ℝ := Real.log (1 - (2 : ℝ) ^ (-5 - (h.val : ℝ)))

theorem c2 : Ideal.ofBits FTy.f32 0x40000000#32 = ((2 : ℝ) : EReal) := by
  simp [Ideal.ofBits, Ideal.ieee, -EReal.coe_mul]
  norm_num

theorem cm5 : Ideal.ofBits FTy.f32 0xC0A00000#32 = ((-5 : ℝ) : EReal) := by
  simp [Ideal.ofBits, Ideal.ieee, -EReal.coe_mul]
  norm_num

theorem head_real (h : Fin 8) : (FloatOps.sitofp FTy.f32 (BitVec.ofNat 32 h.val) : Ideal FTy.f32) = ((h.val : ℝ) : EReal) := by
  have hn := h.isLt
  have e : (BitVec.ofNat 32 h.val).toInt = (h.val : ℤ) := by
    rw [BitVec.toInt_eq_toNat_of_lt (by rw [BitVec.toNat_ofNat]; omega), BitVec.toNat_ofNat]
    omega
  show (((BitVec.ofNat 32 h.val).toInt : ℝ) : EReal) = _
  rw [e]
  rfl

theorem rate_eq (h : Fin 8) : Ideal.log (1 - Ideal.pow (Ideal.ofBits FTy.f32 0x40000000#32)
      (Ideal.ofBits FTy.f32 0xC0A00000#32 - (FloatOps.sitofp FTy.f32 (BitVec.ofNat 32 h.val) : Ideal FTy.f32))) = (rate h : EReal) := by
  have hlt : (2 : ℝ) ^ (-5 - (h.val : ℝ)) < 1 := Real.rpow_lt_one_of_one_lt_of_neg (by norm_num) (by have : (0 : ℝ) ≤ h.val := Nat.cast_nonneg _; linarith)
  rw [c2, cm5, head_real, ← EReal.coe_sub, Ideal.pow_coe_coe, ← EReal.coe_one, ← EReal.coe_sub, Ideal.log_coe]
  exact if_neg (not_le.mpr (sub_pos.mpr hlt))

theorem log_decay (h : Fin 8) : (val_main_v119 : (⟨S8, .f32⟩ : BufTy).Contents (Elt Ideal)) (ix1 h) = (rate h : EReal) := by
  pointwise [val_main_v119, val_main_v118, val_main_v117, val_main_v116, val_main_v115, val_main_v114, val_main_v113, val_main_v112, val_main_cst_8, val_main_cst_9, val_main_cst_10]
  exact rate_eq h

theorem chunk_le : ∀ a b : Fin 64, IntOp.cmpi CmpIPredicate.sle (BitVec.ofNat 32 a.val) (BitVec.ofNat 32 b.val) = if a.val ≤ b.val then 1#1 else 0#1 := by
  decide +kernel

theorem small_int {k : ℕ} (hk : k < 4096) : (BitVec.ofNat 32 k).toInt = (k : ℤ) := by
  rw [BitVec.toInt_eq_toNat_of_lt (by rw [BitVec.toNat_ofNat]; omega), BitVec.toNat_ofNat]
  omega

theorem small_msb {k : ℕ} (hk : k < 4096) : (BitVec.ofNat 32 k).msb = false := by
  rw [BitVec.msb_eq_decide, BitVec.toNat_ofNat]
  exact decide_eq_false (by omega)

theorem neg_msb {k : ℕ} (hk : k < 4096) (h0 : 0 < k) : (-BitVec.ofNat 32 k).msb = true := by
  rw [BitVec.msb_eq_decide, BitVec.toNat_neg, BitVec.toNat_ofNat]
  exact decide_eq_true (by omega)

theorem gap_int (n j : Fin 4096) : (IntOp.absi (IntOp.subi (BitVec.ofNat 32 n.val) (BitVec.ofNat 32 j.val))).toInt = |(n.val : ℤ) - (j.val : ℤ)| := by
  have hn := n.isLt
  have hj := j.isLt
  show (IntOp.absi (BitVec.ofNat 32 n.val - BitVec.ofNat 32 j.val)).toInt = _
  rcases le_or_gt j.val n.val with h | h
  · have e : BitVec.ofNat 32 n.val - BitVec.ofNat 32 j.val = BitVec.ofNat 32 (n.val - j.val) := by
      apply BitVec.eq_of_toNat_eq
      simp only [BitVec.toNat_sub, BitVec.toNat_ofNat]
      omega
    rw [e, IntOp.absi, if_neg (by rw [small_msb (by omega)]; decide), small_int (by omega), abs_of_nonneg (by omega)]
    omega
  · have e : BitVec.ofNat 32 n.val - BitVec.ofNat 32 j.val = -BitVec.ofNat 32 (j.val - n.val) := by
      apply BitVec.eq_of_toNat_eq
      simp only [BitVec.toNat_sub, BitVec.toNat_neg, BitVec.toNat_ofNat]
      omega
    rw [e, IntOp.absi, if_pos (neg_msb (by omega) (by omega)), BitVec.neg_neg, small_int (by omega), abs_of_neg (by omega)]
    omega

theorem chunk_quot {k : ℕ} (hk : k < 4096) : IntOp.divsi ArithUnit.host (BitVec.ofNat 32 k) 64#32 = BitVec.ofNat 32 (k / 64) := by
  rw [IntOp.divsi, if_neg (by rintro (h | ⟨-, h⟩) <;> exact absurd h (by decide)), BitVec.sdiv_eq, small_msb hk]
  apply BitVec.eq_of_toNat_eq
  show (BitVec.ofNat 32 k / 64#32).toNat = _
  rw [BitVec.toNat_udiv, BitVec.toNat_ofNat, BitVec.toNat_ofNat, BitVec.toNat_ofNat, Nat.mod_eq_of_lt (by omega : k < 2 ^ 32),
    Nat.mod_eq_of_lt (by omega : k / 64 < 2 ^ 32)]

theorem chunk_apply (n : Fin 4096) : (val_main_v128 : (⟨S4096, .i32⟩ : BufTy).Contents (Elt Ideal)) (ix1 n) = BitVec.ofNat 32 (n.val / 64) := by
  pointwise [val_main_v128, val_main_call2_v13, val_main_call2_v12, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_c_11, val_main_call2_c, val_main_call2_c_0, val_main_v120]
  have e : (id (constantI S_ 32 64#32) ix0 : BitVec 32) = 64#32 := rfl
  simp only [e]
  have hk : n.val < 4096 := n.isLt
  rw [chunk_quot hk]
  rcases Nat.eq_zero_or_pos n.val with h0 | h0
  · rw [if_pos (show BitVec.ofNat 32 n.val = 0 by rw [h0]; rfl)]
    have z : IntOp.cmpi CmpIPredicate.ne (IntOp.remsi ArithUnit.host (BitVec.ofNat 32 n.val) 64#32) 0#32 = 0#1 := by
      rw [h0]
      decide +kernel
    rw [z]
    have y : ∀ z : BitVec 1, IntOp.andi z 0#1 = 0#1 := by decide +kernel
    rw [y]
    rfl
  · rw [if_neg (by intro h; have := congrArg BitVec.toNat h; rw [BitVec.toNat_ofNat] at this; change n.val % 2 ^ 32 = 0 at this; omega),
      if_neg (show ¬(64#32 : BitVec 32) = 0 by decide)]
    show Scalar.select (IntOp.andi (IntOp.cmpi CmpIPredicate.ne (if (BitVec.ofNat 32 n.val).msb = true then (-1 : BitVec 32) else 1)
          (if (64#32 : BitVec 32).msb = true then (-1 : BitVec 32) else 1))
        (IntOp.cmpi CmpIPredicate.ne (IntOp.remsi ArithUnit.host (BitVec.ofNat 32 n.val) 64#32) 0#32))
      (IntOp.subi (BitVec.ofNat 32 (n.val / 64)) 1#32) (BitVec.ofNat 32 (n.val / 64)) = _
    rw [if_neg (show ¬(BitVec.ofNat 32 n.val).msb = true by rw [small_msb hk]; decide),
      if_neg (show ¬(64#32 : BitVec 32).msb = true by decide)]
    have z : IntOp.cmpi CmpIPredicate.ne (1 : BitVec 32) 1 = 0#1 := by decide +kernel
    have y : ∀ z : BitVec 1, IntOp.andi 0#1 z = 0#1 := by decide +kernel
    rw [z, y]
    rfl

theorem decay_apply (h : Fin 8) (n m : Fin 4096) : (val_main_v140 : (⟨S8x4096x4096, .f32⟩ : BufTy).Contents (Elt Ideal)) (ix3 h n m)
    = (Cert.Ret.decay (rate h) n.val m.val : EReal) := by
  pointwise [val_main_v140, val_main_call3_v2, val_main_call3_v1, val_main_call3_v0, val_main_cst_12, val_main_v139, val_main_v138, val_main_v137, val_main_v136, val_main_v135, val_main_v134, log_decay,
    val_main_v133, val_main_v132, val_main_v131, val_main_v130, val_main_v129, val_main_v127, val_main_v126, val_main_v125, val_main_v124, val_main_v123, val_main_v122, val_main_v121, val_main_v120]
  rw [chunk_apply, chunk_apply, chunk_le ⟨m.val / 64, by omega⟩ ⟨n.val / 64, by omega⟩]
  show Scalar.select (if m.val / 64 ≤ n.val / 64 then 1#1 else 0#1) (Ideal.exp ((rate h : EReal) *
    (((IntOp.absi (IntOp.subi (BitVec.ofNat 32 n.val) (BitVec.ofNat 32 m.val))).toInt : ℝ) : EReal))) (Ideal.ofBits FTy.f32 0#32) = _
  rw [gap_int]
  unfold Cert.Ret.decay
  by_cases h : m.val / 64 ≤ n.val / 64
  · rw [if_pos h, if_pos h, ← EReal.coe_mul, Ideal.exp_coe]
    push_cast
    rfl
  · rw [if_neg h, if_neg h, Cert.MixIdeal.MxVal.zero_f32]
    rfl

end Cert.MixReferenceIdeal.MxRef

end
-- ==== Proof.MixRef.lean ====
/-
  The reference's retention branch, second part: the weighted sums and the normalised and gated rows.
-/
module

public import proofs.«01_k».proof.Proof.Gen.MixReferenceIdeal.Read
public import proofs.«01_k».proof.Proof.MixRefA

@[expose] public section

set_option maxRecDepth 16384

noncomputable section

namespace Cert.MixReferenceIdeal.MxRef

open Cert.MixReferenceIdeal Cert.MixReferenceIdeal.Read
open Idealize.ShloMosaic Idealize.SL.Sem
open Cert.MixIdeal.MxVal (lane mate sgn kappa turn finish)

variable (x0 : (⟨S8192x10240, .bf16⟩ : BufTy).Contents (Elt Ideal)) (x3 x4 : (⟨S8192x128, .f32⟩ : BufTy).Contents (Elt Ideal))
  (x10 : (⟨S1x2048, .f32⟩ : BufTy).Contents (Elt Ideal))

theorem sum_apply (b : Fin 2) (n : Fin 4096) (h : Fin 8) (e : Fin 256) : val_main_v146 x0 x3 x4 (ix4 b n h e)
    = ∑ m : Fin 4096, ((∑ d : Fin 128, turn (fun d => x0 (ix2 (rowOf b n) (qAt h d))) (fun d => x3 (ix2 (rowOf b n) d)) (fun d => x4 (ix2 (rowOf b n) d)) d
        * (turn (fun d => x0 (ix2 (rowOf b m) (kAt h d))) (fun d => x3 (ix2 (rowOf b m) d)) (fun d => x4 (ix2 (rowOf b m) d)) d * kappa))
          * (val_main_v140 : (⟨S8x4096x4096, .f32⟩ : BufTy).Contents (Elt Ideal)) (ix3 h n m)) * x0 (ix2 (rowOf b m) (vAt h e)) := by
  pointwise [val_main_v146, val_main_v145, val_main_v144, val_main_v143, val_main_v142, val_main_v141, value_apply, val_main_v110, val_main_v109, val_main_cst_7, val_main_v108, val_main_v97, kappa]
  refine Finset.sum_congr rfl fun x _ => (mul_comm _ _).trans (congrArg (· * x0 (ix2 (rowOf b x) (vAt h e)))
    (congrArg (· * (val_main_v140 : (⟨S8x4096x4096, .f32⟩ : BufTy).Contents (Elt Ideal)) (ix3 h n x)) (Finset.sum_congr rfl fun y _ => ?_)))
  exact congrArg₂ (· * ·) ((congrArg (fun r => val_main_v96 x0 x3 x4 (ix3 r h y)) (row_eq b n _)).trans (turned_query x0 x3 x4 _ h y))
    (congrArg (· * kappa) ((congrArg (fun r => val_main_v107 x0 x3 x4 (ix3 r h y)) (row_eq b x _)).trans (turned_key x0 x3 x4 _ h y)))

theorem gate_apply (R : Fin 8192) (k : Fin 2048) : val_main_v170 x0 (ix2 R k)
    = x0 (ix2 R (gAt k)) * Ideal.div 1 (1 + Ideal.exp (0 - x0 (ix2 R (gAt k)))) := by
  pointwise [val_main_v170, val_main_call4_v5, val_main_call4_v4, val_main_call4_v3, val_main_call4_v2, val_main_call4_v1, val_main_call4_v0, val_main_call4_cst, val_main_call4_cst_0, val_main_v86, val_main_v82, val_main_v0, gAt]
  rw [zero_sub]

theorem row_apply (R : Fin 8192) (k : Fin 2048) : val_main_v176 x0 x3 x4 x10 (ix2 R k)
    = finish (fun j => val_main_v146 x0 x3 x4 (ix4 (seqOf R) (posOf R) (hdOf k) j)) (x10 (ix2 0 k)) (x0 (ix2 R (gAt k))) (laneOf k) := by
  pointwise [val_main_v176, val_main_v171, val_main_v169, val_main_v168, val_main_v167, val_main_v166, val_main_v165, val_main_v164, val_main_v163, val_main_v162, val_main_v161, val_main_v160, val_main_cst_17, val_main_v159, val_main_v158, val_main_v157, val_main_v156, val_main_cst_16, val_main_v155, val_main_v154, val_main_cst_15, val_main_v153, val_main_v152, val_main_v151, val_main_v150, val_main_v149, val_main_cst_14, val_main_v148, val_main_v147, val_main_cst_13, gate_apply, finish, seqOf, posOf, hdOf, laneOf]

end Cert.MixReferenceIdeal.MxRef

end
-- ==== Proof.MixRet.lean ====
/-
  The retention branch of the call: every entry of its result, in the program's arguments.
-/
module

public import proofs.«01_k».proof.Proof.RetFlow
public import proofs.«01_k».proof.Proof.MixHost
public import proofs.«01_k».proof.Proof.MixRef

@[expose] public section

set_option maxRecDepth 16384

noncomputable section

namespace Cert.MixIdeal.MxVal

open Cert.MixIdeal Cert.MixIdeal.Gen
open Idealize.ShloMosaic Idealize.ShloMosaic.TcCoe Idealize.SL.Sem

/-- Row `n` of sequence `b`, for any numbers. -/
def rowN (b n : ℕ) : Fin 8192 := ⟨(4096 * b + n) % 8192, by omega⟩

/-- Column `o` of the projections past column `s`. -/
def colN (s o : ℕ) : Fin 10240 := ⟨(s + o) % 10240, by omega⟩

section
variable (P : Fin 8192 → Fin 10240 → EReal) (C S : Fin 8192 → Fin 128 → EReal)

/-- The queries, keys and values of the retention branch, as reals. -/
def qReal (b : ℕ) (h : Fin 8) (n : ℕ) (d : Fin 128) : ℝ :=
  (turn (fun d => P (rowN b n) (colN 0 (128 * h.val + d.val))) (C (rowN b n)) (S (rowN b n)) d).toReal
def kReal (b : ℕ) (h : Fin 8) (n : ℕ) (d : Fin 128) : ℝ :=
  (turn (fun d => P (rowN b n) (colN 1024 (128 * h.val + d.val))) (C (rowN b n)) (S (rowN b n)) d * kappa).toReal
def vReal (b : ℕ) (h : Fin 8) (n : ℕ) (e : Fin 256) : ℝ := (P (rowN b n) (colN 2048 (256 * h.val + e.val))).toReal

/-- The entries the retention branch reads that have to be real for its sums to be regrouped. -/
structure Finite : Prop where
  hP : ∀ (R : Fin 8192) (k : Fin 10240), k.val < 4096 → ∃ r : ℝ, P R k = (r : EReal)
  hC : ∀ (R : Fin 8192) (d : Fin 128), d.val < 64 → ∃ r : ℝ, C R d = (r : EReal)
  hS : ∀ (R : Fin 8192) (d : Fin 128), d.val < 64 → ∃ r : ℝ, S R d = (r : EReal)

theorem kappa_real : kappa = ((11863283 / 134217728 : ℝ) : EReal) := by
  unfold kappa
  simp [Ideal.ofBits, Ideal.ieee, -EReal.coe_mul]
  norm_num

theorem sgn_real (d : Fin 128) {s : EReal} (hs : ∃ r : ℝ, s = (r : EReal)) : ∃ r : ℝ, sgn d s = (r : EReal) := by
  obtain ⟨r, rfl⟩ := hs
  unfold sgn
  by_cases h : d.val < 64
  · exact ⟨0 - r, by rw [if_pos h, ← EReal.coe_zero, ← EReal.coe_sub]⟩
  · exact ⟨r, by rw [if_neg h]⟩

theorem turn_real {t c s : Fin 128 → EReal} (ht : ∀ d, ∃ r : ℝ, t d = (r : EReal)) (hc : ∀ d : Fin 128, d.val < 64 → ∃ r : ℝ, c d = (r : EReal))
    (hs : ∀ d : Fin 128, d.val < 64 → ∃ r : ℝ, s d = (r : EReal)) (d : Fin 128) :
    ∃ r : ℝ, turn t c s d = (r : EReal) ∧ turnK t c s d = ((r * (11863283 / 134217728) : ℝ) : EReal) := by
  obtain ⟨a, ha⟩ := ht d
  obtain ⟨a', ha'⟩ := ht (mate d)
  obtain ⟨b, hb⟩ := hc (lane d) (Nat.mod_lt _ (by decide))
  obtain ⟨b', hb'⟩ := sgn_real d (hs (lane d) (Nat.mod_lt _ (by decide)))
  refine ⟨a * b + a' * b', ?_, ?_⟩
  · unfold turn
    rw [ha, ha', hb, hb', ← EReal.coe_mul, ← EReal.coe_mul, ← EReal.coe_add]
  · unfold turnK
    rw [ha, ha', hb, hb', kappa_real, ← EReal.coe_mul, ← EReal.coe_mul, ← EReal.coe_mul, ← EReal.coe_mul, ← EReal.coe_add]
    refine congrArg _ ?_
    ring

variable {P C S}

theorem q_real (F : Finite P C S) (b : ℕ) (h : Fin 8) (n : ℕ) (d : Fin 128) :
    turn (fun d => P (rowN b n) (colN 0 (128 * h.val + d.val))) (C (rowN b n)) (S (rowN b n)) d = (qReal P C S b h n d : EReal) := by
  have hh := h.isLt
  obtain ⟨r, hr, -⟩ := turn_real (fun d => F.hP (rowN b n) (colN 0 (128 * h.val + d.val))
    (by have hd := d.isLt; show (0 + (128 * h.val + d.val)) % 10240 < 4096; omega)) (F.hC (rowN b n)) (F.hS (rowN b n)) d
  unfold qReal
  rw [hr, EReal.toReal_coe]

theorem k_real (F : Finite P C S) (b : ℕ) (h : Fin 8) (n : ℕ) (d : Fin 128) :
    turn (fun d => P (rowN b n) (colN 1024 (128 * h.val + d.val))) (C (rowN b n)) (S (rowN b n)) d * kappa = (kReal P C S b h n d : EReal)
    ∧ turnK (fun d => P (rowN b n) (colN 1024 (128 * h.val + d.val))) (C (rowN b n)) (S (rowN b n)) d = (kReal P C S b h n d : EReal) := by
  have hh := h.isLt
  obtain ⟨r, hr, hk⟩ := turn_real (fun d => F.hP (rowN b n) (colN 1024 (128 * h.val + d.val))
    (by have hd := d.isLt; show (1024 + (128 * h.val + d.val)) % 10240 < 4096; omega)) (F.hC (rowN b n)) (F.hS (rowN b n)) d
  unfold kReal
  rw [hr, hk, kappa_real, ← EReal.coe_mul, EReal.toReal_coe]
  exact ⟨rfl, rfl⟩

theorem v_real (F : Finite P C S) (b : ℕ) (h : Fin 8) (n : ℕ) (e : Fin 256) :
    P (rowN b n) (colN 2048 (256 * h.val + e.val)) = (vReal P b h n e : EReal) := by
  have hh := h.isLt
  have he := e.isLt
  obtain ⟨r, hr⟩ := F.hP (rowN b n) (colN 2048 (256 * h.val + e.val)) (by show (2048 + (256 * h.val + e.val)) % 10240 < 4096; omega)
  unfold vReal
  rw [hr, EReal.toReal_coe]

end

/-- An entry of the retention branch's result. -/
def retEntry (P : Fin 8192 → Fin 10240 → EReal) (C S : Fin 8192 → Fin 128 → EReal) (g : Fin 2048 → EReal) (b n : ℕ) (k : Fin 2048) : EReal :=
  finish (fun j => (Cert.Ret.out (Cert.MixReferenceIdeal.MxRef.rate (headOf k)) (qReal P C S b (headOf k) n) (kReal P C S b (headOf k))
    (vReal P b (headOf k)) 4096 n j : EReal)) (g k) (P (rowN b n) (colN 4096 k.val)) ⟨k.val % 256, by omega⟩

/-! ## The kernel's side -/

section
variable (m : (ℓ : Loc nD τ sig) → Buf (Elt Ideal) ℓ) (c : Dev nD)

/-- The arguments as tables. -/
def argP (R : Fin 8192) (k : Fin 10240) : EReal := m ((c : Thread nD τ).loc main_arg0) (ix2 R k)
def argC (R : Fin 8192) (d : Fin 128) : EReal := m ((c : Thread nD τ).loc main_arg3) (ix2 R d)
def argS (R : Fin 8192) (d : Fin 128) : EReal := m ((c : Thread nD τ).loc main_arg4) (ix2 R d)
def argG (k : Fin 2048) : EReal := m ((c : Thread nD τ).loc main_arg10) (ix2 0 k)

theorem tile_row (t : Fin cfg0.N) (r : Fin 512) : tileRow t r = rowN (t.val / 8) (512 * (t.val % 8) + r.val) := by
  have ht := lt_of_lt_of_eq t.isLt (show cfg0.N = 16 from N_0)
  have hr := r.isLt
  apply Fin.ext
  show t.val * 512 + r.val = (4096 * (t.val / 8) + (512 * (t.val % 8) + r.val)) % 8192
  omega

theorem tiled (F : Finite (argP m c) (argC m c) (argS m c)) : Tiled m c Cert.MixReferenceIdeal.MxRef.rate (qReal (argP m c) (argC m c) (argS m c))
    (kReal (argP m c) (argC m c) (argS m c)) (vReal (argP m c)) := by
  intro t
  have ht := lt_of_lt_of_eq t.isLt (show cfg0.N = 16 from N_0)
  refine ⟨fun h => ?_, fun h r d => ?_, fun h r d => ?_, fun h r e => ?_, by omega, by omega⟩
  · rw [blk0, V_v7]
    exact Cert.MixReferenceIdeal.MxRef.rate_eq h
  · have hh := h.isLt
    have e12 : (fun d => (iblk m c 12 t : Vec Ideal S512x1024 .bf16) (ix2 r (colQ h d))) = fun d : Fin 128 => argP m c (tileRow t r) (colN 0 (128 * h.val + d.val)) := by
      funext d
      rw [blk12]
      have hd := d.isLt
      exact congrArg (argP m c (tileRow t r)) (Fin.ext (by show 0 * 1024 + (128 * h.val + d.val) = (0 + (128 * h.val + d.val)) % 10240; omega))
    have e10 : (fun d => (iblk m c 10 t : Vec Ideal S512x128 .f32) (ix2 r d)) = argC m c (tileRow t r) := by
      funext d
      rw [blk10]
      exact congrArg (argC m c (tileRow t r)) (Fin.ext (by show 0 * 128 + d.val = d.val; omega))
    have e11 : (fun d => (iblk m c 11 t : Vec Ideal S512x128 .f32) (ix2 r d)) = argS m c (tileRow t r) := by
      funext d
      rw [blk11]
      exact congrArg (argS m c (tileRow t r)) (Fin.ext (by show 0 * 128 + d.val = d.val; omega))
    rw [e12, e10, e11, tile_row]
    exact q_real F _ h _ d
  · have hh := h.isLt
    have e12 : (fun d => (iblk m c 13 t : Vec Ideal S512x1024 .bf16) (ix2 r (colQ h d))) = fun d : Fin 128 => argP m c (tileRow t r) (colN 1024 (128 * h.val + d.val)) := by
      funext d
      rw [blk13]
      have hd := d.isLt
      exact congrArg (argP m c (tileRow t r)) (Fin.ext (by show 1 * 1024 + (128 * h.val + d.val) = (1024 + (128 * h.val + d.val)) % 10240; omega))
    have e10 : (fun d => (iblk m c 10 t : Vec Ideal S512x128 .f32) (ix2 r d)) = argC m c (tileRow t r) := by
      funext d
      rw [blk10]
      exact congrArg (argC m c (tileRow t r)) (Fin.ext (by show 0 * 128 + d.val = d.val; omega))
    have e11 : (fun d => (iblk m c 11 t : Vec Ideal S512x128 .f32) (ix2 r d)) = argS m c (tileRow t r) := by
      funext d
      rw [blk11]
      exact congrArg (argS m c (tileRow t r)) (Fin.ext (by show 0 * 128 + d.val = d.val; omega))
    rw [e12, e10, e11, tile_row]
    exact (k_real F _ h _ d).2
  · have hh := h.isLt
    have he := e.isLt
    rw [blk14, ← v_real F, ← tile_row]
    exact congrArg (argP m c (tileRow t r)) (Fin.ext (by show 1 * 2048 + (256 * h.val + e.val) = (2048 + (256 * h.val + e.val)) % 10240; omega))

/-- The retention result after the run. -/
theorem G21_apply (F : Finite (argP m c) (argC m c) (argS m c)) (p : Fin 8192) (l : Fin 2048) :
    Value.G21 m c (ix2 p l) = retEntry (argP m c) (argC m c) (argS m c) (argG m c) (p.val / 4096) (p.val % 4096) l := by
  have hp := p.isLt
  have hl := l.isLt
  have hN : cfg0.N = 16 := N_0
  have hv : Value.pt21Of (ix2 p l) = p.val / 512 := by
    show 1 * (p.val / 512 - 0) + 1 * (l.val / 2048 - 0) = _; omega
  have hpt : Value.pt21Of (ix2 p l) < cfg0.N := by rw [hN, hv]; omega
  unfold Value.G21
  rw [dif_pos hpt, ← Value.outsAt0_sweep m c _ hpt]
  have el : Value.loc21Of (ix2 p l) = (ix2 ⟨p.val % 512, by omega⟩ l : S512x2048.Idx) := by
    funext a; match a with
    | ⟨0, _⟩ => rfl
    | ⟨1, _⟩ => exact Fin.ext (Nat.mod_eq_of_lt hl)
  rw [el, rows m c (tiled m c F) ⟨Value.pt21Of (ix2 p l), hpt⟩ ⟨p.val % 512, by omega⟩ l]
  dsimp only
  unfold rowsOf retEntry
  rw [blk15, blk16, V_v29, tile_row]
  have e1 : p.val / 512 / 8 = p.val / 4096 := by omega
  have e2 : 512 * (p.val / 512 % 8) + p.val % 512 = p.val % 4096 := by omega
  dsimp only
  rw [hv, e1, e2]
  have e3 : colAt 2 2048 10240 (by decide) l = colN 4096 l.val := Fin.ext (by show 2 * 2048 + l.val = (4096 + l.val) % 10240; omega)
  rw [e3]
  rfl

end

/-! ## The reference's side -/

section
open Cert.MixReferenceIdeal.MxRef

theorem out_real (L : ℝ) (Q : Fin 128 → ℝ) (K : ℕ → Fin 128 → ℝ) (V : ℕ → Fin 256 → ℝ) (n : ℕ) (e : Fin 256) :
    ∑ x : Fin 4096, ((∑ d : Fin 128, (Q d : EReal) * (K x.val d : EReal)) * (Cert.Ret.decay L n x.val : EReal)) * (V x.val e : EReal)
      = (Cert.Ret.out L Q K V 4096 n e : EReal) := by
  unfold Cert.Ret.out
  rw [Finset.sum_range, ← sum_coe]
  refine Finset.sum_congr rfl fun x _ => ?_
  rw [EReal.coe_mul, EReal.coe_mul, ← sum_coe]
  refine congrArg (· * _) (congrArg (· * _) (Finset.sum_congr rfl fun d _ => ?_))
  rw [EReal.coe_mul]

variable (x0 : (⟨S8192x10240, .bf16⟩ : BufTy).Contents (Elt Ideal)) (x3 x4 : (⟨S8192x128, .f32⟩ : BufTy).Contents (Elt Ideal))
  (x10 : (⟨S1x2048, .f32⟩ : BufTy).Contents (Elt Ideal))

theorem row_same (b : Fin 2) (n : Fin 4096) : rowOf b n = rowN b.val n.val :=
  Fin.ext (by show 4096 * b.val + n.val = (4096 * b.val + n.val) % 8192; omega)

theorem ref_sum (F : Finite (fun R k => x0 (ix2 R k)) (fun R d => x3 (ix2 R d)) (fun R d => x4 (ix2 R d))) (b : Fin 2) (n : Fin 4096) (h : Fin 8) (e : Fin 256) :
    Cert.MixReferenceIdeal.Read.val_main_v146 x0 x3 x4 (ix4 b n h e) = (Cert.Ret.out (rate h) (qReal (fun R k => x0 (ix2 R k)) (fun R d => x3 (ix2 R d)) (fun R d => x4 (ix2 R d)) b.val h n.val)
      (kReal (fun R k => x0 (ix2 R k)) (fun R d => x3 (ix2 R d)) (fun R d => x4 (ix2 R d)) b.val h) (vReal (fun R k => x0 (ix2 R k)) b.val h) 4096 n.val e : EReal) := by
  have hh := h.isLt
  rw [sum_apply, ← out_real]
  refine Finset.sum_congr rfl fun m _ => ?_
  rw [decay_apply, ← v_real F]
  have eq : (fun d : Fin 128 => x0 (ix2 (rowOf b n) (qAt h d))) = fun d => x0 (ix2 (rowN b.val n.val) (colN 0 (128 * h.val + d.val))) := by
    funext d
    rw [row_same]
    exact congrArg (fun l => x0 (ix2 _ l)) (Fin.ext (by have hd := d.isLt; show 128 * h.val + d.val = (0 + (128 * h.val + d.val)) % 10240; omega))
  have ek : (fun d : Fin 128 => x0 (ix2 (rowOf b m) (kAt h d))) = fun d => x0 (ix2 (rowN b.val m.val) (colN 1024 (128 * h.val + d.val))) := by
    funext d
    rw [row_same]
    exact congrArg (fun l => x0 (ix2 _ l)) (Fin.ext (by have hd := d.isLt; show 1024 + (128 * h.val + d.val) = (1024 + (128 * h.val + d.val)) % 10240; omega))
  have ev : x0 (ix2 (rowOf b m) (vAt h e)) = x0 (ix2 (rowN b.val m.val) (colN 2048 (256 * h.val + e.val))) := by
    rw [row_same]
    exact congrArg (fun l => x0 (ix2 _ l)) (Fin.ext (by have he := e.isLt; show 2048 + (256 * h.val + e.val) = (2048 + (256 * h.val + e.val)) % 10240; omega))
  rw [eq, ek, ev, row_same, row_same]
  refine congrArg (· * _) (congrArg (· * _) (Finset.sum_congr rfl fun d _ => ?_))
  exact congrArg₂ (· * ·) (q_real F b.val h n.val d) (k_real F b.val h m.val d).1

/-- The reference's retention result. -/
theorem ref_apply (F : Finite (fun R k => x0 (ix2 R k)) (fun R d => x3 (ix2 R d)) (fun R d => x4 (ix2 R d))) (R : Fin 8192) (k : Fin 2048) :
    Cert.MixReferenceIdeal.Read.val_main_v176 x0 x3 x4 x10 (ix2 R k)
      = retEntry (fun R k => x0 (ix2 R k)) (fun R d => x3 (ix2 R d)) (fun R d => x4 (ix2 R d)) (fun k => x10 (ix2 0 k)) (R.val / 4096) (R.val % 4096) k := by
  have hk := k.isLt
  rw [row_apply]
  unfold retEntry
  have er : rowN (R.val / 4096) (R.val % 4096) = R := Fin.ext (by show (4096 * (R.val / 4096) + R.val % 4096) % 8192 = R.val; omega)
  have eg : gAt k = colN 4096 k.val := Fin.ext (by show 4096 + k.val = (4096 + k.val) % 10240; omega)
  rw [er, eg]
  refine congrArg (fun f => finish f _ _ _) (funext fun j => ?_)
  exact ref_sum x0 x3 x4 F (seqOf R) (posOf R) (hdOf k) j

end

end Cert.MixIdeal.MxVal

end
-- ==== Proof.MlaFlow.lean ====
/-
  The latent projections of the call: every entry of its four results, in the program's arguments.
-/
module

public import proofs.«01_k».proof.Proof.MlaRunA
public import proofs.«01_k».proof.Proof.MlaRunB
public import proofs.«01_k».proof.Proof.MixHostQ
public import proofs.«01_k».proof.Proof.MixRet

@[expose] public section

set_option maxRecDepth 16384

noncomputable section

namespace Cert.MixIdeal.MxVal

open Cert.MixIdeal Cert.MixIdeal.Gen
open Idealize.ShloMosaic Idealize.ShloMosaic.TcCoe Idealize.SL.Sem

/-- The query up-projection with each head's columns padded with zeros to 256. -/
def wPad (w : Fin 512 → Fin 3072 → EReal) (l : Fin 4096) (k : Fin 512) : EReal := if h : l.val % 256 < 192 then w k (queryCol l h) else 0

variable (m : (ℓ : Loc nD τ sig) → Buf (Elt Ideal) ℓ) (c : Dev nD)

/-- More arguments as tables: the two latents, the inputs, the shared key's projection, the two gains and the two up-projections. -/
def argA (R : Fin 8192) (j : Fin 512) : EReal := m ((c : Thread nD τ).loc main_arg1) (ix2 R (colAt 0 512 1024 (by decide) j))
def argK (R : Fin 8192) (j : Fin 512) : EReal := m ((c : Thread nD τ).loc main_arg1) (ix2 R (colAt 1 512 1024 (by decide) j))
def argU (R : Fin 8192) (j : Fin 2048) : EReal := m ((c : Thread nD τ).loc main_arg2) (ix2 R j)
def argE (e : Fin 128) (j : Fin 2048) : EReal := m ((c : Thread nD τ).loc main_arg5) (ix3 0 j (peRow e))
def argGq (j : Fin 512) : EReal := m ((c : Thread nD τ).loc main_arg6) (ix2 0 j)
def argGk (j : Fin 512) : EReal := m ((c : Thread nD τ).loc main_arg7) (ix2 0 j)
def argWq (k : Fin 512) (l : Fin 3072) : EReal := m ((c : Thread nD τ).loc main_arg8) (ix3 0 k l)
def argWk (k : Fin 512) (l : Fin 4096) : EReal := m ((c : Thread nD τ).loc main_arg9) (ix3 0 k l)

theorem blkA (t : Fin cfg0.N) (r : Fin 512) : (fun j => (iblk m c 1 t : Vec Ideal S512x512 .bf16) (ix2 r j)) = argA m c (tileRow t r) := funext fun j => blk1 m c t r j
theorem blkK (t : Fin cfg0.N) (r : Fin 512) : (fun j => (iblk m c 2 t : Vec Ideal S512x512 .bf16) (ix2 r j)) = argK m c (tileRow t r) := funext fun j => blk2 m c t r j
theorem blkU (t : Fin cfg0.N) (r : Fin 512) : (fun j => (iblk m c 3 t : Vec Ideal S512x2048 .bf16) (ix2 r j)) = argU m c (tileRow t r) :=
  funext fun j => (blk3 m c t r j).trans (congrArg (argU m c (tileRow t r)) (Fin.ext (by show 0 * 2048 + j.val = j.val; omega)))
theorem blkC (t : Fin cfg0.N) (r : Fin 512) : (fun j => (iblk m c 10 t : Vec Ideal S512x128 .f32) (ix2 r j)) = argC m c (tileRow t r) :=
  funext fun j => (blk10 m c t r j).trans (congrArg (argC m c (tileRow t r)) (Fin.ext (by show 0 * 128 + j.val = j.val; omega)))
theorem blkS (t : Fin cfg0.N) (r : Fin 512) : (fun j => (iblk m c 11 t : Vec Ideal S512x128 .f32) (ix2 r j)) = argS m c (tileRow t r) :=
  funext fun j => (blk11 m c t r j).trans (congrArg (argS m c (tileRow t r)) (Fin.ext (by show 0 * 128 + j.val = j.val; omega)))
theorem blkGq (t : Fin cfg0.N) : (fun j => (iblk m c 5 t : Vec Ideal S1x512 .f32) (ix2 0 j)) = argGq m c := funext fun j => (blk5 m c t 0 j).trans (V_v19 m c j)
theorem blkGk (t : Fin cfg0.N) : (fun j => (iblk m c 6 t : Vec Ideal S1x512 .f32) (ix2 0 j)) = argGk m c := funext fun j => (blk6 m c t 0 j).trans (V_v21 m c j)
theorem blkE (t : Fin cfg0.N) : (fun (e : Fin 128) (j : Fin 2048) => (X0_4 m c t : Vec Ideal S128x2048 .f32) (ix2 e j)) = argE m c :=
  funext fun e => funext fun j => (blk4 m c t e j).trans (V_v17 m c (peRow e) j)
theorem blkW (t : Fin cfg0.N) : (fun (l : Fin 4096) (k : Fin 512) => (iblk m c 7 t : Vec Ideal S4096x512 .bf16) (ix2 l k)) = wPad (argWq m c) := by
  funext l k
  rw [blk7]
  unfold wPad
  by_cases h : l.val % 256 < 192
  · rw [dif_pos h]
    exact V_v27 m c l k h
  · rw [dif_neg h]
    exact V_v27_pad m c l k h

theorem tile_of (p : Fin 8192) (t : Fin cfg0.N) (h : t.val = p.val / 512) : tileRow t ⟨p.val % 512, by omega⟩ = p :=
  Fin.ext (by show t.val * 512 + p.val % 512 = p.val; omega)

/-! ## The results of a tile -/

theorem tile17 (t : Fin cfg0.N) (r : Fin 512) (k : Fin 4096) : (outsAt0 m c t.val t.isLt).1 (ix2 r k)
    = queryE (projE (argA m c (tileRow t r)) (argGq m c) (wPad (argWq m c))) (argC m c (tileRow t r)) (argS m c (tileRow t r)) k := by
  rw [← blkA, ← blkGq m c t, ← blkW m c t, ← blkC, ← blkS]
  by_cases h0 : t.val % 8 = 0
  · rw [outsAt0_A m c t h0]
    dsimp only
    exact out17A r k
  · rw [outsAt0_B m c t h0]
    dsimp only
    exact out17B r k

theorem tile18 (t : Fin cfg0.N) (r : Fin 512) (k : Fin 2048) : (outsAt0 m c t.val t.isLt).2.1 (ix2 r k)
    = ∑ j : Fin 512, normE (argK m c (tileRow t r)) (argGk m c) j * argWk m c j (keyCol k) := by
  have e : ∀ j, argWk m c j (keyCol k) = (iblk m c 8 t : Vec Ideal S512x2048 .bf16) (ix2 j k) := fun j => ((blk8 m c t j k).trans (V_v12 m c j k)).symm
  simp only [e]
  rw [← blkK, ← blkGk m c t]
  by_cases h0 : t.val % 8 = 0
  · rw [outsAt0_A m c t h0]
    dsimp only
    exact out18A r k
  · rw [outsAt0_B m c t h0]
    dsimp only
    exact out18B r k

theorem tile19 (t : Fin cfg0.N) (r : Fin 512) (k : Fin 128) : (outsAt0 m c t.val t.isLt).2.2.1 (ix2 r k)
    = peE (argU m c (tileRow t r)) (argE m c) (argC m c (tileRow t r)) (argS m c (tileRow t r)) k := by
  rw [← blkU, ← blkE m c t, ← blkC, ← blkS]
  by_cases h0 : t.val % 8 = 0
  · rw [outsAt0_A m c t h0]
    dsimp only
    exact out19A r k
  · rw [outsAt0_B m c t h0]
    dsimp only
    exact out19B r k

theorem tile20 (t : Fin cfg0.N) (r : Fin 512) (k : Fin 2048) : (outsAt0 m c t.val t.isLt).2.2.2.1 (ix2 r k)
    = ∑ j : Fin 512, normE (argK m c (tileRow t r)) (argGk m c) j * argWk m c j (valCol k) := by
  have e : ∀ j, argWk m c j (valCol k) = (iblk m c 9 t : Vec Ideal S512x2048 .bf16) (ix2 j k) := fun j => ((blk9 m c t j k).trans (V_v15 m c j k)).symm
  simp only [e]
  rw [← blkK, ← blkGk m c t]
  by_cases h0 : t.val % 8 = 0
  · rw [outsAt0_A m c t h0]
    dsimp only
    exact out20A r k
  · rw [outsAt0_B m c t h0]
    dsimp only
    exact out20B r k

/-! ## The results after the run -/

theorem G17_apply (p : Fin 8192) (l : Fin 4096) : Value.G17 m c (ix2 p l) = queryE (projE (argA m c p) (argGq m c) (wPad (argWq m c))) (argC m c p) (argS m c p) l := by
  have hp := p.isLt
  have hl := l.isLt
  have hN : cfg0.N = 16 := N_0
  have hv : Value.pt17Of (ix2 p l) = p.val / 512 := by
    show 1 * (p.val / 512 - 0) + 1 * (l.val / 4096 - 0) = _; omega
  have hpt : Value.pt17Of (ix2 p l) < cfg0.N := by rw [hN, hv]; omega
  unfold Value.G17
  rw [dif_pos hpt, ← Value.outsAt0_sweep m c _ hpt]
  have el : Value.loc17Of (ix2 p l) = (ix2 ⟨p.val % 512, by omega⟩ l : S512x4096.Idx) := by
    funext a; match a with
    | ⟨0, _⟩ => rfl
    | ⟨1, _⟩ => exact Fin.ext (Nat.mod_eq_of_lt hl)
  rw [el, tile17 m c ⟨Value.pt17Of (ix2 p l), hpt⟩ ⟨p.val % 512, by omega⟩ l, tile_of p _ hv]

theorem G18_apply (p : Fin 8192) (l : Fin 2048) : Value.G18 m c (ix2 p l) = ∑ j : Fin 512, normE (argK m c p) (argGk m c) j * argWk m c j (keyCol l) := by
  have hp := p.isLt
  have hl := l.isLt
  have hN : cfg0.N = 16 := N_0
  have hv : Value.pt18Of (ix2 p l) = p.val / 512 := by
    show 1 * (p.val / 512 - 0) + 1 * (l.val / 2048 - 0) = _; omega
  have hpt : Value.pt18Of (ix2 p l) < cfg0.N := by rw [hN, hv]; omega
  unfold Value.G18
  rw [dif_pos hpt, ← Value.outsAt0_sweep m c _ hpt]
  have el : Value.loc18Of (ix2 p l) = (ix2 ⟨p.val % 512, by omega⟩ l : S512x2048.Idx) := by
    funext a; match a with
    | ⟨0, _⟩ => rfl
    | ⟨1, _⟩ => exact Fin.ext (Nat.mod_eq_of_lt hl)
  rw [el, tile18 m c ⟨Value.pt18Of (ix2 p l), hpt⟩ ⟨p.val % 512, by omega⟩ l, tile_of p _ hv]

theorem G19_apply (p : Fin 8192) (l : Fin 128) : Value.G19 m c (ix2 p l) = peE (argU m c p) (argE m c) (argC m c p) (argS m c p) l := by
  have hp := p.isLt
  have hl := l.isLt
  have hN : cfg0.N = 16 := N_0
  have hv : Value.pt19Of (ix2 p l) = p.val / 512 := by
    show 1 * (p.val / 512 - 0) + 1 * (l.val / 128 - 0) = _; omega
  have hpt : Value.pt19Of (ix2 p l) < cfg0.N := by rw [hN, hv]; omega
  unfold Value.G19
  rw [dif_pos hpt, ← Value.outsAt0_sweep m c _ hpt]
  have el : Value.loc19Of (ix2 p l) = (ix2 ⟨p.val % 512, by omega⟩ l : S512x128.Idx) := by
    funext a; match a with
    | ⟨0, _⟩ => rfl
    | ⟨1, _⟩ => exact Fin.ext (Nat.mod_eq_of_lt hl)
  rw [el, tile19 m c ⟨Value.pt19Of (ix2 p l), hpt⟩ ⟨p.val % 512, by omega⟩ l, tile_of p _ hv]

theorem G20_apply (p : Fin 8192) (l : Fin 2048) : Value.G20 m c (ix2 p l) = ∑ j : Fin 512, normE (argK m c p) (argGk m c) j * argWk m c j (valCol l) := by
  have hp := p.isLt
  have hl := l.isLt
  have hN : cfg0.N = 16 := N_0
  have hv : Value.pt20Of (ix2 p l) = p.val / 512 := by
    show 1 * (p.val / 512 - 0) + 1 * (l.val / 2048 - 0) = _; omega
  have hpt : Value.pt20Of (ix2 p l) < cfg0.N := by rw [hN, hv]; omega
  unfold Value.G20
  rw [dif_pos hpt, ← Value.outsAt0_sweep m c _ hpt]
  have el : Value.loc20Of (ix2 p l) = (ix2 ⟨p.val % 512, by omega⟩ l : S512x2048.Idx) := by
    funext a; match a with
    | ⟨0, _⟩ => rfl
    | ⟨1, _⟩ => exact Fin.ext (Nat.mod_eq_of_lt hl)
  rw [el, tile20 m c ⟨Value.pt20Of (ix2 p l), hpt⟩ ⟨p.val % 512, by omega⟩ l, tile_of p _ hv]

end Cert.MixIdeal.MxVal

end
-- ==== Proof.MlaRef.lean ====
/-
  The reference's latent projections at an index.
-/
module

public import proofs.«01_k».proof.Proof.Gen.MixReferenceIdeal.Read
public import proofs.«01_k».proof.Proof.MlaFlow

@[expose] public section

set_option maxRecDepth 16384

noncomputable section

namespace Cert.MixReferenceIdeal.MxRef

open Cert.MixReferenceIdeal Cert.MixReferenceIdeal.Read
open Idealize.ShloMosaic Idealize.SL.Sem
open Cert.MixIdeal.MxVal (colAt normE keyCol valCol queryCol peRow qScale ropeE cosV loV hiV queryE projE peE wPad slabCol mate ahead behind)

variable (x1 : (⟨S8192x1024, .bf16⟩ : BufTy).Contents (Elt Ideal)) (x2 : (⟨S8192x2048, .bf16⟩ : BufTy).Contents (Elt Ideal))
  (x3 x4 : (⟨S8192x128, .f32⟩ : BufTy).Contents (Elt Ideal)) (x5 : (⟨S1x2048x11328, .f32⟩ : BufTy).Contents (Elt Ideal))
  (x6 x7 : (⟨S1x512, .f32⟩ : BufTy).Contents (Elt Ideal)) (x8 : (⟨S1x512x3072, .f32⟩ : BufTy).Contents (Elt Ideal))
  (x9 : (⟨S1x512x4096, .f32⟩ : BufTy).Contents (Elt Ideal))

/-- The two latents of a row. -/
def latQ (R : Fin 8192) (j : Fin 512) : EReal := x1 (ix2 R (colAt 0 512 1024 (by decide) j))
def latK (R : Fin 8192) (j : Fin 512) : EReal := x1 (ix2 R (colAt 1 512 1024 (by decide) j))

theorem latQ_apply (R : Fin 8192) (k : Fin 512) : val_main_v7 x1 (ix2 R k) = latQ x1 R k := by
  pointwise [val_main_v7, val_main_v1]
  exact congrArg (fun l => x1 (ix2 R l)) (Fin.ext (by show k.val = 0 * 512 + k.val; omega))

theorem latK_apply (R : Fin 8192) (k : Fin 512) : val_main_v41 x1 (ix2 R k) = latK x1 R k := by
  pointwise [val_main_v41, val_main_v1]
  exact congrArg (fun l => x1 (ix2 R l)) (Fin.ext (by show 512 + k.val = 1 * 512 + k.val; omega))

theorem normQ_apply (R : Fin 8192) (k : Fin 512) : val_main_v21 x1 x6 (ix2 R k) = normE (latQ x1 R) (fun j => x6 (ix2 0 j)) k := by
  pointwise [val_main_v21, val_main_v20, val_main_v19, val_main_v8, val_main_v18, val_main_v17, val_main_v16, val_main_v15, val_main_v14, val_main_cst_1, val_main_v13, val_main_v12, val_main_cst_0, val_main_v11, val_main_v10, val_main_v9, val_main_cst, normE]
  simp only [latQ_apply]

theorem normK_apply (R : Fin 8192) (k : Fin 512) : val_main_v55 x1 x7 (ix2 R k) = normE (latK x1 R) (fun j => x7 (ix2 0 j)) k := by
  pointwise [val_main_v55, val_main_v54, val_main_v53, val_main_v42, val_main_v52, val_main_v51, val_main_v50, val_main_v49, val_main_v48, val_main_cst_5, val_main_v47, val_main_v46, val_main_cst_4, val_main_v45, val_main_v44, val_main_v43, val_main_cst_3, normE]
  simp only [latK_apply]

theorem projQ_apply (R : Fin 8192) (p : Fin 3072) : val_main_v23 x1 x6 x8 (ix2 R p) = ∑ k : Fin 512, normE (latQ x1 R) (fun j => x6 (ix2 0 j)) k * x8 (ix3 0 k p) := by
  pointwise [val_main_v23, val_main_v22, normQ_apply]

theorem projK_apply (R : Fin 8192) (p : Fin 4096) : val_main_v57 x1 x7 x9 (ix2 R p) = ∑ k : Fin 512, normE (latK x1 R) (fun j => x7 (ix2 0 j)) k * x9 (ix3 0 k p) := by
  pointwise [val_main_v57, val_main_v56, normK_apply]

theorem key_result (R : Fin 8192) (l : Fin 2048) : val_main_v173 x1 x7 x9 (ix2 R l) = ∑ k : Fin 512, normE (latK x1 R) (fun j => x7 (ix2 0 j)) k * x9 (ix3 0 k (keyCol l)) := by
  pointwise [val_main_v173, val_main_v60, val_main_v59, val_main_v58, projK_apply]
  refine Finset.sum_congr rfl fun k _ => congrArg (fun q => _ * x9 (ix3 0 k q)) (Fin.ext (by show l.val / 128 * 256 + l.val % 128 = 256 * (l.val / 128) + l.val % 128; omega))

theorem val_result (R : Fin 8192) (l : Fin 2048) : val_main_v175 x1 x7 x9 (ix2 R l) = ∑ k : Fin 512, normE (latK x1 R) (fun j => x7 (ix2 0 j)) k * x9 (ix3 0 k (valCol l)) := by
  pointwise [val_main_v175, val_main_v62, val_main_v61, val_main_v58, projK_apply]
  refine Finset.sum_congr rfl fun k _ => congrArg (fun q => _ * x9 (ix3 0 k q)) (Fin.ext (by show l.val / 128 * 256 + (128 + l.val % 128) = 256 * (l.val / 128) + (128 + l.val % 128); omega))

theorem pe_proj (R : Fin 8192) (d : Fin 64) : val_main_v65 x2 x5 (ix2 R d) = ∑ k : Fin 2048, x2 (ix2 R k) * x5 (ix3 0 k (peRow ⟨d.val, by omega⟩)) := by
  pointwise [val_main_v65, val_main_v64, val_main_v63, val_main_v2]
  exact Finset.sum_congr rfl fun k _ => congrArg (fun q => _ * x5 (ix3 0 k q)) (Fin.ext (by show 7168 + d.val = 56 * 128 + d.val; omega))

/-! ## The rotations -/

theorem scale_real : qScale = ((13974421 / 134217728 : ℝ) : EReal) := by
  unfold qScale
  simp [Ideal.ofBits, Ideal.ieee, -EReal.coe_mul]
  norm_num

theorem int_zero : (FloatOps.sitofp FTy.f32 (0#32) : Ideal FTy.f32) = 0 := by
  show (((0#32 : BitVec 32).toInt : ℝ) : EReal) = 0
  norm_num

/-- Scaling the tables scales the rotated slab. -/
theorem rope_scale (v c lo hi : Fin 128 → EReal) (d : Fin 128) :
    ropeE v (fun e => c e * qScale) (fun e => lo e * qScale) (fun e => hi e * qScale) d = ropeE v c lo hi d * qScale := by
  have h0 : (0 : EReal) ≤ qScale := by
    rw [scale_real]
    exact EReal.coe_nonneg.2 (by norm_num)
  have ht : qScale ≠ ⊤ := by
    rw [scale_real]
    exact EReal.coe_ne_top _
  unfold ropeE
  rw [EReal.right_distrib_of_nonneg_of_ne_top h0 ht, EReal.right_distrib_of_nonneg_of_ne_top h0 ht, mul_assoc, mul_assoc, mul_assoc]

/-- A rotated slab's lane in the tables' columns from 64 on: zero past lane 63. -/
theorem rope_low (v c s : Fin 128 → EReal) (d : Fin 128) (h : d.val < 32) :
    ropeE v (cosV c) (loV s) (hiV s) d = v d * c ⟨64 + d.val, by omega⟩ + -v ⟨32 + d.val, by omega⟩ * s ⟨64 + d.val, by omega⟩ := by
  unfold ropeE cosV loV hiV
  rw [if_pos (by omega), if_pos h, if_neg (by omega), mul_zero, add_zero, zero_sub, mul_neg, neg_mul,
    show mate d = ⟨64 + d.val, by omega⟩ from Fin.ext (by show (d.val + 64) % 128 = 64 + d.val; omega),
    show ahead d = ⟨32 + d.val, by omega⟩ from Fin.ext (by show (d.val + 32) % 128 = 32 + d.val; omega)]

theorem rope_mid (v c s : Fin 128 → EReal) (d : Fin 128) (h : ¬d.val < 32) (h' : d.val < 64) :
    ropeE v (cosV c) (loV s) (hiV s) d = v d * c ⟨64 + d.val, by omega⟩ + v ⟨d.val - 32, by omega⟩ * s ⟨64 + d.val, by omega⟩ := by
  unfold ropeE cosV loV hiV
  rw [if_pos h', if_neg h, if_pos ⟨by omega, h'⟩, mul_zero, add_zero,
    show mate d = ⟨64 + d.val, by omega⟩ from Fin.ext (by show (d.val + 64) % 128 = 64 + d.val; omega),
    show behind d = ⟨d.val - 32, by omega⟩ from Fin.ext (by show (d.val + 96) % 128 = d.val - 32; omega)]

theorem rope_high (v c s : Fin 128 → EReal) (d : Fin 128) (h : ¬d.val < 64) : ropeE v (cosV c) (loV s) (hiV s) d = 0 := by
  unfold ropeE cosV loV hiV
  rw [if_neg h, if_neg (by omega), if_neg (by omega), mul_zero, mul_zero, mul_zero, add_zero, add_zero]

theorem pe_result (R : Fin 8192) (d : Fin 128) : val_main_v174 x2 x3 x4 x5 (ix2 R d)
    = peE (fun j => x2 (ix2 R j)) (fun e j => x5 (ix3 0 j (peRow e))) (fun e => x3 (ix2 R e)) (fun e => x4 (ix2 R e)) d := by
  pointwise [val_main_v174, val_main_v75, val_main_v74, val_main_v73, val_main_v72, val_main_v71, val_main_v70, val_main_v69, val_main_v68, val_main_v67, val_main_v66, val_main_c_6, val_main_call1_v0, val_main_v3, val_main_v4, val_main_v5, val_main_v6]
  unfold peE
  by_cases h : d.val < 64
  · rw [dif_pos h]
    by_cases h2 : d.val < 32
    · rw [dif_pos h2, rope_low _ _ _ _ h2]
      simp only [pe_proj]
    · rw [dif_neg h2, rope_mid _ _ _ _ h2 h]
      simp only [pe_proj]
  · rw [dif_neg h, rope_high _ _ _ _ h]
    exact int_zero

/-- The reference's queries are the kernel's padded projection. -/
theorem projQ_pad (R : Fin 8192) (p : Fin 4096) (h : p.val % 256 < 192) (q : Fin 3072) (hq : q.val = 192 * (p.val / 256) + p.val % 256) :
    projE (latQ x1 R) (fun j => x6 (ix2 0 j)) (wPad (fun k l => x8 (ix3 0 k l))) p = val_main_v23 x1 x6 x8 (ix2 R q) := by
  rw [projQ_apply]
  unfold projE wPad
  refine Finset.sum_congr rfl fun k _ => ?_
  rw [dif_pos h]
  exact congrArg (fun q => _ * x8 (ix3 0 k q)) (Fin.ext hq.symm)

/-- The padded, scaled and rotated queries case by case. -/
theorem query_cases (Q : Fin 4096 → EReal) (y : Fin 3072 → EReal) (c s : Fin 128 → EReal)
    (hq : ∀ (p : Fin 4096) (h : p.val % 256 < 192) (q : Fin 3072) (hq : q.val = 192 * (p.val / 256) + p.val % 256), Q p = y q) (p : Fin 4096) :
    (if h : p.val / 256 < 16 ∧ p.val % 256 < 192 then
      (if h_1 : p.val % 256 < 128 then y ⟨p.val / 256 * 192 + p.val % 256, by omega⟩
        else
          y ⟨p.val / 256 * 192 + (128 + (p.val % 256 - 128)), by omega⟩ * c ⟨64 + (p.val % 256 - 128), by omega⟩ +
            (if h_2 : p.val % 256 - 128 < 32 then -y ⟨p.val / 256 * 192 + (128 + (32 + (p.val % 256 - 128))), by omega⟩
              else y ⟨p.val / 256 * 192 + (128 + (p.val % 256 - 128 - 32)), by omega⟩) * s ⟨64 + (p.val % 256 - 128), by omega⟩) * qScale
    else (FloatOps.sitofp FTy.f32 (0#32) : Ideal FTy.f32)) = queryE Q c s p := by
  have hp := p.isLt
  unfold queryE
  by_cases h : p.val % 256 < 128
  · rw [dif_pos ⟨by omega, by omega⟩, dif_pos h, if_pos h]
    exact congrArg (· * qScale) (hq p (by omega) _ (by show p.val / 256 * 192 + p.val % 256 = _; omega)).symm
  rw [if_neg h, rope_scale]
  have hc : ∀ (a b : ℕ) (ha hb), a = b → c ⟨a, ha⟩ = c ⟨b, hb⟩ := fun a b _ _ e => by subst e; rfl
  have hs : ∀ (a b : ℕ) (ha hb), a = b → s ⟨a, ha⟩ = s ⟨b, hb⟩ := fun a b _ _ e => by subst e; rfl
  by_cases h1 : p.val % 256 < 192
  · rw [dif_pos ⟨by omega, h1⟩, dif_neg h]
    refine congrArg (· * qScale) ?_
    by_cases h2 : p.val % 256 - 128 < 32
    · rw [dif_pos h2, rope_low _ _ _ _ (by show p.val % 128 < 32; omega)]
      refine congrArg₂ (· + ·) (congrArg₂ (· * ·) ?_ (hc _ _ _ _ (by dsimp only; omega)))
        (congrArg₂ (· * ·) (congrArg (- ·) ?_) (hs _ _ _ _ (by dsimp only; omega)))
      · exact (hq (slabCol p _) (by show (p.val / 128 * 128 + p.val % 128) % 256 < 192; omega) _
          (by show p.val / 256 * 192 + (128 + (p.val % 256 - 128)) = 192 * ((p.val / 128 * 128 + p.val % 128) / 256) + (p.val / 128 * 128 + p.val % 128) % 256; omega)).symm
      · exact (hq (slabCol p _) (by show (p.val / 128 * 128 + (32 + p.val % 128)) % 256 < 192; omega) _
          (by show p.val / 256 * 192 + (128 + (32 + (p.val % 256 - 128))) = 192 * ((p.val / 128 * 128 + (32 + p.val % 128)) / 256) + (p.val / 128 * 128 + (32 + p.val % 128)) % 256; omega)).symm
    · rw [dif_neg h2, rope_mid _ _ _ _ (by show ¬p.val % 128 < 32; omega) (by show p.val % 128 < 64; omega)]
      refine congrArg₂ (· + ·) (congrArg₂ (· * ·) ?_ (hc _ _ _ _ (by dsimp only; omega)))
        (congrArg₂ (· * ·) ?_ (hs _ _ _ _ (by dsimp only; omega)))
      · exact (hq (slabCol p _) (by show (p.val / 128 * 128 + p.val % 128) % 256 < 192; omega) _
          (by show p.val / 256 * 192 + (128 + (p.val % 256 - 128)) = 192 * ((p.val / 128 * 128 + p.val % 128) / 256) + (p.val / 128 * 128 + p.val % 128) % 256; omega)).symm
      · exact (hq (slabCol p _) (by show (p.val / 128 * 128 + (p.val % 128 - 32)) % 256 < 192; omega) _
          (by show p.val / 256 * 192 + (128 + (p.val % 256 - 128 - 32)) = 192 * ((p.val / 128 * 128 + (p.val % 128 - 32)) / 256) + (p.val / 128 * 128 + (p.val % 128 - 32)) % 256; omega)).symm
  · rw [dif_neg (fun hh => h1 hh.2), rope_high _ _ _ _ (by show ¬p.val % 128 < 64; omega), zero_mul]
    exact int_zero

theorem query_result (R : Fin 8192) (p : Fin 4096) : val_main_v172 x1 x3 x4 x6 x8 (ix2 R p)
    = queryE (projE (latQ x1 R) (fun j => x6 (ix2 0 j)) (wPad (fun k l => x8 (ix3 0 k l)))) (fun e => x3 (ix2 R e)) (fun e => x4 (ix2 R e)) p := by
  pointwise [val_main_v172, val_main_v40, val_main_v39, val_main_v38, val_main_v37, val_main_v36, val_main_v35, val_main_v34, val_main_v33, val_main_v32, val_main_v31, val_main_v30, val_main_v29, val_main_v28, val_main_v27, val_main_v26, val_main_v25, val_main_v24, val_main_c, val_main_call0_v0, val_main_cst_2, val_main_v3, val_main_v4, val_main_v5, val_main_v6]
  exact query_cases _ (fun q => val_main_v23 x1 x6 x8 (ix2 R q)) (fun e => x3 (ix2 R e)) (fun e => x4 (ix2 R e)) (projQ_pad x1 x6 x8 R) p

end Cert.MixReferenceIdeal.MxRef

end
-- ==== Proof.Mix.lean ====
/-
  The claims of the call that projects the latents and runs the retention branch: what the precondition says of the inputs, and
  the five results joined.
-/
module

public import proofs.«01_k».proof.Proof.MlaRef
public import proofs.«01_k».proof.Proof.Gen.Mix.Frame
public import proofs.«01_k».proof.Defs
public import Idealize.ShloMosaic.Adequacy
public import Idealize.ShloMosaic.Lib.ReduceAll

@[expose] public section

set_option maxRecDepth 16384

noncomputable section

namespace Cert.Proof.Mix

open Idealize.ShloMosaic Idealize.ShloMosaic.TcCoe Idealize.SL.Sem
open Cert.MixIdeal.MxVal
open Cert.MixReferenceIdeal.Read Cert.MixReferenceIdeal.MxRef

/-- The precondition's own side conditions. -/
theorem pre_facts : Cert.Pre_retention_finite.Facts := by
  constructor <;> decide

instance : Cert.Pre_retention_finite.Facts := pre_facts

/-- A value whose magnitude is below infinity is a real number. -/
theorem real_of_lt (x : EReal) (h : Ideal.cmp .olt (max x (-x)) (Ideal.ofBits .f32 0x7F800000#32) = 1#1) : ∃ r : ℝ, x = (r : EReal) := by
  have hi : Ideal.ofBits .f32 0x7F800000#32 = (⊤ : EReal) := by simp [Ideal.ofBits, Ideal.ieee]
  rw [hi] at h
  have h' : max x (-x) < ⊤ := by
    by_contra hn
    simp [Ideal.cmp, hn] at h
  refine ⟨x.toReal, (EReal.coe_toReal ?_ ?_).symm⟩
  · rintro rfl
    simp at h'
  · rintro rfl
    simp at h'

instance : Subsingleton Cert.Pre_retention_finite.S_.Idx := ⟨fun a b => funext fun k => k.elim0⟩

/-- The precondition says that the retention's columns of the projections and its rotary tables are real numbers. -/
theorem pre_finite (x0 : FVec Ideal Cert.Pre_retention_finite.S8192x10240 .bf16) (x1 x2) (x3 x4 : FVec Ideal Cert.Pre_retention_finite.S8192x128 .f32)
    (x5 x6 x7 x8 x9 x10)
    (h : Cert.Pre_retention_finite.fn (F := Ideal) x0 x1 x2 x3 x4 x5 x6 x7 x8 x9 x10 = fun _ => 1#1) :
    Finite (fun R k => x0 (ix2 R k)) (fun R d => x3 (ix2 R d)) (fun R d => x4 (ix2 R d)) := by
  have h' := congrFun h (fun k => k.elim0)
  dsimp only [Cert.Pre_retention_finite.fn] at h'
  have hand : ∀ a b : BitVec 1, a &&& b = 1#1 → a = 1#1 ∧ b = 1#1 := by decide
  obtain ⟨h01, h2⟩ := hand _ _ h'
  obtain ⟨h0, h1⟩ := hand _ _ h01
  refine ⟨fun R k hk => ?_, fun R d hd => ?_, fun R d hd => ?_⟩
  · have e : ∃ r : ℝ, (extractStridedSlice Cert.Pre_retention_finite.S8192x4096 ![0, 0] x0 Cert.Pre_retention_finite.Facts.slices_S8192x10240_S8192x4096_0_0 : FVec Ideal Cert.Pre_retention_finite.S8192x4096 .bf16)
        (ix2 R ⟨k.val, hk⟩) = (r : EReal) := by
      refine real_of_lt _ ?_
      have t := Host.reduce_andi_all _ _ _ _ _ h0 (ix2 R ⟨k.val, hk⟩)
      exact t
    obtain ⟨r, hr⟩ := e
    refine ⟨r, Eq.trans (congrArg x0 (funext fun a => Fin.ext ?_)) hr⟩
    match a with
    | ⟨0, _⟩ => exact (Nat.zero_add _).symm
    | ⟨1, _⟩ => exact (Nat.zero_add _).symm
  · have e : ∃ r : ℝ, (extractStridedSlice Cert.Pre_retention_finite.S8192x64 ![0, 0] x3 Cert.Pre_retention_finite.Facts.slices_S8192x128_S8192x64_0_0 : FVec Ideal Cert.Pre_retention_finite.S8192x64 .f32)
        (ix2 R ⟨d.val, hd⟩) = (r : EReal) := by
      refine real_of_lt _ ?_
      have t := Host.reduce_andi_all _ _ _ _ _ h1 (ix2 R ⟨d.val, hd⟩)
      exact t
    obtain ⟨r, hr⟩ := e
    refine ⟨r, Eq.trans (congrArg x3 (funext fun a => Fin.ext ?_)) hr⟩
    match a with
    | ⟨0, _⟩ => exact (Nat.zero_add _).symm
    | ⟨1, _⟩ => exact (Nat.zero_add _).symm
  · have e : ∃ r : ℝ, (extractStridedSlice Cert.Pre_retention_finite.S8192x64 ![0, 0] x4 Cert.Pre_retention_finite.Facts.slices_S8192x128_S8192x64_0_0 : FVec Ideal Cert.Pre_retention_finite.S8192x64 .f32)
        (ix2 R ⟨d.val, hd⟩) = (r : EReal) := by
      refine real_of_lt _ ?_
      have t := Host.reduce_andi_all _ _ _ _ _ h2 (ix2 R ⟨d.val, hd⟩)
      exact t
    obtain ⟨r, hr⟩ := e
    refine ⟨r, Eq.trans (congrArg x4 (funext fun a => Fin.ext ?_)) hr⟩
    match a with
    | ⟨0, _⟩ => exact (Nat.zero_add _).symm
    | ⟨1, _⟩ => exact (Nat.zero_add _).symm

/-- The program's frame at the bit-exact instance. -/
theorem frame_p : Cert.quiescent_Mix := fun m ρ _ => Cert.Mix.Gen.frame m ρ

/-- The idealized program's frame. -/
theorem frame_pi : Cert.quiescent_MixIdeal := fun m ρ _ => Cert.MixIdeal.Gen.frame m ρ

/-- The same where the precondition is met. -/
theorem frame_pi_pre : Cert.quiescent_MixIdeal_pre_retention_finite := fun m ρ _ => Cert.MixIdeal.Gen.frame m ρ

/-- The reference's frame: host operations only, no semaphore. -/
theorem frame_ri : Cert.quiescent_MixReferenceIdeal := fun m ρ _ =>
  (θ_run Cert.MixReferenceIdeal.defs _ _).mono (fun r h => ⟨fun c => (h c).2.2.2.2.2, sem_eq_zero_of_no_sems (by decide) r.2⟩)
    (Cert.MixReferenceIdeal.Value.run (F := Ideal) m ρ)

/-- The same where the precondition is met. -/
theorem frame_ri_pre : Cert.quiescent_MixReferenceIdeal_pre_retention_finite := fun m ρ _ => frame_ri m ρ trivial

section
open Cert.MixIdeal
variable (m : (ℓ : Loc nD τ sig) → Buf (Elt Ideal) ℓ) (c : Dev nD)

theorem result0 : (Value.G17 m c : Vec Ideal S8192x4096 .bf16) = val_main_v172 (F := Ideal) (m ((c.tc : Thread nD τ).loc main_arg1)) (m ((c.tc : Thread nD τ).loc main_arg3))
    (m ((c.tc : Thread nD τ).loc main_arg4)) (m ((c.tc : Thread nD τ).loc main_arg6)) (m ((c.tc : Thread nD τ).loc main_arg8)) := by
  funext i; idx_vars i
  exact (G17_apply m c _ _).trans (query_result _ _ _ _ _ _ _).symm

theorem result1 : (Value.G18 m c : Vec Ideal S8192x2048 .bf16) = val_main_v173 (F := Ideal) (m ((c.tc : Thread nD τ).loc main_arg1)) (m ((c.tc : Thread nD τ).loc main_arg7))
    (m ((c.tc : Thread nD τ).loc main_arg9)) := by
  funext i; idx_vars i
  exact (G18_apply m c _ _).trans (key_result _ _ _ _ _).symm

theorem result2 : (Value.G19 m c : Vec Ideal S8192x128 .bf16) = val_main_v174 (F := Ideal) (m ((c.tc : Thread nD τ).loc main_arg2)) (m ((c.tc : Thread nD τ).loc main_arg3))
    (m ((c.tc : Thread nD τ).loc main_arg4)) (m ((c.tc : Thread nD τ).loc main_arg5)) := by
  funext i; idx_vars i
  exact (G19_apply m c _ _).trans (pe_result _ _ _ _ _ _).symm

theorem result3 : (Value.G20 m c : Vec Ideal S8192x2048 .bf16) = val_main_v175 (F := Ideal) (m ((c.tc : Thread nD τ).loc main_arg1)) (m ((c.tc : Thread nD τ).loc main_arg7))
    (m ((c.tc : Thread nD τ).loc main_arg9)) := by
  funext i; idx_vars i
  exact (G20_apply m c _ _).trans (val_result _ _ _ _ _).symm

theorem result4 (F : Finite (argP m c) (argC m c) (argS m c)) : (Value.G21 m c : Vec Ideal S8192x2048 .bf16)
    = val_main_v176 (F := Ideal) (m ((c.tc : Thread nD τ).loc main_arg0)) (m ((c.tc : Thread nD τ).loc main_arg3))
    (m ((c.tc : Thread nD τ).loc main_arg4)) (m ((c.tc : Thread nD τ).loc main_arg10)) := by
  funext i; idx_vars i
  exact (G21_apply m c F _ _).trans (ref_apply _ _ _ _ F _ _).symm

end

/-- The kernel's five result arrays are the reference's, element by element. -/
theorem algebraic : Cert.algebraic_MixIdeal_MixReferenceIdeal_pre_retention_finite := fun m ρ m' ρ' hpre hag =>
  ⟨fun c => Cert.MixIdeal.Value.G17 m c, fun c => Cert.MixIdeal.Value.G18 m c, fun c => Cert.MixIdeal.Value.G19 m c,
    fun c => Cert.MixIdeal.Value.G20 m c, fun c => Cert.MixIdeal.Value.G21 m c, Cert.MixIdeal.Value.run m ρ,
    (θ_run Cert.MixReferenceIdeal.defs _ _).mono (fun r h c => by
      obtain ⟨a0, a1, a2, a3, a4, a5, a6, a7, a8, a9, a10⟩ := hag c
      exact ⟨(h c).1.trans ((val_main_v172_eq (F := Ideal) _).trans (by
          show val_main_v172 (F := Ideal) (m' ((c.tc : Thread Cert.MixReferenceIdeal.nD Cert.MixReferenceIdeal.τ).loc Cert.MixReferenceIdeal.main_arg1)) (m' ((c.tc : Thread Cert.MixReferenceIdeal.nD Cert.MixReferenceIdeal.τ).loc Cert.MixReferenceIdeal.main_arg3)) (m' ((c.tc : Thread Cert.MixReferenceIdeal.nD Cert.MixReferenceIdeal.τ).loc Cert.MixReferenceIdeal.main_arg4)) (m' ((c.tc : Thread Cert.MixReferenceIdeal.nD Cert.MixReferenceIdeal.τ).loc Cert.MixReferenceIdeal.main_arg6)) (m' ((c.tc : Thread Cert.MixReferenceIdeal.nD Cert.MixReferenceIdeal.τ).loc Cert.MixReferenceIdeal.main_arg8)) = _
          rw [a1, a3, a4, a6, a8]
          exact (result0 m c).symm)),
        (h c).2.1.trans ((val_main_v173_eq (F := Ideal) _).trans (by
          show val_main_v173 (F := Ideal) (m' ((c.tc : Thread Cert.MixReferenceIdeal.nD Cert.MixReferenceIdeal.τ).loc Cert.MixReferenceIdeal.main_arg1)) (m' ((c.tc : Thread Cert.MixReferenceIdeal.nD Cert.MixReferenceIdeal.τ).loc Cert.MixReferenceIdeal.main_arg7)) (m' ((c.tc : Thread Cert.MixReferenceIdeal.nD Cert.MixReferenceIdeal.τ).loc Cert.MixReferenceIdeal.main_arg9)) = _
          rw [a1, a7, a9]
          exact (result1 m c).symm)),
        (h c).2.2.1.trans ((val_main_v174_eq (F := Ideal) _).trans (by
          show val_main_v174 (F := Ideal) (m' ((c.tc : Thread Cert.MixReferenceIdeal.nD Cert.MixReferenceIdeal.τ).loc Cert.MixReferenceIdeal.main_arg2)) (m' ((c.tc : Thread Cert.MixReferenceIdeal.nD Cert.MixReferenceIdeal.τ).loc Cert.MixReferenceIdeal.main_arg3)) (m' ((c.tc : Thread Cert.MixReferenceIdeal.nD Cert.MixReferenceIdeal.τ).loc Cert.MixReferenceIdeal.main_arg4)) (m' ((c.tc : Thread Cert.MixReferenceIdeal.nD Cert.MixReferenceIdeal.τ).loc Cert.MixReferenceIdeal.main_arg5)) = _
          rw [a2, a3, a4, a5]
          exact (result2 m c).symm)),
        (h c).2.2.2.1.trans ((val_main_v175_eq (F := Ideal) _).trans (by
          show val_main_v175 (F := Ideal) (m' ((c.tc : Thread Cert.MixReferenceIdeal.nD Cert.MixReferenceIdeal.τ).loc Cert.MixReferenceIdeal.main_arg1)) (m' ((c.tc : Thread Cert.MixReferenceIdeal.nD Cert.MixReferenceIdeal.τ).loc Cert.MixReferenceIdeal.main_arg7)) (m' ((c.tc : Thread Cert.MixReferenceIdeal.nD Cert.MixReferenceIdeal.τ).loc Cert.MixReferenceIdeal.main_arg9)) = _
          rw [a1, a7, a9]
          exact (result3 m c).symm)),
        (h c).2.2.2.2.1.trans ((val_main_v176_eq (F := Ideal) _).trans (by
          show val_main_v176 (F := Ideal) (m' ((c.tc : Thread Cert.MixReferenceIdeal.nD Cert.MixReferenceIdeal.τ).loc Cert.MixReferenceIdeal.main_arg0)) (m' ((c.tc : Thread Cert.MixReferenceIdeal.nD Cert.MixReferenceIdeal.τ).loc Cert.MixReferenceIdeal.main_arg3)) (m' ((c.tc : Thread Cert.MixReferenceIdeal.nD Cert.MixReferenceIdeal.τ).loc Cert.MixReferenceIdeal.main_arg4)) (m' ((c.tc : Thread Cert.MixReferenceIdeal.nD Cert.MixReferenceIdeal.τ).loc Cert.MixReferenceIdeal.main_arg10)) = _
          rw [a0, a3, a4, a10]
          exact (result4 m c (pre_finite _ _ _ _ _ _ _ _ _ _ _ (hpre c))).symm)),
        (h c).2.2.2.2.2⟩)
      (Cert.MixReferenceIdeal.Value.run (F := Ideal) m' ρ')⟩

end Cert.Proof.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.KernelIdeal.Value
public import proofs.«01_k».proof.Proof.Gen.MlpIdeal.Value
public import proofs.«01_k».proof.Proof.Gen.MergeIdeal.Value
public import proofs.«01_k».proof.Proof.Gen.ReferenceIdeal.Run
public import proofs.«01_k».proof.Proof.Gen.MlpReferenceIdeal.Run
public import proofs.«01_k».proof.Proof.Gen.MergeReferenceIdeal.Run
public import proofs.«01_k».proof.Proof.Gen.ReferenceIdeal.Read
public import proofs.«01_k».proof.Proof.Gen.MlpReferenceIdeal.Read
public import proofs.«01_k».proof.Proof.Gen.MergeReferenceIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnReferenceIdeal
public import proofs.«01_k».proof.Proof.Gen.AttnReferenceIdeal.Run
public import proofs.«01_k».proof.Proof.Gen.AttnReferenceIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Inproj
public import proofs.«01_k».proof.Proof.Mlp
public import proofs.«01_k».proof.Proof.Merge
public import proofs.«01_k».proof.Proof.Attn
public import proofs.«01_k».proof.Proof.Norm
public import proofs.«01_k».proof.Proof.Mix
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Mlp.Gen.facts, Cert.MlpIdeal.Gen.facts, Cert.MlpReferenceIdeal.Gen.facts, Cert.Merge.Gen.facts, Cert.MergeIdeal.Gen.facts, Cert.MergeReferenceIdeal.Gen.facts, Cert.Norm.Gen.facts, Cert.NormIdeal.Gen.facts, Cert.NormReferenceIdeal.Gen.facts, Cert.Mix.Gen.facts, Cert.MixIdeal.Gen.facts, Cert.MixReferenceIdeal.Gen.facts, Cert.Attn.Gen.facts, Cert.AttnIdeal.Gen.facts, Cert.AttnReferenceIdeal.Gen.facts, Cert.Proof.Mix.pre_facts, Cert.Proof.Attn.pre_facts,
  Cert.Proof.Inproj.frame_p, Cert.Proof.Inproj.frame_pi, Cert.Proof.Inproj.frame_ri, Cert.Proof.Mlp.frame_p, Cert.Proof.Mlp.frame_pi, Cert.Proof.Mlp.frame_ri, Cert.Proof.Merge.frame_p, Cert.Proof.Merge.frame_pi, Cert.Proof.Merge.frame_ri,
  Cert.Proof.Norm.frame_p, Cert.Proof.Norm.frame_pi, Cert.Proof.Norm.frame_ri,
  Cert.Proof.Mix.frame_p, Cert.Proof.Mix.frame_pi, Cert.Proof.Mix.frame_pi_pre, Cert.Proof.Mix.frame_ri, Cert.Proof.Mix.frame_ri_pre,
  Cert.Proof.Attn.frame_p, Cert.Proof.Attn.frame_pi, Cert.Proof.Attn.frame_pi_pre, Cert.Proof.Attn.frame_ri, Cert.Proof.Attn.frame_ri_pre,
  trivial, Cert.Proof.Inproj.algebraic, trivial, Cert.Proof.Mlp.algebraic, trivial, Cert.Proof.Merge.algebraic, trivial, Cert.Proof.Norm.algebraic, trivial, Cert.Proof.Mix.algebraic, trivial, Cert.Proof.Attn.algebraic⟩

end Cert.Proof

end
